-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_v88) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v86) = v0 c
          ∧ r.2.mem ((c.tc : Thread Cert.Reference6Ideal.nD Cert.Reference6Ideal.τ).loc Cert.Reference6Ideal.main_v87) = v1 c
          ∧ r.2.mem ((c.tc : Thread Cert.Reference6Ideal.nD Cert.Reference6Ideal.τ).loc Cert.Reference6Ideal.main_v88) = v2 c
          ∧ r.2.mem ((c.tc : Thread Cert.Reference6Ideal.nD Cert.Reference6Ideal.τ).loc Cert.Reference6Ideal.main_v89) = v3 c
          ∧ r.2.mem ((c.tc : Thread Cert.Reference6Ideal.nD Cert.Reference6Ideal.τ).loc Cert.Reference6Ideal.main_v90) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)) (v4 : (c : Dev Cert.Kernel7Ideal.nD) → Buf (Elt Ideal) ((c.tc : Thread Cert.Kernel7Ideal.nD Cert.Kernel7Ideal.τ).loc Cert.Kernel7Ideal.main_v2_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v69) = v0 c
          ∧ r.2.mem ((c.tc : Thread Cert.Reference7Ideal.nD Cert.Reference7Ideal.τ).loc Cert.Reference7Ideal.main_v70) = v1 c
          ∧ r.2.mem ((c.tc : Thread Cert.Reference7Ideal.nD Cert.Reference7Ideal.τ).loc Cert.Reference7Ideal.main_v75) = v2 c
          ∧ r.2.mem ((c.tc : Thread Cert.Reference7Ideal.nD Cert.Reference7Ideal.τ).loc Cert.Reference7Ideal.main_v77) = v3 c
          ∧ r.2.mem ((c.tc : Thread Cert.Reference7Ideal.nD Cert.Reference7Ideal.τ).loc Cert.Reference7Ideal.main_v78) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg1) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x5632 .f32) (main_arg2 : FVec F S3x5632 .f32) (main_arg3 : FVec F S1x5632 .f32) (main_arg4 : FVec F S2816x1024 .f32) (main_arg5 : FVec F S4096x1024 .f32) : IVec S4096x1024 1 × IVec S1024x5632 1 × IVec S3x5632 1 × IVec S1x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite6.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S2x2048x1024 : Shape := ⟨3, ![2, 2048, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S2x2048x1024 : S_.BroadcastsInDim S2x2048x1024 (![] : Fin 0 → Fin S2x2048x1024.rank)

variable [Facts]

def fn_part1 {F : FTy → Type} [FloatOps F] (main_v3 : IVec S4096x2816 1) (main_v6 : IVec S2816x1024 1) (main_v9 : IVec S4096x1024 1) (main_v12 : IVec S1x1024 1) (main_v15 : IVec S1x1024 1) (main_v16 : FVec F S2x2048x1024 .f32) (main_v17 : FVec F S2x2048x1024 .f32) : IVec S4096x2816 1 × IVec S2816x1024 1 × IVec S4096x1024 1 × IVec S1x1024 1 × IVec S1x1024 1 × IVec S2x2048x1024 1 :=
  let main_v18 : IVec S2x2048x1024 1 := cmpf .olt main_v16 main_v17
  (main_v3, main_v6, main_v9, main_v12, main_v15, main_v18)

def fn {F : FTy → Type} [FloatOps F] (main_arg0 : FVec F S4096x2816 .bf16) (main_arg1 : FVec F S2816x1024 .f32) (main_arg2 : FVec F S4096x1024 .f32) (main_arg3 : FVec F S1x1024 .f32) (main_arg4 : FVec F S1x1024 .f32) (main_arg5 : FVec F S2x2048x1024 .f32) : IVec S4096x2816 1 × IVec S2816x1024 1 × IVec S4096x1024 1 × IVec S1x1024 1 × IVec S1x1024 1 × IVec S2x2048x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S2x2048x1024 .f32 := Host.absf main_arg5
  let main_cst_4 : FVec F S_ .f32 := constant S_ .f32 0x7F800000#32
  let main_v17 : FVec F S2x2048x1024 .f32 := broadcastInDim S2x2048x1024 ![] bcast_S_S2x2048x1024 main_cst_4
  fn_part1 (F := F) main_v3 main_v6 main_v9 main_v12 main_v15 main_v16 main_v17
-- ==== Kernel.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4096x5632 : Shape := ⟨2, ![4096, 5632]⟩
abbrev S2x2048x2x22x128 : Shape := ⟨5, ![2, 2048, 2, 22, 128]⟩
abbrev S2x2048x22x2x128 : Shape := ⟨5, ![2, 2048, 22, 2, 128]⟩
abbrev S2x2048x5632 : Shape := ⟨3, ![2, 2048, 5632]⟩
abbrev S2x2048x1024 : Shape := ⟨3, ![2, 2048, 1024]⟩
abbrev S2x2048x2816 : Shape := ⟨3, ![2, 2048, 2816]⟩
abbrev S2x2816x1024 : Shape := ⟨3, ![2, 2816, 1024]⟩
abbrev S3x2x2816 : Shape := ⟨3, ![3, 2, 2816]⟩
abbrev S2x1x2816 : Shape := ⟨3, ![2, 1, 2816]⟩
abbrev S1x2048x1024 : Shape := ⟨3, ![1, 2048, 1024]⟩
abbrev S1x2048x256 : Shape := ⟨3, ![1, 2048, 256]⟩
abbrev S128x1024 : Shape := ⟨2, ![128, 1024]⟩
abbrev S3x128 : Shape := ⟨2, ![3, 128]⟩
abbrev S1x128 : Shape := ⟨2, ![1, 128]⟩
abbrev S1x2048x128 : Shape := ⟨3, ![1, 2048, 128]⟩
abbrev S2x128x1024 : Shape := ⟨3, ![2, 128, 1024]⟩
abbrev S3x2x128 : Shape := ⟨3, ![3, 2, 128]⟩
abbrev S2x1x128 : Shape := ⟨3, ![2, 1, 128]⟩
abbrev S1040x128 : Shape := ⟨2, ![1040, 128]⟩
abbrev S1x1040x1024 : Shape := ⟨3, ![1, 1040, 1024]⟩
abbrev S1040x1024 : Shape := ⟨2, ![1040, 1024]⟩
abbrev S1x1040x128 : Shape := ⟨3, ![1, 1040, 128]⟩
abbrev S8x128 : Shape := ⟨2, ![8, 128]⟩
abbrev S1032x128 : Shape := ⟨2, ![1032, 128]⟩
abbrev S1024x128 : Shape := ⟨2, ![1024, 128]⟩
abbrev S128 : Shape := ⟨1, ![128]⟩
abbrev S1x1024x128 : Shape := ⟨3, ![1, 1024, 128]⟩
abbrev S1024x256 : Shape := ⟨2, ![1024, 256]⟩
abbrev S1024x1024 : Shape := ⟨2, ![1024, 1024]⟩
abbrev S256x1024 : Shape := ⟨2, ![256, 1024]⟩
abbrev S1x128x1024 : Shape := ⟨3, ![1, 128, 1024]⟩
abbrev S1x1x128 : Shape := ⟨3, ![1, 1, 128]⟩

abbrev nBuf : Space → Nat
  | .hbm => 22
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S4096x1024, .f32⟩
  | .hbm, ⟨6, _⟩ => ⟨S4096x1024, .bf16⟩
  | .hbm, ⟨7, _⟩ => ⟨S1024x5632, .bf16⟩
  | .hbm, ⟨8, _⟩ => ⟨S4096x5632, .f32⟩
  | .hbm, ⟨9, _⟩ => ⟨S2x2048x2x22x128, .f32⟩
  | .hbm, ⟨10, _⟩ => ⟨S2x2048x22x2x128, .f32⟩
  | .hbm, ⟨11, _⟩ => ⟨S2x2048x5632, .f32⟩
  | .hbm, ⟨12, _⟩ => ⟨S4096x1024, .bf16⟩
  | .hbm, ⟨13, _⟩ => ⟨S2816x1024, .bf16⟩
  | .hbm, ⟨14, _⟩ => ⟨S2x2048x1024, .bf16⟩
  | .hbm, ⟨15, _⟩ => ⟨S2x2048x1024, .bf16⟩
  | .hbm, ⟨16, _⟩ => ⟨S2x2048x2816, .bf16⟩
  | .hbm, ⟨17, _⟩ => ⟨S2x2048x2816, .bf16⟩
  | .hbm, ⟨18, _⟩ => ⟨S2x2816x1024, .f32⟩
  | .hbm, ⟨19, _⟩ => ⟨S2816x1024, .f32⟩
  | .hbm, ⟨20, _⟩ => ⟨S3x2x2816, .f32⟩
  | .hbm, ⟨21, _⟩ => ⟨S2x1x2816, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x256, .f32⟩
  | .local _ .vmem, ⟨5, _⟩ => ⟨S1x2048x256, .f32⟩
  | .local _ .vmem, ⟨6, _⟩ => ⟨S128x1024, .bf16⟩
  | .local _ .vmem, ⟨7, _⟩ => ⟨S128x1024, .bf16⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S2x128x1024, .f32⟩
  | .local _ .vmem, ⟨21, _⟩ => ⟨S2x128x1024, .f32⟩
  | .local _ .vmem, ⟨22, _⟩ => ⟨S128x1024, .f32⟩
  | .local _ .vmem, ⟨23, _⟩ => ⟨S128x1024, .f32⟩
  | .local _ .vmem, ⟨24, _⟩ => ⟨S3x2x128, .f32⟩
  | .local _ .vmem, ⟨25, _⟩ => ⟨S3x2x128, .f32⟩
  | .local _ .vmem, ⟨26, _⟩ => ⟨S2x1x128, .f32⟩
  | .local _ .vmem, ⟨27, _⟩ => ⟨S2x1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![22, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v428 : BitVec 32 := Scalar.extui v0
  let c0_i32_174 : BitVec 32 := 0#32
  let v429 : BitVec 1 := Scalar.cmpi .ne v428 c0_i32_174
  v429

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v430 : BitVec 1 := Scalar.xori v0 v_true
  let v431 : BitVec 32 := Scalar.extui v430
  let c0_i32_176 : BitVec 32 := 0#32
  let v432 : BitVec 1 := Scalar.cmpi .ne v431 c0_i32_176
  v432

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v434 : BitVec 32 := Scalar.extui v0
  let c0_i32_178 : BitVec 32 := 0#32
  let v435 : BitVec 1 := Scalar.cmpi .ne v434 c0_i32_178
  v435

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_179 : BitVec 1 := 1#1
  let v436 : BitVec 1 := Scalar.xori v0 true_179
  let v437 : BitVec 32 := Scalar.extui v436
  let c0_i32_181 : BitVec 32 := 0#32
  let v438 : BitVec 1 := Scalar.cmpi .ne v437 c0_i32_181
  v438

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v439 : BitVec 32 := Scalar.extui v0
  let c0_i32_182 : BitVec 32 := 0#32
  let v440 : BitVec 1 := Scalar.cmpi .ne v439 c0_i32_182
  v440

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_183 : BitVec 1 := 1#1
  let v441 : BitVec 1 := Scalar.xori v0 true_183
  let v442 : BitVec 32 := Scalar.extui v441
  let c0_i32_184 : BitVec 32 := 0#32
  let v443 : BitVec 1 := Scalar.cmpi .ne v442 c0_i32_184
  v443

def k0_cond9 (i : grid0.Coords) : BitVec 1 :=
  let arg1 : BitVec 32 := BitVec.ofNat 32 (i 1).val
  let c0_i32 : BitVec 32 := 0#32
  let v0 : BitVec 1 := Scalar.cmpi .eq arg1 c0_i32
  let v449 : BitVec 32 := Scalar.extui v0
  let c0_i32_191 : BitVec 32 := 0#32
  let v450 : BitVec 1 := Scalar.cmpi .ne v449 c0_i32_191
  v450

def k0_cond10 (i : grid0.Coords) : BitVec 1 :=
  let arg1 : BitVec 32 := BitVec.ofNat 32 (i 1).val
  let c0_i32 : BitVec 32 := 0#32
  let v0 : BitVec 1 := Scalar.cmpi .eq arg1 c0_i32
  let true_192 : BitVec 1 := 1#1
  let v451 : BitVec 1 := Scalar.xori v0 true_192
  let v452 : BitVec 32 := Scalar.extui v451
  let c0_i32_194 : BitVec 32 := 0#32
  let v453 : BitVec 1 := Scalar.cmpi .ne v452 c0_i32_194
  v453

def k0_cond11 (i : grid0.Coords) : BitVec 1 :=
  let arg1 : BitVec 32 := BitVec.ofNat 32 (i 1).val
  let c0_i32 : BitVec 32 := 0#32
  let v0 : BitVec 1 := Scalar.cmpi .eq arg1 c0_i32
  let v454 : BitVec 32 := Scalar.extui v0
  let c0_i32_196 : BitVec 32 := 0#32
  let v455 : BitVec 1 := Scalar.cmpi .ne v454 c0_i32_196
  v455

def k0_cond12 (i : grid0.Coords) : BitVec 1 :=
  let arg1 : BitVec 32 := BitVec.ofNat 32 (i 1).val
  let c0_i32 : BitVec 32 := 0#32
  let v0 : BitVec 1 := Scalar.cmpi .eq arg1 c0_i32
  let true_197 : BitVec 1 := 1#1
  let v456 : BitVec 1 := Scalar.xori v0 true_197
  let v457 : BitVec 32 := Scalar.extui v456
  let c0_i32_199 : BitVec 32 := 0#32
  let v458 : BitVec 1 := Scalar.cmpi .ne v457 c0_i32_199
  v458

def k0_cond13 (i : grid0.Coords) : BitVec 1 :=
  let arg1 : BitVec 32 := BitVec.ofNat 32 (i 1).val
  let c0_i32 : BitVec 32 := 0#32
  let v0 : BitVec 1 := Scalar.cmpi .eq arg1 c0_i32
  let v459 : BitVec 32 := Scalar.extui v0
  let c0_i32_201 : BitVec 32 := 0#32
  let v460 : BitVec 1 := Scalar.cmpi .ne v459 c0_i32_201
  v460

def k0_cond14 (i : grid0.Coords) : BitVec 1 :=
  let arg1 : BitVec 32 := BitVec.ofNat 32 (i 1).val
  let c0_i32 : BitVec 32 := 0#32
  let v0 : BitVec 1 := Scalar.cmpi .eq arg1 c0_i32
  let true_202 : BitVec 1 := 1#1
  let v461 : BitVec 1 := Scalar.xori v0 true_202
  let v462 : BitVec 32 := Scalar.extui v461
  let c0_i32_204 : BitVec 32 := 0#32
  let v463 : BitVec 1 := Scalar.cmpi .ne v462 c0_i32_204
  v463

def k0_cond17 (i : grid0.Coords) : BitVec 1 :=
  let arg1 : BitVec 32 := BitVec.ofNat 32 (i 1).val
  let c0_i32 : BitVec 32 := 0#32
  let v0 : BitVec 1 := Scalar.cmpi .eq arg1 c0_i32
  let v469 : BitVec 32 := Scalar.extui v0
  let c0_i32_211 : BitVec 32 := 0#32
  let v470 : BitVec 1 := Scalar.cmpi .ne v469 c0_i32_211
  v470

def k0_cond18 (i : grid0.Coords) : BitVec 1 :=
  let arg1 : BitVec 32 := BitVec.ofNat 32 (i 1).val
  let c0_i32 : BitVec 32 := 0#32
  let v0 : BitVec 1 := Scalar.cmpi .eq arg1 c0_i32
  let true_212 : BitVec 1 := 1#1
  let v471 : BitVec 1 := Scalar.xori v0 true_212
  let v472 : BitVec 32 := Scalar.extui v471
  let c0_i32_214 : BitVec 32 := 0#32
  let v473 : BitVec 1 := Scalar.cmpi .ne v472 c0_i32_214
  v473

def k0_cond19 (i : grid0.Coords) : BitVec 1 :=
  let arg1 : BitVec 32 := BitVec.ofNat 32 (i 1).val
  let c0_i32 : BitVec 32 := 0#32
  let v0 : BitVec 1 := Scalar.cmpi .eq arg1 c0_i32
  let v474 : BitVec 32 := Scalar.extui v0
  let c0_i32_216 : BitVec 32 := 0#32
  let v475 : BitVec 1 := Scalar.cmpi .ne v474 c0_i32_216
  v475

def k0_cond20 (i : grid0.Coords) : BitVec 1 :=
  let arg1 : BitVec 32 := BitVec.ofNat 32 (i 1).val
  let c0_i32 : BitVec 32 := 0#32
  let v0 : BitVec 1 := Scalar.cmpi .eq arg1 c0_i32
  let true_217 : BitVec 1 := 1#1
  let v476 : BitVec 1 := Scalar.xori v0 true_217
  let v477 : BitVec 32 := Scalar.extui v476
  let c0_i32_219 : BitVec 32 := 0#32
  let v478 : BitVec 1 := Scalar.cmpi .ne v477 c0_i32_219
  v478

def k0_cond21 (i : grid0.Coords) : BitVec 1 :=
  let arg1 : BitVec 32 := BitVec.ofNat 32 (i 1).val
  let c0_i32 : BitVec 32 := 0#32
  let v0 : BitVec 1 := Scalar.cmpi .eq arg1 c0_i32
  let v479 : BitVec 32 := Scalar.extui v0
  let c0_i32_221 : BitVec 32 := 0#32
  let v480 : BitVec 1 := Scalar.cmpi .ne v479 c0_i32_221
  v480

def k0_cond22 (i : grid0.Coords) : BitVec 1 :=
  let arg1 : BitVec 32 := BitVec.ofNat 32 (i 1).val
  let c0_i32 : BitVec 32 := 0#32
  let v0 : BitVec 1 := Scalar.cmpi .eq arg1 c0_i32
  let true_222 : BitVec 1 := 1#1
  let v481 : BitVec 1 := Scalar.xori v0 true_222
  let v482 : BitVec 32 := Scalar.extui v481
  let c0_i32_224 : BitVec 32 := 0#32
  let v483 : BitVec 1 := Scalar.cmpi .ne v482 c0_i32_224
  v483

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v444 : BitVec 32 := Scalar.extui v0
  let c0_i32_186 : BitVec 32 := 0#32
  let v445 : BitVec 1 := Scalar.cmpi .ne v444 c0_i32_186
  v445

def k0_cond8 (i : grid0.Coords) : BitVec 1 :=
  let arg1 : BitVec 32 := BitVec.ofNat 32 (i 1).val
  let c0_i32 : BitVec 32 := 0#32
  let v0 : BitVec 1 := Scalar.cmpi .eq arg1 c0_i32
  let true_187 : BitVec 1 := 1#1
  let v446 : BitVec 1 := Scalar.xori v0 true_187
  let v447 : BitVec 32 := Scalar.extui v446
  let c0_i32_189 : BitVec 32 := 0#32
  let v448 : BitVec 1 := Scalar.cmpi .ne v447 c0_i32_189
  v448

def k0_cond15 (i : grid0.Coords) : BitVec 1 :=
  let arg1 : BitVec 32 := BitVec.ofNat 32 (i 1).val
  let c0_i32 : BitVec 32 := 0#32
  let v0 : BitVec 1 := Scalar.cmpi .eq arg1 c0_i32
  let v464 : BitVec 32 := Scalar.extui v0
  let c0_i32_206 : BitVec 32 := 0#32
  let v465 : BitVec 1 := Scalar.cmpi .ne v464 c0_i32_206
  v465

def k0_cond16 (i : grid0.Coords) : BitVec 1 :=
  let arg1 : BitVec 32 := BitVec.ofNat 32 (i 1).val
  let c0_i32 : BitVec 32 := 0#32
  let v0 : BitVec 1 := Scalar.cmpi .eq arg1 c0_i32
  let true_207 : BitVec 1 := 1#1
  let v466 : BitVec 1 := Scalar.xori v0 true_207
  let v467 : BitVec 32 := Scalar.extui v466
  let c0_i32_209 : BitVec 32 := 0#32
  let v468 : BitVec 1 := Scalar.cmpi .ne v467 c0_i32_209
  v468

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S3x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S2x2048x1024 : Shape := ⟨3, ![2, 2048, 1024]⟩
abbrev S2x2048x5632 : Shape := ⟨3, ![2, 2048, 5632]⟩
abbrev S5632 : Shape := ⟨1, ![5632]⟩
abbrev S_ : Shape := ⟨0, ![]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S1024x2816 : Shape := ⟨2, ![1024, 2816]⟩
abbrev S5632x1024 : Shape := ⟨2, ![5632, 1024]⟩
abbrev S2x2816x1024 : Shape := ⟨3, ![2, 2816, 1024]⟩
abbrev S3x2x2816 : Shape := ⟨3, ![3, 2, 2816]⟩
abbrev S2x1x2816 : Shape := ⟨3, ![2, 1, 2816]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S4096x1024, .f32⟩
  | .hbm, ⟨6, _⟩ => ⟨S2x2048x1024, .f32⟩
  | .hbm, ⟨7, _⟩ => ⟨S2x2048x5632, .f32⟩
  | .hbm, ⟨8, _⟩ => ⟨S5632, .f32⟩
  | .hbm, ⟨9, _⟩ => ⟨S_, .f32⟩
  | .hbm, ⟨10, _⟩ => ⟨S2x2x5632, .f32⟩
  | .hbm, ⟨11, _⟩ => ⟨S2x2050x5632, .f32⟩
  | .hbm, ⟨12, _⟩ => ⟨S_, .f32⟩
  | .hbm, ⟨13, _⟩ => ⟨S2x2x5632, .f32⟩
  | .hbm, ⟨14, _⟩ => ⟨S2x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S2x2048x5632, .f32⟩
  | .hbm, ⟨19, _⟩ => ⟨S2x2048x5632, .f32⟩
  | .hbm, ⟨20, _⟩ => ⟨S_, .f32⟩
  | .hbm, ⟨21, _⟩ => ⟨S2x2048x5632, .f32⟩
  | .hbm, ⟨22, _⟩ => ⟨S2x2048x5632, .f32⟩
  | .hbm, ⟨23, _⟩ => ⟨S2x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S2x2048x5632, .f32⟩
  | .hbm, ⟨28, _⟩ => ⟨S2x2048x5632, .f32⟩
  | .hbm, ⟨29, _⟩ => ⟨S2x2048x5632, .f32⟩
  | .hbm, ⟨30, _⟩ => ⟨S2x2048x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S2x2048x5632, .f32⟩
  | .hbm, ⟨35, _⟩ => ⟨S2x2048x5632, .f32⟩
  | .hbm, ⟨36, _⟩ => ⟨S2x2048x5632, .f32⟩
  | .hbm, ⟨37, _⟩ => ⟨S1x1x5632, .f32⟩
  | .hbm, ⟨38, _⟩ => ⟨S2x2048x5632, .f32⟩
  | .hbm, ⟨39, _⟩ => ⟨S2x2048x5632, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S_, .f32⟩
  | .hbm, ⟨45, _⟩ => ⟨S2x2048x2816, .f32⟩
  | .hbm, ⟨46, _⟩ => ⟨S2x2048x2816, .f32⟩
  | .hbm, ⟨47, _⟩ => ⟨S_, .f32⟩
  | .hbm, ⟨48, _⟩ => ⟨S2x2048x2816, .f32⟩
  | .hbm, ⟨49, _⟩ => ⟨S2x2048x2816, .f32⟩
  | .hbm, ⟨50, _⟩ => ⟨S_, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x1024, .f32⟩
  | .hbm, ⟨57, _⟩ => ⟨S2x2048x1024, .f32⟩
  | .hbm, ⟨58, _⟩ => ⟨S1024x2816, .f32⟩
  | .hbm, ⟨59, _⟩ => ⟨S2816x1024, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S2x2048x2816, .f32⟩
  | .hbm, ⟨64, _⟩ => ⟨S2x2048x2816, .f32⟩
  | .hbm, ⟨65, _⟩ => ⟨S2x2048x2816, .f32⟩
  | .hbm, ⟨66, _⟩ => ⟨S2x2048x2816, .f32⟩
  | .hbm, ⟨67, _⟩ => ⟨S2x2048x5632, .f32⟩
  | .hbm, ⟨68, _⟩ => ⟨S_, .f32⟩
  | .hbm, ⟨69, _⟩ => ⟨S5632, .f32⟩
  | .hbm, ⟨70, _⟩ => ⟨S1x1x5632, .f32⟩
  | .hbm, ⟨71, _⟩ => ⟨S_, .f32⟩
  | .hbm, ⟨72, _⟩ => ⟨S5632, .f32⟩
  | .hbm, ⟨73, _⟩ => ⟨S2x2048x5632, .f32⟩
  | .hbm, ⟨74, _⟩ => ⟨S_, .f32⟩
  | .hbm, ⟨75, _⟩ => ⟨S5632, .f32⟩
  | .hbm, ⟨76, _⟩ => ⟨S1x1x5632, .f32⟩
  | .hbm, ⟨77, _⟩ => ⟨S2x2048x5632, .f32⟩
  | .hbm, ⟨78, _⟩ => ⟨S2x2048x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S_, .f32⟩
  | .hbm, ⟨85, _⟩ => ⟨S2x2050x5632, .f32⟩
  | .hbm, ⟨86, _⟩ => ⟨S2x2048x5632, .f32⟩
  | .hbm, ⟨87, _⟩ => ⟨S_, .f32⟩
  | .hbm, ⟨88, _⟩ => ⟨S5632, .f32⟩
  | .hbm, ⟨89, _⟩ => ⟨S1x1x5632, .f32⟩
  | .hbm, ⟨90, _⟩ => ⟨S2x2048x5632, .f32⟩
  | .hbm, ⟨91, _⟩ => ⟨S2x2048x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S_, .f32⟩
  | .hbm, ⟨96, _⟩ => ⟨S3x5632, .f32⟩
  | .hbm, ⟨97, _⟩ => ⟨S3x5632, .f32⟩
  | .hbm, ⟨98, _⟩ => ⟨S_, .f32⟩
  | .hbm, ⟨99, _⟩ => ⟨S2x2050x5632, .f32⟩
  | .hbm, ⟨100, _⟩ => ⟨S2x2050x5632, .f32⟩
  | .hbm, ⟨101, _⟩ => ⟨S2x2048x5632, .f32⟩
  | .hbm, ⟨102, _⟩ => ⟨S_, .f32⟩
  | .hbm, ⟨103, _⟩ => ⟨S5632, .f32⟩
  | .hbm, ⟨104, _⟩ => ⟨S1x1x5632, .f32⟩
  | .hbm, ⟨105, _⟩ => ⟨S2x2048x5632, .f32⟩
  | .hbm, ⟨106, _⟩ => ⟨S2x2048x5632, .f32⟩
  | .hbm, ⟨107, _⟩ => ⟨S_, .f32⟩
  | .hbm, ⟨108, _⟩ => ⟨S5632, .f32⟩
  | .hbm, ⟨109, _⟩ => ⟨S1x5632, .f32⟩
  | .hbm, ⟨110, _⟩ => ⟨S_, .f32⟩
  | .hbm, ⟨111, _⟩ => ⟨S3x5632, .f32⟩
  | .hbm, ⟨112, _⟩ => ⟨S3x5632, .f32⟩
  | .hbm, ⟨113, _⟩ => ⟨S_, .f32⟩
  | .hbm, ⟨114, _⟩ => ⟨S2x2050x5632, .f32⟩
  | .hbm, ⟨115, _⟩ => ⟨S2x2050x5632, .f32⟩
  | .hbm, ⟨116, _⟩ => ⟨S2x2x5632, .f32⟩
  | .hbm, ⟨117, _⟩ => ⟨S2x2048x5632, .f32⟩
  | .hbm, ⟨118, _⟩ => ⟨S5632x1024, .f32⟩
  | .hbm, ⟨119, _⟩ => ⟨S1024x5632, .f32⟩
  | .hbm, ⟨120, _⟩ => ⟨S2x2048x5632, .bf16⟩
  | .hbm, ⟨121, _⟩ => ⟨S2x2048x2816, .bf16⟩
  | .hbm, ⟨122, _⟩ => ⟨S2x2048x2816, .bf16⟩
  | .hbm, ⟨123, _⟩ => ⟨S5632x1024, .f32⟩
  | .hbm, ⟨124, _⟩ => ⟨S2x2816x1024, .f32⟩
  | .hbm, ⟨125, _⟩ => ⟨S3x2x2816, .f32⟩
  | .hbm, ⟨126, _⟩ => ⟨S2x1x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v33_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v33_1 : Ref sig .tc := ⟨.hbm, 53, rfl⟩
abbrev main_v33_0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v42 : Ref sig .tc := ⟨.hbm, 66, rfl⟩
abbrev main_v43 : Ref sig .tc := ⟨.hbm, 67, rfl⟩
abbrev main_cst_2 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev main_v47 : Ref sig .tc := ⟨.hbm, 73, rfl⟩
abbrev main_cst_4 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S1024x4x1408 : Shape := ⟨3, ![1024, 4, 1408]⟩
abbrev S4x1024x1408 : Shape := ⟨3, ![4, 1024, 1408]⟩
abbrev S2x2048x1024 : Shape := ⟨3, ![2, 2048, 1024]⟩
abbrev S2x2048x2816 : Shape := ⟨3, ![2, 2048, 2816]⟩
abbrev S2x2048x5632 : Shape := ⟨3, ![2, 2048, 5632]⟩
abbrev S1x1024x128 : Shape := ⟨3, ![1, 1024, 128]⟩
abbrev S3x128 : Shape := ⟨2, ![3, 128]⟩
abbrev S1x128 : Shape := ⟨2, ![1, 128]⟩
abbrev S2x2048x128 : Shape := ⟨3, ![2, 2048, 128]⟩
abbrev S2x2048x256 : Shape := ⟨3, ![2, 2048, 256]⟩
abbrev S1024x128 : Shape := ⟨2, ![1024, 128]⟩
abbrev S1024x256 : Shape := ⟨2, ![1024, 256]⟩
abbrev S1040x128 : Shape := ⟨2, ![1040, 128]⟩
abbrev S1x1040x1024 : Shape := ⟨3, ![1, 1040, 1024]⟩
abbrev S1040x1024 : Shape := ⟨2, ![1040, 1024]⟩
abbrev S1040x256 : Shape := ⟨2, ![1040, 256]⟩
abbrev S1x1024x256 : Shape := ⟨3, ![1, 1024, 256]⟩
abbrev S8x128 : Shape := ⟨2, ![8, 128]⟩
abbrev S1032x128 : Shape := ⟨2, ![1032, 128]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S4096x1024, .bf16⟩
  | .hbm, ⟨8, _⟩ => ⟨S2x2048x1024, .bf16⟩
  | .hbm, ⟨9, _⟩ => ⟨S2x2048x2816, .bf16⟩
  | .hbm, ⟨10, _⟩ => ⟨S2x2048x5632, .f32⟩
  | .local _ .vmem, ⟨0, _⟩ => ⟨S2x2048x1024, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2x2048x128, .bf16⟩
  | .local _ .vmem, ⟨14, _⟩ => ⟨S2x2048x128, .bf16⟩
  | .local _ .vmem, ⟨15, _⟩ => ⟨S2x2048x256, .f32⟩
  | .local _ .vmem, ⟨16, _⟩ => ⟨S2x2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c11_i32 : BitVec 32 := 11#32
  let v1 : BitVec 32 := Scalar.divsi v0 c11_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c11_i32 c0_i32_2
  let v8 : BitVec 32 := Scalar.extui v7
  let c0_i32_3 : BitVec 32 := 0#32
  let v9 : BitVec 1 := Scalar.cmpi .slt c11_i32 c0_i32_3
  let v10 : BitVec 32 := Scalar.extui v9
  let v11 : BitVec 32 := Scalar.subi v8 v10
  let v12 : BitVec 1 := Scalar.cmpi .ne v6 v11
  let v13 : BitVec 32 := Scalar.remsi v0 c11_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_2 (i : grid0.Coords) : Fin 3 → Nat :=
  let arg0 : BitVec 32 := BitVec.ofNat 32 (i 0).val
  let c22_i32 : BitVec 32 := 22#32
  let v0 : BitVec 32 := Scalar.addi c22_i32 arg0
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let v18 : BitVec 32 := Scalar.addi c22_i32_4 arg0
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2x2048x1024 : Shape := ⟨3, ![2, 2048, 1024]⟩
abbrev S2x2048x5632 : Shape := ⟨3, ![2, 2048, 5632]⟩
abbrev S5632 : Shape := ⟨1, ![5632]⟩
abbrev S_ : Shape := ⟨0, ![]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S2x2048x2x22x128 : Shape := ⟨5, ![2, 2048, 2, 22, 128]⟩
abbrev S2x2048x22x2x128 : Shape := ⟨5, ![2, 2048, 22, 2, 128]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2x2048x1024, .f32⟩
  | .hbm, ⟨5, _⟩ => ⟨S2x2048x5632, .f32⟩
  | .hbm, ⟨6, _⟩ => ⟨S5632, .f32⟩
  | .hbm, ⟨7, _⟩ => ⟨S_, .f32⟩
  | .hbm, ⟨8, _⟩ => ⟨S2x2x5632, .f32⟩
  | .hbm, ⟨9, _⟩ => ⟨S2x2050x5632, .f32⟩
  | .hbm, ⟨10, _⟩ => ⟨S2x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S2x2048x5632, .f32⟩
  | .hbm, ⟨15, _⟩ => ⟨S2x2048x5632, .f32⟩
  | .hbm, ⟨16, _⟩ => ⟨S_, .f32⟩
  | .hbm, ⟨17, _⟩ => ⟨S2x2048x5632, .f32⟩
  | .hbm, ⟨18, _⟩ => ⟨S2x2048x5632, .f32⟩
  | .hbm, ⟨19, _⟩ => ⟨S2x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S2x2048x5632, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x2048x5632, .f32⟩
  | .hbm, ⟨31, _⟩ => ⟨S2x2048x5632, .f32⟩
  | .hbm, ⟨32, _⟩ => ⟨S2x2048x5632, .f32⟩
  | .hbm, ⟨33, _⟩ => ⟨S1x1x5632, .f32⟩
  | .hbm, ⟨34, _⟩ => ⟨S2x2048x5632, .f32⟩
  | .hbm, ⟨35, _⟩ => ⟨S2x2048x5632, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2x22x128, .f32⟩
  | .hbm, ⟨49, _⟩ => ⟨S2x2048x22x2x128, .f32⟩
  | .hbm, ⟨50, _⟩ => ⟨S2x2048x5632, .f32⟩
  | .hbm, ⟨51, _⟩ => ⟨S2x2048x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel3.lean ====
abbrev S2x2048x1024 : Shape := ⟨3, ![2, 2048, 1024]⟩
abbrev S1024x2816 : Shape := ⟨2, ![1024, 2816]⟩
abbrev S1x2816 : Shape := ⟨2, ![1, 2816]⟩
abbrev S4096x1024 : Shape := ⟨2, ![4096, 1024]⟩
abbrev S2816x1024 : Shape := ⟨2, ![2816, 1024]⟩
abbrev S4096x2304 : Shape := ⟨2, ![4096, 2304]⟩
abbrev S4096x512 : Shape := ⟨2, ![4096, 512]⟩
abbrev S512x1024 : Shape := ⟨2, ![512, 1024]⟩
abbrev S512x2304 : Shape := ⟨2, ![512, 2304]⟩
abbrev S512x512 : Shape := ⟨2, ![512, 512]⟩
abbrev S512x2816 : Shape := ⟨2, ![512, 2816]⟩

abbrev nBuf : Space → Nat
  | .hbm => 8
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1x2816, .f32⟩
  | .hbm, ⟨3, _⟩ => ⟨S4096x1024, .f32⟩
  | .hbm, ⟨4, _⟩ => ⟨S2816x1024, .f32⟩
  | .hbm, ⟨5, _⟩ => ⟨S2816x1024, .bf16⟩
  | .hbm, ⟨6, _⟩ => ⟨S4096x2304, .bf16⟩
  | .hbm, ⟨7, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S1x2816, .f32⟩
  | .local _ .vmem, ⟨4, _⟩ => ⟨S512x2304, .bf16⟩
  | .local _ .vmem, ⟨5, _⟩ => ⟨S512x2304, .bf16⟩
  | .local _ .vmem, ⟨6, _⟩ => ⟨S512x512, .f32⟩
  | .local _ .vmem, ⟨7, _⟩ => ⟨S512x512, .f32⟩
  | .local _ .vmem, ⟨8, _⟩ => ⟨S512x2816, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference3Ideal.lean ====
abbrev S2x2048x1024 : Shape := ⟨3, ![2, 2048, 1024]⟩
abbrev S1024x2816 : Shape := ⟨2, ![1024, 2816]⟩
abbrev S1x2816 : Shape := ⟨2, ![1, 2816]⟩
abbrev S2x2048x2816 : Shape := ⟨3, ![2, 2048, 2816]⟩
abbrev S2816 : Shape := ⟨1, ![2816]⟩
abbrev S1x1x2816 : Shape := ⟨3, ![1, 1, 2816]⟩
abbrev S4096x2816 : Shape := ⟨2, ![4096, 2816]⟩
abbrev S4096x2304 : Shape := ⟨2, ![4096, 2304]⟩
abbrev S4096x512 : Shape := ⟨2, ![4096, 512]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1x2816, .f32⟩
  | .hbm, ⟨3, _⟩ => ⟨S2x2048x2816, .f32⟩
  | .hbm, ⟨4, _⟩ => ⟨S2816, .f32⟩
  | .hbm, ⟨5, _⟩ => ⟨S1x1x2816, .f32⟩
  | .hbm, ⟨6, _⟩ => ⟨S2x2048x2816, .f32⟩
  | .hbm, ⟨7, _⟩ => ⟨S2x2048x2816, .f32⟩
  | .hbm, ⟨8, _⟩ => ⟨S4096x2816, .f32⟩
  | .hbm, ⟨9, _⟩ => ⟨S4096x2304, .f32⟩
  | .hbm, ⟨10, _⟩ => ⟨S4096x2304, .bf16⟩
  | .hbm, ⟨11, _⟩ => ⟨S4096x512, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2816 : Shape := ⟨2, ![4096, 2816]⟩
abbrev S2x2048x1024 : Shape := ⟨3, ![2, 2048, 1024]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2x2048x1024, .f32⟩
  | .hbm, ⟨2, _⟩ => ⟨S4096x1024, .f32⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S2x2048x1024 : Shape := ⟨3, ![2, 2048, 1024]⟩
abbrev S_ : Shape := ⟨0, ![]⟩
abbrev S1024x2816 : Shape := ⟨2, ![1024, 2816]⟩
abbrev S2x2048x2816 : Shape := ⟨3, ![2, 2048, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2x2048x1024, .f32⟩
  | .hbm, ⟨2, _⟩ => ⟨S_, .f32⟩
  | .hbm, ⟨3, _⟩ => ⟨S1024x2816, .f32⟩
  | .hbm, ⟨4, _⟩ => ⟨S2x2048x2816, .f32⟩
  | .hbm, ⟨5, _⟩ => ⟨S4096x2816, .f32⟩
  | .hbm, ⟨6, _⟩ => ⟨S2x2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x768 : Shape := ⟨2, ![4096, 768]⟩
abbrev S4096x256 : Shape := ⟨2, ![4096, 256]⟩
abbrev S1x768 : Shape := ⟨2, ![1, 768]⟩
abbrev S4096x1024 : Shape := ⟨2, ![4096, 1024]⟩
abbrev S1024x1024 : Shape := ⟨2, ![1024, 1024]⟩
abbrev S1024x768 : Shape := ⟨2, ![1024, 768]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x768, .f32⟩
  | .hbm, ⟨1, _⟩ => ⟨S4096x256, .bf16⟩
  | .hbm, ⟨2, _⟩ => ⟨S1x768, .f32⟩
  | .hbm, ⟨3, _⟩ => ⟨S4096x1024, .f32⟩
  | .hbm, ⟨4, _⟩ => ⟨S4096x1024, .bf16⟩
  | .hbm, ⟨5, _⟩ => ⟨S1024x1024, .f32⟩
  | .local _ .vmem, ⟨0, _⟩ => ⟨S1024x768, .f32⟩
  | .local _ .vmem, ⟨1, _⟩ => ⟨S1024x768, .f32⟩
  | .local _ .vmem, ⟨2, _⟩ => ⟨S1024x256, .bf16⟩
  | .local _ .vmem, ⟨3, _⟩ => ⟨S1024x256, .bf16⟩
  | .local _ .vmem, ⟨4, _⟩ => ⟨S1x768, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== Reference5Ideal.lean ====
abbrev S4096x768 : Shape := ⟨2, ![4096, 768]⟩
abbrev S4096x256 : Shape := ⟨2, ![4096, 256]⟩
abbrev S1x768 : Shape := ⟨2, ![1, 768]⟩
abbrev S4096x1024 : Shape := ⟨2, ![4096, 1024]⟩
abbrev S768 : Shape := ⟨1, ![768]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x256, .bf16⟩
  | .hbm, ⟨2, _⟩ => ⟨S1x768, .f32⟩
  | .hbm, ⟨3, _⟩ => ⟨S4096x1024, .f32⟩
  | .hbm, ⟨4, _⟩ => ⟨S768, .f32⟩
  | .hbm, ⟨5, _⟩ => ⟨S4096x768, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x768, .f32⟩
  | .hbm, ⟨17, _⟩ => ⟨S4096x768, .f32⟩
  | .hbm, ⟨18, _⟩ => ⟨S1x768, .f32⟩
  | .hbm, ⟨19, _⟩ => ⟨S4096x768, .f32⟩
  | .hbm, ⟨20, _⟩ => ⟨S4096x768, .f32⟩
  | .hbm, ⟨21, _⟩ => ⟨S4096x256, .f32⟩
  | .hbm, ⟨22, _⟩ => ⟨S4096x1024, .f32⟩
  | .hbm, ⟨23, _⟩ => ⟨S_, .f32⟩
  | .hbm, ⟨24, _⟩ => ⟨S1024x1024, .f32⟩
  | .hbm, ⟨25, _⟩ => ⟨S4096x1024, .f32⟩
  | .hbm, ⟨26, _⟩ => ⟨S1024x1024, .f32⟩
  | .hbm, ⟨27, _⟩ => ⟨S1024x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S2x2048x1024 : Shape := ⟨3, ![2, 2048, 1024]⟩
abbrev S1x128 : Shape := ⟨2, ![1, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2x2048x1024, .f32⟩
  | .hbm, ⟨6, _⟩ => ⟨S2816x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S1x128, .f32⟩
  | .hbm, ⟨11, _⟩ => ⟨S1x1024, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v142 : BitVec 1 := Scalar.cmpi .eq arg0 c0_i32
  let v143 : BitVec 32 := Scalar.extui v142
  let c0_i32_61 : BitVec 32 := 0#32
  let v144 : BitVec 1 := Scalar.cmpi .ne v143 c0_i32_61
  v144

def k0_cond2 (i : grid0.Coords) : BitVec 1 :=
  let arg0 : BitVec 32 := BitVec.ofNat 32 (i 0).val
  let c0_i32 : BitVec 32 := 0#32
  let v142 : BitVec 1 := Scalar.cmpi .eq arg0 c0_i32
  let v_true : BitVec 1 := 1#1
  let v145 : BitVec 1 := Scalar.xori v142 v_true
  let v146 : BitVec 32 := Scalar.extui v145
  let c0_i32_62 : BitVec 32 := 0#32
  let v147 : BitVec 1 := Scalar.cmpi .ne v146 c0_i32_62
  v147

def k0_cond3 (i : grid0.Coords) : BitVec 1 :=
  let arg0 : BitVec 32 := BitVec.ofNat 32 (i 0).val
  let c0_i32_63 : BitVec 32 := 0#32
  let v148 : BitVec 1 := Scalar.cmpi .eq arg0 c0_i32_63
  let v149 : BitVec 32 := Scalar.extui v148
  let c0_i32_64 : BitVec 32 := 0#32
  let v150 : BitVec 1 := Scalar.cmpi .ne v149 c0_i32_64
  v150

def k0_cond4 (i : grid0.Coords) : BitVec 1 :=
  let arg0 : BitVec 32 := BitVec.ofNat 32 (i 0).val
  let c0_i32_63 : BitVec 32 := 0#32
  let v148 : BitVec 1 := Scalar.cmpi .eq arg0 c0_i32_63
  let true_65 : BitVec 1 := 1#1
  let v151 : BitVec 1 := Scalar.xori v148 true_65
  let v152 : BitVec 32 := Scalar.extui v151
  let c0_i32_66 : BitVec 32 := 0#32
  let v153 : BitVec 1 := Scalar.cmpi .ne v152 c0_i32_66
  v153

def k0_cond5 (i : grid0.Coords) : BitVec 1 :=
  let arg0 : BitVec 32 := BitVec.ofNat 32 (i 0).val
  let c0_i32_67 : BitVec 32 := 0#32
  let v154 : BitVec 1 := Scalar.cmpi .eq arg0 c0_i32_67
  let v155 : BitVec 32 := Scalar.extui v154
  let c0_i32_68 : BitVec 32 := 0#32
  let v156 : BitVec 1 := Scalar.cmpi .ne v155 c0_i32_68
  v156

def k0_cond6 (i : grid0.Coords) : BitVec 1 :=
  let arg0 : BitVec 32 := BitVec.ofNat 32 (i 0).val
  let c0_i32_67 : BitVec 32 := 0#32
  let v154 : BitVec 1 := Scalar.cmpi .eq arg0 c0_i32_67
  let true_69 : BitVec 1 := 1#1
  let v157 : BitVec 1 := Scalar.xori v154 true_69
  let v158 : BitVec 32 := Scalar.extui v157
  let c0_i32_70 : BitVec 32 := 0#32
  let v159 : BitVec 1 := Scalar.cmpi .ne v158 c0_i32_70
  v159

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S2x2048x1024 : Shape := ⟨3, ![2, 2048, 1024]⟩
abbrev S_ : Shape := ⟨0, ![]⟩
abbrev S2x2048x2816 : Shape := ⟨3, ![2, 2048, 2816]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S1x128 : Shape := ⟨2, ![1, 128]⟩

abbrev nBuf : Space → Nat
  | .hbm => 124
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S4096x2816, .f32⟩
  | .hbm, ⟨11, _⟩ => ⟨S2x2048x2816, .f32⟩
  | .hbm, ⟨12, _⟩ => ⟨S2x2048x1024, .f32⟩
  | .hbm, ⟨13, _⟩ => ⟨S2x2048x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x1, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S2x2048x1024, .f32⟩
  | .hbm, ⟨45, _⟩ => ⟨S2x2048x1024, .f32⟩
  | .hbm, ⟨46, _⟩ => ⟨S1x1x1024, .f32⟩
  | .hbm, ⟨47, _⟩ => ⟨S2x2048x1024, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S2x2048, .f32⟩
  | .hbm, ⟨59, _⟩ => ⟨S_, .f32⟩
  | .hbm, ⟨60, _⟩ => ⟨S2x2048, .f32⟩
  | .hbm, ⟨61, _⟩ => ⟨S2x2048, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2x2048, .f32⟩
  | .hbm, ⟨70, _⟩ => ⟨S_, .f32⟩
  | .hbm, ⟨71, _⟩ => ⟨S2x2048, .f32⟩
  | .hbm, ⟨72, _⟩ => ⟨S2x2048, .f32⟩
  | .hbm, ⟨73, _⟩ => ⟨S2x2048x1024, .f32⟩
  | .hbm, ⟨74, _⟩ => ⟨S2x2048x1024, .f32⟩
  | .hbm, ⟨75, _⟩ => ⟨S_, .f32⟩
  | .hbm, ⟨76, _⟩ => ⟨S1024, .f32⟩
  | .hbm, ⟨77, _⟩ => ⟨S1x1x1024, .f32⟩
  | .hbm, ⟨78, _⟩ => ⟨S_, .f32⟩
  | .hbm, ⟨79, _⟩ => ⟨S1024, .f32⟩
  | .hbm, ⟨80, _⟩ => ⟨S2x2048x1024, .f32⟩
  | .hbm, ⟨81, _⟩ => ⟨S_, .f32⟩
  | .hbm, ⟨82, _⟩ => ⟨S1024, .f32⟩
  | .hbm, ⟨83, _⟩ => ⟨S1x1x1024, .f32⟩
  | .hbm, ⟨84, _⟩ => ⟨S2x2048x1024, .f32⟩
  | .hbm, ⟨85, _⟩ => ⟨S2x2048x1024, .f32⟩
  | .hbm, ⟨86, _⟩ => ⟨S_, .f32⟩
  | .hbm, ⟨87, _⟩ => ⟨S1024, .f32⟩
  | .hbm, ⟨88, _⟩ => ⟨S2x2048x1024, .f32⟩
  | .hbm, ⟨89, _⟩ => ⟨S_, .f32⟩
  | .hbm, ⟨90, _⟩ => ⟨S2x2048, .f32⟩
  | .hbm, ⟨91, _⟩ => ⟨S2x2048x1, .f32⟩
  | .hbm, ⟨92, _⟩ => ⟨S2x2048x1024, .f32⟩
  | .hbm, ⟨93, _⟩ => ⟨S2x2048x1024, .f32⟩
  | .hbm, ⟨94, _⟩ => ⟨S2x2048x1, .f32⟩
  | .hbm, ⟨95, _⟩ => ⟨S2x2048x1024, .f32⟩
  | .hbm, ⟨96, _⟩ => ⟨S_, .f32⟩
  | .hbm, ⟨97, _⟩ => ⟨S2x2048, .f32⟩
  | .hbm, ⟨98, _⟩ => ⟨S2x2048x1, .f32⟩
  | .hbm, ⟨99, _⟩ => ⟨S_, .f32⟩
  | .hbm, ⟨100, _⟩ => ⟨S2x2048x1, .f32⟩
  | .hbm, ⟨101, _⟩ => ⟨S2x2048x1, .f32⟩
  | .hbm, ⟨102, _⟩ => ⟨S_, .f32⟩
  | .hbm, ⟨103, _⟩ => ⟨S2x2048, .f32⟩
  | .hbm, ⟨104, _⟩ => ⟨S2x2048x1024, .f32⟩
  | .hbm, ⟨105, _⟩ => ⟨S2x2048x1024, .f32⟩
  | .hbm, ⟨106, _⟩ => ⟨S2x2048x1024, .f32⟩
  | .hbm, ⟨107, _⟩ => ⟨S_, .f32⟩
  | .hbm, ⟨108, _⟩ => ⟨S2x2048, .f32⟩
  | .hbm, ⟨109, _⟩ => ⟨S2x2048x1, .f32⟩
  | .hbm, ⟨110, _⟩ => ⟨S2x2048x1024, .f32⟩
  | .hbm, ⟨111, _⟩ => ⟨S2x2048x1, .f32⟩
  | .hbm, ⟨112, _⟩ => ⟨S_, .f32⟩
  | .hbm, ⟨113, _⟩ => ⟨S2x2048x1, .f32⟩
  | .hbm, ⟨114, _⟩ => ⟨S2x2048x1, .f32⟩
  | .hbm, ⟨115, _⟩ => ⟨S_, .f32⟩
  | .hbm, ⟨116, _⟩ => ⟨S2x2048, .f32⟩
  | .hbm, ⟨117, _⟩ => ⟨S2x2048x1024, .f32⟩
  | .hbm, ⟨118, _⟩ => ⟨S2x2048x1024, .f32⟩
  | .hbm, ⟨119, _⟩ => ⟨S4096x1024, .f32⟩
  | .hbm, ⟨120, _⟩ => ⟨S4096x1024, .bf16⟩
  | .hbm, ⟨121, _⟩ => ⟨S1x128, .f32⟩
  | .hbm, ⟨122, _⟩ => ⟨S1x1024, .f32⟩
  | .hbm, ⟨123, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_cst_12 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_v70 : Ref sig .tc := ⟨.hbm, 98, rfl⟩
abbrev main_cst_21 : Ref sig .tc := ⟨.hbm, 99, rfl⟩
abbrev main_v71 : Ref sig .tc := ⟨.hbm, 100, rfl⟩
abbrev main_v72 : Ref sig .tc := ⟨.hbm, 101, rfl⟩
abbrev main_cst_22 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_23 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_24 : Ref sig .tc := ⟨.hbm, 112, rfl⟩
abbrev main_v81 : Ref sig .tc := ⟨.hbm, 113, rfl⟩
abbrev main_v82 : Ref sig .tc := ⟨.hbm, 114, rfl⟩
abbrev main_cst_25 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== Kernel7.lean ====
abbrev S2x2048x1024 : Shape := ⟨3, ![2, 2048, 1024]⟩
abbrev S4096x768 : Shape := ⟨2, ![4096, 768]⟩
abbrev S4096x256 : Shape := ⟨2, ![4096, 256]⟩
abbrev S1x768 : Shape := ⟨2, ![1, 768]⟩
abbrev S1024x1024 : Shape := ⟨2, ![1024, 1024]⟩
abbrev S1x1024 : Shape := ⟨2, ![1, 1024]⟩
abbrev S4096x1024 : Shape := ⟨2, ![4096, 1024]⟩
abbrev S4096x128 : Shape := ⟨2, ![4096, 128]⟩
abbrev S512x768 : Shape := ⟨2, ![512, 768]⟩
abbrev S512x256 : Shape := ⟨2, ![512, 256]⟩
abbrev S512x1024 : Shape := ⟨2, ![512, 1024]⟩
abbrev S512x128 : Shape := ⟨2, ![512, 128]⟩
abbrev S256x768 : Shape := ⟨2, ![256, 768]⟩
abbrev S256 : Shape := ⟨1, ![256]⟩
abbrev S256x1 : Shape := ⟨2, ![256, 1]⟩
abbrev S256x256 : Shape := ⟨2, ![256, 256]⟩
abbrev S256x1024 : Shape := ⟨2, ![256, 1024]⟩
abbrev S256x128 : Shape := ⟨2, ![256, 128]⟩

abbrev nBuf : Space → Nat
  | .hbm => 14
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S4096x768, .f32⟩
  | .hbm, ⟨2, _⟩ => ⟨S4096x256, .bf16⟩
  | .hbm, ⟨3, _⟩ => ⟨S1x768, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x128, .f32⟩
  | .hbm, ⟨13, _⟩ => ⟨S4096x128, .f32⟩
  | .local _ .vmem, ⟨0, _⟩ => ⟨S512x768, .f32⟩
  | .local _ .vmem, ⟨1, _⟩ => ⟨S512x768, .f32⟩
  | .local _ .vmem, ⟨2, _⟩ => ⟨S512x256, .bf16⟩
  | .local _ .vmem, ⟨3, _⟩ => ⟨S512x256, .bf16⟩
  | .local _ .vmem, ⟨4, _⟩ => ⟨S1x768, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x768, .f32⟩
  | .local _ .vmem, ⟨11, _⟩ => ⟨S512x768, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== Reference7Ideal.lean ====
abbrev S2x2048x1024 : Shape := ⟨3, ![2, 2048, 1024]⟩
abbrev S4096x768 : Shape := ⟨2, ![4096, 768]⟩
abbrev S4096x256 : Shape := ⟨2, ![4096, 256]⟩
abbrev S1x768 : Shape := ⟨2, ![1, 768]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S768 : Shape := ⟨1, ![768]⟩
abbrev S4096x1024 : Shape := ⟨2, ![4096, 1024]⟩
abbrev S2x2048 : Shape := ⟨2, ![2, 2048]⟩
abbrev S2x2048x1 : Shape := ⟨3, ![2, 2048, 1]⟩
abbrev S1024 : Shape := ⟨1, ![1024]⟩
abbrev S1x1x1024 : Shape := ⟨3, ![1, 1, 1024]⟩
abbrev S2x2048x128 : Shape := ⟨3, ![2, 2048, 128]⟩
abbrev S4096x128 : Shape := ⟨2, ![4096, 128]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x768, .f32⟩
  | .hbm, ⟨2, _⟩ => ⟨S4096x256, .bf16⟩
  | .hbm, ⟨3, _⟩ => ⟨S1x768, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S4096x768, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S768, .f32⟩
  | .hbm, ⟨19, _⟩ => ⟨S4096x768, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x768, .f32⟩
  | .hbm, ⟨31, _⟩ => ⟨S4096x768, .f32⟩
  | .hbm, ⟨32, _⟩ => ⟨S1x768, .f32⟩
  | .hbm, ⟨33, _⟩ => ⟨S4096x768, .f32⟩
  | .hbm, ⟨34, _⟩ => ⟨S4096x768, .f32⟩
  | .hbm, ⟨35, _⟩ => ⟨S4096x256, .f32⟩
  | .hbm, ⟨36, _⟩ => ⟨S4096x1024, .f32⟩
  | .hbm, ⟨37, _⟩ => ⟨S_, .f32⟩
  | .hbm, ⟨38, _⟩ => ⟨S2x2048x1024, .f32⟩
  | .hbm, ⟨39, _⟩ => ⟨S2x2048x1024, .f32⟩
  | .hbm, ⟨40, _⟩ => ⟨S4096x1024, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S2x2048, .f32⟩
  | .hbm, ⟨45, _⟩ => ⟨S2x2048x1, .f32⟩
  | .hbm, ⟨46, _⟩ => ⟨S_, .f32⟩
  | .hbm, ⟨47, _⟩ => ⟨S2x2048x1, .f32⟩
  | .hbm, ⟨48, _⟩ => ⟨S2x2048x1, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x2048, .f32⟩
  | .hbm, ⟨54, _⟩ => ⟨S2x2048x1, .f32⟩
  | .hbm, ⟨55, _⟩ => ⟨S_, .f32⟩
  | .hbm, ⟨56, _⟩ => ⟨S2x2048x1, .f32⟩
  | .hbm, ⟨57, _⟩ => ⟨S2x2048x1, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S2x2048x1, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S2x2048, .f32⟩
  | .hbm, ⟨66, _⟩ => ⟨S2x2048x1, .f32⟩
  | .hbm, ⟨67, _⟩ => ⟨S_, .f32⟩
  | .hbm, ⟨68, _⟩ => ⟨S2x2048x1, .f32⟩
  | .hbm, ⟨69, _⟩ => ⟨S2x2048x1, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S_, .f32⟩
  | .hbm, ⟨74, _⟩ => ⟨S2x2048, .f32⟩
  | .hbm, ⟨75, _⟩ => ⟨S2x2048x1, .f32⟩
  | .hbm, ⟨76, _⟩ => ⟨S_, .f32⟩
  | .hbm, ⟨77, _⟩ => ⟨S2x2048x1, .f32⟩
  | .hbm, ⟨78, _⟩ => ⟨S2x2048x1, .f32⟩
  | .hbm, ⟨79, _⟩ => ⟨S2x2048x1024, .f32⟩
  | .hbm, ⟨80, _⟩ => ⟨S2x2048x1024, .f32⟩
  | .hbm, ⟨81, _⟩ => ⟨S_, .f32⟩
  | .hbm, ⟨82, _⟩ => ⟨S2x2048x1, .f32⟩
  | .hbm, ⟨83, _⟩ => ⟨S2x2048x1, .f32⟩
  | .hbm, ⟨84, _⟩ => ⟨S2x2048x1, .f32⟩
  | .hbm, ⟨85, _⟩ => ⟨S2x2048x1024, .f32⟩
  | .hbm, ⟨86, _⟩ => ⟨S2x2048x1024, .f32⟩
  | .hbm, ⟨87, _⟩ => ⟨S1x1x1024, .f32⟩
  | .hbm, ⟨88, _⟩ => ⟨S2x2048x1024, .f32⟩
  | .hbm, ⟨89, _⟩ => ⟨S2x2048x1024, .f32⟩
  | .hbm, ⟨90, _⟩ => ⟨S1x1x1024, .f32⟩
  | .hbm, ⟨91, _⟩ => ⟨S2x2048x1024, .f32⟩
  | .hbm, ⟨92, _⟩ => ⟨S2x2048x1024, .f32⟩
  | .hbm, ⟨93, _⟩ => ⟨S4096x1024, .f32⟩
  | .hbm, ⟨94, _⟩ => ⟨S4096x1024, .bf16⟩
  | .hbm, ⟨95, _⟩ => ⟨S2x2048x1024, .f32⟩
  | .hbm, ⟨96, _⟩ => ⟨S2x2048x1024, .f32⟩
  | .hbm, ⟨97, _⟩ => ⟨S2x2048x1024, .f32⟩
  | .hbm, ⟨98, _⟩ => ⟨S2x2048x1024, .f32⟩
  | .hbm, ⟨99, _⟩ => ⟨S4096x1024, .f32⟩
  | .hbm, ⟨100, _⟩ => ⟨S2x2048x128, .f32⟩
  | .hbm, ⟨101, _⟩ => ⟨S4096x128, .f32⟩
  | .hbm, ⟨102, _⟩ => ⟨S4096x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel8.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1024x1408 : Shape := ⟨2, ![1024, 1408]⟩
abbrev S1408x1024 : Shape := ⟨2, ![1408, 1024]⟩
abbrev S256x1408 : Shape := ⟨2, ![256, 1408]⟩
abbrev S1408x256 : Shape := ⟨2, ![1408, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1408x1024, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S1408x256, .f32⟩
  | .local _ .vmem, ⟨3, _⟩ => ⟨S1408x256, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S1024x1408 : Shape := ⟨2, ![1024, 1408]⟩
abbrev S1408x1024 : Shape := ⟨2, ![1408, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1408x1024, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel11.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Voc.lean ====
module

public import Idealize.ShloMosaic.Lib.Pointwise
public import proofs.«01_k».proof.Proof.Gen.KernelIdeal

@[expose] public section

set_option maxRecDepth 16384

noncomputable section

/-! What one half of a batch row's sequence computes, in the words the kernel uses for it (1040 rows: the 1024 the
half owns and a halo of sixteen), and what each word is at an index. -/

namespace Cert.KernelIdeal.Voc

open Cert.KernelIdeal Cert.KernelIdeal.Gen Idealize.ShloMosaic Idealize.SL.Sem

/-- A select on a decided word is the `if` on what it decides. -/
theorem select_word {α : Type} {w : BitVec 1} {p : Prop} [Decidable p] (h : w = if p then 1#1 else 0#1) (a b : α) :
    Scalar.select w a b = if p then a else b := by
  subst h
  by_cases hp : p
  · rw [if_pos hp, if_pos hp]; rfl
  · rw [if_neg hp, if_neg hp]; rfl

/-- The head mask of a move by 1: row `i` of the first eight is kept from 1 on. -/
theorem sge_small1 (i : ℕ) (h : i < 8) : IntOp.cmpi .sge (BitVec.ofNat 32 i) 1#32 = if 1 ≤ i then 1#1 else 0#1 := by
  interval_cases i <;> decide

/-- The tail mask of a move by 1: row `i` of the last eight is kept while `i + 1 < 1040`. -/
theorem slt_big1 (i : ℕ) (h : 1032 ≤ i) (h' : i < 1040) :
    IntOp.cmpi .slt (BitVec.ofNat 32 (1032 + (i - 1032))) 1039#32 = if i + 1 < 1040 then 1#1 else 0#1 := by
  interval_cases i <;> decide

/-- The head mask of a move by 2: row `i` of the first eight is kept from 2 on. -/
theorem sge_small2 (i : ℕ) (h : i < 8) : IntOp.cmpi .sge (BitVec.ofNat 32 i) 2#32 = if 2 ≤ i then 1#1 else 0#1 := by
  interval_cases i <;> decide

/-- The tail mask of a move by 2: row `i` of the last eight is kept while `i + 2 < 1040`. -/
theorem slt_big2 (i : ℕ) (h : 1032 ≤ i) (h' : i < 1040) :
    IntOp.cmpi .slt (BitVec.ofNat 32 (1032 + (i - 1032))) 1038#32 = if i + 2 < 1040 then 1#1 else 0#1 := by
  interval_cases i <;> decide

/-- Rows moved down by 1 with zeros at the head, as the kernel spells it: a rotation whose first eight rows are masked. -/
def sd1 (x : FVec Ideal S1040x128 .f32) : FVec Ideal S1040x128 .f32 :=
  concatenate S1040x128 0
    [⟨S8x128, select (cmpi .sge (extractStridedSlice S8x128 ![0, 0] (iota .tc S1040x128 32 [0] iota_S1040x128_d0_w32) slices_S1040x128_o0_0_S8x128) (broadcast S8x128 1#32))
        (extractStridedSlice S8x128 ![0, 0] (dynamicRotate 0 1#32 none x rotates_S1040x128_d0) slices_S1040x128_o0_0_S8x128) (broadcast S8x128 (Scalar.ofBits .f32 0x00000000#32))⟩,
     ⟨S1032x128, extractStridedSlice S1032x128 ![8, 0] (dynamicRotate 0 1#32 none x rotates_S1040x128_d0) slices_S1040x128_o8_0_S1032x128⟩]
    concatenates_S8x128_S1032x128_S1040x128_d0

/-- The moved-down rows at an index: the row 1 above, or zero in the first 1 rows. -/
theorem sd1_apply (x : FVec Ideal S1040x128 .f32) (i : Fin 1040) (l : Fin 128) :
    sd1 x (ix2 i l) = if h : 1 ≤ i.val then x (ix2 ⟨i.val - 1, by omega⟩ l) else 0 := by
  unfold sd1
  pointwise
  obtain ⟨i, hi⟩ := i
  dsimp only
  by_cases h8 : i < 8
  · rw [dif_pos h8, select_word (sge_small1 i h8)]
    by_cases h2 : 1 ≤ i
    · rw [if_pos h2, dif_pos h2]; exact congrArg (fun a => x (ix2 a l)) (Fin.ext (by dsimp only; omega))
    · rw [if_neg h2, dif_neg h2]
  · rw [dif_neg h8, dif_pos (by omega)]; exact congrArg (fun a => x (ix2 a l)) (Fin.ext (by dsimp only; omega))

/-- Rows moved down by 2 with zeros at the head, as the kernel spells it: a rotation whose first eight rows are masked. -/
def sd2 (x : FVec Ideal S1040x128 .f32) : FVec Ideal S1040x128 .f32 :=
  concatenate S1040x128 0
    [⟨S8x128, select (cmpi .sge (extractStridedSlice S8x128 ![0, 0] (iota .tc S1040x128 32 [0] iota_S1040x128_d0_w32) slices_S1040x128_o0_0_S8x128) (broadcast S8x128 2#32))
        (extractStridedSlice S8x128 ![0, 0] (dynamicRotate 0 2#32 none x rotates_S1040x128_d0) slices_S1040x128_o0_0_S8x128) (broadcast S8x128 (Scalar.ofBits .f32 0x00000000#32))⟩,
     ⟨S1032x128, extractStridedSlice S1032x128 ![8, 0] (dynamicRotate 0 2#32 none x rotates_S1040x128_d0) slices_S1040x128_o8_0_S1032x128⟩]
    concatenates_S8x128_S1032x128_S1040x128_d0

/-- The moved-down rows at an index: the row 2 above, or zero in the first 2 rows. -/
theorem sd2_apply (x : FVec Ideal S1040x128 .f32) (i : Fin 1040) (l : Fin 128) :
    sd2 x (ix2 i l) = if h : 2 ≤ i.val then x (ix2 ⟨i.val - 2, by omega⟩ l) else 0 := by
  unfold sd2
  pointwise
  obtain ⟨i, hi⟩ := i
  dsimp only
  by_cases h8 : i < 8
  · rw [dif_pos h8, select_word (sge_small2 i h8)]
    by_cases h2 : 2 ≤ i
    · rw [if_pos h2, dif_pos h2]; exact congrArg (fun a => x (ix2 a l)) (Fin.ext (by dsimp only; omega))
    · rw [if_neg h2, dif_neg h2]
  · rw [dif_neg h8, dif_pos (by omega)]; exact congrArg (fun a => x (ix2 a l)) (Fin.ext (by dsimp only; omega))

/-- Rows moved up by 1 with zeros at the tail: a rotation whose last eight rows are masked. -/
def su1 (x : FVec Ideal S1040x128 .f32) : FVec Ideal S1040x128 .f32 :=
  concatenate S1040x128 0
    [⟨S1032x128, extractStridedSlice S1032x128 ![0, 0] (dynamicRotate 0 1039#32 none x rotates_S1040x128_d0) slices_S1040x128_o0_0_S1032x128⟩,
     ⟨S8x128, select (cmpi .slt (extractStridedSlice S8x128 ![1032, 0] (iota .tc S1040x128 32 [0] iota_S1040x128_d0_w32) slices_S1040x128_o1032_0_S8x128) (broadcast S8x128 1039#32))
        (extractStridedSlice S8x128 ![1032, 0] (dynamicRotate 0 1039#32 none x rotates_S1040x128_d0) slices_S1040x128_o1032_0_S8x128) (broadcast S8x128 (Scalar.ofBits .f32 0x00000000#32))⟩]
    concatenates_S1032x128_S8x128_S1040x128_d0

/-- The moved-up rows at an index: the row 1 below, or zero in the last 1 rows. -/
theorem su1_apply (x : FVec Ideal S1040x128 .f32) (i : Fin 1040) (l : Fin 128) :
    su1 x (ix2 i l) = if h : i.val + 1 < 1040 then x (ix2 ⟨i.val + 1, h⟩ l) else 0 := by
  unfold su1
  pointwise
  obtain ⟨i, hi⟩ := i
  dsimp only
  by_cases h8 : i < 1032
  · rw [dif_pos h8, dif_pos (by omega)]; exact congrArg (fun a => x (ix2 a l)) (Fin.ext (by dsimp only; omega))
  · rw [dif_neg h8, select_word (slt_big1 i (by omega) hi)]
    by_cases h2 : i + 1 < 1040
    · rw [if_pos h2, dif_pos h2]; exact congrArg (fun a => x (ix2 a l)) (Fin.ext (by dsimp only; omega))
    · rw [if_neg h2, dif_neg h2]

/-- Rows moved up by 2 with zeros at the tail: a rotation whose last eight rows are masked. -/
def su2 (x : FVec Ideal S1040x128 .f32) : FVec Ideal S1040x128 .f32 :=
  concatenate S1040x128 0
    [⟨S1032x128, extractStridedSlice S1032x128 ![0, 0] (dynamicRotate 0 1038#32 none x rotates_S1040x128_d0) slices_S1040x128_o0_0_S1032x128⟩,
     ⟨S8x128, select (cmpi .slt (extractStridedSlice S8x128 ![1032, 0] (iota .tc S1040x128 32 [0] iota_S1040x128_d0_w32) slices_S1040x128_o1032_0_S8x128) (broadcast S8x128 1038#32))
        (extractStridedSlice S8x128 ![1032, 0] (dynamicRotate 0 1038#32 none x rotates_S1040x128_d0) slices_S1040x128_o1032_0_S8x128) (broadcast S8x128 (Scalar.ofBits .f32 0x00000000#32))⟩]
    concatenates_S1032x128_S8x128_S1040x128_d0

/-- The moved-up rows at an index: the row 2 below, or zero in the last 2 rows. -/
theorem su2_apply (x : FVec Ideal S1040x128 .f32) (i : Fin 1040) (l : Fin 128) :
    su2 x (ix2 i l) = if h : i.val + 2 < 1040 then x (ix2 ⟨i.val + 2, h⟩ l) else 0 := by
  unfold su2
  pointwise
  obtain ⟨i, hi⟩ := i
  dsimp only
  by_cases h8 : i < 1032
  · rw [dif_pos h8, dif_pos (by omega)]; exact congrArg (fun a => x (ix2 a l)) (Fin.ext (by dsimp only; omega))
  · rw [dif_neg h8, select_word (slt_big2 i (by omega) hi)]
    by_cases h2 : i + 2 < 1040
    · rw [if_pos h2, dif_pos h2]; exact congrArg (fun a => x (ix2 a l)) (Fin.ext (by dsimp only; omega))
    · rw [if_neg h2, dif_neg h2]

/-- The causal convolution of three taps with its bias, at the kernel's order of additions. -/
def conv (b w0 w1 w2 : FVec Ideal S1x128 .f32) (u : FVec Ideal S1040x128 .f32) : FVec Ideal S1040x128 .f32 :=
  addf (addf (addf (addf (broadcast S1040x128 (Scalar.ofBits .f32 0x00000000#32)) (broadcastTo S1040x128 b broadcasts_S1x128_S1040x128))
    (mulf (broadcastTo S1040x128 w0 broadcasts_S1x128_S1040x128) (sd2 u)))
    (mulf (broadcastTo S1040x128 w1 broadcasts_S1x128_S1040x128) (sd1 u)))
    (mulf (broadcastTo S1040x128 w2 broadcasts_S1x128_S1040x128) u)

/-- The convolution at an index. -/
theorem conv_apply (b w0 w1 w2 : FVec Ideal S1x128 .f32) (u : FVec Ideal S1040x128 .f32) (i : Fin 1040) (l : Fin 128) :
    conv b w0 w1 w2 u (ix2 i l) = (((0 + b (ix2 0 l)) + w0 (ix2 0 l) * sd2 u (ix2 i l)) + w1 (ix2 0 l) * sd1 u (ix2 i l)) + w2 (ix2 0 l) * u (ix2 i l) := by
  unfold conv
  pointwise

/-- The logistic function through the hyperbolic tangent. -/
def sg (g : FVec Ideal S1040x128 .f32) : FVec Ideal S1040x128 .f32 :=
  addf (mulf (broadcast S1040x128 (Scalar.ofBits .f32 0x3F000000#32)) (tanh (mulf (broadcast S1040x128 (Scalar.ofBits .f32 0x3F000000#32)) g)))
    (broadcast S1040x128 (Scalar.ofBits .f32 0x3F000000#32))

/-- The activation's product with the value half. -/
def act (g v : FVec Ideal S1040x128 .f32) : FVec Ideal S1040x128 .bf16 :=
  truncf .bf16 (mulf (mulf g (sg g)) v) bitsLt_bf16_f32

/-- The cotangent of the activation's product: the incoming rows against the down projection's rows. -/
def dact (z : FVec Ideal S1040x1024 .bf16) (wd : FVec Ideal S128x1024 .bf16) : FVec Ideal S1040x128 .f32 :=
  matmul dot_S1040x1024_S128x1024_S1040x128_1_1_0_0_n_n none z (shapeCast S128x1024 wd shapeCasts_S128x1024_S128x1024) (constant S1040x128 .f32 0x00000000#32)

/-- The gate's cotangent. -/
def dgate (z : FVec Ideal S1040x1024 .bf16) (wd : FVec Ideal S128x1024 .bf16) (g v : FVec Ideal S1040x128 .f32) : FVec Ideal S1040x128 .f32 :=
  mulf (mulf (mulf (dact z wd) v) (sg g))
    (addf (broadcast S1040x128 (Scalar.ofBits .f32 0x3F800000#32)) (mulf g (subf (broadcast S1040x128 (Scalar.ofBits .f32 0x3F800000#32)) (sg g))))

/-- The value half's cotangent. -/
def dval (z : FVec Ideal S1040x1024 .bf16) (wd : FVec Ideal S128x1024 .bf16) (g : FVec Ideal S1040x128 .f32) : FVec Ideal S1040x128 .f32 :=
  mulf (mulf (dact z wd) g) (sg g)

/-- The convolution's transpose: the cotangent of what it read. -/
def dpre (w0 w1 w2 : FVec Ideal S1x128 .f32) (d : FVec Ideal S1040x128 .f32) : FVec Ideal S1040x128 .bf16 :=
  truncf .bf16 (addf (addf (addf (broadcast S1040x128 (Scalar.ofBits .f32 0x00000000#32))
    (mulf (broadcastTo S1040x128 w0 broadcasts_S1x128_S1040x128) (su2 d)))
    (mulf (broadcastTo S1040x128 w1 broadcasts_S1x128_S1040x128) (su1 d)))
    (mulf (broadcastTo S1040x128 w2 broadcasts_S1x128_S1040x128) d)) bitsLt_bf16_f32

theorem sg_apply (g : FVec Ideal S1040x128 .f32) (i : Fin 1040) (l : Fin 128) :
    sg g (ix2 i l) = Ideal.ofBits .f32 0x3F000000#32 * Ideal.tanh (Ideal.ofBits .f32 0x3F000000#32 * g (ix2 i l)) + Ideal.ofBits .f32 0x3F000000#32 := by
  unfold sg
  pointwise

theorem act_apply (g v : FVec Ideal S1040x128 .f32) (i : Fin 1040) (l : Fin 128) :
    act g v (ix2 i l) = g (ix2 i l) * sg g (ix2 i l) * v (ix2 i l) := by
  unfold act
  pointwise

theorem dact_apply (z : FVec Ideal S1040x1024 .bf16) (wd : FVec Ideal S128x1024 .bf16) (i : Fin 1040) (l : Fin 128) :
    dact z wd (ix2 i l) = ∑ k : Fin 1024, z (ix2 i k) * wd (ix2 l k) := by
  unfold dact
  pointwise

theorem dgate_apply (z : FVec Ideal S1040x1024 .bf16) (wd : FVec Ideal S128x1024 .bf16) (g v : FVec Ideal S1040x128 .f32) (i : Fin 1040) (l : Fin 128) :
    dgate z wd g v (ix2 i l) = dact z wd (ix2 i l) * v (ix2 i l) * sg g (ix2 i l) * (1 + g (ix2 i l) * (1 - sg g (ix2 i l))) := by
  unfold dgate
  pointwise

theorem dval_apply (z : FVec Ideal S1040x1024 .bf16) (wd : FVec Ideal S128x1024 .bf16) (g : FVec Ideal S1040x128 .f32) (i : Fin 1040) (l : Fin 128) :
    dval z wd g (ix2 i l) = dact z wd (ix2 i l) * g (ix2 i l) * sg g (ix2 i l) := by
  unfold dval
  pointwise

theorem dpre_apply (w0 w1 w2 : FVec Ideal S1x128 .f32) (d : FVec Ideal S1040x128 .f32) (i : Fin 1040) (l : Fin 128) :
    dpre w0 w1 w2 d (ix2 i l) = ((0 + w0 (ix2 0 l) * su2 d (ix2 i l)) + w1 (ix2 0 l) * su1 d (ix2 i l)) + w2 (ix2 0 l) * d (ix2 i l) := by
  unfold dpre
  pointwise

/-- A column's sum over the rows the half owns, which begin at 0. -/
def csum0 (x : FVec Ideal S1040x128 .f32) : FVec Ideal S1x128 .f32 :=
  shapeCast S1x128 (multiReduction .add [0] S128 (extractStridedSlice S1024x128 ![0, 0] x slices_S1040x128_o0_0_S1024x128) 0x00000000#32 reduces_S1024x128_S128 (.inl rfl) rfl) shapeCasts_S128_S1x128

theorem csum0_apply (x : FVec Ideal S1040x128 .f32) (l : Fin 128) :
    csum0 x (ix2 0 l) = ∑ i : Fin 1024, x (ix2 ⟨0 + i.val, by omega⟩ l) := by
  unfold csum0
  pointwise

/-- The up projection's share: the two halves' cotangents side by side against the half's rows. -/
def dw0 (p q : FVec Ideal S1040x128 .bf16) (x : FVec Ideal S1040x1024 .bf16) : FVec Ideal S256x1024 .f32 :=
  matmul dot_S1024x256_S1024x1024_S256x1024_0_0_1_1_n_n none
    (concatenate S1024x256 1 [⟨S1024x128, extractStridedSlice S1024x128 ![0, 0] p slices_S1040x128_o0_0_S1024x128⟩, ⟨S1024x128, extractStridedSlice S1024x128 ![0, 0] q slices_S1040x128_o0_0_S1024x128⟩] concatenates_S1024x128_S1024x128_S1024x256_d1)
    (extractStridedSlice S1024x1024 ![0, 0] x slices_S1040x1024_o0_0_S1024x1024) (constant S256x1024 .f32 0x00000000#32)

theorem dw0_apply (p q : FVec Ideal S1040x128 .bf16) (x : FVec Ideal S1040x1024 .bf16) (a : Fin 256) (k : Fin 1024) :
    dw0 p q x (ix2 a k) = ∑ i : Fin 1024, (if h : a.val < 128 then p (ix2 ⟨0 + i.val, by omega⟩ ⟨a.val, h⟩) else q (ix2 ⟨0 + i.val, by omega⟩ ⟨a.val - 128, by omega⟩)) * x (ix2 ⟨0 + i.val, by omega⟩ k) := by
  unfold dw0
  pointwise

/-- The down projection's share: the activation's columns against the incoming rows. -/
def dd0 (a : FVec Ideal S1040x128 .bf16) (z : FVec Ideal S1040x1024 .bf16) : FVec Ideal S128x1024 .f32 :=
  matmul dot_S1024x128_S1024x1024_S128x1024_0_0_1_1_n_n none (extractStridedSlice S1024x128 ![0, 0] a slices_S1040x128_o0_0_S1024x128)
    (extractStridedSlice S1024x1024 ![0, 0] z slices_S1040x1024_o0_0_S1024x1024) (constant S128x1024 .f32 0x00000000#32)

theorem dd0_apply (a : FVec Ideal S1040x128 .bf16) (z : FVec Ideal S1040x1024 .bf16) (l : Fin 128) (k : Fin 1024) :
    dd0 a z (ix2 l k) = ∑ i : Fin 1024, a (ix2 ⟨0 + i.val, by omega⟩ l) * z (ix2 ⟨0 + i.val, by omega⟩ k) := by
  unfold dd0
  pointwise

/-- A column's sum over the rows the half owns, which begin at 16. -/
def csum16 (x : FVec Ideal S1040x128 .f32) : FVec Ideal S1x128 .f32 :=
  shapeCast S1x128 (multiReduction .add [0] S128 (extractStridedSlice S1024x128 ![16, 0] x slices_S1040x128_o16_0_S1024x128) 0x00000000#32 reduces_S1024x128_S128 (.inl rfl) rfl) shapeCasts_S128_S1x128

theorem csum16_apply (x : FVec Ideal S1040x128 .f32) (l : Fin 128) :
    csum16 x (ix2 0 l) = ∑ i : Fin 1024, x (ix2 ⟨16 + i.val, by omega⟩ l) := by
  unfold csum16
  pointwise

/-- The up projection's share: the two halves' cotangents side by side against the half's rows. -/
def dw16 (p q : FVec Ideal S1040x128 .bf16) (x : FVec Ideal S1040x1024 .bf16) : FVec Ideal S256x1024 .f32 :=
  matmul dot_S1024x256_S1024x1024_S256x1024_0_0_1_1_n_n none
    (concatenate S1024x256 1 [⟨S1024x128, extractStridedSlice S1024x128 ![16, 0] p slices_S1040x128_o16_0_S1024x128⟩, ⟨S1024x128, extractStridedSlice S1024x128 ![16, 0] q slices_S1040x128_o16_0_S1024x128⟩] concatenates_S1024x128_S1024x128_S1024x256_d1)
    (extractStridedSlice S1024x1024 ![16, 0] x slices_S1040x1024_o16_0_S1024x1024) (constant S256x1024 .f32 0x00000000#32)

theorem dw16_apply (p q : FVec Ideal S1040x128 .bf16) (x : FVec Ideal S1040x1024 .bf16) (a : Fin 256) (k : Fin 1024) :
    dw16 p q x (ix2 a k) = ∑ i : Fin 1024, (if h : a.val < 128 then p (ix2 ⟨16 + i.val, by omega⟩ ⟨a.val, h⟩) else q (ix2 ⟨16 + i.val, by omega⟩ ⟨a.val - 128, by omega⟩)) * x (ix2 ⟨16 + i.val, by omega⟩ k) := by
  unfold dw16
  pointwise

/-- The down projection's share: the activation's columns against the incoming rows. -/
def dd16 (a : FVec Ideal S1040x128 .bf16) (z : FVec Ideal S1040x1024 .bf16) : FVec Ideal S128x1024 .f32 :=
  matmul dot_S1024x128_S1024x1024_S128x1024_0_0_1_1_n_n none (extractStridedSlice S1024x128 ![16, 0] a slices_S1040x128_o16_0_S1024x128)
    (extractStridedSlice S1024x1024 ![16, 0] z slices_S1040x1024_o16_0_S1024x1024) (constant S128x1024 .f32 0x00000000#32)

theorem dd16_apply (a : FVec Ideal S1040x128 .bf16) (z : FVec Ideal S1040x1024 .bf16) (l : Fin 128) (k : Fin 1024) :
    dd16 a z (ix2 l k) = ∑ i : Fin 1024, a (ix2 ⟨16 + i.val, by omega⟩ l) * z (ix2 ⟨16 + i.val, by omega⟩ k) := by
  unfold dd16
  pointwise

end Cert.KernelIdeal.Voc

end
-- ==== Proof.Spec.lean ====
module

public import Idealize.ShloMosaic.Lib.Pointwise

@[expose] public section

noncomputable section

/-! The backward pass of the gated block, one column at a time: every array is a function of the row `r` of one batch
entry, and a convolution moves rows. -/

namespace Cert.Spec

open Idealize.ShloMosaic

/-- Rows moved down by `k`, zeros entering at the head. -/
def dn (k : ℕ) (f : ℕ → EReal) (r : ℕ) : EReal := if k ≤ r then f (r - k) else 0

/-- Rows moved up by `k` within the 2048 rows of a sequence, zeros entering at the tail. -/
def uw (k : ℕ) (f : ℕ → EReal) (r : ℕ) : EReal := if r + k < 2048 then f (r + k) else 0

/-- The causal convolution of three taps with its bias. -/
def conv (w : Fin 3 → EReal) (b : EReal) (u : ℕ → EReal) (r : ℕ) : EReal :=
  w 0 * dn 2 u r + w 1 * dn 1 u r + w 2 * u r + b

/-- The convolution's transpose. -/
def dp (w : Fin 3 → EReal) (d : ℕ → EReal) (r : ℕ) : EReal :=
  w 0 * uw 2 d r + w 1 * uw 1 d r + w 2 * d r

/-- The logistic function through the hyperbolic tangent. -/
def sg (g : EReal) : EReal :=
  Ideal.ofBits .f32 0x3F000000#32 * Ideal.tanh (Ideal.ofBits .f32 0x3F000000#32 * g) + Ideal.ofBits .f32 0x3F000000#32

/-- The gated activation. -/
def act (g v : EReal) : EReal := g * sg g * v

/-- The gate's cotangent, of the activation's cotangent `a`. -/
def dg (a g v : EReal) : EReal := a * v * sg g * (1 + g * (1 - sg g))

/-- The value half's cotangent. -/
def dv (a g : EReal) : EReal := a * g * sg g

/-- A sum over the 2048 rows is the sum over the first 1024 and the sum over the last 1024. -/
theorem sum_halves (f : ℕ → EReal) :
    (∑ i : Fin 1024, f i.val) + (∑ i : Fin 1024, f (1024 + i.val)) = ∑ r : Fin 2048, f r.val :=
  (Fin.sum_univ_add (a := 1024) (b := 1024) fun r => f r.val).symm

end Cert.Spec

end
-- ==== Proof.Half.lean ====
module

public import proofs.«01_k».proof.Proof.Voc
public import proofs.«01_k».proof.Proof.Spec

@[expose] public section

set_option maxRecDepth 16384

noncomputable section

/-! One half of the rows, in the words of a whole sequence: row `i` of the half is row `lo + i` of the sequence. -/

namespace Cert.KernelIdeal.Half

open Cert.KernelIdeal Cert.KernelIdeal.Gen Idealize.ShloMosaic

/-- The half's convolution is the sequence's, wherever the three rows it reads lie in the half. -/
theorem conv_half (lo : ℕ) (b w0 w1 w2 : FVec Ideal S1x128 .f32) (u : FVec Ideal S1040x128 .f32) (U : ℕ → EReal) (l : Fin 128)
    (hu : ∀ i : Fin 1040, u (ix2 i l) = U (lo + i.val)) (i : Fin 1040) (hi : lo = 0 ∨ 2 ≤ i.val) :
    Voc.conv b w0 w1 w2 u (ix2 i l) = Spec.conv ![w0 (ix2 0 l), w1 (ix2 0 l), w2 (ix2 0 l)] (b (ix2 0 l)) U (lo + i.val) := by
  rw [Voc.conv_apply, Voc.sd2_apply, Voc.sd1_apply]
  have e2 : (if h : 2 ≤ i.val then u (ix2 ⟨i.val - 2, by omega⟩ l) else 0) = Spec.dn 2 U (lo + i.val) := by
    unfold Spec.dn
    by_cases h : 2 ≤ i.val
    · rw [dif_pos h, if_pos (by omega), hu]; congr 1; dsimp only; omega
    · rw [dif_neg h, if_neg (by omega)]
  have e1 : (if h : 1 ≤ i.val then u (ix2 ⟨i.val - 1, by omega⟩ l) else 0) = Spec.dn 1 U (lo + i.val) := by
    unfold Spec.dn
    by_cases h : 1 ≤ i.val
    · rw [dif_pos h, if_pos (by omega), hu]; congr 1; dsimp only; omega
    · rw [dif_neg h, if_neg (by omega)]
  rw [e2, e1, hu, zero_add]
  unfold Spec.conv
  simp only [Matrix.cons_val_zero, Matrix.cons_val_one, Matrix.cons_val]
  ac_rfl

/-- The half's transposed convolution is the sequence's on the rows the half owns. -/
theorem dpre_half (lo : ℕ) (w0 w1 w2 : FVec Ideal S1x128 .f32) (d : FVec Ideal S1040x128 .f32) (D : ℕ → EReal) (l : Fin 128)
    (hd : ∀ i : Fin 1040, lo = 0 ∨ 2 ≤ i.val → d (ix2 i l) = D (lo + i.val)) (i : Fin 1040)
    (hi : lo = 0 ∧ i.val + 2 < 1040 ∨ lo = 1008 ∧ 2 ≤ i.val) :
    Voc.dpre w0 w1 w2 d (ix2 i l) = Spec.dp ![w0 (ix2 0 l), w1 (ix2 0 l), w2 (ix2 0 l)] D (lo + i.val) := by
  rw [Voc.dpre_apply, Voc.su2_apply, Voc.su1_apply]
  have e2 : (if h : i.val + 2 < 1040 then d (ix2 ⟨i.val + 2, h⟩ l) else 0) = Spec.uw 2 D (lo + i.val) := by
    unfold Spec.uw
    by_cases h : i.val + 2 < 1040
    · rw [dif_pos h, if_pos (by omega), hd _ (by dsimp only; omega)]; rfl
    · rw [dif_neg h, if_neg (by omega)]
  have e1 : (if h : i.val + 1 < 1040 then d (ix2 ⟨i.val + 1, h⟩ l) else 0) = Spec.uw 1 D (lo + i.val) := by
    unfold Spec.uw
    by_cases h : i.val + 1 < 1040
    · rw [dif_pos h, if_pos (by omega), hd _ (by dsimp only; omega)]; rfl
    · rw [dif_neg h, if_neg (by omega)]
  rw [e2, e1, hd i (by omega), zero_add]
  rfl

end Cert.KernelIdeal.Half

end
-- ==== Proof.Model.lean ====
module

public import proofs.«01_k».proof.Proof.Spec

@[expose] public section

noncomputable section

/-! The six gradients as functions of the six arguments, in the words of `Spec`. -/

namespace Cert.Spec

open Idealize.ShloMosaic

/-- The arguments: the normed input rows, the up projection, the convolution's taps and bias, the down projection and the
cotangent of the block's output. -/
structure Args where
  x1 : (⟨2, ![4096, 1024]⟩ : Shape).Idx → EReal
  wu : (⟨2, ![1024, 5632]⟩ : Shape).Idx → EReal
  cw : (⟨2, ![3, 5632]⟩ : Shape).Idx → EReal
  cb : (⟨2, ![1, 5632]⟩ : Shape).Idx → EReal
  wd : (⟨2, ![2816, 1024]⟩ : Shape).Idx → EReal
  dz : (⟨2, ![4096, 1024]⟩ : Shape).Idx → EReal

/-- Column `c` of half `h` (gate, then value) among the up projection's 5632 columns. -/
def col (h : Fin 2) (c : Fin 2816) : Fin 5632 := ⟨h.val * 2816 + c.val, by omega⟩

/-- Row `s` of batch entry `b` among the 4096 rows. -/
def row (b : Fin 2) (s : Fin 2048) : Fin 4096 := ⟨b.val * 2048 + s.val, by omega⟩

/-- A function of the 2048 rows, zero past them. -/
def ofRows (f : Fin 2048 → EReal) (r : ℕ) : EReal := if h : r < 2048 then f ⟨r, h⟩ else 0

theorem ofRows_val (f : Fin 2048 → EReal) (s : Fin 2048) : ofRows f s.val = f s := dif_pos s.isLt

namespace Args

variable (A : Args)

/-- The up projection's column `c`. -/
def up (b : Fin 2) (c : Fin 5632) : ℕ → EReal := ofRows fun s => ∑ k : Fin 1024, A.x1 (ix2 (row b s) k) * A.wu (ix2 k c)

/-- Column `c`'s three taps. -/
def w (c : Fin 5632) (k : Fin 3) : EReal := A.cw (ix2 k c)

/-- The convolution of column `c`. -/
def mix (b : Fin 2) (c : Fin 5632) (r : ℕ) : EReal := conv (A.w c) (A.cb (ix2 0 c)) (A.up b c) r

/-- The cotangent of the gated activation's column `c`. -/
def da (b : Fin 2) (c : Fin 2816) : ℕ → EReal := ofRows fun s => ∑ k : Fin 1024, A.dz (ix2 (row b s) k) * A.wd (ix2 c k)

/-- The cotangent of the convolution's column `c` of half `h`. -/
def d (b : Fin 2) (h : Fin 2) (c : Fin 2816) (r : ℕ) : EReal :=
  if h = 0 then dg (A.da b c r) (A.mix b (col 0 c) r) (A.mix b (col 1 c) r) else dv (A.da b c r) (A.mix b (col 0 c) r)

/-- The cotangent of the up projection's column `c` of half `h`. -/
def dup (b : Fin 2) (h : Fin 2) (c : Fin 2816) (r : ℕ) : EReal := dp (A.w (col h c)) (A.d b h c) r

/-- The gated activation's column `c`. -/
def ac (b : Fin 2) (c : Fin 2816) (r : ℕ) : EReal := act (A.mix b (col 0 c) r) (A.mix b (col 1 c) r)

/-- The up projection's gradient, transposed. -/
def gwu (h : Fin 2) (c : Fin 2816) (k : Fin 1024) : EReal :=
  ∑ b : Fin 2, ∑ s : Fin 2048, A.dup b h c s.val * A.x1 (ix2 (row b s) k)

/-- The down projection's gradient. -/
def gwd (c : Fin 2816) (k : Fin 1024) : EReal := ∑ b : Fin 2, ∑ s : Fin 2048, A.ac b c s.val * A.dz (ix2 (row b s) k)

/-- The taps' gradient. -/
def gcw (k : Fin 3) (h : Fin 2) (c : Fin 2816) : EReal :=
  ∑ b : Fin 2, ∑ s : Fin 2048, A.d b h c s.val * dn (2 - k.val) (A.up b (col h c)) s.val

/-- The bias's gradient. -/
def gcb (h : Fin 2) (c : Fin 2816) : EReal := ∑ b : Fin 2, ∑ s : Fin 2048, A.d b h c s.val

/-- Every argument element is finite. -/
structure Finite : Prop where
  x1 : ∀ i, ∃ r : ℝ, A.x1 i = r
  wu : ∀ i, ∃ r : ℝ, A.wu i = r
  cw : ∀ i, ∃ r : ℝ, A.cw i = r
  cb : ∀ i, ∃ r : ℝ, A.cb i = r
  wd : ∀ i, ∃ r : ℝ, A.wd i = r
  dz : ∀ i, ∃ r : ℝ, A.dz i = r

end Args

/-- The sum of finitely many finite values is finite. -/
theorem fin_sum {ι : Type*} (s : Finset ι) (f : ι → EReal) (h : ∀ i, ∃ r : ℝ, f i = r) : ∃ r : ℝ, ∑ i ∈ s, f i = r := by
  classical
  choose g hg using h
  refine ⟨∑ i ∈ s, g i, ?_⟩
  induction s using Finset.induction_on with
  | empty => simp
  | insert a t ha ih => rw [Finset.sum_insert ha, Finset.sum_insert ha, ih, hg, EReal.coe_add]

theorem fin_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem fin_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem fin_dn (k : ℕ) (f : ℕ → EReal) (h : ∀ r, ∃ x : ℝ, f r = x) (r : ℕ) : ∃ x : ℝ, dn k f r = x := by
  unfold dn; split
  · exact h _
  · exact ⟨0, rfl⟩

theorem fin_ofRows (f : Fin 2048 → EReal) (h : ∀ r, ∃ x : ℝ, f r = x) (r : ℕ) : ∃ x : ℝ, ofRows f r = x := by
  unfold ofRows; split
  · exact h _
  · exact ⟨0, rfl⟩

/-- A finite argument's convolution is finite. -/
theorem Args.Finite.mix {A : Args} (h : A.Finite) (b : Fin 2) (c : Fin 5632) (r : ℕ) : ∃ x : ℝ, A.mix b c r = x := by
  have hu : ∀ r, ∃ x : ℝ, A.up b c r = x := fin_ofRows _ fun s => fin_sum _ _ fun k => fin_mul (h.x1 _) (h.wu _)
  exact fin_add (fin_add (fin_add (fin_mul (h.cw _) (fin_dn _ _ hu _)) (fin_mul (h.cw _) (fin_dn _ _ hu _))) (fin_mul (h.cw _) (hu _))) (h.cb _)

/-- A finite argument's activation cotangent is finite. -/
theorem Args.Finite.da {A : Args} (h : A.Finite) (b : Fin 2) (c : Fin 2816) (r : ℕ) : ∃ x : ℝ, A.da b c r = x :=
  fin_ofRows _ (fun s => fin_sum _ _ fun k => fin_mul (h.dz _) (h.wd _)) r

/-- The literal one half. -/
theorem half_lit : Ideal.ofBits .f32 0x3F000000#32 = ((1 / 2 : ℝ) : EReal) := by
  simp [Ideal.ofBits, Ideal.ieee, -EReal.coe_mul]; norm_num

/-- The logistic function through the hyperbolic tangent is the logistic function. -/
theorem sg_coe (g : ℝ) : sg g = Ideal.div 1 (1 + Ideal.exp (-(g : EReal))) := by
  have h1 : Ideal.div 1 (1 + Ideal.exp (-(g : EReal))) = (((1 + Real.exp (-g))⁻¹ : ℝ) : EReal) := Ideal.logistic_coe g
  rw [h1]
  unfold sg
  rw [half_lit, ← EReal.coe_mul, Ideal.tanh_coe, ← EReal.coe_mul, ← EReal.coe_add, EReal.coe_eq_coe_iff]
  rw [Real.tanh_eq_sinh_div_cosh, Real.sinh_eq, Real.cosh_eq]
  have e : Real.exp (-g) = Real.exp (-(1 / 2 * g)) * Real.exp (-(1 / 2 * g)) := by rw [← Real.exp_add]; congr 1; ring
  have e' : Real.exp (1 / 2 * g) * Real.exp (-(1 / 2 * g)) = 1 := by rw [← Real.exp_add]; simp
  rw [e]
  have p := Real.exp_pos (1 / 2 * g)
  have q := Real.exp_pos (-(1 / 2 * g))
  generalize Real.exp (1 / 2 * g) = y at *
  generalize Real.exp (-(1 / 2 * g)) = z at *
  have hy : y = 1 / z := by field_simp; exact e'
  subst hy
  field_simp
  ring

/-- The gate's cotangent, by the product rule, is the factored one on finite values. -/
theorem dg_coe (a g v : ℝ) :
    (a : EReal) * v * sg g + (g * ((a : EReal) * v)) * (sg g * (1 - sg g)) = dg a g v := by
  obtain ⟨s, hs⟩ : ∃ s : ℝ, sg g = s := ⟨_, (sg_coe g).trans (Ideal.logistic_coe g)⟩
  unfold dg
  rw [hs]
  norm_cast
  ring

end Cert.Spec

end
-- ==== Proof.Blk.lean ====
module

public import proofs.«01_k».proof.Proof.Half
public import proofs.«01_k».proof.Proof.Model
public import Idealize.ShloMosaic.Lib.Pipeline.Value

@[expose] public section

set_option maxRecDepth 16384

noncomputable section

/-! What one grid step computes of its blocks: the two halves of the sequence in the kernel's words, and the same in
the words of the whole sequence. -/

namespace Cert.KernelIdeal

open Cert.KernelIdeal.Gen Idealize.ShloMosaic Idealize.SL.Sem

/-- The blocks one grid step reads: a batch entry's input rows and cotangent rows, its tile of the up projection (gate
columns, then value columns), the down projection's rows, the taps and biases of the two halves. -/
structure Blk where
  x : Vec Ideal S1x2048x1024 .bf16
  z : Vec Ideal S1x2048x1024 .bf16
  u : Vec Ideal S1x2048x256 .f32
  wd : Vec Ideal S128x1024 .bf16
  wg : Vec Ideal S3x128 .f32
  wv : Vec Ideal S3x128 .f32
  bg : Vec Ideal S1x128 .f32
  bv : Vec Ideal S1x128 .f32

namespace Blk

variable (B : Blk)

/-- Column `l` of half `h` of the tile. -/
def U (h : Fin 2) (l : Fin 128) : ℕ → EReal := Spec.ofRows fun r => B.u (ix3 0 r ⟨h.val * 128 + l.val, by omega⟩)

/-- The taps of the gate's column `l`. -/
def Wg (l : Fin 128) : Fin 3 → EReal := ![B.wg (ix2 0 l), B.wg (ix2 1 l), B.wg (ix2 2 l)]

/-- The taps of the value half's column `l`. -/
def Wv (l : Fin 128) : Fin 3 → EReal := ![B.wv (ix2 0 l), B.wv (ix2 1 l), B.wv (ix2 2 l)]

/-- The gate's column. -/
def G (l : Fin 128) (r : ℕ) : EReal := Spec.conv (B.Wg l) (B.bg (ix2 0 l)) (B.U 0 l) r

/-- The value half's column. -/
def V (l : Fin 128) (r : ℕ) : EReal := Spec.conv (B.Wv l) (B.bv (ix2 0 l)) (B.U 1 l) r

/-- The activation's cotangent. -/
def A (l : Fin 128) : ℕ → EReal := Spec.ofRows fun r => ∑ k : Fin 1024, B.z (ix3 0 r k) * B.wd (ix2 l k)

/-- The gate's cotangent. -/
def Dg (l : Fin 128) (r : ℕ) : EReal := Spec.dg (B.A l r) (B.G l r) (B.V l r)

/-- The value half's cotangent. -/
def Dv (l : Fin 128) (r : ℕ) : EReal := Spec.dv (B.A l r) (B.G l r)

/-- The down projection's rows as the body loads them. -/
def wdl : Vec Ideal S128x1024 .bf16 := View.ld B.wd (Rect.unit ![0, 0] ![128, 1024] inb_S128x1024_S128x1024_0_0)

theorem wdl_apply (l : Fin 128) (k : Fin 1024) : B.wdl (ix2 l k) = B.wd (ix2 l k) := by
  unfold wdl
  rw [View.ld_unit]
  pointwise

/-- The gate's bias as the body loads it. -/
def lbg : Vec Ideal S1x128 .f32 := View.ld B.bg (Rect.unit ![0, 0] ![1, 128] inb_S1x128_S1x128_0_0)

theorem lbg_apply (l : Fin 128) : B.lbg (ix2 0 l) = B.bg (ix2 0 l) := by
  unfold lbg
  rw [View.ld_unit]
  pointwise

/-- The gate's tap 0 as the body loads it. -/
def tg0 : Vec Ideal S1x128 .f32 := View.ld B.wg (Rect.unit ![0, 0] ![1, 128] inb_S3x128_S1x128_0_0)

theorem tg0_apply (l : Fin 128) : B.tg0 (ix2 0 l) = B.wg (ix2 0 l) := by
  unfold tg0
  rw [View.ld_unit]
  pointwise
  try rfl

/-- The gate's tap 1 as the body loads it. -/
def tg1 : Vec Ideal S1x128 .f32 := View.ld B.wg (Rect.unit ![1, 0] ![1, 128] inb_S3x128_S1x128_1_0)

theorem tg1_apply (l : Fin 128) : B.tg1 (ix2 0 l) = B.wg (ix2 1 l) := by
  unfold tg1
  rw [View.ld_unit]
  pointwise
  try rfl

/-- The gate's tap 2 as the body loads it. -/
def tg2 : Vec Ideal S1x128 .f32 := View.ld B.wg (Rect.unit ![2, 0] ![1, 128] inb_S3x128_S1x128_2_0)

theorem tg2_apply (l : Fin 128) : B.tg2 (ix2 0 l) = B.wg (ix2 2 l) := by
  unfold tg2
  rw [View.ld_unit]
  pointwise
  try rfl

/-- The value half's bias as the body loads it. -/
def lbv : Vec Ideal S1x128 .f32 := View.ld B.bv (Rect.unit ![0, 0] ![1, 128] inb_S1x128_S1x128_0_0)

theorem lbv_apply (l : Fin 128) : B.lbv (ix2 0 l) = B.bv (ix2 0 l) := by
  unfold lbv
  rw [View.ld_unit]
  pointwise

/-- The value half's tap 0 as the body loads it. -/
def tv0 : Vec Ideal S1x128 .f32 := View.ld B.wv (Rect.unit ![0, 0] ![1, 128] inb_S3x128_S1x128_0_0)

theorem tv0_apply (l : Fin 128) : B.tv0 (ix2 0 l) = B.wv (ix2 0 l) := by
  unfold tv0
  rw [View.ld_unit]
  pointwise
  try rfl

/-- The value half's tap 1 as the body loads it. -/
def tv1 : Vec Ideal S1x128 .f32 := View.ld B.wv (Rect.unit ![1, 0] ![1, 128] inb_S3x128_S1x128_1_0)

theorem tv1_apply (l : Fin 128) : B.tv1 (ix2 0 l) = B.wv (ix2 1 l) := by
  unfold tv1
  rw [View.ld_unit]
  pointwise
  try rfl

/-- The value half's tap 2 as the body loads it. -/
def tv2 : Vec Ideal S1x128 .f32 := View.ld B.wv (Rect.unit ![2, 0] ![1, 128] inb_S3x128_S1x128_2_0)

theorem tv2_apply (l : Fin 128) : B.tv2 (ix2 0 l) = B.wv (ix2 2 l) := by
  unfold tv2
  rw [View.ld_unit]
  pointwise
  try rfl

/-- The half's input rows, from row 0. -/
def x0 : FVec Ideal S1040x1024 .bf16 :=
  shapeCast S1040x1024 (View.ld B.x (Rect.unit ![0, 0, 0] ![1, 1040, 1024] inb_S1x2048x1024_S1x1040x1024_0_0_0)) shapeCasts_S1x1040x1024_S1040x1024

theorem x0_apply (i : Fin 1040) (k : Fin 1024) : B.x0 (ix2 i k) = B.x (ix3 0 ⟨0 + i.val, by omega⟩ k) := by
  unfold x0
  rw [View.ld_unit]
  pointwise

/-- The half's cotangent rows, from row 0. -/
def z0 : FVec Ideal S1040x1024 .bf16 :=
  shapeCast S1040x1024 (View.ld B.z (Rect.unit ![0, 0, 0] ![1, 1040, 1024] inb_S1x2048x1024_S1x1040x1024_0_0_0)) shapeCasts_S1x1040x1024_S1040x1024

theorem z0_apply (i : Fin 1040) (k : Fin 1024) : B.z0 (ix2 i k) = B.z (ix3 0 ⟨0 + i.val, by omega⟩ k) := by
  unfold z0
  rw [View.ld_unit]
  pointwise

/-- The half's gate columns, from row 0. -/
def ug0 : FVec Ideal S1040x128 .f32 :=
  shapeCast S1040x128 (View.ld B.u (Rect.unit ![0, 0, 0] ![1, 1040, 128] inb_S1x2048x256_S1x1040x128_0_0_0)) shapeCasts_S1x1040x128_S1040x128

theorem ug0_apply (i : Fin 1040) (l : Fin 128) : B.ug0 (ix2 i l) = B.U 0 l (0 + i.val) := by
  unfold ug0 U Spec.ofRows
  rw [View.ld_unit, dif_pos (by omega)]
  pointwise
  try rfl

/-- The half's gate. -/
def mg0 : FVec Ideal S1040x128 .f32 := Voc.conv B.lbg B.tg0 B.tg1 B.tg2 B.ug0

theorem mg0_apply (i : Fin 1040) (hi : 0 = 0 ∨ 2 ≤ i.val) (l : Fin 128) : B.mg0 (ix2 i l) = B.G l (0 + i.val) := by
  unfold mg0 G
  rw [Half.conv_half 0 _ _ _ _ _ (B.U 0 l) l (fun j => B.ug0_apply j l) i hi, lbg_apply, tg0_apply, tg1_apply, tg2_apply]
  rfl

/-- The half's value columns, from row 0. -/
def uv0 : FVec Ideal S1040x128 .f32 :=
  shapeCast S1040x128 (View.ld B.u (Rect.unit ![0, 0, 128] ![1, 1040, 128] inb_S1x2048x256_S1x1040x128_0_0_128)) shapeCasts_S1x1040x128_S1040x128

theorem uv0_apply (i : Fin 1040) (l : Fin 128) : B.uv0 (ix2 i l) = B.U 1 l (0 + i.val) := by
  unfold uv0 U Spec.ofRows
  rw [View.ld_unit, dif_pos (by omega)]
  pointwise
  try rfl

/-- The half's value. -/
def mv0 : FVec Ideal S1040x128 .f32 := Voc.conv B.lbv B.tv0 B.tv1 B.tv2 B.uv0

theorem mv0_apply (i : Fin 1040) (hi : 0 = 0 ∨ 2 ≤ i.val) (l : Fin 128) : B.mv0 (ix2 i l) = B.V l (0 + i.val) := by
  unfold mv0 V
  rw [Half.conv_half 0 _ _ _ _ _ (B.U 1 l) l (fun j => B.uv0_apply j l) i hi, lbv_apply, tv0_apply, tv1_apply, tv2_apply]
  rfl

/-- The half's cotangent of the activation. -/
theorem a0_apply (i : Fin 1040) (l : Fin 128) : Voc.dact B.z0 B.wdl (ix2 i l) = B.A l (0 + i.val) := by
  rw [Voc.dact_apply]
  unfold A Spec.ofRows
  rw [dif_pos (by omega)]
  exact Finset.sum_congr rfl fun k _ => by rw [z0_apply, wdl_apply]

/-- The half's cotangent of the gate. -/
def dg0 : FVec Ideal S1040x128 .f32 := Voc.dgate B.z0 B.wdl B.mg0 B.mv0

theorem dg0_apply (i : Fin 1040) (hi : 0 = 0 ∨ 2 ≤ i.val) (l : Fin 128) : B.dg0 (ix2 i l) = B.Dg l (0 + i.val) := by
  unfold dg0
  rw [Voc.dgate_apply, Voc.sg_apply, a0_apply, mg0_apply B i hi, mv0_apply B i hi]
  rfl

/-- The half's cotangent of the value half. -/
def dv0 : FVec Ideal S1040x128 .f32 := Voc.dval B.z0 B.wdl B.mg0

theorem dv0_apply (i : Fin 1040) (hi : 0 = 0 ∨ 2 ≤ i.val) (l : Fin 128) : B.dv0 (ix2 i l) = B.Dv l (0 + i.val) := by
  unfold dv0
  rw [Voc.dval_apply, Voc.sg_apply, a0_apply, mg0_apply B i hi]
  rfl

/-- The half's gated activation. -/
def c0 : FVec Ideal S1040x128 .bf16 := Voc.act B.mg0 B.mv0

theorem c0_apply (i : Fin 1040) (hi : 0 = 0 ∨ 2 ≤ i.val) (l : Fin 128) : B.c0 (ix2 i l) = Spec.act (B.G l (0 + i.val)) (B.V l (0 + i.val)) := by
  unfold c0
  rw [Voc.act_apply, Voc.sg_apply, mg0_apply B i hi, mv0_apply B i hi]
  rfl

/-- The half's cotangent of the gate columns of the up projection. -/
def pg0 : FVec Ideal S1040x128 .bf16 := Voc.dpre B.tg0 B.tg1 B.tg2 B.dg0

theorem pg0_apply (i : Fin 1040) (hi : 0 = 0 ∧ i.val + 2 < 1040 ∨ 0 = 1008 ∧ 2 ≤ i.val) (l : Fin 128) :
    B.pg0 (ix2 i l) = Spec.dp (B.Wg l) (B.Dg l) (0 + i.val) := by
  unfold pg0
  rw [Half.dpre_half 0 _ _ _ _ (B.Dg l) l (fun j hj => B.dg0_apply j hj l) i hi, tg0_apply, tg1_apply, tg2_apply]
  rfl

/-- The half's product for tap 0 of the gate columns. -/
theorem qg0_0_apply (i : Fin 1040) (hi : 0 = 0 ∨ 2 ≤ i.val) (l : Fin 128) :
    mulf B.dg0 (Voc.sd2 B.ug0) (ix2 i l) = B.Dg l (0 + i.val) * Spec.dn 2 (B.U 0 l) (0 + i.val) := by
  have e : Voc.sd2 B.ug0 (ix2 i l) = Spec.dn 2 (B.U 0 l) (0 + i.val) := by
    rw [Voc.sd2_apply]
    unfold Spec.dn
    by_cases h : 2 ≤ i.val
    · rw [dif_pos h, if_pos (by omega), ug0_apply]; congr 1; dsimp only; omega
    · rw [dif_neg h, if_neg (by omega)]
  show B.dg0 (ix2 i l) * Voc.sd2 B.ug0 (ix2 i l) = _
  rw [e, dg0_apply B i hi]

/-- The half's product for tap 1 of the gate columns. -/
theorem qg1_0_apply (i : Fin 1040) (hi : 0 = 0 ∨ 2 ≤ i.val) (l : Fin 128) :
    mulf B.dg0 (Voc.sd1 B.ug0) (ix2 i l) = B.Dg l (0 + i.val) * Spec.dn 1 (B.U 0 l) (0 + i.val) := by
  have e : Voc.sd1 B.ug0 (ix2 i l) = Spec.dn 1 (B.U 0 l) (0 + i.val) := by
    rw [Voc.sd1_apply]
    unfold Spec.dn
    by_cases h : 1 ≤ i.val
    · rw [dif_pos h, if_pos (by omega), ug0_apply]; congr 1; dsimp only; omega
    · rw [dif_neg h, if_neg (by omega)]
  show B.dg0 (ix2 i l) * Voc.sd1 B.ug0 (ix2 i l) = _
  rw [e, dg0_apply B i hi]

/-- The half's product for tap 2 of the gate columns. -/
theorem qg2_0_apply (i : Fin 1040) (hi : 0 = 0 ∨ 2 ≤ i.val) (l : Fin 128) :
    mulf B.dg0 (B.ug0) (ix2 i l) = B.Dg l (0 + i.val) * Spec.dn 0 (B.U 0 l) (0 + i.val) := by
  show B.dg0 (ix2 i l) * B.ug0 (ix2 i l) = _
  rw [ug0_apply, dg0_apply B i hi]
  rfl

/-- The half's cotangent of the value columns of the up projection. -/
def pv0 : FVec Ideal S1040x128 .bf16 := Voc.dpre B.tv0 B.tv1 B.tv2 B.dv0

theorem pv0_apply (i : Fin 1040) (hi : 0 = 0 ∧ i.val + 2 < 1040 ∨ 0 = 1008 ∧ 2 ≤ i.val) (l : Fin 128) :
    B.pv0 (ix2 i l) = Spec.dp (B.Wv l) (B.Dv l) (0 + i.val) := by
  unfold pv0
  rw [Half.dpre_half 0 _ _ _ _ (B.Dv l) l (fun j hj => B.dv0_apply j hj l) i hi, tv0_apply, tv1_apply, tv2_apply]
  rfl

/-- The half's product for tap 0 of the value columns. -/
theorem qv0_0_apply (i : Fin 1040) (hi : 0 = 0 ∨ 2 ≤ i.val) (l : Fin 128) :
    mulf B.dv0 (Voc.sd2 B.uv0) (ix2 i l) = B.Dv l (0 + i.val) * Spec.dn 2 (B.U 1 l) (0 + i.val) := by
  have e : Voc.sd2 B.uv0 (ix2 i l) = Spec.dn 2 (B.U 1 l) (0 + i.val) := by
    rw [Voc.sd2_apply]
    unfold Spec.dn
    by_cases h : 2 ≤ i.val
    · rw [dif_pos h, if_pos (by omega), uv0_apply]; congr 1; dsimp only; omega
    · rw [dif_neg h, if_neg (by omega)]
  show B.dv0 (ix2 i l) * Voc.sd2 B.uv0 (ix2 i l) = _
  rw [e, dv0_apply B i hi]

/-- The half's product for tap 1 of the value columns. -/
theorem qv1_0_apply (i : Fin 1040) (hi : 0 = 0 ∨ 2 ≤ i.val) (l : Fin 128) :
    mulf B.dv0 (Voc.sd1 B.uv0) (ix2 i l) = B.Dv l (0 + i.val) * Spec.dn 1 (B.U 1 l) (0 + i.val) := by
  have e : Voc.sd1 B.uv0 (ix2 i l) = Spec.dn 1 (B.U 1 l) (0 + i.val) := by
    rw [Voc.sd1_apply]
    unfold Spec.dn
    by_cases h : 1 ≤ i.val
    · rw [dif_pos h, if_pos (by omega), uv0_apply]; congr 1; dsimp only; omega
    · rw [dif_neg h, if_neg (by omega)]
  show B.dv0 (ix2 i l) * Voc.sd1 B.uv0 (ix2 i l) = _
  rw [e, dv0_apply B i hi]

/-- The half's product for tap 2 of the value columns. -/
theorem qv2_0_apply (i : Fin 1040) (hi : 0 = 0 ∨ 2 ≤ i.val) (l : Fin 128) :
    mulf B.dv0 (B.uv0) (ix2 i l) = B.Dv l (0 + i.val) * Spec.dn 0 (B.U 1 l) (0 + i.val) := by
  show B.dv0 (ix2 i l) * B.uv0 (ix2 i l) = _
  rw [uv0_apply, dv0_apply B i hi]
  rfl

/-- The half's input rows, from row 1008. -/
def x16 : FVec Ideal S1040x1024 .bf16 :=
  shapeCast S1040x1024 (View.ld B.x (Rect.unit ![0, 1008, 0] ![1, 1040, 1024] inb_S1x2048x1024_S1x1040x1024_0_1008_0)) shapeCasts_S1x1040x1024_S1040x1024

theorem x16_apply (i : Fin 1040) (k : Fin 1024) : B.x16 (ix2 i k) = B.x (ix3 0 ⟨1008 + i.val, by omega⟩ k) := by
  unfold x16
  rw [View.ld_unit]
  pointwise

/-- The half's cotangent rows, from row 1008. -/
def z16 : FVec Ideal S1040x1024 .bf16 :=
  shapeCast S1040x1024 (View.ld B.z (Rect.unit ![0, 1008, 0] ![1, 1040, 1024] inb_S1x2048x1024_S1x1040x1024_0_1008_0)) shapeCasts_S1x1040x1024_S1040x1024

theorem z16_apply (i : Fin 1040) (k : Fin 1024) : B.z16 (ix2 i k) = B.z (ix3 0 ⟨1008 + i.val, by omega⟩ k) := by
  unfold z16
  rw [View.ld_unit]
  pointwise

/-- The half's gate columns, from row 1008. -/
def ug16 : FVec Ideal S1040x128 .f32 :=
  shapeCast S1040x128 (View.ld B.u (Rect.unit ![0, 1008, 0] ![1, 1040, 128] inb_S1x2048x256_S1x1040x128_0_1008_0)) shapeCasts_S1x1040x128_S1040x128

theorem ug16_apply (i : Fin 1040) (l : Fin 128) : B.ug16 (ix2 i l) = B.U 0 l (1008 + i.val) := by
  unfold ug16 U Spec.ofRows
  rw [View.ld_unit, dif_pos (by omega)]
  pointwise
  try rfl

/-- The half's gate. -/
def mg16 : FVec Ideal S1040x128 .f32 := Voc.conv B.lbg B.tg0 B.tg1 B.tg2 B.ug16

theorem mg16_apply (i : Fin 1040) (hi : 1008 = 0 ∨ 2 ≤ i.val) (l : Fin 128) : B.mg16 (ix2 i l) = B.G l (1008 + i.val) := by
  unfold mg16 G
  rw [Half.conv_half 1008 _ _ _ _ _ (B.U 0 l) l (fun j => B.ug16_apply j l) i hi, lbg_apply, tg0_apply, tg1_apply, tg2_apply]
  rfl

/-- The half's value columns, from row 1008. -/
def uv16 : FVec Ideal S1040x128 .f32 :=
  shapeCast S1040x128 (View.ld B.u (Rect.unit ![0, 1008, 128] ![1, 1040, 128] inb_S1x2048x256_S1x1040x128_0_1008_128)) shapeCasts_S1x1040x128_S1040x128

theorem uv16_apply (i : Fin 1040) (l : Fin 128) : B.uv16 (ix2 i l) = B.U 1 l (1008 + i.val) := by
  unfold uv16 U Spec.ofRows
  rw [View.ld_unit, dif_pos (by omega)]
  pointwise
  try rfl

/-- The half's value. -/
def mv16 : FVec Ideal S1040x128 .f32 := Voc.conv B.lbv B.tv0 B.tv1 B.tv2 B.uv16

theorem mv16_apply (i : Fin 1040) (hi : 1008 = 0 ∨ 2 ≤ i.val) (l : Fin 128) : B.mv16 (ix2 i l) = B.V l (1008 + i.val) := by
  unfold mv16 V
  rw [Half.conv_half 1008 _ _ _ _ _ (B.U 1 l) l (fun j => B.uv16_apply j l) i hi, lbv_apply, tv0_apply, tv1_apply, tv2_apply]
  rfl

/-- The half's cotangent of the activation. -/
theorem a16_apply (i : Fin 1040) (l : Fin 128) : Voc.dact B.z16 B.wdl (ix2 i l) = B.A l (1008 + i.val) := by
  rw [Voc.dact_apply]
  unfold A Spec.ofRows
  rw [dif_pos (by omega)]
  exact Finset.sum_congr rfl fun k _ => by rw [z16_apply, wdl_apply]

/-- The half's cotangent of the gate. -/
def dg16 : FVec Ideal S1040x128 .f32 := Voc.dgate B.z16 B.wdl B.mg16 B.mv16

theorem dg16_apply (i : Fin 1040) (hi : 1008 = 0 ∨ 2 ≤ i.val) (l : Fin 128) : B.dg16 (ix2 i l) = B.Dg l (1008 + i.val) := by
  unfold dg16
  rw [Voc.dgate_apply, Voc.sg_apply, a16_apply, mg16_apply B i hi, mv16_apply B i hi]
  rfl

/-- The half's cotangent of the value half. -/
def dv16 : FVec Ideal S1040x128 .f32 := Voc.dval B.z16 B.wdl B.mg16

theorem dv16_apply (i : Fin 1040) (hi : 1008 = 0 ∨ 2 ≤ i.val) (l : Fin 128) : B.dv16 (ix2 i l) = B.Dv l (1008 + i.val) := by
  unfold dv16
  rw [Voc.dval_apply, Voc.sg_apply, a16_apply, mg16_apply B i hi]
  rfl

/-- The half's gated activation. -/
def c16 : FVec Ideal S1040x128 .bf16 := Voc.act B.mg16 B.mv16

theorem c16_apply (i : Fin 1040) (hi : 1008 = 0 ∨ 2 ≤ i.val) (l : Fin 128) : B.c16 (ix2 i l) = Spec.act (B.G l (1008 + i.val)) (B.V l (1008 + i.val)) := by
  unfold c16
  rw [Voc.act_apply, Voc.sg_apply, mg16_apply B i hi, mv16_apply B i hi]
  rfl

/-- The half's cotangent of the gate columns of the up projection. -/
def pg16 : FVec Ideal S1040x128 .bf16 := Voc.dpre B.tg0 B.tg1 B.tg2 B.dg16

theorem pg16_apply (i : Fin 1040) (hi : 1008 = 0 ∧ i.val + 2 < 1040 ∨ 1008 = 1008 ∧ 2 ≤ i.val) (l : Fin 128) :
    B.pg16 (ix2 i l) = Spec.dp (B.Wg l) (B.Dg l) (1008 + i.val) := by
  unfold pg16
  rw [Half.dpre_half 1008 _ _ _ _ (B.Dg l) l (fun j hj => B.dg16_apply j hj l) i hi, tg0_apply, tg1_apply, tg2_apply]
  rfl

/-- The half's product for tap 0 of the gate columns. -/
theorem qg0_16_apply (i : Fin 1040) (hi : 1008 = 0 ∨ 2 ≤ i.val) (l : Fin 128) :
    mulf B.dg16 (Voc.sd2 B.ug16) (ix2 i l) = B.Dg l (1008 + i.val) * Spec.dn 2 (B.U 0 l) (1008 + i.val) := by
  have e : Voc.sd2 B.ug16 (ix2 i l) = Spec.dn 2 (B.U 0 l) (1008 + i.val) := by
    rw [Voc.sd2_apply]
    unfold Spec.dn
    by_cases h : 2 ≤ i.val
    · rw [dif_pos h, if_pos (by omega), ug16_apply]; congr 1; dsimp only; omega
    · rw [dif_neg h, if_neg (by omega)]
  show B.dg16 (ix2 i l) * Voc.sd2 B.ug16 (ix2 i l) = _
  rw [e, dg16_apply B i hi]

/-- The half's product for tap 1 of the gate columns. -/
theorem qg1_16_apply (i : Fin 1040) (hi : 1008 = 0 ∨ 2 ≤ i.val) (l : Fin 128) :
    mulf B.dg16 (Voc.sd1 B.ug16) (ix2 i l) = B.Dg l (1008 + i.val) * Spec.dn 1 (B.U 0 l) (1008 + i.val) := by
  have e : Voc.sd1 B.ug16 (ix2 i l) = Spec.dn 1 (B.U 0 l) (1008 + i.val) := by
    rw [Voc.sd1_apply]
    unfold Spec.dn
    by_cases h : 1 ≤ i.val
    · rw [dif_pos h, if_pos (by omega), ug16_apply]; congr 1; dsimp only; omega
    · rw [dif_neg h, if_neg (by omega)]
  show B.dg16 (ix2 i l) * Voc.sd1 B.ug16 (ix2 i l) = _
  rw [e, dg16_apply B i hi]

/-- The half's product for tap 2 of the gate columns. -/
theorem qg2_16_apply (i : Fin 1040) (hi : 1008 = 0 ∨ 2 ≤ i.val) (l : Fin 128) :
    mulf B.dg16 (B.ug16) (ix2 i l) = B.Dg l (1008 + i.val) * Spec.dn 0 (B.U 0 l) (1008 + i.val) := by
  show B.dg16 (ix2 i l) * B.ug16 (ix2 i l) = _
  rw [ug16_apply, dg16_apply B i hi]
  rfl

/-- The half's cotangent of the value columns of the up projection. -/
def pv16 : FVec Ideal S1040x128 .bf16 := Voc.dpre B.tv0 B.tv1 B.tv2 B.dv16

theorem pv16_apply (i : Fin 1040) (hi : 1008 = 0 ∧ i.val + 2 < 1040 ∨ 1008 = 1008 ∧ 2 ≤ i.val) (l : Fin 128) :
    B.pv16 (ix2 i l) = Spec.dp (B.Wv l) (B.Dv l) (1008 + i.val) := by
  unfold pv16
  rw [Half.dpre_half 1008 _ _ _ _ (B.Dv l) l (fun j hj => B.dv16_apply j hj l) i hi, tv0_apply, tv1_apply, tv2_apply]
  rfl

/-- The half's product for tap 0 of the value columns. -/
theorem qv0_16_apply (i : Fin 1040) (hi : 1008 = 0 ∨ 2 ≤ i.val) (l : Fin 128) :
    mulf B.dv16 (Voc.sd2 B.uv16) (ix2 i l) = B.Dv l (1008 + i.val) * Spec.dn 2 (B.U 1 l) (1008 + i.val) := by
  have e : Voc.sd2 B.uv16 (ix2 i l) = Spec.dn 2 (B.U 1 l) (1008 + i.val) := by
    rw [Voc.sd2_apply]
    unfold Spec.dn
    by_cases h : 2 ≤ i.val
    · rw [dif_pos h, if_pos (by omega), uv16_apply]; congr 1; dsimp only; omega
    · rw [dif_neg h, if_neg (by omega)]
  show B.dv16 (ix2 i l) * Voc.sd2 B.uv16 (ix2 i l) = _
  rw [e, dv16_apply B i hi]

/-- The half's product for tap 1 of the value columns. -/
theorem qv1_16_apply (i : Fin 1040) (hi : 1008 = 0 ∨ 2 ≤ i.val) (l : Fin 128) :
    mulf B.dv16 (Voc.sd1 B.uv16) (ix2 i l) = B.Dv l (1008 + i.val) * Spec.dn 1 (B.U 1 l) (1008 + i.val) := by
  have e : Voc.sd1 B.uv16 (ix2 i l) = Spec.dn 1 (B.U 1 l) (1008 + i.val) := by
    rw [Voc.sd1_apply]
    unfold Spec.dn
    by_cases h : 1 ≤ i.val
    · rw [dif_pos h, if_pos (by omega), uv16_apply]; congr 1; dsimp only; omega
    · rw [dif_neg h, if_neg (by omega)]
  show B.dv16 (ix2 i l) * Voc.sd1 B.uv16 (ix2 i l) = _
  rw [e, dv16_apply B i hi]

/-- The half's product for tap 2 of the value columns. -/
theorem qv2_16_apply (i : Fin 1040) (hi : 1008 = 0 ∨ 2 ≤ i.val) (l : Fin 128) :
    mulf B.dv16 (B.uv16) (ix2 i l) = B.Dv l (1008 + i.val) * Spec.dn 0 (B.U 1 l) (1008 + i.val) := by
  show B.dv16 (ix2 i l) * B.uv16 (ix2 i l) = _
  rw [uv16_apply, dv16_apply B i hi]
  rfl

/-- The two halves' sums of the gate cotangents add to the sequence's. -/
theorem sum_dg (l : Fin 128) : addf (Voc.csum0 B.dg0) (Voc.csum16 B.dg16) (ix2 0 l) = ∑ r : Fin 2048, B.Dg l r.val := by
  rw [← Spec.sum_halves]
  show Voc.csum0 B.dg0 (ix2 0 l) + Voc.csum16 B.dg16 (ix2 0 l) = _
  rw [Voc.csum0_apply, Voc.csum16_apply]
  congr 1
  · exact Finset.sum_congr rfl fun i _ => by rw [dg0_apply B _ (.inl rfl)]; congr 1; dsimp only; omega
  · exact Finset.sum_congr rfl fun i _ => by rw [dg16_apply B _ (.inr (by dsimp only; omega))]; congr 1; dsimp only; omega

/-- The two halves' sums for tap 0 of the gate columns add to the sequence's. -/
theorem sum_qg0 (l : Fin 128) : addf (Voc.csum0 (mulf B.dg0 (Voc.sd2 B.ug0))) (Voc.csum16 (mulf B.dg16 (Voc.sd2 B.ug16))) (ix2 0 l)
    = ∑ r : Fin 2048, B.Dg l r.val * Spec.dn 2 (B.U 0 l) r.val := by
  rw [← Spec.sum_halves (fun r => B.Dg l r * Spec.dn 2 (B.U 0 l) r)]
  show Voc.csum0 (mulf B.dg0 (Voc.sd2 B.ug0)) (ix2 0 l) + Voc.csum16 (mulf B.dg16 (Voc.sd2 B.ug16)) (ix2 0 l) = _
  rw [Voc.csum0_apply, Voc.csum16_apply]
  congr 1
  · refine Finset.sum_congr rfl fun i _ => ?_
    rw [qg0_0_apply B _ (.inl rfl)]
    have h : 0 + (0 + i.val) = i.val := by omega
    dsimp only
    rw [h]
  · refine Finset.sum_congr rfl fun i _ => ?_
    rw [qg0_16_apply B _ (.inr (by dsimp only; omega))]
    have h : 1008 + (16 + i.val) = 1024 + i.val := by omega
    dsimp only
    rw [h]

/-- The two halves' sums for tap 1 of the gate columns add to the sequence's. -/
theorem sum_qg1 (l : Fin 128) : addf (Voc.csum0 (mulf B.dg0 (Voc.sd1 B.ug0))) (Voc.csum16 (mulf B.dg16 (Voc.sd1 B.ug16))) (ix2 0 l)
    = ∑ r : Fin 2048, B.Dg l r.val * Spec.dn 1 (B.U 0 l) r.val := by
  rw [← Spec.sum_halves (fun r => B.Dg l r * Spec.dn 1 (B.U 0 l) r)]
  show Voc.csum0 (mulf B.dg0 (Voc.sd1 B.ug0)) (ix2 0 l) + Voc.csum16 (mulf B.dg16 (Voc.sd1 B.ug16)) (ix2 0 l) = _
  rw [Voc.csum0_apply, Voc.csum16_apply]
  congr 1
  · refine Finset.sum_congr rfl fun i _ => ?_
    rw [qg1_0_apply B _ (.inl rfl)]
    have h : 0 + (0 + i.val) = i.val := by omega
    dsimp only
    rw [h]
  · refine Finset.sum_congr rfl fun i _ => ?_
    rw [qg1_16_apply B _ (.inr (by dsimp only; omega))]
    have h : 1008 + (16 + i.val) = 1024 + i.val := by omega
    dsimp only
    rw [h]

/-- The two halves' sums for tap 2 of the gate columns add to the sequence's. -/
theorem sum_qg2 (l : Fin 128) : addf (Voc.csum0 (mulf B.dg0 B.ug0)) (Voc.csum16 (mulf B.dg16 B.ug16)) (ix2 0 l)
    = ∑ r : Fin 2048, B.Dg l r.val * Spec.dn 0 (B.U 0 l) r.val := by
  rw [← Spec.sum_halves (fun r => B.Dg l r * Spec.dn 0 (B.U 0 l) r)]
  show Voc.csum0 (mulf B.dg0 B.ug0) (ix2 0 l) + Voc.csum16 (mulf B.dg16 B.ug16) (ix2 0 l) = _
  rw [Voc.csum0_apply, Voc.csum16_apply]
  congr 1
  · refine Finset.sum_congr rfl fun i _ => ?_
    rw [qg2_0_apply B _ (.inl rfl)]
    have h : 0 + (0 + i.val) = i.val := by omega
    dsimp only
    rw [h]
  · refine Finset.sum_congr rfl fun i _ => ?_
    rw [qg2_16_apply B _ (.inr (by dsimp only; omega))]
    have h : 1008 + (16 + i.val) = 1024 + i.val := by omega
    dsimp only
    rw [h]

/-- The two halves' sums of the value cotangents add to the sequence's. -/
theorem sum_dv (l : Fin 128) : addf (Voc.csum0 B.dv0) (Voc.csum16 B.dv16) (ix2 0 l) = ∑ r : Fin 2048, B.Dv l r.val := by
  rw [← Spec.sum_halves]
  show Voc.csum0 B.dv0 (ix2 0 l) + Voc.csum16 B.dv16 (ix2 0 l) = _
  rw [Voc.csum0_apply, Voc.csum16_apply]
  congr 1
  · exact Finset.sum_congr rfl fun i _ => by rw [dv0_apply B _ (.inl rfl)]; congr 1; dsimp only; omega
  · exact Finset.sum_congr rfl fun i _ => by rw [dv16_apply B _ (.inr (by dsimp only; omega))]; congr 1; dsimp only; omega

/-- The two halves' sums for tap 0 of the value columns add to the sequence's. -/
theorem sum_qv0 (l : Fin 128) : addf (Voc.csum0 (mulf B.dv0 (Voc.sd2 B.uv0))) (Voc.csum16 (mulf B.dv16 (Voc.sd2 B.uv16))) (ix2 0 l)
    = ∑ r : Fin 2048, B.Dv l r.val * Spec.dn 2 (B.U 1 l) r.val := by
  rw [← Spec.sum_halves (fun r => B.Dv l r * Spec.dn 2 (B.U 1 l) r)]
  show Voc.csum0 (mulf B.dv0 (Voc.sd2 B.uv0)) (ix2 0 l) + Voc.csum16 (mulf B.dv16 (Voc.sd2 B.uv16)) (ix2 0 l) = _
  rw [Voc.csum0_apply, Voc.csum16_apply]
  congr 1
  · refine Finset.sum_congr rfl fun i _ => ?_
    rw [qv0_0_apply B _ (.inl rfl)]
    have h : 0 + (0 + i.val) = i.val := by omega
    dsimp only
    rw [h]
  · refine Finset.sum_congr rfl fun i _ => ?_
    rw [qv0_16_apply B _ (.inr (by dsimp only; omega))]
    have h : 1008 + (16 + i.val) = 1024 + i.val := by omega
    dsimp only
    rw [h]

/-- The two halves' sums for tap 1 of the value columns add to the sequence's. -/
theorem sum_qv1 (l : Fin 128) : addf (Voc.csum0 (mulf B.dv0 (Voc.sd1 B.uv0))) (Voc.csum16 (mulf B.dv16 (Voc.sd1 B.uv16))) (ix2 0 l)
    = ∑ r : Fin 2048, B.Dv l r.val * Spec.dn 1 (B.U 1 l) r.val := by
  rw [← Spec.sum_halves (fun r => B.Dv l r * Spec.dn 1 (B.U 1 l) r)]
  show Voc.csum0 (mulf B.dv0 (Voc.sd1 B.uv0)) (ix2 0 l) + Voc.csum16 (mulf B.dv16 (Voc.sd1 B.uv16)) (ix2 0 l) = _
  rw [Voc.csum0_apply, Voc.csum16_apply]
  congr 1
  · refine Finset.sum_congr rfl fun i _ => ?_
    rw [qv1_0_apply B _ (.inl rfl)]
    have h : 0 + (0 + i.val) = i.val := by omega
    dsimp only
    rw [h]
  · refine Finset.sum_congr rfl fun i _ => ?_
    rw [qv1_16_apply B _ (.inr (by dsimp only; omega))]
    have h : 1008 + (16 + i.val) = 1024 + i.val := by omega
    dsimp only
    rw [h]

/-- The two halves' sums for tap 2 of the value columns add to the sequence's. -/
theorem sum_qv2 (l : Fin 128) : addf (Voc.csum0 (mulf B.dv0 B.uv0)) (Voc.csum16 (mulf B.dv16 B.uv16)) (ix2 0 l)
    = ∑ r : Fin 2048, B.Dv l r.val * Spec.dn 0 (B.U 1 l) r.val := by
  rw [← Spec.sum_halves (fun r => B.Dv l r * Spec.dn 0 (B.U 1 l) r)]
  show Voc.csum0 (mulf B.dv0 B.uv0) (ix2 0 l) + Voc.csum16 (mulf B.dv16 B.uv16) (ix2 0 l) = _
  rw [Voc.csum0_apply, Voc.csum16_apply]
  congr 1
  · refine Finset.sum_congr rfl fun i _ => ?_
    rw [qv2_0_apply B _ (.inl rfl)]
    have h : 0 + (0 + i.val) = i.val := by omega
    dsimp only
    rw [h]
  · refine Finset.sum_congr rfl fun i _ => ?_
    rw [qv2_16_apply B _ (.inr (by dsimp only; omega))]
    have h : 1008 + (16 + i.val) = 1024 + i.val := by omega
    dsimp only
    rw [h]

/-- The two halves' shares of the down projection's gradient add to the sequence's. -/
theorem sum_c (l : Fin 128) (k : Fin 1024) : addf (Voc.dd0 B.c0 B.z0) (Voc.dd16 B.c16 B.z16) (ix2 l k)
    = ∑ r : Fin 2048, Spec.act (B.G l r.val) (B.V l r.val) * B.z (ix3 0 r k) := by
  have e : ∀ r : Fin 2048, Spec.act (B.G l r.val) (B.V l r.val) * B.z (ix3 0 r k)
      = (fun r => Spec.act (B.G l r) (B.V l r) * Spec.ofRows (fun r => B.z (ix3 0 r k)) r) r.val := fun r => by
    dsimp only; rw [Spec.ofRows_val]
  rw [Finset.sum_congr rfl fun r _ => e r, ← Spec.sum_halves (fun r => Spec.act (B.G l r) (B.V l r) * Spec.ofRows (fun r => B.z (ix3 0 r k)) r)]
  show Voc.dd0 B.c0 B.z0 (ix2 l k) + Voc.dd16 B.c16 B.z16 (ix2 l k) = _
  rw [Voc.dd0_apply, Voc.dd16_apply]
  congr 1
  · refine Finset.sum_congr rfl fun i _ => ?_
    rw [c0_apply B _ (.inl rfl), z0_apply]
    have h : 0 + (0 + i.val) = i.val := by omega
    dsimp only
    simp only [h, Spec.ofRows]
    rw [dif_pos (by omega)]
  · refine Finset.sum_congr rfl fun i _ => ?_
    rw [c16_apply B _ (.inr (by dsimp only; omega)), z16_apply]
    have h : 1008 + (16 + i.val) = 1024 + i.val := by omega
    dsimp only
    simp only [h, Spec.ofRows]
    rw [dif_pos (by omega)]

/-- The two halves' shares of the up projection's gradient. -/
def dw : FVec Ideal S256x1024 .f32 := addf (Voc.dw0 B.pg0 B.pv0 B.x0) (Voc.dw16 B.pg16 B.pv16 B.x16)

/-- They add to the sequence's, at the gate columns. -/
theorem sum_pg (l : Fin 128) (k : Fin 1024) : B.dw (ix2 ⟨0 + l.val, by omega⟩ k)
    = ∑ r : Fin 2048, Spec.dp (B.Wg l) (B.Dg l) r.val * B.x (ix3 0 r k) := by
  have e : ∀ r : Fin 2048, Spec.dp (B.Wg l) (B.Dg l) r.val * B.x (ix3 0 r k)
      = (fun r => Spec.dp (B.Wg l) (B.Dg l) r * Spec.ofRows (fun r => B.x (ix3 0 r k)) r) r.val := fun r => by
    dsimp only; rw [Spec.ofRows_val]
  rw [Finset.sum_congr rfl fun r _ => e r, ← Spec.sum_halves (fun r => Spec.dp (B.Wg l) (B.Dg l) r * Spec.ofRows (fun r => B.x (ix3 0 r k)) r)]
  show Voc.dw0 B.pg0 B.pv0 B.x0 (ix2 _ k) + Voc.dw16 B.pg16 B.pv16 B.x16 (ix2 _ k) = _
  rw [Voc.dw0_apply, Voc.dw16_apply]
  congr 1
  · refine Finset.sum_congr rfl fun i _ => ?_
    rw [dif_pos (by dsimp only; omega), x0_apply, pg0_apply B _ (.inl ⟨rfl, by dsimp only; omega⟩)]
    have h : 0 + (0 + i.val) = i.val := by omega
    have hl' : ∀ q, (⟨0 + l.val, q⟩ : Fin 128) = l := fun q => Fin.ext (by dsimp only; omega)
    dsimp only
    rw [hl']
    simp only [h, Spec.ofRows]
    rw [dif_pos (by omega)]
  · refine Finset.sum_congr rfl fun i _ => ?_
    rw [dif_pos (by dsimp only; omega), x16_apply, pg16_apply B _ (.inr ⟨rfl, by dsimp only; omega⟩)]
    have h : 1008 + (16 + i.val) = 1024 + i.val := by omega
    have hl' : ∀ q, (⟨0 + l.val, q⟩ : Fin 128) = l := fun q => Fin.ext (by dsimp only; omega)
    dsimp only
    rw [hl']
    simp only [h, Spec.ofRows]
    rw [dif_pos (by omega)]

/-- They add to the sequence's, at the value columns. -/
theorem sum_pv (l : Fin 128) (k : Fin 1024) : B.dw (ix2 ⟨128 + l.val, by omega⟩ k)
    = ∑ r : Fin 2048, Spec.dp (B.Wv l) (B.Dv l) r.val * B.x (ix3 0 r k) := by
  have e : ∀ r : Fin 2048, Spec.dp (B.Wv l) (B.Dv l) r.val * B.x (ix3 0 r k)
      = (fun r => Spec.dp (B.Wv l) (B.Dv l) r * Spec.ofRows (fun r => B.x (ix3 0 r k)) r) r.val := fun r => by
    dsimp only; rw [Spec.ofRows_val]
  rw [Finset.sum_congr rfl fun r _ => e r, ← Spec.sum_halves (fun r => Spec.dp (B.Wv l) (B.Dv l) r * Spec.ofRows (fun r => B.x (ix3 0 r k)) r)]
  show Voc.dw0 B.pg0 B.pv0 B.x0 (ix2 _ k) + Voc.dw16 B.pg16 B.pv16 B.x16 (ix2 _ k) = _
  rw [Voc.dw0_apply, Voc.dw16_apply]
  congr 1
  · refine Finset.sum_congr rfl fun i _ => ?_
    rw [dif_neg (by dsimp only; omega), x0_apply, pv0_apply B _ (.inl ⟨rfl, by dsimp only; omega⟩)]
    have h : 0 + (0 + i.val) = i.val := by omega
    have hl' : ∀ q, (⟨128 + l.val - 128, q⟩ : Fin 128) = l := fun q => Fin.ext (by dsimp only; omega)
    dsimp only
    rw [hl']
    simp only [h, Spec.ofRows]
    rw [dif_pos (by omega)]
  · refine Finset.sum_congr rfl fun i _ => ?_
    rw [dif_neg (by dsimp only; omega), x16_apply, pv16_apply B _ (.inr ⟨rfl, by dsimp only; omega⟩)]
    have h : 1008 + (16 + i.val) = 1024 + i.val := by omega
    have hl' : ∀ q, (⟨128 + l.val - 128, q⟩ : Fin 128) = l := fun q => Fin.ext (by dsimp only; omega)
    dsimp only
    rw [hl']
    simp only [h, Spec.ofRows]
    rw [dif_pos (by omega)]

/-- The taps of column `l` of half `h`. -/
def W (h : Fin 2) (l : Fin 128) : Fin 3 → EReal := if h = 0 then B.Wg l else B.Wv l

/-- The cotangent of column `l` of half `h`. -/
def D (h : Fin 2) (l : Fin 128) (r : ℕ) : EReal := if h = 0 then B.Dg l r else B.Dv l r

/-- The step's share of the up projection's gradient. -/
def gw (h : Fin 2) (l : Fin 128) (k : Fin 1024) : EReal := ∑ r : Fin 2048, Spec.dp (B.W h l) (B.D h l) r.val * B.x (ix3 0 r k)

/-- The step's share of the down projection's gradient. -/
def gd (l : Fin 128) (k : Fin 1024) : EReal := ∑ r : Fin 2048, Spec.act (B.G l r.val) (B.V l r.val) * B.z (ix3 0 r k)

/-- The step's share of the taps' gradient. -/
def gt (k : Fin 3) (h : Fin 2) (l : Fin 128) : EReal := ∑ r : Fin 2048, B.D h l r.val * Spec.dn (2 - k.val) (B.U h l) r.val

/-- The step's share of the bias's gradient. -/
def gb (h : Fin 2) (l : Fin 128) : EReal := ∑ r : Fin 2048, B.D h l r.val

theorem gw_g (l : Fin 128) (k : Fin 1024) : B.dw (ix2 ⟨l.val, by omega⟩ k) = B.gw 0 l k := by
  have h := B.sum_pg l k
  simp only [Nat.zero_add] at h
  rw [h]
  rfl

theorem gw_v (l : Fin 128) (k : Fin 1024) : B.dw (ix2 ⟨128 + l.val, by omega⟩ k) = B.gw 1 l k := by
  rw [sum_pv]
  rfl

end Blk

end Cert.KernelIdeal

end
-- ==== Proof.In.lean ====
module

public import proofs.«01_k».proof.Proof.Blk
public import proofs.«01_k».proof.Proof.Gen.KernelIdeal.Frame
public import Idealize.ShloMosaic.Lib.StableHlo.ReadAt

@[expose] public section

set_option maxRecDepth 16384

noncomputable section

/-! What the blocks of a grid step hold: at step `t` the tile of columns `t / 2` of batch entry `t % 2`, in the words of
the whole arguments. -/

namespace Cert.KernelIdeal.In

open Cert.KernelIdeal Cert.KernelIdeal.Gen Idealize.ShloMosaic Idealize.ShloMosaic.TcCoe Idealize.SL.Sem

variable (m : (ℓ : Loc nD τ sig) → Buf (Elt Ideal) ℓ)

/-- The arguments a core was launched with. -/
def args (c : Dev nD) : Spec.Args where
  x1 := m ((c : Thread nD τ).loc main_arg0)
  wu := m ((c : Thread nD τ).loc main_arg1)
  cw := m ((c : Thread nD τ).loc main_arg2)
  cb := m ((c : Thread nD τ).loc main_arg3)
  wd := m ((c : Thread nD τ).loc main_arg4)
  dz := m ((c : Thread nD τ).loc main_arg5)

/-- The blocks a core's step `t` reads. -/
def blk (c : Dev nD) (t : Fin cfg0.N) : Blk :=
  ⟨iblk m c 0 t, iblk m c 1 t, iblk m c 2 t, iblk m c 3 t, iblk m c 4 t, iblk m c 5 t, iblk m c 6 t, iblk m c 7 t⟩

theorem lt_N (t : Fin cfg0.N) : t.val < 44 := lt_of_lt_of_eq t.isLt N_0

/-- A step's batch entry. -/
def bt (t : Fin cfg0.N) : Fin 2 := ⟨t.val % 2, by omega⟩

/-- Column `l` of a step's tile among a half's 2816. -/
def ct (t : Fin cfg0.N) (l : Fin 128) : Fin 2816 := ⟨t.val / 2 * 128 + l.val, by have := lt_N t; omega⟩

/-- The input rows as the kernel finds them. -/
theorem V_v8 (c : Dev nD) (b : Fin 2) (s : Fin 2048) (k : Fin 1024) :
    V m c main_v8 (ix3 b s k) = (args m c).x1 (ix2 (Spec.row b s) k) := by
  unfold V args Spec.row
  after_reads_at

/-- The cotangent rows as the kernel finds them. -/
theorem V_v9 (c : Dev nD) (b : Fin 2) (s : Fin 2048) (k : Fin 1024) :
    V m c main_v9 (ix3 b s k) = (args m c).dz (ix2 (Spec.row b s) k) := by
  unfold V args Spec.row
  after_reads_at

/-- The down projection as the kernel finds it. -/
theorem V_v7 (c : Dev nD) (r : Fin 2816) (k : Fin 1024) : V m c main_v7 (ix2 r k) = (args m c).wd (ix2 r k) := by
  unfold V args
  after_reads_at

/-- The up projection as the kernel finds it: tile after tile, in a tile the gate's columns before the value half's. -/
theorem V_v5 (c : Dev nD) (b : Fin 2) (s : Fin 2048) (j : Fin 22) (h : Fin 2) (l : Fin 128) :
    V m c main_v5 (ix3 b s ⟨j.val * 256 + h.val * 128 + l.val, by omega⟩)
      = ∑ k : Fin 1024, (args m c).x1 (ix2 (Spec.row b s) k) * (args m c).wu (ix2 k (Spec.col h ⟨j.val * 128 + l.val, by omega⟩)) := by
  unfold V args Spec.row Spec.col
  after_reads_at
  simp only [Nat.add_assoc]

/-- Window 0's block numbers. -/
theorem idx0 : ∀ t : Fin cfg0.N, win0_0.index t 0 = t.val % 2 ∧ win0_0.index t 1 = 0 ∧ win0_0.index t 2 = 0 :=
  (by decide +kernel : ∀ t : Fin grid0.N, win0_0.index t 0 = t.val % 2 ∧ win0_0.index t 1 = 0 ∧ win0_0.index t 2 = 0)

/-- Window 1's block numbers. -/
theorem idx1 : ∀ t : Fin cfg0.N, win0_1.index t 0 = t.val % 2 ∧ win0_1.index t 1 = 0 ∧ win0_1.index t 2 = 0 :=
  (by decide +kernel : ∀ t : Fin grid0.N, win0_1.index t 0 = t.val % 2 ∧ win0_1.index t 1 = 0 ∧ win0_1.index t 2 = 0)

/-- Window 2's block numbers. -/
theorem idx2 : ∀ t : Fin cfg0.N, win0_2.index t 0 = t.val % 2 ∧ win0_2.index t 1 = 0 ∧ win0_2.index t 2 = t.val / 2 :=
  (by decide +kernel : ∀ t : Fin grid0.N, win0_2.index t 0 = t.val % 2 ∧ win0_2.index t 1 = 0 ∧ win0_2.index t 2 = t.val / 2)

/-- Window 3's block numbers. -/
theorem idx3 : ∀ t : Fin cfg0.N, win0_3.index t 0 = t.val / 2 ∧ win0_3.index t 1 = 0 :=
  (by decide +kernel : ∀ t : Fin grid0.N, win0_3.index t 0 = t.val / 2 ∧ win0_3.index t 1 = 0)

/-- Window 4's block numbers. -/
theorem idx4 : ∀ t : Fin cfg0.N, win0_4.index t 0 = 0 ∧ win0_4.index t 1 = t.val / 2 :=
  (by decide +kernel : ∀ t : Fin grid0.N, win0_4.index t 0 = 0 ∧ win0_4.index t 1 = t.val / 2)

/-- Window 5's block numbers. -/
theorem idx5 : ∀ t : Fin cfg0.N, win0_5.index t 0 = 0 ∧ win0_5.index t 1 = 22 + t.val / 2 :=
  (by decide +kernel : ∀ t : Fin grid0.N, win0_5.index t 0 = 0 ∧ win0_5.index t 1 = 22 + t.val / 2)

/-- Window 6's block numbers. -/
theorem idx6 : ∀ t : Fin cfg0.N, win0_6.index t 0 = 0 ∧ win0_6.index t 1 = t.val / 2 :=
  (by decide +kernel : ∀ t : Fin grid0.N, win0_6.index t 0 = 0 ∧ win0_6.index t 1 = t.val / 2)

/-- Window 7's block numbers. -/
theorem idx7 : ∀ t : Fin cfg0.N, win0_7.index t 0 = 0 ∧ win0_7.index t 1 = 22 + t.val / 2 :=
  (by decide +kernel : ∀ t : Fin grid0.N, win0_7.index t 0 = 0 ∧ win0_7.index t 1 = 22 + t.val / 2)

/-- The input rows of a step's batch entry. -/
theorem x_eq (c : Dev nD) (t : Fin cfg0.N) (r : Fin 2048) (k : Fin 1024) : (blk m c t).x (ix3 0 r k) = V m c main_v8 (ix3 (bt t) r k) := by
  have hi := idx0 t
  show iblk m c 0 t _ = V m c main_v8 _
  unfold iblk
  rw [View.read_apply]
  show V m c main_v8 _ = V m c main_v8 _
  congr 1
  funext a
  apply Fin.ext
  match a with
  | ⟨0, _⟩ => show win0_0.index t 0 * 1 + 1 * 0 = t.val % 2; rw [hi.1]; omega
  | ⟨1, _⟩ => show win0_0.index t 1 * 2048 + 1 * r.val = r.val; rw [hi.2.1]; omega
  | ⟨2, _⟩ => show win0_0.index t 2 * 1024 + 1 * k.val = k.val; rw [hi.2.2]; omega

/-- The cotangent rows of a step's batch entry. -/
theorem z_eq (c : Dev nD) (t : Fin cfg0.N) (r : Fin 2048) (k : Fin 1024) : (blk m c t).z (ix3 0 r k) = V m c main_v9 (ix3 (bt t) r k) := by
  have hi := idx1 t
  show iblk m c 1 t _ = V m c main_v9 _
  unfold iblk
  rw [View.read_apply]
  show V m c main_v9 _ = V m c main_v9 _
  congr 1
  funext a
  apply Fin.ext
  match a with
  | ⟨0, _⟩ => show win0_1.index t 0 * 1 + 1 * 0 = t.val % 2; rw [hi.1]; omega
  | ⟨1, _⟩ => show win0_1.index t 1 * 2048 + 1 * r.val = r.val; rw [hi.2.1]; omega
  | ⟨2, _⟩ => show win0_1.index t 2 * 1024 + 1 * k.val = k.val; rw [hi.2.2]; omega

/-- A step's tile of the up projection. -/
theorem u_eq (c : Dev nD) (t : Fin cfg0.N) (r : Fin 2048) (h : Fin 2) (l : Fin 128) : (blk m c t).u (ix3 0 r ⟨h.val * 128 + l.val, by omega⟩)
    = V m c main_v5 (ix3 (bt t) r ⟨t.val / 2 * 256 + h.val * 128 + l.val, by have := lt_N t; omega⟩) := by
  have hi := idx2 t
  show iblk m c 2 t _ = V m c main_v5 _
  unfold iblk
  rw [View.read_apply]
  show V m c main_v5 _ = V m c main_v5 _
  congr 1
  funext a
  apply Fin.ext
  match a with
  | ⟨0, _⟩ => show win0_2.index t 0 * 1 + 1 * 0 = t.val % 2; rw [hi.1]; omega
  | ⟨1, _⟩ => show win0_2.index t 1 * 2048 + 1 * r.val = r.val; rw [hi.2.1]; omega
  | ⟨2, _⟩ => show win0_2.index t 2 * 256 + 1 * (h.val * 128 + l.val) = t.val / 2 * 256 + h.val * 128 + l.val; rw [hi.2.2]; omega

/-- A step's rows of the down projection. -/
theorem wd_eq (c : Dev nD) (t : Fin cfg0.N) (l : Fin 128) (k : Fin 1024) : (blk m c t).wd (ix2 l k) = V m c main_v7 (ix2 (ct t l) k) := by
  have hi := idx3 t
  show iblk m c 3 t _ = V m c main_v7 _
  unfold iblk
  rw [View.read_apply]
  show V m c main_v7 _ = V m c main_v7 _
  congr 1
  funext a
  apply Fin.ext
  match a with
  | ⟨0, _⟩ => show win0_3.index t 0 * 128 + 1 * l.val = t.val / 2 * 128 + l.val; rw [hi.1]; omega
  | ⟨1, _⟩ => show win0_3.index t 1 * 1024 + 1 * k.val = k.val; rw [hi.2]; omega

/-- The gate's taps of a step's columns. -/
theorem wg_eq (c : Dev nD) (t : Fin cfg0.N) (k : Fin 3) (l : Fin 128) : (blk m c t).wg (ix2 k l) = V m c main_arg2 (ix2 k (Spec.col 0 (ct t l))) := by
  have hi := idx4 t
  show iblk m c 4 t _ = V m c main_arg2 _
  unfold iblk
  rw [View.read_apply]
  show V m c main_arg2 _ = V m c main_arg2 _
  congr 1
  funext a
  apply Fin.ext
  match a with
  | ⟨0, _⟩ => show win0_4.index t 0 * 3 + 1 * k.val = k.val; rw [hi.1]; omega
  | ⟨1, _⟩ => show win0_4.index t 1 * 128 + 1 * l.val = 0 * 2816 + (t.val / 2 * 128 + l.val); rw [hi.2]; omega

/-- The value half's taps of a step's columns. -/
theorem wv_eq (c : Dev nD) (t : Fin cfg0.N) (k : Fin 3) (l : Fin 128) : (blk m c t).wv (ix2 k l) = V m c main_arg2 (ix2 k (Spec.col 1 (ct t l))) := by
  have hi := idx5 t
  show iblk m c 5 t _ = V m c main_arg2 _
  unfold iblk
  rw [View.read_apply]
  show V m c main_arg2 _ = V m c main_arg2 _
  congr 1
  funext a
  apply Fin.ext
  match a with
  | ⟨0, _⟩ => show win0_5.index t 0 * 3 + 1 * k.val = k.val; rw [hi.1]; omega
  | ⟨1, _⟩ => show win0_5.index t 1 * 128 + 1 * l.val = 1 * 2816 + (t.val / 2 * 128 + l.val); rw [hi.2]; omega

/-- The gate's biases of a step's columns. -/
theorem bg_eq (c : Dev nD) (t : Fin cfg0.N) (l : Fin 128) : (blk m c t).bg (ix2 0 l) = V m c main_arg3 (ix2 0 (Spec.col 0 (ct t l))) := by
  have hi := idx6 t
  show iblk m c 6 t _ = V m c main_arg3 _
  unfold iblk
  rw [View.read_apply]
  show V m c main_arg3 _ = V m c main_arg3 _
  congr 1
  funext a
  apply Fin.ext
  match a with
  | ⟨0, _⟩ => show win0_6.index t 0 * 1 + 1 * 0 = 0; rw [hi.1]
  | ⟨1, _⟩ => show win0_6.index t 1 * 128 + 1 * l.val = 0 * 2816 + (t.val / 2 * 128 + l.val); rw [hi.2]; omega

/-- The value half's biases of a step's columns. -/
theorem bv_eq (c : Dev nD) (t : Fin cfg0.N) (l : Fin 128) : (blk m c t).bv (ix2 0 l) = V m c main_arg3 (ix2 0 (Spec.col 1 (ct t l))) := by
  have hi := idx7 t
  show iblk m c 7 t _ = V m c main_arg3 _
  unfold iblk
  rw [View.read_apply]
  show V m c main_arg3 _ = V m c main_arg3 _
  congr 1
  funext a
  apply Fin.ext
  match a with
  | ⟨0, _⟩ => show win0_7.index t 0 * 1 + 1 * 0 = 0; rw [hi.1]
  | ⟨1, _⟩ => show win0_7.index t 1 * 128 + 1 * l.val = 1 * 2816 + (t.val / 2 * 128 + l.val); rw [hi.2]; omega

variable (c : Dev nD) (t : Fin cfg0.N) (l : Fin 128)

theorem blk_x (r : Fin 2048) (k : Fin 1024) : (blk m c t).x (ix3 0 r k) = (args m c).x1 (ix2 (Spec.row (bt t) r) k) :=
  (x_eq m c t r k).trans (V_v8 m c _ r k)

theorem blk_z (r : Fin 2048) (k : Fin 1024) : (blk m c t).z (ix3 0 r k) = (args m c).dz (ix2 (Spec.row (bt t) r) k) :=
  (z_eq m c t r k).trans (V_v9 m c _ r k)

/-- A step's tile of the up projection is the whole's columns. -/
theorem blk_U (h : Fin 2) : (blk m c t).U h l = (args m c).up (bt t) (Spec.col h (ct t l)) := by
  unfold Blk.U Spec.Args.up
  refine congrArg Spec.ofRows (funext fun r => ?_)
  rw [u_eq]
  exact V_v5 m c (bt t) r ⟨t.val / 2, by have := lt_N t; omega⟩ h l

/-- A step's cotangent of the activation is the whole's column. -/
theorem blk_A : (blk m c t).A l = (args m c).da (bt t) (ct t l) := by
  unfold Blk.A Spec.Args.da
  refine congrArg Spec.ofRows (funext fun r => Finset.sum_congr rfl fun k _ => ?_)
  rw [blk_z, wd_eq, V_v7]

theorem blk_Wg : (blk m c t).Wg l = (args m c).w (Spec.col 0 (ct t l)) := by
  unfold Blk.Wg
  rw [wg_eq, wg_eq, wg_eq, V_main_arg2]
  funext k; fin_cases k <;> rfl

theorem blk_Wv : (blk m c t).Wv l = (args m c).w (Spec.col 1 (ct t l)) := by
  unfold Blk.Wv
  rw [wv_eq, wv_eq, wv_eq, V_main_arg2]
  funext k; fin_cases k <;> rfl

/-- A step's gate column is the whole's. -/
theorem blk_G (r : ℕ) : (blk m c t).G l r = (args m c).mix (bt t) (Spec.col 0 (ct t l)) r := by
  unfold Blk.G Spec.Args.mix
  rw [blk_Wg, blk_U, bg_eq, V_main_arg3]; rfl

/-- A step's value column is the whole's. -/
theorem blk_V (r : ℕ) : (blk m c t).V l r = (args m c).mix (bt t) (Spec.col 1 (ct t l)) r := by
  unfold Blk.V Spec.Args.mix
  rw [blk_Wv, blk_U, bv_eq, V_main_arg3]; rfl

/-- A step's cotangent of the convolution is the whole's, half by half. -/
theorem blk_D (h : Fin 2) : (blk m c t).D h l = (args m c).d (bt t) h (ct t l) := by
  funext r
  unfold Blk.D Spec.Args.d Blk.Dg Blk.Dv
  rw [blk_A, blk_G, blk_V]

theorem blk_W (h : Fin 2) : (blk m c t).W h l = (args m c).w (Spec.col h (ct t l)) := by
  unfold Blk.W
  rw [blk_Wg, blk_Wv]
  fin_cases h <;> rfl

/-- A step's share of the up projection's gradient. -/
theorem blk_gw (h : Fin 2) (k : Fin 1024) : (blk m c t).gw h l k
    = ∑ s : Fin 2048, (args m c).dup (bt t) h (ct t l) s.val * (args m c).x1 (ix2 (Spec.row (bt t) s) k) := by
  unfold Blk.gw Spec.Args.dup
  rw [blk_W, blk_D]
  exact Finset.sum_congr rfl fun s _ => by rw [blk_x]

/-- A step's share of the down projection's gradient. -/
theorem blk_gd (k : Fin 1024) : (blk m c t).gd l k
    = ∑ s : Fin 2048, (args m c).ac (bt t) (ct t l) s.val * (args m c).dz (ix2 (Spec.row (bt t) s) k) := by
  unfold Blk.gd Spec.Args.ac
  exact Finset.sum_congr rfl fun s _ => by rw [blk_z, blk_G, blk_V]

/-- A step's share of the taps' gradient. -/
theorem blk_gt (k : Fin 3) (h : Fin 2) : (blk m c t).gt k h l
    = ∑ s : Fin 2048, (args m c).d (bt t) h (ct t l) s.val * Spec.dn (2 - k.val) ((args m c).up (bt t) (Spec.col h (ct t l))) s.val := by
  unfold Blk.gt
  rw [blk_D, blk_U]

/-- A step's share of the bias's gradient. -/
theorem blk_gb (h : Fin 2) : (blk m c t).gb h l = ∑ s : Fin 2048, (args m c).d (bt t) h (ct t l) s.val := by
  unfold Blk.gb
  rw [blk_D]

end Cert.KernelIdeal.In

end
-- ==== Proof.Out.lean ====
module

public import proofs.«01_k».proof.Proof.Blk
public import proofs.«01_k».proof.Proof.Gen.KernelIdeal.Frame

@[expose] public section

set_option maxRecDepth 16384

noncomputable section

/-! What one grid step leaves in each of its output blocks, in the words of `Blk`: at a batch's first entry the step's own
share, at its second what the block held with the step's share added. -/

namespace Cert.KernelIdeal.Out

open Cert.KernelIdeal Cert.KernelIdeal.Gen Idealize.ShloMosaic Idealize.ShloMosaic.TcCoe Idealize.SL.Sem

/-- An index of a rank-3 block is its three coordinates. -/
theorem ix3_eta {n0 n1 n2 : ℕ} (y : (⟨3, ![n0, n1, n2]⟩ : Shape).Idx) : y = ix3 (y 0) (y 1) (y 2) := by
  funext a; match a with | 0 => rfl | 1 => rfl | 2 => rfl

/-- A rectangle's point is its offset and the point within it. -/
theorem emb3 {n0 n1 n2 : ℕ} (off size : Fin 3 → ℕ) (inb) (x : (⟨3, size⟩ : Shape).Idx) (a : Fin n0) (b : Fin n1) (c : Fin n2)
    (ha : off 0 + (x 0).val = a.val) (hb : off 1 + (x 1).val = b.val) (hc : off 2 + (x 2).val = c.val) :
    (Rect.unit (s := ⟨3, ![n0, n1, n2]⟩) off size inb).emb x = ix3 a b c := by
  funext d
  match d with
  | 0 => exact Fin.ext ((congrArg (off 0 + ·) (Nat.one_mul _)).trans ha)
  | 1 => exact Fin.ext ((congrArg (off 1 + ·) (Nat.one_mul _)).trans hb)
  | 2 => exact Fin.ext ((congrArg (off 2 + ·) (Nat.one_mul _)).trans hc)

/-- The two stores of the gate's cotangent of the up projection. -/
def L8 (B : Blk) : List (View.Piece (Elt Ideal) S1x2048x128 .bf16) :=
  [⟨Rect.unit ![0, 1024, 0] ![1, 1024, 128] inb_S1x2048x128_S1x1024x128_0_1024_0, shapeCast S1x1024x128 (extractStridedSlice S1024x128 ![16, 0] B.pg16 slices_S1040x128_o16_0_S1024x128) shapeCasts_S1024x128_S1x1024x128⟩,
   ⟨Rect.unit ![0, 0, 0] ![1, 1024, 128] inb_S1x2048x128_S1x1024x128_0_0_0, shapeCast S1x1024x128 (extractStridedSlice S1024x128 ![0, 0] B.pg0 slices_S1040x128_o0_0_S1024x128) shapeCasts_S1024x128_S1x1024x128⟩]

/-- They cover the block. -/
theorem cov8 (B : Blk) (y : S1x2048x128.Idx) : ∃ p ∈ L8 B, y ∈ p.1.set :=
  View.cover_of_tiledL (L8 B) S1x1024x128.size (by sl_kernel_rfl) y

/-- They leave the whole sequence's. -/
theorem L8_apply (B : Blk) (r : Fin 2048) (l : Fin 128) :
    View.canon (L8 B) (ix3 0 r l) = Spec.dp (B.Wg l) (B.Dg l) r.val := by
  refine View.canon_apply_of_pieces (fun y => Spec.dp (B.Wg (y 2)) (B.Dg (y 2)) (y 1).val) _ ?_ _ (cov8 B _)
  intro p hp x
  unfold L8 at hp
  simp only [List.mem_cons, List.not_mem_nil, or_false] at hp
  rcases hp with rfl | rfl
  · obtain ⟨a, b, c, rfl⟩ : ∃ (a : Fin 1) (b : Fin 1024) (c : Fin 128), x = ix3 a b c := ⟨_, _, _, ix3_eta x⟩
    dsimp only
    rw [emb3 _ _ _ _ (0 : Fin 1) (⟨1024 + b.val, by omega⟩ : Fin 2048) c (by have := a.isLt; show 0 + a.val = 0; omega) rfl (Nat.zero_add _)]
    pointwise
    rw [Blk.pg16_apply B _ (.inr ⟨rfl, by dsimp only; omega⟩)]
    have h : 1008 + (16 + b.val) = 1024 + b.val := by omega
    dsimp only
    rw [h]
  · obtain ⟨a, b, c, rfl⟩ : ∃ (a : Fin 1) (b : Fin 1024) (c : Fin 128), x = ix3 a b c := ⟨_, _, _, ix3_eta x⟩
    dsimp only
    rw [emb3 _ _ _ _ (0 : Fin 1) (⟨0 + b.val, by omega⟩ : Fin 2048) c (by have := a.isLt; show 0 + a.val = 0; omega) rfl (Nat.zero_add _)]
    pointwise
    rw [Blk.pg0_apply B _ (.inl ⟨rfl, by dsimp only; omega⟩)]
    dsimp only
    rw [Nat.zero_add b.val]

/-- The two stores of the value half's cotangent of the up projection. -/
def L9 (B : Blk) : List (View.Piece (Elt Ideal) S1x2048x128 .bf16) :=
  [⟨Rect.unit ![0, 1024, 0] ![1, 1024, 128] inb_S1x2048x128_S1x1024x128_0_1024_0, shapeCast S1x1024x128 (extractStridedSlice S1024x128 ![16, 0] B.pv16 slices_S1040x128_o16_0_S1024x128) shapeCasts_S1024x128_S1x1024x128⟩,
   ⟨Rect.unit ![0, 0, 0] ![1, 1024, 128] inb_S1x2048x128_S1x1024x128_0_0_0, shapeCast S1x1024x128 (extractStridedSlice S1024x128 ![0, 0] B.pv0 slices_S1040x128_o0_0_S1024x128) shapeCasts_S1024x128_S1x1024x128⟩]

/-- They cover the block. -/
theorem cov9 (B : Blk) (y : S1x2048x128.Idx) : ∃ p ∈ L9 B, y ∈ p.1.set :=
  View.cover_of_tiledL (L9 B) S1x1024x128.size (by sl_kernel_rfl) y

/-- They leave the whole sequence's. -/
theorem L9_apply (B : Blk) (r : Fin 2048) (l : Fin 128) :
    View.canon (L9 B) (ix3 0 r l) = Spec.dp (B.Wv l) (B.Dv l) r.val := by
  refine View.canon_apply_of_pieces (fun y => Spec.dp (B.Wv (y 2)) (B.Dv (y 2)) (y 1).val) _ ?_ _ (cov9 B _)
  intro p hp x
  unfold L9 at hp
  simp only [List.mem_cons, List.not_mem_nil, or_false] at hp
  rcases hp with rfl | rfl
  · obtain ⟨a, b, c, rfl⟩ : ∃ (a : Fin 1) (b : Fin 1024) (c : Fin 128), x = ix3 a b c := ⟨_, _, _, ix3_eta x⟩
    dsimp only
    rw [emb3 _ _ _ _ (0 : Fin 1) (⟨1024 + b.val, by omega⟩ : Fin 2048) c (by have := a.isLt; show 0 + a.val = 0; omega) rfl (Nat.zero_add _)]
    pointwise
    rw [Blk.pv16_apply B _ (.inr ⟨rfl, by dsimp only; omega⟩)]
    have h : 1008 + (16 + b.val) = 1024 + b.val := by omega
    dsimp only
    rw [h]
  · obtain ⟨a, b, c, rfl⟩ : ∃ (a : Fin 1) (b : Fin 1024) (c : Fin 128), x = ix3 a b c := ⟨_, _, _, ix3_eta x⟩
    dsimp only
    rw [emb3 _ _ _ _ (0 : Fin 1) (⟨0 + b.val, by omega⟩ : Fin 2048) c (by have := a.isLt; show 0 + a.val = 0; omega) rfl (Nat.zero_add _)]
    pointwise
    rw [Blk.pv0_apply B _ (.inl ⟨rfl, by dsimp only; omega⟩)]
    dsimp only
    rw [Nat.zero_add b.val]

/-- The stores of the up projection's gradient at the first step of a batch. -/
def L10A (B : Blk) : List (View.Piece (Elt Ideal) S2x128x1024 .f32) :=
  [⟨Rect.unit ![1, 0, 0] ![1, 128, 1024] inb_S2x128x1024_S1x128x1024_1_0_0, shapeCast S1x128x1024 (extractStridedSlice S128x1024 ![128, 0] B.dw slices_S256x1024_o128_0_S128x1024) shapeCasts_S128x1024_S1x128x1024⟩,
   ⟨Rect.unit ![0, 0, 0] ![1, 128, 1024] inb_S2x128x1024_S1x128x1024_0_0_0, shapeCast S1x128x1024 (extractStridedSlice S128x1024 ![0, 0] B.dw slices_S256x1024_o0_0_S128x1024) shapeCasts_S128x1024_S1x128x1024⟩]

/-- They cover the block. -/
theorem cov10A (B : Blk) (y : S2x128x1024.Idx) : ∃ p ∈ L10A B, y ∈ p.1.set :=
  View.cover_of_tiledL (L10A B) S1x128x1024.size (by sl_kernel_rfl) y

/-- They leave the step's share. -/
theorem L10A_apply (B : Blk) (h : Fin 2) (l : Fin 128) (k : Fin 1024) :
    View.canon (L10A B) (ix3 h l k) = B.gw h l k := by
  refine View.canon_apply_of_pieces (fun y => B.gw (y 0) (y 1) (y 2)) _ ?_ _ (cov10A B _)
  intro p hp x
  unfold L10A at hp
  simp only [List.mem_cons, List.not_mem_nil, or_false] at hp
  rcases hp with rfl | rfl
  · obtain ⟨a, b, c, rfl⟩ : ∃ (a : Fin 1) (b : Fin 128) (c : Fin 1024), x = ix3 a b c := ⟨_, _, _, ix3_eta x⟩
    dsimp only
    rw [emb3 _ _ _ _ (1 : Fin 2) b c (by have := a.isLt; show _ + a.val = _; first | (show 0 + a.val = 0; omega) | (show 1 + a.val = 1; omega) | (show 2 + a.val = 2; omega)) (Nat.zero_add _) (Nat.zero_add _)]
    pointwise
    exact B.gw_v b c
  · obtain ⟨a, b, c, rfl⟩ : ∃ (a : Fin 1) (b : Fin 128) (c : Fin 1024), x = ix3 a b c := ⟨_, _, _, ix3_eta x⟩
    dsimp only
    rw [emb3 _ _ _ _ (0 : Fin 2) b c (by have := a.isLt; show _ + a.val = _; first | (show 0 + a.val = 0; omega) | (show 1 + a.val = 1; omega) | (show 2 + a.val = 2; omega)) (Nat.zero_add _) (Nat.zero_add _)]
    pointwise
    exact B.gw_g b c

/-- The stores of the up projection's gradient at a later step, which adds to what the block held. -/
def L10B (B : Blk) (xo : Vec Ideal S2x128x1024 .f32) : List (View.Piece (Elt Ideal) S2x128x1024 .f32) :=
  [⟨Rect.unit ![1, 0, 0] ![1, 128, 1024] inb_S2x128x1024_S1x128x1024_1_0_0, shapeCast S1x128x1024 (addf (shapeCast S128x1024 (View.ld xo (Rect.unit ![1, 0, 0] ![1, 128, 1024] inb_S2x128x1024_S1x128x1024_1_0_0)) shapeCasts_S1x128x1024_S128x1024) (extractStridedSlice S128x1024 ![128, 0] B.dw slices_S256x1024_o128_0_S128x1024)) shapeCasts_S128x1024_S1x128x1024⟩,
   ⟨Rect.unit ![0, 0, 0] ![1, 128, 1024] inb_S2x128x1024_S1x128x1024_0_0_0, shapeCast S1x128x1024 (addf (shapeCast S128x1024 (View.ld xo (Rect.unit ![0, 0, 0] ![1, 128, 1024] inb_S2x128x1024_S1x128x1024_0_0_0)) shapeCasts_S1x128x1024_S128x1024) (extractStridedSlice S128x1024 ![0, 0] B.dw slices_S256x1024_o0_0_S128x1024)) shapeCasts_S128x1024_S1x128x1024⟩]

/-- They cover the block. -/
theorem cov10B (B : Blk) (xo : Vec Ideal S2x128x1024 .f32) (y : S2x128x1024.Idx) : ∃ p ∈ L10B B xo, y ∈ p.1.set :=
  View.cover_of_tiledL (L10B B xo) S1x128x1024.size (by sl_kernel_rfl) y

/-- They leave the step's share on what the block held. -/
theorem L10B_apply (B : Blk) (xo : Vec Ideal S2x128x1024 .f32) (h : Fin 2) (l : Fin 128) (k : Fin 1024) :
    View.canon (L10B B xo) (ix3 h l k) = xo (ix3 h l k) + B.gw h l k := by
  refine View.canon_apply_of_pieces (fun y => xo (y) + B.gw (y 0) (y 1) (y 2)) _ ?_ _ (cov10B B xo _)
  intro p hp x
  unfold L10B at hp
  simp only [List.mem_cons, List.not_mem_nil, or_false] at hp
  rcases hp with rfl | rfl
  · obtain ⟨a, b, c, rfl⟩ : ∃ (a : Fin 1) (b : Fin 128) (c : Fin 1024), x = ix3 a b c := ⟨_, _, _, ix3_eta x⟩
    dsimp only
    rw [emb3 _ _ _ _ (1 : Fin 2) b c (by have := a.isLt; show _ + a.val = _; first | (show 0 + a.val = 0; omega) | (show 1 + a.val = 1; omega) | (show 2 + a.val = 2; omega)) (Nat.zero_add _) (Nat.zero_add _)]
    rw [View.ld_unit]
    pointwise
    refine congrArg₂ (· + ·) (congrArg xo ?_) (B.gw_v b c)
    rfl
  · obtain ⟨a, b, c, rfl⟩ : ∃ (a : Fin 1) (b : Fin 128) (c : Fin 1024), x = ix3 a b c := ⟨_, _, _, ix3_eta x⟩
    dsimp only
    rw [emb3 _ _ _ _ (0 : Fin 2) b c (by have := a.isLt; show _ + a.val = _; first | (show 0 + a.val = 0; omega) | (show 1 + a.val = 1; omega) | (show 2 + a.val = 2; omega)) (Nat.zero_add _) (Nat.zero_add _)]
    rw [View.ld_unit]
    pointwise
    refine congrArg₂ (· + ·) (congrArg xo ?_) (B.gw_g b c)
    rfl

/-- The stores of the down projection's gradient at the first step of a batch. -/
def L11A (B : Blk) : List (View.Piece (Elt Ideal) S128x1024 .f32) :=
  [⟨Rect.unit ![0, 0] ![128, 1024] inb_S128x1024_S128x1024_0_0, (addf (Voc.dd0 B.c0 B.z0) (Voc.dd16 B.c16 B.z16))⟩]

/-- They cover the block. -/
theorem cov11A (B : Blk) (y : S128x1024.Idx) : ∃ p ∈ L11A B, y ∈ p.1.set :=
  View.cover_of_tiledL (L11A B) S128x1024.size (by sl_kernel_rfl) y

/-- They leave the step's share. -/
theorem L11A_apply (B : Blk) (l : Fin 128) (k : Fin 1024) :
    View.canon (L11A B) (ix2 l k) = B.gd l k := by
  unfold L11A
  rw [View.canon_unit_zero (by funext a; match a with | 0 => rfl | 1 => rfl)]
  exact B.sum_c l k

/-- The stores of the down projection's gradient at a later step, which adds to what the block held. -/
def L11B (B : Blk) (xo : Vec Ideal S128x1024 .f32) : List (View.Piece (Elt Ideal) S128x1024 .f32) :=
  [⟨Rect.unit ![0, 0] ![128, 1024] inb_S128x1024_S128x1024_0_0, (addf (shapeCast S128x1024 (View.ld xo (Rect.unit ![0, 0] ![128, 1024] inb_S128x1024_S128x1024_0_0)) shapeCasts_S128x1024_S128x1024) (addf (Voc.dd0 B.c0 B.z0) (Voc.dd16 B.c16 B.z16)))⟩]

/-- They cover the block. -/
theorem cov11B (B : Blk) (xo : Vec Ideal S128x1024 .f32) (y : S128x1024.Idx) : ∃ p ∈ L11B B xo, y ∈ p.1.set :=
  View.cover_of_tiledL (L11B B xo) S128x1024.size (by sl_kernel_rfl) y

/-- They leave the step's share on what the block held. -/
theorem L11B_apply (B : Blk) (xo : Vec Ideal S128x1024 .f32) (l : Fin 128) (k : Fin 1024) :
    View.canon (L11B B xo) (ix2 l k) = xo (ix2 l k) + B.gd l k := by
  unfold L11B
  rw [View.canon_unit_zero (by funext a; match a with | 0 => rfl | 1 => rfl)]
  refine congrArg₂ (· + ·) ?_ (B.sum_c l k)
  rw [View.ld_unit]
  pointwise

/-- The stores of the taps' gradient at the first step of a batch. -/
def L12A (B : Blk) : List (View.Piece (Elt Ideal) S3x2x128 .f32) :=
  [⟨Rect.unit ![2, 1, 0] ![1, 1, 128] inb_S3x2x128_S1x1x128_2_1_0, shapeCast S1x1x128 (addf (Voc.csum0 (mulf B.dv0 B.uv0)) (Voc.csum16 (mulf B.dv16 B.uv16))) shapeCasts_S1x128_S1x1x128⟩,
   ⟨Rect.unit ![1, 1, 0] ![1, 1, 128] inb_S3x2x128_S1x1x128_1_1_0, shapeCast S1x1x128 (addf (Voc.csum0 (mulf B.dv0 (Voc.sd1 B.uv0))) (Voc.csum16 (mulf B.dv16 (Voc.sd1 B.uv16)))) shapeCasts_S1x128_S1x1x128⟩,
   ⟨Rect.unit ![0, 1, 0] ![1, 1, 128] inb_S3x2x128_S1x1x128_0_1_0, shapeCast S1x1x128 (addf (Voc.csum0 (mulf B.dv0 (Voc.sd2 B.uv0))) (Voc.csum16 (mulf B.dv16 (Voc.sd2 B.uv16)))) shapeCasts_S1x128_S1x1x128⟩,
   ⟨Rect.unit ![2, 0, 0] ![1, 1, 128] inb_S3x2x128_S1x1x128_2_0_0, shapeCast S1x1x128 (addf (Voc.csum0 (mulf B.dg0 B.ug0)) (Voc.csum16 (mulf B.dg16 B.ug16))) shapeCasts_S1x128_S1x1x128⟩,
   ⟨Rect.unit ![1, 0, 0] ![1, 1, 128] inb_S3x2x128_S1x1x128_1_0_0, shapeCast S1x1x128 (addf (Voc.csum0 (mulf B.dg0 (Voc.sd1 B.ug0))) (Voc.csum16 (mulf B.dg16 (Voc.sd1 B.ug16)))) shapeCasts_S1x128_S1x1x128⟩,
   ⟨Rect.unit ![0, 0, 0] ![1, 1, 128] inb_S3x2x128_S1x1x128_0_0_0, shapeCast S1x1x128 (addf (Voc.csum0 (mulf B.dg0 (Voc.sd2 B.ug0))) (Voc.csum16 (mulf B.dg16 (Voc.sd2 B.ug16)))) shapeCasts_S1x128_S1x1x128⟩]

/-- They cover the block. -/
theorem cov12A (B : Blk) (y : S3x2x128.Idx) : ∃ p ∈ L12A B, y ∈ p.1.set :=
  View.cover_of_tiledL (L12A B) S1x1x128.size (by sl_kernel_rfl) y

/-- They leave the step's share. -/
theorem L12A_apply (B : Blk) (k : Fin 3) (h : Fin 2) (l : Fin 128) :
    View.canon (L12A B) (ix3 k h l) = B.gt k h l := by
  refine View.canon_apply_of_pieces (fun y => B.gt (y 0) (y 1) (y 2)) _ ?_ _ (cov12A B _)
  intro p hp x
  unfold L12A at hp
  simp only [List.mem_cons, List.not_mem_nil, or_false] at hp
  rcases hp with rfl | rfl | rfl | rfl | rfl | rfl
  · obtain ⟨a, b, c, rfl⟩ : ∃ (a : Fin 1) (b : Fin 1) (c : Fin 128), x = ix3 a b c := ⟨_, _, _, ix3_eta x⟩
    dsimp only
    rw [emb3 _ _ _ _ (2 : Fin 3) (1 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    pointwise
    exact B.sum_qv2 c
  · obtain ⟨a, b, c, rfl⟩ : ∃ (a : Fin 1) (b : Fin 1) (c : Fin 128), x = ix3 a b c := ⟨_, _, _, ix3_eta x⟩
    dsimp only
    rw [emb3 _ _ _ _ (1 : Fin 3) (1 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    pointwise
    exact B.sum_qv1 c
  · obtain ⟨a, b, c, rfl⟩ : ∃ (a : Fin 1) (b : Fin 1) (c : Fin 128), x = ix3 a b c := ⟨_, _, _, ix3_eta x⟩
    dsimp only
    rw [emb3 _ _ _ _ (0 : Fin 3) (1 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    pointwise
    exact B.sum_qv0 c
  · obtain ⟨a, b, c, rfl⟩ : ∃ (a : Fin 1) (b : Fin 1) (c : Fin 128), x = ix3 a b c := ⟨_, _, _, ix3_eta x⟩
    dsimp only
    rw [emb3 _ _ _ _ (2 : Fin 3) (0 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    pointwise
    exact B.sum_qg2 c
  · obtain ⟨a, b, c, rfl⟩ : ∃ (a : Fin 1) (b : Fin 1) (c : Fin 128), x = ix3 a b c := ⟨_, _, _, ix3_eta x⟩
    dsimp only
    rw [emb3 _ _ _ _ (1 : Fin 3) (0 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    pointwise
    exact B.sum_qg1 c
  · obtain ⟨a, b, c, rfl⟩ : ∃ (a : Fin 1) (b : Fin 1) (c : Fin 128), x = ix3 a b c := ⟨_, _, _, ix3_eta x⟩
    dsimp only
    rw [emb3 _ _ _ _ (0 : Fin 3) (0 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    pointwise
    exact B.sum_qg0 c

/-- The stores of the taps' gradient at a later step, which adds to what the block held. -/
def L12B (B : Blk) (xo : Vec Ideal S3x2x128 .f32) : List (View.Piece (Elt Ideal) S3x2x128 .f32) :=
  [⟨Rect.unit ![2, 1, 0] ![1, 1, 128] inb_S3x2x128_S1x1x128_2_1_0, shapeCast S1x1x128 (addf (shapeCast S1x128 (View.ld xo (Rect.unit ![2, 1, 0] ![1, 1, 128] inb_S3x2x128_S1x1x128_2_1_0)) shapeCasts_S1x1x128_S1x128) (addf (Voc.csum0 (mulf B.dv0 B.uv0)) (Voc.csum16 (mulf B.dv16 B.uv16)))) shapeCasts_S1x128_S1x1x128⟩,
   ⟨Rect.unit ![1, 1, 0] ![1, 1, 128] inb_S3x2x128_S1x1x128_1_1_0, shapeCast S1x1x128 (addf (shapeCast S1x128 (View.ld xo (Rect.unit ![1, 1, 0] ![1, 1, 128] inb_S3x2x128_S1x1x128_1_1_0)) shapeCasts_S1x1x128_S1x128) (addf (Voc.csum0 (mulf B.dv0 (Voc.sd1 B.uv0))) (Voc.csum16 (mulf B.dv16 (Voc.sd1 B.uv16))))) shapeCasts_S1x128_S1x1x128⟩,
   ⟨Rect.unit ![0, 1, 0] ![1, 1, 128] inb_S3x2x128_S1x1x128_0_1_0, shapeCast S1x1x128 (addf (shapeCast S1x128 (View.ld xo (Rect.unit ![0, 1, 0] ![1, 1, 128] inb_S3x2x128_S1x1x128_0_1_0)) shapeCasts_S1x1x128_S1x128) (addf (Voc.csum0 (mulf B.dv0 (Voc.sd2 B.uv0))) (Voc.csum16 (mulf B.dv16 (Voc.sd2 B.uv16))))) shapeCasts_S1x128_S1x1x128⟩,
   ⟨Rect.unit ![2, 0, 0] ![1, 1, 128] inb_S3x2x128_S1x1x128_2_0_0, shapeCast S1x1x128 (addf (shapeCast S1x128 (View.ld xo (Rect.unit ![2, 0, 0] ![1, 1, 128] inb_S3x2x128_S1x1x128_2_0_0)) shapeCasts_S1x1x128_S1x128) (addf (Voc.csum0 (mulf B.dg0 B.ug0)) (Voc.csum16 (mulf B.dg16 B.ug16)))) shapeCasts_S1x128_S1x1x128⟩,
   ⟨Rect.unit ![1, 0, 0] ![1, 1, 128] inb_S3x2x128_S1x1x128_1_0_0, shapeCast S1x1x128 (addf (shapeCast S1x128 (View.ld xo (Rect.unit ![1, 0, 0] ![1, 1, 128] inb_S3x2x128_S1x1x128_1_0_0)) shapeCasts_S1x1x128_S1x128) (addf (Voc.csum0 (mulf B.dg0 (Voc.sd1 B.ug0))) (Voc.csum16 (mulf B.dg16 (Voc.sd1 B.ug16))))) shapeCasts_S1x128_S1x1x128⟩,
   ⟨Rect.unit ![0, 0, 0] ![1, 1, 128] inb_S3x2x128_S1x1x128_0_0_0, shapeCast S1x1x128 (addf (shapeCast S1x128 (View.ld xo (Rect.unit ![0, 0, 0] ![1, 1, 128] inb_S3x2x128_S1x1x128_0_0_0)) shapeCasts_S1x1x128_S1x128) (addf (Voc.csum0 (mulf B.dg0 (Voc.sd2 B.ug0))) (Voc.csum16 (mulf B.dg16 (Voc.sd2 B.ug16))))) shapeCasts_S1x128_S1x1x128⟩]

/-- They cover the block. -/
theorem cov12B (B : Blk) (xo : Vec Ideal S3x2x128 .f32) (y : S3x2x128.Idx) : ∃ p ∈ L12B B xo, y ∈ p.1.set :=
  View.cover_of_tiledL (L12B B xo) S1x1x128.size (by sl_kernel_rfl) y

/-- They leave the step's share on what the block held. -/
theorem L12B_apply (B : Blk) (xo : Vec Ideal S3x2x128 .f32) (k : Fin 3) (h : Fin 2) (l : Fin 128) :
    View.canon (L12B B xo) (ix3 k h l) = xo (ix3 k h l) + B.gt k h l := by
  refine View.canon_apply_of_pieces (fun y => xo (y) + B.gt (y 0) (y 1) (y 2)) _ ?_ _ (cov12B B xo _)
  intro p hp x
  unfold L12B at hp
  simp only [List.mem_cons, List.not_mem_nil, or_false] at hp
  rcases hp with rfl | rfl | rfl | rfl | rfl | rfl
  · obtain ⟨a, b, c, rfl⟩ : ∃ (a : Fin 1) (b : Fin 1) (c : Fin 128), x = ix3 a b c := ⟨_, _, _, ix3_eta x⟩
    dsimp only
    rw [emb3 _ _ _ _ (2 : Fin 3) (1 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    rw [View.ld_unit]
    pointwise
    refine congrArg₂ (· + ·) (congrArg xo ?_) (B.sum_qv2 c)
    rfl
  · obtain ⟨a, b, c, rfl⟩ : ∃ (a : Fin 1) (b : Fin 1) (c : Fin 128), x = ix3 a b c := ⟨_, _, _, ix3_eta x⟩
    dsimp only
    rw [emb3 _ _ _ _ (1 : Fin 3) (1 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    rw [View.ld_unit]
    pointwise
    refine congrArg₂ (· + ·) (congrArg xo ?_) (B.sum_qv1 c)
    rfl
  · obtain ⟨a, b, c, rfl⟩ : ∃ (a : Fin 1) (b : Fin 1) (c : Fin 128), x = ix3 a b c := ⟨_, _, _, ix3_eta x⟩
    dsimp only
    rw [emb3 _ _ _ _ (0 : Fin 3) (1 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    rw [View.ld_unit]
    pointwise
    refine congrArg₂ (· + ·) (congrArg xo ?_) (B.sum_qv0 c)
    rfl
  · obtain ⟨a, b, c, rfl⟩ : ∃ (a : Fin 1) (b : Fin 1) (c : Fin 128), x = ix3 a b c := ⟨_, _, _, ix3_eta x⟩
    dsimp only
    rw [emb3 _ _ _ _ (2 : Fin 3) (0 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    rw [View.ld_unit]
    pointwise
    refine congrArg₂ (· + ·) (congrArg xo ?_) (B.sum_qg2 c)
    rfl
  · obtain ⟨a, b, c, rfl⟩ : ∃ (a : Fin 1) (b : Fin 1) (c : Fin 128), x = ix3 a b c := ⟨_, _, _, ix3_eta x⟩
    dsimp only
    rw [emb3 _ _ _ _ (1 : Fin 3) (0 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    rw [View.ld_unit]
    pointwise
    refine congrArg₂ (· + ·) (congrArg xo ?_) (B.sum_qg1 c)
    rfl
  · obtain ⟨a, b, c, rfl⟩ : ∃ (a : Fin 1) (b : Fin 1) (c : Fin 128), x = ix3 a b c := ⟨_, _, _, ix3_eta x⟩
    dsimp only
    rw [emb3 _ _ _ _ (0 : Fin 3) (0 : Fin 2) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    rw [View.ld_unit]
    pointwise
    refine congrArg₂ (· + ·) (congrArg xo ?_) (B.sum_qg0 c)
    rfl

/-- The stores of the bias's gradient at the first step of a batch. -/
def L13A (B : Blk) : List (View.Piece (Elt Ideal) S2x1x128 .f32) :=
  [⟨Rect.unit ![1, 0, 0] ![1, 1, 128] inb_S2x1x128_S1x1x128_1_0_0, shapeCast S1x1x128 (addf (Voc.csum0 B.dv0) (Voc.csum16 B.dv16)) shapeCasts_S1x128_S1x1x128⟩,
   ⟨Rect.unit ![0, 0, 0] ![1, 1, 128] inb_S2x1x128_S1x1x128_0_0_0, shapeCast S1x1x128 (addf (Voc.csum0 B.dg0) (Voc.csum16 B.dg16)) shapeCasts_S1x128_S1x1x128⟩]

/-- They cover the block. -/
theorem cov13A (B : Blk) (y : S2x1x128.Idx) : ∃ p ∈ L13A B, y ∈ p.1.set :=
  View.cover_of_tiledL (L13A B) S1x1x128.size (by sl_kernel_rfl) y

/-- They leave the step's share. -/
theorem L13A_apply (B : Blk) (h : Fin 2) (l : Fin 128) :
    View.canon (L13A B) (ix3 h 0 l) = B.gb h l := by
  refine View.canon_apply_of_pieces (fun y => B.gb (y 0) (y 2)) _ ?_ _ (cov13A B _)
  intro p hp x
  unfold L13A at hp
  simp only [List.mem_cons, List.not_mem_nil, or_false] at hp
  rcases hp with rfl | rfl
  · obtain ⟨a, b, c, rfl⟩ : ∃ (a : Fin 1) (b : Fin 1) (c : Fin 128), x = ix3 a b c := ⟨_, _, _, ix3_eta x⟩
    dsimp only
    rw [emb3 _ _ _ _ (1 : Fin 2) (0 : Fin 1) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    pointwise
    exact B.sum_dv c
  · obtain ⟨a, b, c, rfl⟩ : ∃ (a : Fin 1) (b : Fin 1) (c : Fin 128), x = ix3 a b c := ⟨_, _, _, ix3_eta x⟩
    dsimp only
    rw [emb3 _ _ _ _ (0 : Fin 2) (0 : Fin 1) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    pointwise
    exact B.sum_dg c

/-- The stores of the bias's gradient at a later step, which adds to what the block held. -/
def L13B (B : Blk) (xo : Vec Ideal S2x1x128 .f32) : List (View.Piece (Elt Ideal) S2x1x128 .f32) :=
  [⟨Rect.unit ![1, 0, 0] ![1, 1, 128] inb_S2x1x128_S1x1x128_1_0_0, shapeCast S1x1x128 (addf (shapeCast S1x128 (View.ld xo (Rect.unit ![1, 0, 0] ![1, 1, 128] inb_S2x1x128_S1x1x128_1_0_0)) shapeCasts_S1x1x128_S1x128) (addf (Voc.csum0 B.dv0) (Voc.csum16 B.dv16))) shapeCasts_S1x128_S1x1x128⟩,
   ⟨Rect.unit ![0, 0, 0] ![1, 1, 128] inb_S2x1x128_S1x1x128_0_0_0, shapeCast S1x1x128 (addf (shapeCast S1x128 (View.ld xo (Rect.unit ![0, 0, 0] ![1, 1, 128] inb_S2x1x128_S1x1x128_0_0_0)) shapeCasts_S1x1x128_S1x128) (addf (Voc.csum0 B.dg0) (Voc.csum16 B.dg16))) shapeCasts_S1x128_S1x1x128⟩]

/-- They cover the block. -/
theorem cov13B (B : Blk) (xo : Vec Ideal S2x1x128 .f32) (y : S2x1x128.Idx) : ∃ p ∈ L13B B xo, y ∈ p.1.set :=
  View.cover_of_tiledL (L13B B xo) S1x1x128.size (by sl_kernel_rfl) y

/-- They leave the step's share on what the block held. -/
theorem L13B_apply (B : Blk) (xo : Vec Ideal S2x1x128 .f32) (h : Fin 2) (l : Fin 128) :
    View.canon (L13B B xo) (ix3 h 0 l) = xo (ix3 h 0 l) + B.gb h l := by
  refine View.canon_apply_of_pieces (fun y => xo (y) + B.gb (y 0) (y 2)) _ ?_ _ (cov13B B xo _)
  intro p hp x
  unfold L13B at hp
  simp only [List.mem_cons, List.not_mem_nil, or_false] at hp
  rcases hp with rfl | rfl
  · obtain ⟨a, b, c, rfl⟩ : ∃ (a : Fin 1) (b : Fin 1) (c : Fin 128), x = ix3 a b c := ⟨_, _, _, ix3_eta x⟩
    dsimp only
    rw [emb3 _ _ _ _ (1 : Fin 2) (0 : Fin 1) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    rw [View.ld_unit]
    pointwise
    refine congrArg₂ (· + ·) (congrArg xo ?_) (B.sum_dv c)
    rfl
  · obtain ⟨a, b, c, rfl⟩ : ∃ (a : Fin 1) (b : Fin 1) (c : Fin 128), x = ix3 a b c := ⟨_, _, _, ix3_eta x⟩
    dsimp only
    rw [emb3 _ _ _ _ (0 : Fin 2) (0 : Fin 1) c (by have := a.isLt; show _ + a.val = _; first | (show 0 + a.val = 0; omega) | (show 1 + a.val = 1; omega) | (show 2 + a.val = 2; omega)) (by have := b.isLt; first | (show 0 + b.val = 0; omega) | (show 1 + b.val = 1; omega)) (Nat.zero_add _)]
    rw [View.ld_unit]
    pointwise
    refine congrArg₂ (· + ·) (congrArg xo ?_) (B.sum_dg c)
    rfl

section CaseA

variable (c : Dev nD) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x2048x256 .f32) (harg4 : arg4.IsWhole) (arg5 : Memref sig .tc .vmem S128x1024 .bf16) (harg5 : arg5.IsWhole) (arg6 : Memref sig .tc .vmem S3x128 .f32) (harg6 : arg6.IsWhole) (arg7 : Memref sig .tc .vmem S3x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S2x128x1024 .f32) (harg12 : arg12.IsWhole) (arg13 : Memref sig .tc .vmem S128x1024 .f32) (harg13 : arg13.IsWhole) (arg14 : Memref sig .tc .vmem S3x2x128 .f32) (harg14 : arg14.IsWhole) (arg15 : Memref sig .tc .vmem S2x1x128 .f32) (harg15 : arg15.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i) (hc16 : cond0_16 i) (hc17 : ¬cond0_17 i) (hc18 : cond0_18 i) (hc19 : ¬cond0_19 i) (hc20 : cond0_20 i) (hc21 : ¬cond0_21 i)
    (x0 : Vec Ideal S1x2048x1024 .bf16) (x1 : Vec Ideal S1x2048x1024 .bf16) (x2 : Vec Ideal S1x2048x256 .f32) (x3 : Vec Ideal S128x1024 .bf16) (x4 : Vec Ideal S3x128 .f32) (x5 : Vec Ideal S3x128 .f32) (x6 : Vec Ideal S1x128 .f32) (x7 : Vec Ideal S1x128 .f32)

/-- Window 8's block as the step's stores leave it. -/
theorem out_A8 : out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7
    = View.canon (L8 ⟨x0, x1, x2, x3, x4, x5, x6, x7⟩) := by
  unfold out0_A_8
  refine (View.read_writes_eq_canon _ _ _ (by intro y; apply cover0_A_8)).trans ?_
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

/-- Window 9's block as the step's stores leave it. -/
theorem out_A9 : out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7
    = View.canon (L9 ⟨x0, x1, x2, x3, x4, x5, x6, x7⟩) := by
  unfold out0_A_9
  refine (View.read_writes_eq_canon _ _ _ (by intro y; apply cover0_A_9)).trans ?_
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

/-- Window 10's block as the step's stores leave it. -/
theorem out_A10 : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7
    = View.canon (L10A ⟨x0, x1, x2, x3, x4, x5, x6, x7⟩) := by
  unfold out0_A_10
  refine (View.read_writes_eq_canon _ _ _ (by intro y; apply cover0_A_10)).trans ?_
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

/-- Window 11's block as the step's stores leave it. -/
theorem out_A11 : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7
    = View.canon (L11A ⟨x0, x1, x2, x3, x4, x5, x6, x7⟩) := by
  unfold out0_A_11
  refine (View.read_writes_eq_canon _ _ _ (by intro y; apply cover0_A_11)).trans ?_
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

/-- Window 12's block as the step's stores leave it. -/
theorem out_A12 : out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7
    = View.canon (L12A ⟨x0, x1, x2, x3, x4, x5, x6, x7⟩) := by
  unfold out0_A_12
  refine (View.read_writes_eq_canon _ _ _ (by intro y; apply cover0_A_12)).trans ?_
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

/-- Window 13's block as the step's stores leave it. -/
theorem out_A13 : out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7
    = View.canon (L13A ⟨x0, x1, x2, x3, x4, x5, x6, x7⟩) := by
  unfold out0_A_13
  refine (View.read_writes_eq_canon _ _ _ (by intro y; apply cover0_A_13)).trans ?_
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

end CaseA

section CaseB

variable (c : Dev nD) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x2048x256 .f32) (harg4 : arg4.IsWhole) (arg5 : Memref sig .tc .vmem S128x1024 .bf16) (harg5 : arg5.IsWhole) (arg6 : Memref sig .tc .vmem S3x128 .f32) (harg6 : arg6.IsWhole) (arg7 : Memref sig .tc .vmem S3x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S2x128x1024 .f32) (harg12 : arg12.IsWhole) (arg13 : Memref sig .tc .vmem S128x1024 .f32) (harg13 : arg13.IsWhole) (arg14 : Memref sig .tc .vmem S3x2x128 .f32) (harg14 : arg14.IsWhole) (arg15 : Memref sig .tc .vmem S2x1x128 .f32) (harg15 : arg15.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i) (hc16 : ¬cond0_16 i) (hc17 : cond0_17 i) (hc18 : ¬cond0_18 i) (hc19 : cond0_19 i) (hc20 : ¬cond0_20 i) (hc21 : cond0_21 i)
    (x0 : Vec Ideal S1x2048x1024 .bf16) (x1 : Vec Ideal S1x2048x1024 .bf16) (x2 : Vec Ideal S1x2048x256 .f32) (x3 : Vec Ideal S128x1024 .bf16) (x4 : Vec Ideal S3x128 .f32) (x5 : Vec Ideal S3x128 .f32) (x6 : Vec Ideal S1x128 .f32) (x7 : Vec Ideal S1x128 .f32)
    (xo10 : Vec Ideal S2x128x1024 .f32) (xo11 : Vec Ideal S128x1024 .f32) (xo12 : Vec Ideal S3x2x128 .f32) (xo13 : Vec Ideal S2x1x128 .f32)

/-- Window 8's block as the step's stores leave it. -/
theorem out_B8 : out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13
    = View.canon (L8 ⟨x0, x1, x2, x3, x4, x5, x6, x7⟩) := by
  unfold out0_B_8
  refine (View.read_writes_eq_canon _ _ _ (by intro y; apply cover0_B_8)).trans ?_
  unfold kernelRun0_B
  dsimp only
  sl_unfold_words
  simp only [View.readAt_eq_ld, harg2.read_unread, harg3.read_unread, harg4.read_unread, harg5.read_unread, harg6.read_unread, harg7.read_unread, harg8.read_unread, harg9.read_unread]
  rfl

/-- Window 9's block as the step's stores leave it. -/
theorem out_B9 : out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13
    = View.canon (L9 ⟨x0, x1, x2, x3, x4, x5, x6, x7⟩) := by
  unfold out0_B_9
  refine (View.read_writes_eq_canon _ _ _ (by intro y; apply cover0_B_9)).trans ?_
  unfold kernelRun0_B
  dsimp only
  sl_unfold_words
  simp only [View.readAt_eq_ld, harg2.read_unread, harg3.read_unread, harg4.read_unread, harg5.read_unread, harg6.read_unread, harg7.read_unread, harg8.read_unread, harg9.read_unread]
  rfl

/-- Window 10's block as the step's stores leave it. -/
theorem out_B10 : out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13
    = View.canon (L10B ⟨x0, x1, x2, x3, x4, x5, x6, x7⟩ xo10) := by
  unfold out0_B_10
  refine (View.read_writes_eq_canon _ _ _ (by intro y; apply cover0_B_10)).trans ?_
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

/-- Window 11's block as the step's stores leave it. -/
theorem out_B11 : out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13
    = View.canon (L11B ⟨x0, x1, x2, x3, x4, x5, x6, x7⟩ xo11) := by
  unfold out0_B_11
  refine (View.read_writes_eq_canon _ _ _ (by intro y; apply cover0_B_11)).trans ?_
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

/-- Window 12's block as the step's stores leave it. -/
theorem out_B12 : out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13
    = View.canon (L12B ⟨x0, x1, x2, x3, x4, x5, x6, x7⟩ xo12) := by
  unfold out0_B_12
  refine (View.read_writes_eq_canon _ _ _ (by intro y; apply cover0_B_12)).trans ?_
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

/-- Window 13's block as the step's stores leave it. -/
theorem out_B13 : out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13
    = View.canon (L13B ⟨x0, x1, x2, x3, x4, x5, x6, x7⟩ xo13) := by
  unfold out0_B_13
  refine (View.read_writes_eq_canon _ _ _ (by intro y; apply cover0_B_13)).trans ?_
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

end CaseB

end Cert.KernelIdeal.Out

end
-- ==== Proof.Arr.lean ====
module

public import proofs.«01_k».proof.Proof.In
public import proofs.«01_k».proof.Proof.Out
public import proofs.«01_k».proof.Proof.Gen.KernelIdeal.Value

@[expose] public section

set_option maxRecDepth 16384

noncomputable section

/-! What the six result arrays hold after the run: the gradients of the whole arguments. -/

namespace Cert.KernelIdeal.Arr

open Cert.KernelIdeal Cert.KernelIdeal.Gen Idealize.ShloMosaic Idealize.ShloMosaic.TcCoe Idealize.SL.Sem
open Cert.KernelIdeal.In Cert.KernelIdeal.Value Cert.KernelIdeal.Out

variable (m : (ℓ : Loc nD τ sig) → Buf (Elt Ideal) ℓ) (c : Dev nD)

/-- After a batch entry's first step the output blocks hold the step's own shares. -/
theorem outs_A (t : Fin cfg0.N) (h : t.val % 2 = 0) : outsAt0 m c t.val t.isLt
    = (View.canon (L8 (blk m c t)), View.canon (L9 (blk m c t)), View.canon (L10A (blk m c t)), View.canon (L11A (blk m c t)),
      View.canon (L12A (blk m c t)), View.canon (L13A (blk m c t))) := by
  have h' : ¬ t.val % 2 = 1 := by omega
  rw [outsAt0_A m c t h h' h h' h h' h h' h h' h h' h h' h h' h h' h h' h h']
  rw [out_A8, out_A9, out_A10, out_A11, out_A12, out_A13]
  rfl

/-- The step before. -/
abbrev pred (t : Fin cfg0.N) : Fin cfg0.N := ⟨t.val - 1, by have := t.isLt; omega⟩

attribute [local irreducible] outsAt0

/-- Any step writes back to window 8's array its own tile. -/
theorem fl8 (t : Fin cfg0.N) : (dats m 0 c).flushed 8 t = (cfg0.win 8).cut (grid0.coords t) (View.canon (L8 (blk m c t))) := by
  rcases Nat.mod_two_eq_zero_or_one t.val with h | h
  · have h' : ¬ t.val % 2 = 1 := by omega
    rw [flushed8_A m c t h h' h h' h h' h h' h h' h h' h h' h h' h h' h h' h h', out_A8]
    rfl
  · have h' : ¬ t.val % 2 = 0 := by omega
    rw [flushed8_B m c t h' h h' h h' h h' h h' h h' h h' h h' h h' h h' h h' h, out_B8]
    rfl

/-- Any step writes back to window 9's array its own tile. -/
theorem fl9 (t : Fin cfg0.N) : (dats m 0 c).flushed 9 t = (cfg0.win 9).cut (grid0.coords t) (View.canon (L9 (blk m c t))) := by
  rcases Nat.mod_two_eq_zero_or_one t.val with h | h
  · have h' : ¬ t.val % 2 = 1 := by omega
    rw [flushed9_A m c t h h' h h' h h' h h' h h' h h' h h' h h' h h' h h' h h', out_A9]
    rfl
  · have h' : ¬ t.val % 2 = 0 := by omega
    rw [flushed9_B m c t h' h h' h h' h h' h h' h h' h h' h h' h h' h h' h h' h, out_B9]
    rfl

/-- A batch entry's first step leaves window 10's block at its own share. -/
theorem outs10 (t : Fin cfg0.N) (h : t.val % 2 = 0) : (outsAt0 m c t.val t.isLt).2.2.1 = View.canon (L10A (blk m c t)) := by
  rw [outs_A m c t h]

/-- A batch entry's second step writes back to window 10's array both entries' shares. -/
theorem fl10 (t : Fin cfg0.N) (h : t.val % 2 = 1) : (dats m 0 c).flushed 10 t
    = (cfg0.win 10).cut (grid0.coords t) (View.canon (L10B (blk m c t) (View.canon (L10A (blk m c (pred t)))))) := by
  have h' : ¬ t.val % 2 = 0 := by omega
  have e := outs10 m c (pred t) (by show (t.val - 1) % 2 = 0; omega)
  rw [flushed10_B m c t h' h h' h h' h h' h h' h h' h h' h h' h h' h h' h h' h, out_B10]
  rw [← e]
  rfl

/-- A batch entry's first step leaves window 11's block at its own share. -/
theorem outs11 (t : Fin cfg0.N) (h : t.val % 2 = 0) : (outsAt0 m c t.val t.isLt).2.2.2.1 = View.canon (L11A (blk m c t)) := by
  rw [outs_A m c t h]

/-- A batch entry's second step writes back to window 11's array both entries' shares. -/
theorem fl11 (t : Fin cfg0.N) (h : t.val % 2 = 1) : (dats m 0 c).flushed 11 t
    = (cfg0.win 11).cut (grid0.coords t) (View.canon (L11B (blk m c t) (View.canon (L11A (blk m c (pred t)))))) := by
  have h' : ¬ t.val % 2 = 0 := by omega
  have e := outs11 m c (pred t) (by show (t.val - 1) % 2 = 0; omega)
  rw [flushed11_B m c t h' h h' h h' h h' h h' h h' h h' h h' h h' h h' h h' h, out_B11]
  rw [← e]
  rfl

/-- A batch entry's first step leaves window 12's block at its own share. -/
theorem outs12 (t : Fin cfg0.N) (h : t.val % 2 = 0) : (outsAt0 m c t.val t.isLt).2.2.2.2.1 = View.canon (L12A (blk m c t)) := by
  rw [outs_A m c t h]

/-- A batch entry's second step writes back to window 12's array both entries' shares. -/
theorem fl12 (t : Fin cfg0.N) (h : t.val % 2 = 1) : (dats m 0 c).flushed 12 t
    = (cfg0.win 12).cut (grid0.coords t) (View.canon (L12B (blk m c t) (View.canon (L12A (blk m c (pred t)))))) := by
  have h' : ¬ t.val % 2 = 0 := by omega
  have e := outs12 m c (pred t) (by show (t.val - 1) % 2 = 0; omega)
  rw [flushed12_B m c t h' h h' h h' h h' h h' h h' h h' h h' h h' h h' h h' h, out_B12]
  rw [← e]
  rfl

/-- A batch entry's first step leaves window 13's block at its own share. -/
theorem outs13 (t : Fin cfg0.N) (h : t.val % 2 = 0) : (outsAt0 m c t.val t.isLt).2.2.2.2.2 = View.canon (L13A (blk m c t)) := by
  rw [outs_A m c t h]

/-- A batch entry's second step writes back to window 13's array both entries' shares. -/
theorem fl13 (t : Fin cfg0.N) (h : t.val % 2 = 1) : (dats m 0 c).flushed 13 t
    = (cfg0.win 13).cut (grid0.coords t) (View.canon (L13B (blk m c t) (View.canon (L13A (blk m c (pred t)))))) := by
  have h' : ¬ t.val % 2 = 0 := by omega
  have e := outs13 m c (pred t) (by show (t.val - 1) % 2 = 0; omega)
  rw [flushed13_B m c t h' h h' h h' h h' h h' h h' h h' h h' h h' h h' h h' h, out_B13]
  rw [← e]
  rfl

end Cert.KernelIdeal.Arr

end
-- ==== Proof.Res.lean ====
module

public import proofs.«01_k».proof.Proof.Arr

@[expose] public section

set_option maxRecDepth 16384

noncomputable section

/-! The six result arrays after the run are the gradients of the arguments. -/

namespace Cert.KernelIdeal.Res

open Cert.KernelIdeal Cert.KernelIdeal.Gen Idealize.ShloMosaic Idealize.ShloMosaic.TcCoe Idealize.SL.Sem
open Cert.KernelIdeal.In Cert.KernelIdeal.Value Cert.KernelIdeal.Out Cert.KernelIdeal.Arr
open Idealize.ShloMosaic.Pipeline (Dat)

variable (m : (ℓ : Loc nD τ sig) → Buf (Elt Ideal) ℓ) (c : Dev nD)

/-- An index of a rank-2 block is its two coordinates. -/
theorem ix2_eta {n0 n1 : ℕ} (y : (⟨2, ![n0, n1]⟩ : Shape).Idx) : y = ix2 (y 0) (y 1) := by
  funext a; match a with | 0 => rfl | 1 => rfl

/-- The step before an entry's second is the other batch entry's, of the same tile. -/
theorem bt_pred (t : Fin cfg0.N) (h : t.val % 2 = 1) : bt (pred t) = 0 :=
  Fin.ext (show (t.val - 1) % 2 = 0 by omega)

theorem bt_odd (t : Fin cfg0.N) (h : t.val % 2 = 1) : bt t = 1 := Fin.ext h

theorem ct_pred (t : Fin cfg0.N) (l : Fin 128) (h : t.val % 2 = 1) : ct (pred t) l = ct t l :=
  Fin.ext (show (t.val - 1) / 2 * 128 + l.val = t.val / 2 * 128 + l.val by
    rw [show (t.val - 1) / 2 = t.val / 2 by omega])

/-- Window 8's block numbers. -/
theorem idx8 : ∀ t : Fin cfg0.N, win0_8.index t 0 = t.val % 2 ∧ win0_8.index t 1 = 0 ∧ win0_8.index t 2 = t.val / 2 :=
  (by decide +kernel : ∀ t : Fin grid0.N, win0_8.index t 0 = t.val % 2 ∧ win0_8.index t 1 = 0 ∧ win0_8.index t 2 = t.val / 2)

/-- Where window 8's block lies in its array. -/
theorem emb8 (t : Fin cfg0.N) (a : Fin 1) (r : Fin 2048) (l : Fin 128) : ((cfg0.win 8).blk t).view.emb (ix3 a r l) = ix3 (bt t) r (ct t l) := by
  have hi := idx8 t
  funext x
  apply Fin.ext
  match x with
  | ⟨0, _⟩ => show win0_8.index t 0 * 1 + 1 * a.val = t.val % 2; rw [hi.1]; omega
  | ⟨1, _⟩ => show win0_8.index t 1 * 2048 + 1 * r.val = r.val; rw [hi.2.1]; omega
  | ⟨2, _⟩ => show win0_8.index t 2 * 128 + 1 * l.val = t.val / 2 * 128 + l.val; rw [hi.2.2]; omega

/-- The up projection's cotangent, the gate's half. -/
theorem arr8 : (dats m 0 c).arrAt 8 cfg0.N = fun i : S2x2048x2816.Idx => (args m c).dup (i 0) 0 (i 2) (i 1).val := by
  refine Dat.arrAt_eq_of_cover (dats m 0 c) 8 _ ?_ ?_
  · intro t _
    rw [fl8 m c t]
    funext y
    rw [View.read_apply]
    obtain ⟨a, r, l, rfl⟩ : ∃ (a : Fin 1) (r : Fin 2048) (l : Fin 128), y = ix3 a r l := ⟨_, _, _, ix3_eta y⟩
    rw [emb8 t a r l]
    obtain rfl : a = 0 := Subsingleton.elim _ _
    show View.canon (L8 (blk m c t)) (ix3 0 r l) = _
    rw [L8_apply]
    have e := blk_W m c t l 0
    have e' := blk_D m c t l 0
    exact congrArg₂ (fun p q => Spec.dp p q r.val) e e'
  · intro i
    obtain ⟨b, s, k, rfl⟩ : ∃ (b : Fin 2) (s : Fin 2048) (k : Fin 2816), i = ix3 b s k := ⟨_, _, _, ix3_eta i⟩
    let t : Fin cfg0.N := ⟨k.val / 128 * 2 + b.val, lt_of_lt_of_eq (by omega : k.val / 128 * 2 + b.val < 44) N_0.symm⟩
    refine ⟨t, flush0_8 t, ?_⟩
    have e := emb8 t 0 s ⟨k.val % 128, by omega⟩
    have eb : bt t = b := Fin.ext (show (k.val / 128 * 2 + b.val) % 2 = b.val by omega)
    have ec : ct t ⟨k.val % 128, by omega⟩ = k := Fin.ext (show (k.val / 128 * 2 + b.val) / 2 * 128 + k.val % 128 = k.val by omega)
    rw [eb, ec] at e
    rw [← e]
    exact View.emb_mem_set _ _

/-- Window 9's block numbers. -/
theorem idx9 : ∀ t : Fin cfg0.N, win0_9.index t 0 = t.val % 2 ∧ win0_9.index t 1 = 0 ∧ win0_9.index t 2 = t.val / 2 :=
  (by decide +kernel : ∀ t : Fin grid0.N, win0_9.index t 0 = t.val % 2 ∧ win0_9.index t 1 = 0 ∧ win0_9.index t 2 = t.val / 2)

/-- Where window 9's block lies in its array. -/
theorem emb9 (t : Fin cfg0.N) (a : Fin 1) (r : Fin 2048) (l : Fin 128) : ((cfg0.win 9).blk t).view.emb (ix3 a r l) = ix3 (bt t) r (ct t l) := by
  have hi := idx9 t
  funext x
  apply Fin.ext
  match x with
  | ⟨0, _⟩ => show win0_9.index t 0 * 1 + 1 * a.val = t.val % 2; rw [hi.1]; omega
  | ⟨1, _⟩ => show win0_9.index t 1 * 2048 + 1 * r.val = r.val; rw [hi.2.1]; omega
  | ⟨2, _⟩ => show win0_9.index t 2 * 128 + 1 * l.val = t.val / 2 * 128 + l.val; rw [hi.2.2]; omega

/-- The up projection's cotangent, the value half. -/
theorem arr9 : (dats m 0 c).arrAt 9 cfg0.N = fun i : S2x2048x2816.Idx => (args m c).dup (i 0) 1 (i 2) (i 1).val := by
  refine Dat.arrAt_eq_of_cover (dats m 0 c) 9 _ ?_ ?_
  · intro t _
    rw [fl9 m c t]
    funext y
    rw [View.read_apply]
    obtain ⟨a, r, l, rfl⟩ : ∃ (a : Fin 1) (r : Fin 2048) (l : Fin 128), y = ix3 a r l := ⟨_, _, _, ix3_eta y⟩
    rw [emb9 t a r l]
    obtain rfl : a = 0 := Subsingleton.elim _ _
    show View.canon (L9 (blk m c t)) (ix3 0 r l) = _
    rw [L9_apply]
    have e := blk_W m c t l 1
    have e' := blk_D m c t l 1
    exact congrArg₂ (fun p q => Spec.dp p q r.val) e e'
  · intro i
    obtain ⟨b, s, k, rfl⟩ : ∃ (b : Fin 2) (s : Fin 2048) (k : Fin 2816), i = ix3 b s k := ⟨_, _, _, ix3_eta i⟩
    let t : Fin cfg0.N := ⟨k.val / 128 * 2 + b.val, lt_of_lt_of_eq (by omega : k.val / 128 * 2 + b.val < 44) N_0.symm⟩
    refine ⟨t, flush0_9 t, ?_⟩
    have e := emb9 t 0 s ⟨k.val % 128, by omega⟩
    have eb : bt t = b := Fin.ext (show (k.val / 128 * 2 + b.val) % 2 = b.val by omega)
    have ec : ct t ⟨k.val % 128, by omega⟩ = k := Fin.ext (show (k.val / 128 * 2 + b.val) / 2 * 128 + k.val % 128 = k.val by omega)
    rw [eb, ec] at e
    rw [← e]
    exact View.emb_mem_set _ _

/-- Window 10's block numbers. -/
theorem idx10 : ∀ t : Fin cfg0.N, win0_10.index t 0 = 0 ∧ win0_10.index t 1 = t.val / 2 ∧ win0_10.index t 2 = 0 :=
  (by decide +kernel : ∀ t : Fin grid0.N, win0_10.index t 0 = 0 ∧ win0_10.index t 1 = t.val / 2 ∧ win0_10.index t 2 = 0)

/-- Where window 10's block lies in its array. -/
theorem emb10 (t : Fin cfg0.N) (h : Fin 2) (l : Fin 128) (k : Fin 1024) : ((cfg0.win 10).blk t).view.emb (ix3 h l k) = ix3 h (ct t l) k := by
  have hi := idx10 t
  funext x
  apply Fin.ext
  match x with
  | ⟨0, _⟩ => show win0_10.index t 0 * 2 + 1 * h.val = h.val; rw [hi.1]; omega
  | ⟨1, _⟩ => show win0_10.index t 1 * 128 + 1 * l.val = t.val / 2 * 128 + l.val; rw [hi.2.1]; omega
  | ⟨2, _⟩ => show win0_10.index t 2 * 1024 + 1 * k.val = k.val; rw [hi.2.2]; omega

/-- The up projection's gradient. -/
theorem arr10 : (dats m 0 c).arrAt 10 cfg0.N = fun i : S2x2816x1024.Idx => (args m c).gwu (i 0) (i 1) (i 2) := by
  refine Dat.arrAt_eq_of_cover (dats m 0 c) 10 _ ?_ ?_
  · intro t hf
    have h1 := (flush0_10 t).mp hf
    rw [fl10 m c t h1]
    funext y
    rw [View.read_apply]
    obtain ⟨h, l, k, rfl⟩ : ∃ (h : Fin 2) (l : Fin 128) (k : Fin 1024), y = ix3 h l k := ⟨_, _, _, ix3_eta y⟩
    rw [emb10 t h l k]
    show View.canon (L10B (blk m c t) (View.canon (L10A (blk m c (pred t))))) (ix3 h l k) = _
    rw [L10B_apply, L10A_apply, blk_gw, blk_gw, bt_pred t h1, bt_odd t h1, ct_pred t l h1]
    show _ = (args m c).gwu h (ct t l) k
    unfold Spec.Args.gwu
    rw [Fin.sum_univ_two]
  · intro i
    obtain ⟨h, q, k, rfl⟩ : ∃ (h : Fin 2) (q : Fin 2816) (k : Fin 1024), i = ix3 h q k := ⟨_, _, _, ix3_eta i⟩
    let t : Fin cfg0.N := ⟨q.val / 128 * 2 + 1, lt_of_lt_of_eq (by omega : q.val / 128 * 2 + 1 < 44) N_0.symm⟩
    refine ⟨t, (flush0_10 t).mpr (show (q.val / 128 * 2 + 1) % 2 = 1 by omega), ?_⟩
    have e := emb10 t h ⟨q.val % 128, by omega⟩ k
    have ec : ct t ⟨q.val % 128, by omega⟩ = q := Fin.ext (show (q.val / 128 * 2 + 1) / 2 * 128 + q.val % 128 = q.val by omega)
    rw [ec] at e
    rw [← e]
    exact View.emb_mem_set _ _

/-- Window 11's block numbers. -/
theorem idx11 : ∀ t : Fin cfg0.N, win0_11.index t 0 = t.val / 2 ∧ win0_11.index t 1 = 0 :=
  (by decide +kernel : ∀ t : Fin grid0.N, win0_11.index t 0 = t.val / 2 ∧ win0_11.index t 1 = 0)

/-- Where window 11's block lies in its array. -/
theorem emb11 (t : Fin cfg0.N) (l : Fin 128) (k : Fin 1024) : ((cfg0.win 11).blk t).view.emb (ix2 l k) = ix2 (ct t l) k := by
  have hi := idx11 t
  funext x
  apply Fin.ext
  match x with
  | ⟨0, _⟩ => show win0_11.index t 0 * 128 + 1 * l.val = t.val / 2 * 128 + l.val; rw [hi.1]; omega
  | ⟨1, _⟩ => show win0_11.index t 1 * 1024 + 1 * k.val = k.val; rw [hi.2]; omega

/-- The down projection's gradient. -/
theorem arr11 : (dats m 0 c).arrAt 11 cfg0.N = fun i : S2816x1024.Idx => (args m c).gwd (i 0) (i 1) := by
  refine Dat.arrAt_eq_of_cover (dats m 0 c) 11 _ ?_ ?_
  · intro t hf
    have h1 := (flush0_11 t).mp hf
    rw [fl11 m c t h1]
    funext y
    rw [View.read_apply]
    obtain ⟨l, k, rfl⟩ : ∃ (l : Fin 128) (k : Fin 1024), y = ix2 l k := ⟨_, _, ix2_eta y⟩
    rw [emb11 t l k]
    show View.canon (L11B (blk m c t) (View.canon (L11A (blk m c (pred t))))) (ix2 l k) = _
    rw [L11B_apply, L11A_apply, blk_gd, blk_gd, bt_pred t h1, bt_odd t h1, ct_pred t l h1]
    show _ = (args m c).gwd (ct t l) k
    unfold Spec.Args.gwd
    rw [Fin.sum_univ_two]
  · intro i
    obtain ⟨q, k, rfl⟩ : ∃ (q : Fin 2816) (k : Fin 1024), i = ix2 q k := ⟨_, _, ix2_eta i⟩
    let t : Fin cfg0.N := ⟨q.val / 128 * 2 + 1, lt_of_lt_of_eq (by omega : q.val / 128 * 2 + 1 < 44) N_0.symm⟩
    refine ⟨t, (flush0_11 t).mpr (show (q.val / 128 * 2 + 1) % 2 = 1 by omega), ?_⟩
    have e := emb11 t ⟨q.val % 128, by omega⟩ k
    have ec : ct t ⟨q.val % 128, by omega⟩ = q := Fin.ext (show (q.val / 128 * 2 + 1) / 2 * 128 + q.val % 128 = q.val by omega)
    rw [ec] at e
    rw [← e]
    exact View.emb_mem_set _ _

/-- Window 12's block numbers. -/
theorem idx12 : ∀ t : Fin cfg0.N, win0_12.index t 0 = 0 ∧ win0_12.index t 1 = 0 ∧ win0_12.index t 2 = t.val / 2 :=
  (by decide +kernel : ∀ t : Fin grid0.N, win0_12.index t 0 = 0 ∧ win0_12.index t 1 = 0 ∧ win0_12.index t 2 = t.val / 2)

/-- Where window 12's block lies in its array. -/
theorem emb12 (t : Fin cfg0.N) (k : Fin 3) (h : Fin 2) (l : Fin 128) : ((cfg0.win 12).blk t).view.emb (ix3 k h l) = ix3 k h (ct t l) := by
  have hi := idx12 t
  funext x
  apply Fin.ext
  match x with
  | ⟨0, _⟩ => show win0_12.index t 0 * 3 + 1 * k.val = k.val; rw [hi.1]; omega
  | ⟨1, _⟩ => show win0_12.index t 1 * 2 + 1 * h.val = h.val; rw [hi.2.1]; omega
  | ⟨2, _⟩ => show win0_12.index t 2 * 128 + 1 * l.val = t.val / 2 * 128 + l.val; rw [hi.2.2]; omega

/-- The taps' gradient. -/
theorem arr12 : (dats m 0 c).arrAt 12 cfg0.N = fun i : S3x2x2816.Idx => (args m c).gcw (i 0) (i 1) (i 2) := by
  refine Dat.arrAt_eq_of_cover (dats m 0 c) 12 _ ?_ ?_
  · intro t hf
    have h1 := (flush0_12 t).mp hf
    rw [fl12 m c t h1]
    funext y
    rw [View.read_apply]
    obtain ⟨k, h, l, rfl⟩ : ∃ (k : Fin 3) (h : Fin 2) (l : Fin 128), y = ix3 k h l := ⟨_, _, _, ix3_eta y⟩
    rw [emb12 t k h l]
    show View.canon (L12B (blk m c t) (View.canon (L12A (blk m c (pred t))))) (ix3 k h l) = _
    rw [L12B_apply, L12A_apply, blk_gt, blk_gt, bt_pred t h1, bt_odd t h1, ct_pred t l h1]
    show _ = (args m c).gcw k h (ct t l)
    unfold Spec.Args.gcw
    rw [Fin.sum_univ_two]
  · intro i
    obtain ⟨k, h, q, rfl⟩ : ∃ (k : Fin 3) (h : Fin 2) (q : Fin 2816), i = ix3 k h q := ⟨_, _, _, ix3_eta i⟩
    let t : Fin cfg0.N := ⟨q.val / 128 * 2 + 1, lt_of_lt_of_eq (by omega : q.val / 128 * 2 + 1 < 44) N_0.symm⟩
    refine ⟨t, (flush0_12 t).mpr (show (q.val / 128 * 2 + 1) % 2 = 1 by omega), ?_⟩
    have e := emb12 t k h ⟨q.val % 128, by omega⟩
    have ec : ct t ⟨q.val % 128, by omega⟩ = q := Fin.ext (show (q.val / 128 * 2 + 1) / 2 * 128 + q.val % 128 = q.val by omega)
    rw [ec] at e
    rw [← e]
    exact View.emb_mem_set _ _

/-- Window 13's block numbers. -/
theorem idx13 : ∀ t : Fin cfg0.N, win0_13.index t 0 = 0 ∧ win0_13.index t 1 = 0 ∧ win0_13.index t 2 = t.val / 2 :=
  (by decide +kernel : ∀ t : Fin grid0.N, win0_13.index t 0 = 0 ∧ win0_13.index t 1 = 0 ∧ win0_13.index t 2 = t.val / 2)

/-- Where window 13's block lies in its array. -/
theorem emb13 (t : Fin cfg0.N) (h : Fin 2) (a : Fin 1) (l : Fin 128) : ((cfg0.win 13).blk t).view.emb (ix3 h a l) = ix3 h 0 (ct t l) := by
  have hi := idx13 t
  funext x
  apply Fin.ext
  match x with
  | ⟨0, _⟩ => show win0_13.index t 0 * 2 + 1 * h.val = h.val; rw [hi.1]; omega
  | ⟨1, _⟩ => show win0_13.index t 1 * 1 + 1 * a.val = 0; rw [hi.2.1]; omega
  | ⟨2, _⟩ => show win0_13.index t 2 * 128 + 1 * l.val = t.val / 2 * 128 + l.val; rw [hi.2.2]; omega

/-- The bias's gradient. -/
theorem arr13 : (dats m 0 c).arrAt 13 cfg0.N = fun i : S2x1x2816.Idx => (args m c).gcb (i 0) (i 2) := by
  refine Dat.arrAt_eq_of_cover (dats m 0 c) 13 _ ?_ ?_
  · intro t hf
    have h1 := (flush0_13 t).mp hf
    rw [fl13 m c t h1]
    funext y
    rw [View.read_apply]
    obtain ⟨h, a, l, rfl⟩ : ∃ (h : Fin 2) (a : Fin 1) (l : Fin 128), y = ix3 h a l := ⟨_, _, _, ix3_eta y⟩
    rw [emb13 t h a l]
    obtain rfl : a = 0 := Subsingleton.elim _ _
    show View.canon (L13B (blk m c t) (View.canon (L13A (blk m c (pred t))))) (ix3 h 0 l) = _
    rw [L13B_apply, L13A_apply, blk_gb, blk_gb, bt_pred t h1, bt_odd t h1, ct_pred t l h1]
    show _ = (args m c).gcb h (ct t l)
    unfold Spec.Args.gcb
    rw [Fin.sum_univ_two]
  · intro i
    obtain ⟨h, a, q, rfl⟩ : ∃ (h : Fin 2) (a : Fin 1) (q : Fin 2816), i = ix3 h a q := ⟨_, _, _, ix3_eta i⟩
    obtain rfl : a = 0 := Subsingleton.elim _ _
    let t : Fin cfg0.N := ⟨q.val / 128 * 2 + 1, lt_of_lt_of_eq (by omega : q.val / 128 * 2 + 1 < 44) N_0.symm⟩
    refine ⟨t, (flush0_13 t).mpr (show (q.val / 128 * 2 + 1) % 2 = 1 by omega), ?_⟩
    have e := emb13 t h 0 ⟨q.val % 128, by omega⟩
    have ec : ct t ⟨q.val % 128, by omega⟩ = q := Fin.ext (show (q.val / 128 * 2 + 1) / 2 * 128 + q.val % 128 = q.val by omega)
    rw [ec] at e
    rw [← e]
    exact View.emb_mem_set _ _

end Cert.KernelIdeal.Res

end
-- ==== Proof.Ref.lean ====
module

public import proofs.«01_k».proof.Proof.Model
public import proofs.«01_k».proof.Proof.Gen.ReferenceIdeal.Read

@[expose] public section

set_option maxRecDepth 16384

noncomputable section

/-! What the reference computes, in the words of the model: its stages at an index, then its six results. -/

namespace Cert.Ref

open Cert.ReferenceIdeal Cert.ReferenceIdeal.Gen Cert.ReferenceIdeal.Read Idealize.ShloMosaic

/-- A host sum over the two leading axes, at an index of the last one. -/
theorem sum_lead {n0 n1 n2 : ℕ} (h : (⟨3, ![n0, n1, n2]⟩ : Shape).ReducesTo [0, 1] ⟨1, ![n2]⟩)
    (x : (⟨3, ![n0, n1, n2]⟩ : Shape).Idx → EReal) (z : EReal) (c : Fin n2) :
    Ideal.hostReduceAdd h x z (ix1 c) = z + ∑ b : Fin n0, ∑ s : Fin n1, x (ix3 b s c) := by
  classical
  have hd : ∀ (b : Fin n0) (s : Fin n1) (k : Fin n2), h.drop (ix3 b s k) = ix1 c ↔ k = c := by
    intro b s k
    have e : h.drop (ix3 b s k) = ix1 k := by
      funext a
      match a with
      | ⟨0, _⟩ => rfl
    rw [e]
    constructor
    · intro q; exact congrFun q 0
    · rintro rfl; rfl
  show z + ∑ i ∈ Finset.univ.filter (fun i => h.drop i = ix1 c), x i = _
  rw [Finset.sum_filter, sum_idx3]
  simp only [hd]
  congr 1
  refine Finset.sum_congr rfl fun b _ => Finset.sum_congr rfl fun s _ => ?_
  rw [Finset.sum_ite_eq']
  simp

variable (x0 : FVec Ideal S4096x1024 .f32) (x1 : FVec Ideal S1024x5632 .f32) (x2 : FVec Ideal S3x5632 .f32)
  (x3 : FVec Ideal S1x5632 .f32) (x4 : FVec Ideal S2816x1024 .f32) (x5 : FVec Ideal S4096x1024 .f32)

/-- The arguments as the model has them. -/
abbrev A : Spec.Args := ⟨x0, x1, x2, x3, x4, x5⟩

/-- The up projection. -/
theorem v1_at (b : Fin 2) (s : Fin 2048) (c : Fin 5632) :
    val_main_v1 (F := Ideal) x0 x1 (ix3 b s c) = (A x0 x1 x2 x3 x4 x5).up b c s.val := by
  unfold val_main_v1 val_main_v0 Spec.Args.up
  rw [Spec.ofRows_val]
  unfold Spec.row
  pointwise

theorem v0_at (b : Fin 2) (s : Fin 2048) (k : Fin 1024) : val_main_v0 (F := Ideal) x0 (ix3 b s k) = x0 (ix2 (Spec.row b s) k) := by
  unfold val_main_v0 Spec.row
  pointwise

/-- The cotangent of the activation. -/
theorem v39_at (b : Fin 2) (s : Fin 2048) (c : Fin 2816) :
    val_main_v39 (F := Ideal) x4 x5 (ix3 b s c) = (A x0 x1 x2 x3 x4 x5).da b c s.val := by
  unfold val_main_v39 val_main_v36 Spec.Args.da
  rw [Spec.ofRows_val]
  unfold Spec.row
  pointwise

/-- The two leading axes summed, then the single row summed again. -/
theorem sum_twice (y : FVec Ideal S2x2048x5632 .f32) (q : Fin 5632) :
    Ideal.hostReduceAdd reducesTo_S1x1x5632_S5632_d0_1
      (shapeCast S1x1x5632
        (Host.reduceAdd y (constant S_ FTy.f32 0#32) reducesTo_S2x2048x5632_S5632_d0_1 h_S_) shapeCasts_S5632_S1x1x5632)
      0 (ix1 q) = ∑ b : Fin 2, ∑ s : Fin 2048, y (ix3 b s q) := by
  rw [sum_lead, Fin.sum_univ_one, Fin.sum_univ_one, zero_add]
  have e : shapeCast S1x1x5632 (Host.reduceAdd y (constant S_ FTy.f32 0#32) reducesTo_S2x2048x5632_S5632_d0_1 h_S_) shapeCasts_S5632_S1x1x5632 (ix3 0 0 q)
      = Host.reduceAdd y (constant S_ FTy.f32 0#32) reducesTo_S2x2048x5632_S5632_d0_1 h_S_ (ix1 q) := by pointwise
  rw [e]
  show Ideal.hostReduceAdd _ y (Ideal.ofBits .f32 0#32) (ix1 q) = _
  rw [sum_lead, Ideal.ofBits_zero, zero_add]

theorem col_zero (c : Fin 2816) (h : c.val < 5632) : (⟨c.val, h⟩ : Fin 5632) = Spec.col 0 c :=
  Fin.ext (show c.val = 0 * 2816 + c.val by omega)

theorem col_one (c : Fin 2816) (h : 2816 + c.val < 5632) : (⟨2816 + c.val, h⟩ : Fin 5632) = Spec.col 1 c :=
  Fin.ext (show 2816 + c.val = 1 * 2816 + c.val by omega)

/-- The up projection's rows moved down by two. -/
theorem v6_at (b : Fin 2) (s : Fin 2048) (c : Fin 5632) :
    val_main_v6 (F := Ideal) x0 x1 (ix3 b s c) = Spec.dn 2 ((A x0 x1 x2 x3 x4 x5).up b c) s.val := by
  unfold val_main_v6 val_main_v4 val_main_v3 val_main_cst Spec.dn
  pointwise
  simp only [v1_at x0 x1 x2 x3 x4 x5]
  by_cases h : s.val < 2
  · rw [dif_pos h, if_neg (by omega)]
  · rw [dif_neg h, if_pos (by omega)]

/-- The up projection's rows moved down by one. -/
theorem v14_at (b : Fin 2) (s : Fin 2048) (c : Fin 5632) :
    val_main_v14 (F := Ideal) x0 x1 (ix3 b s c) = Spec.dn 1 ((A x0 x1 x2 x3 x4 x5).up b c) s.val := by
  unfold val_main_v14 val_main_v4 val_main_v3 val_main_cst Spec.dn
  pointwise
  simp only [v1_at x0 x1 x2 x3 x4 x5]
  by_cases h : 1 + s.val < 2
  · rw [dif_pos h, if_neg (by omega)]
  · rw [dif_neg h, if_pos (by omega), show 1 + s.val - 2 = s.val - 1 by omega]

/-- The up projection's rows where they are. -/
theorem v21_at (b : Fin 2) (s : Fin 2048) (c : Fin 5632) :
    val_main_v21 (F := Ideal) x0 x1 (ix3 b s c) = (A x0 x1 x2 x3 x4 x5).up b c s.val := by
  unfold val_main_v21 val_main_v4 val_main_v3 val_main_cst
  pointwise
  simp only [v1_at x0 x1 x2 x3 x4 x5]

/-- The convolution. -/
theorem v30_at (b : Fin 2) (s : Fin 2048) (c : Fin 5632) :
    val_main_v30 (F := Ideal) x0 x1 x2 x3 (ix3 b s c) = (A x0 x1 x2 x3 x4 x5).mix b c s.val := by
  unfold Spec.Args.mix Spec.conv
  rw [← v6_at, ← v14_at, ← v21_at]
  unfold val_main_v30 val_main_v29 val_main_v28 val_main_v2 val_main_v27 val_main_v26 val_main_v25 val_main_v24 val_main_v23 val_main_v22 val_main_v20 val_main_v19 val_main_v18 val_main_v17 val_main_v16 val_main_v15 val_main_v13 val_main_v12 val_main_cst_1 val_main_v11 val_main_v10 val_main_v9 val_main_v8 val_main_v7
  pointwise
  rw [mul_comm _ (x2 (ix2 0 c)), mul_comm _ (x2 (ix2 1 c)), mul_comm _ (x2 (ix2 2 c))]
  rfl

section finite
variable (hA : (A x0 x1 x2 x3 x4 x5).Finite)
include hA

/-- The gate's logistic function is the model's. -/
theorem sg_at (b : Fin 2) (s : Fin 2048) (c : Fin 5632) :
    Ideal.div 1 (1 + Ideal.exp (-(A x0 x1 x2 x3 x4 x5).mix b c s.val)) = Spec.sg ((A x0 x1 x2 x3 x4 x5).mix b c s.val) := by
  obtain ⟨r, hr⟩ := hA.mix b c s.val
  rw [hr, Spec.sg_coe]

/-- The value half's cotangent. -/
theorem v40_at (b : Fin 2) (s : Fin 2048) (c : Fin 2816) :
    val_main_v40 (F := Ideal) x0 x1 x2 x3 x4 x5 (ix3 b s c) = (A x0 x1 x2 x3 x4 x5).d b 1 c s.val := by
  unfold val_main_v40 val_main_v33_0 val_main_v33_2 val_main_call0_v4 val_main_call0_cst_0 val_main_call0_v3 val_main_call0_v2 val_main_call0_cst val_main_call0_v1 val_main_call0_v0 val_main_v31
  pointwise
  rw [col_zero, v30_at x0 x1 x2 x3 x4 x5, v39_at x0 x1 x2 x3 x4 x5, sg_at _ _ _ _ _ _ hA]
  show _ = Spec.dv _ _
  unfold Spec.dv
  rw [mul_comm, mul_assoc]

/-- The gated activation. -/
theorem v34_at (b : Fin 2) (s : Fin 2048) (c : Fin 2816) :
    val_main_v34 (F := Ideal) x0 x1 x2 x3 (ix3 b s c) = (A x0 x1 x2 x3 x4 x5).ac b c s.val := by
  unfold val_main_v34 val_main_v32 val_main_v33_0 val_main_v33_2 val_main_call0_v4 val_main_call0_cst_0 val_main_call0_v3 val_main_call0_v2 val_main_call0_cst val_main_call0_v1 val_main_call0_v0 val_main_v31
  pointwise
  rw [col_zero, col_one, v30_at x0 x1 x2 x3 x4 x5, v30_at x0 x1 x2 x3 x4 x5, sg_at _ _ _ _ _ _ hA]
  rfl

/-- The gate's cotangent. -/
theorem v42_at (b : Fin 2) (s : Fin 2048) (c : Fin 2816) :
    val_main_v42 (F := Ideal) x0 x1 x2 x3 x4 x5 (ix3 b s c) = (A x0 x1 x2 x3 x4 x5).d b 0 c s.val := by
  unfold val_main_v42 val_main_call1_v2 val_main_call1_v1 val_main_call1_v0 val_main_v33_1 val_main_call0_v7 val_main_call0_v6 val_main_call0_cst_1 val_main_v33_2 val_main_call0_v4 val_main_call0_cst_0 val_main_call0_v3 val_main_call0_v2 val_main_call0_cst val_main_call0_v1 val_main_call0_v0 val_main_v41 val_main_v31 val_main_v32
  pointwise
  rw [col_zero, col_one, v30_at x0 x1 x2 x3 x4 x5, v30_at x0 x1 x2 x3 x4 x5, v39_at x0 x1 x2 x3 x4 x5, sg_at _ _ _ _ _ _ hA]
  show _ = Spec.dg _ _ _
  obtain ⟨g, hg⟩ := hA.mix b (Spec.col 0 c) s.val
  obtain ⟨v, hv⟩ := hA.mix b (Spec.col 1 c) s.val
  obtain ⟨a, ha⟩ := hA.da b c s.val
  rw [hg, hv, ha]
  exact Spec.dg_coe a g v

/-- The convolution's cotangent. -/
theorem v43_at (b : Fin 2) (s : Fin 2048) (h : Fin 2) (c : Fin 2816) :
    val_main_v43 (F := Ideal) x0 x1 x2 x3 x4 x5 (ix3 b s (Spec.col h c)) = (A x0 x1 x2 x3 x4 x5).d b h c s.val := by
  unfold val_main_v43 Spec.col
  pointwise
  have h2 : h = 0 ∨ h = 1 := by omega
  rcases h2 with rfl | rfl
  · rw [dif_pos (show (0 : Fin 2).val * 2816 + c.val < 2816 by have : (0 : Fin 2).val = 0 := rfl; omega)]
    refine Eq.trans ?_ (v42_at x0 x1 x2 x3 x4 x5 hA b s c)
    exact congrArg (fun q => val_main_v42 (F := Ideal) x0 x1 x2 x3 x4 x5 (ix3 b s q)) (Fin.ext (show 0 * 2816 + c.val = c.val by omega))
  · rw [dif_neg (show ¬ (1 : Fin 2).val * 2816 + c.val < 2816 by have : (1 : Fin 2).val = 1 := rfl; omega)]
    refine Eq.trans ?_ (v40_at x0 x1 x2 x3 x4 x5 hA b s c)
    exact congrArg (fun q => val_main_v40 (F := Ideal) x0 x1 x2 x3 x4 x5 (ix3 b s q)) (Fin.ext (show 1 * 2816 + c.val - 2816 = c.val by omega))

/-- The up projection's cotangent. -/
theorem v79_at (b : Fin 2) (s : Fin 2048) (h : Fin 2) (c : Fin 2816) :
    val_main_v79 (F := Ideal) x0 x1 x2 x3 x4 x5 (ix3 b s (Spec.col h c)) = (A x0 x1 x2 x3 x4 x5).dup b h c s.val := by
  unfold val_main_v79 val_main_v77 val_main_v76 val_main_v66 val_main_v65 val_main_v55 val_main_cst_15 val_main_cst_11 val_main_cst_7 val_main_v71 val_main_v60 val_main_v51 val_main_v70 val_main_v59 val_main_v50 val_main_v24 val_main_v23 val_main_v22 val_main_v17 val_main_v16 val_main_v15 val_main_v9 val_main_v8 val_main_v7
  pointwise
  simp only [v43_at x0 x1 x2 x3 x4 x5 hA]
  unfold Spec.Args.dup Spec.dp Spec.uw
  have h1 : (if h_1 : 1 ≤ 2 + s.val ∧ 2 + s.val - 1 < 2048 then
          (A x0 x1 x2 x3 x4 x5).d b h c (2 + s.val - 1) * x2 (ix2 1 (Spec.col h c)) else 0)
      = (A x0 x1 x2 x3 x4 x5).w (Spec.col h c) 1 * (if s.val + 1 < 2048 then (A x0 x1 x2 x3 x4 x5).d b h c (s.val + 1) else 0) := by
    by_cases q : s.val + 1 < 2048
    · rw [dif_pos ⟨by omega, by omega⟩, if_pos q, show 2 + s.val - 1 = s.val + 1 by omega, mul_comm]; rfl
    · rw [dif_neg (by omega), if_neg q, mul_zero]
  have h2 : (if h_1 : 2 + s.val < 2048 then
          (A x0 x1 x2 x3 x4 x5).d b h c (2 + s.val) * x2 (ix2 0 (Spec.col h c)) else 0)
      = (A x0 x1 x2 x3 x4 x5).w (Spec.col h c) 0 * (if s.val + 2 < 2048 then (A x0 x1 x2 x3 x4 x5).d b h c (s.val + 2) else 0) := by
    by_cases q : s.val + 2 < 2048
    · rw [dif_pos (by omega), if_pos q, show 2 + s.val = s.val + 2 by omega, mul_comm]; rfl
    · rw [dif_neg (by omega), if_neg q, mul_zero]
  rw [h1, h2, mul_comm _ (x2 (ix2 2 (Spec.col h c))), add_comm, add_comm (x2 _ * _) _, ← add_assoc]
  rfl

/-- The first result. -/
theorem v83_at (b : Fin 2) (s : Fin 2048) (c : Fin 2816) :
    val_main_v83 (F := Ideal) x0 x1 x2 x3 x4 x5 (ix3 b s c) = (A x0 x1 x2 x3 x4 x5).dup b 0 c s.val := by
  unfold val_main_v83 val_main_v82
  pointwise
  rw [col_zero, v79_at x0 x1 x2 x3 x4 x5 hA]

/-- The second result. -/
theorem v84_at (b : Fin 2) (s : Fin 2048) (c : Fin 2816) :
    val_main_v84 (F := Ideal) x0 x1 x2 x3 x4 x5 (ix3 b s c) = (A x0 x1 x2 x3 x4 x5).dup b 1 c s.val := by
  unfold val_main_v84 val_main_v82
  pointwise
  rw [col_one, v79_at x0 x1 x2 x3 x4 x5 hA]

/-- The up projection's gradient. -/
theorem v86_at (h : Fin 2) (c : Fin 2816) (k : Fin 1024) :
    val_main_v86 (F := Ideal) x0 x1 x2 x3 x4 x5 (ix3 h c k) = (A x0 x1 x2 x3 x4 x5).gwu h c k := by
  unfold val_main_v86 val_main_v85 val_main_v81 val_main_v80 Spec.Args.gwu
  pointwise
  refine Finset.sum_congr rfl fun b _ => Finset.sum_congr rfl fun s _ => ?_
  rw [v0_at]
  exact congrArg (· * _) (v79_at x0 x1 x2 x3 x4 x5 hA b s h c)

/-- The down projection's gradient. -/
theorem v38_at (c : Fin 2816) (k : Fin 1024) :
    val_main_v38 (F := Ideal) x0 x1 x2 x3 x5 (ix2 c k) = (A x0 x1 x2 x3 x4 x5).gwd c k := by
  unfold val_main_v38 val_main_v37 val_main_v36 Spec.Args.gwd
  pointwise
  refine Finset.sum_congr rfl fun b _ => Finset.sum_congr rfl fun s _ => ?_
  rw [v34_at x0 x1 x2 x3 x4 x5 hA, mul_comm]
  rfl

/-- The taps' gradient. -/
theorem v87_at (k : Fin 3) (h : Fin 2) (c : Fin 2816) :
    val_main_v87 (F := Ideal) x0 x1 x2 x3 x4 x5 (ix3 k h c) = (A x0 x1 x2 x3 x4 x5).gcw k h c := by
  unfold val_main_v87 val_main_v75 val_main_v74 val_main_v64 val_main_v63 val_main_v54 val_main_cst_6 val_main_cst_10 val_main_cst_14 val_main_v73 val_main_v62 val_main_v53 val_main_v72 val_main_v61 val_main_v52 val_main_v69 val_main_v58 val_main_v49 val_main_v48 val_main_v57 val_main_v68 val_main_cst_4 val_main_cst_5 val_main_cst_8 val_main_cst_9 val_main_cst_12 val_main_cst_13 val_main_v47 val_main_v56 val_main_v67
  pointwise
  simp only [sum_twice]
  have hq : h.val * 2816 + c.val < 5632 := by omega
  have e : (⟨h.val * 2816 + c.val, hq⟩ : Fin 5632) = Spec.col h c := rfl
  unfold Spec.Args.gcw
  have e0 : ∀ b s, mulf (F := Ideal) (φ := .f32) (val_main_v6 (F := Ideal) x0 x1) (val_main_v43 (F := Ideal) x0 x1 x2 x3 x4 x5) (ix3 b s (Spec.col h c))
      = (A x0 x1 x2 x3 x4 x5).d b h c s.val * Spec.dn 2 ((A x0 x1 x2 x3 x4 x5).up b (Spec.col h c)) s.val := by
    intro b s
    rw [← v6_at, ← v43_at x0 x1 x2 x3 x4 x5 hA, mul_comm]; rfl
  have e1 : ∀ b s, mulf (F := Ideal) (φ := .f32) (val_main_v14 (F := Ideal) x0 x1) (val_main_v43 (F := Ideal) x0 x1 x2 x3 x4 x5) (ix3 b s (Spec.col h c))
      = (A x0 x1 x2 x3 x4 x5).d b h c s.val * Spec.dn 1 ((A x0 x1 x2 x3 x4 x5).up b (Spec.col h c)) s.val := by
    intro b s
    rw [← v14_at, ← v43_at x0 x1 x2 x3 x4 x5 hA, mul_comm]; rfl
  have e2 : ∀ b s, mulf (F := Ideal) (φ := .f32) (val_main_v21 (F := Ideal) x0 x1) (val_main_v43 (F := Ideal) x0 x1 x2 x3 x4 x5) (ix3 b s (Spec.col h c))
      = (A x0 x1 x2 x3 x4 x5).d b h c s.val * Spec.dn 0 ((A x0 x1 x2 x3 x4 x5).up b (Spec.col h c)) s.val := by
    intro b s
    rw [show Spec.dn 0 ((A x0 x1 x2 x3 x4 x5).up b (Spec.col h c)) s.val = (A x0 x1 x2 x3 x4 x5).up b (Spec.col h c) s.val from if_pos (Nat.zero_le _),
      ← v21_at, ← v43_at x0 x1 x2 x3 x4 x5 hA, mul_comm]; rfl
  simp only [e, e0, e1, e2]
  fin_cases k
  · simp [hq]
  · simp [hq]
  · simp [hq]

/-- The bias's gradient. -/
theorem v88_at (h : Fin 2) (c : Fin 2816) :
    val_main_v88 (F := Ideal) x0 x1 x2 x3 x4 x5 (ix3 h 0 c) = (A x0 x1 x2 x3 x4 x5).gcb h c := by
  unfold val_main_v88 val_main_v46 val_main_v45 val_main_v44 val_main_cst_3 val_main_cst_2 Spec.Args.gcb
  pointwise
  rw [sum_twice]
  exact Finset.sum_congr rfl fun b _ => Finset.sum_congr rfl fun s _ => v43_at x0 x1 x2 x3 x4 x5 hA b s h c

end finite

end Cert.Ref

end
-- ==== Proof.Fin.lean ====
module

public import proofs.«01_k».proof.Proof.In
public import proofs.«01_k».proof.Proof.Gen.Pre_finite
public import proofs.«01_k».proof.Defs

@[expose] public section

noncomputable section

/-! The precondition says that every argument element is finite. -/

namespace Cert.Proof

open Idealize.ShloMosaic Idealize.ShloMosaic.TcCoe Idealize.SL.Sem

/-- The literal the precondition compares with is the top element. -/
theorem top_lit : Ideal.ofBits .f32 0x7F800000#32 = ⊤ := by simp [Ideal.ofBits, Ideal.ieee]

/-- An absolute value below the top element belongs to a finite number. -/
theorem finite_of_abs_lt {x : EReal} (h : max x (-x) < ⊤) : ∃ r : ℝ, x = r := by
  induction x using EReal.rec with
  | bot => simp at h
  | coe r => exact ⟨r, rfl⟩
  | top => simp at h

/-- The comparison holding everywhere, every element is finite. -/
theorem finite_of_olt {s : Shape} (b : (⟨0, ![]⟩ : Shape).BroadcastsInDim s ![]) (x : FVec Ideal s .f32)
    (h : cmpf .olt (Host.absf x) (broadcastInDim s ![] b (constant ⟨0, ![]⟩ .f32 0x7F800000#32)) = fun _ => 1#1) (i : s.Idx) :
    ∃ r : ℝ, x i = r := by
  have e := congrFun h i
  refine finite_of_abs_lt ?_
  have e' : Ideal.cmp .olt (max (x i) (-(x i))) (Ideal.ofBits .f32 0x7F800000#32) = 1#1 := e
  rw [top_lit] at e'
  by_contra hn
  simp [Ideal.cmp, hn] at e'

attribute [local instance] Cert.Pre_finite.Gen.facts

/-- Under the precondition every core's arguments are finite. -/
theorem args_finite (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) : (Cert.KernelIdeal.In.args m c).Finite := by
  obtain ⟨h0, h1, h2, h3, h4, h5⟩ := h c
  exact ⟨finite_of_olt _ _ h0, finite_of_olt _ _ h1, finite_of_olt _ _ h2, finite_of_olt _ _ h3, finite_of_olt _ _ h4, finite_of_olt _ _ h5⟩

end Cert.Proof

end
-- ==== Proof.Ffn.lean ====
module

public import proofs.«01_k».proof.Proof.Half
public import proofs.«01_k».proof.Proof.Model
public import proofs.«01_k».proof.Proof.Gen.Kernel2Ideal.Frame
public import Idealize.ShloMosaic.Lib.Pipeline.Value

@[expose] public section

set_option maxRecDepth 16384

noncomputable section

/-! What one grid step of the forward pass computes of its blocks: four pieces, two of each sequence, in the kernel's
words and in the words of the whole sequence. -/

namespace Cert.Kernel2Ideal

open Cert.Kernel2Ideal.Gen Idealize.ShloMosaic Idealize.SL.Sem

/-- The blocks one grid step reads: the input rows, the step's tiles of gate and value columns of the up projection, their
taps and biases. -/
structure Blk where
  x : Vec Ideal S2x2048x1024 .bf16
  wa : Vec Ideal S1x1024x128 .bf16
  wb : Vec Ideal S1x1024x128 .bf16
  wg : Vec Ideal S3x128 .f32
  wv : Vec Ideal S3x128 .f32
  bg : Vec Ideal S1x128 .f32
  bv : Vec Ideal S1x128 .f32

/-- A rectangle's point is its offset and the point within it. -/
theorem emb3 {n0 n1 n2 : ℕ} (off size : Fin 3 → ℕ) (inb) (x : (⟨3, size⟩ : Shape).Idx) (a : Fin n0) (b : Fin n1) (c : Fin n2)
    (ha : off 0 + (x 0).val = a.val) (hb : off 1 + (x 1).val = b.val) (hc : off 2 + (x 2).val = c.val) :
    (Rect.unit (s := ⟨3, ![n0, n1, n2]⟩) off size inb).emb x = ix3 a b c := by
  funext d
  match d with
  | 0 => exact Fin.ext ((congrArg (off 0 + ·) (Nat.one_mul _)).trans ha)
  | 1 => exact Fin.ext ((congrArg (off 1 + ·) (Nat.one_mul _)).trans hb)
  | 2 => exact Fin.ext ((congrArg (off 2 + ·) (Nat.one_mul _)).trans hc)

/-- A piece's rows as a matrix. -/
theorem rows_apply (y : FVec Ideal S1x1040x1024 .bf16) (i : Fin 1040) (k : Fin 1024) :
    shapeCast S1040x1024 y shapeCasts_S1x1040x1024_S1040x1024 (ix2 i k) = y (ix3 0 i k) := by
  pointwise

/-- A piece's product at an index. -/
theorem prod_apply (y : FVec Ideal S1040x1024 .bf16) (w : FVec Ideal S1024x256 .bf16) (i : Fin 1040) (a : Fin 256) :
    matmul dot_S1040x1024_S1024x256_S1040x256_1_0_0_1_n_n none y w (constant S1040x256 .f32 0x00000000#32) (ix2 i a)
      = ∑ k : Fin 1024, y (ix2 i k) * w (ix2 k a) := by
  pointwise

namespace Blk

variable (B : Blk)

/-- The up projection's weight at a column of the tile: gate columns, then value columns. -/
def wt (k : Fin 1024) (a : Fin 256) : EReal :=
  if h : a.val < 128 then B.wa (ix3 0 k ⟨a.val, h⟩) else B.wb (ix3 0 k ⟨a.val - 128, by omega⟩)

/-- Column `a` of the tile of the up projection. -/
def U (b : Fin 2) (a : Fin 256) : ℕ → EReal := Spec.ofRows fun r => ∑ k : Fin 1024, B.x (ix3 b r k) * B.wt k a

/-- The gate's column. -/
def G (b : Fin 2) (l : Fin 128) (r : ℕ) : EReal :=
  Spec.conv ![B.wg (ix2 0 l), B.wg (ix2 1 l), B.wg (ix2 2 l)] (B.bg (ix2 0 l)) (B.U b ⟨l.val, by omega⟩) r

/-- The value's column. -/
def V (b : Fin 2) (l : Fin 128) (r : ℕ) : EReal :=
  Spec.conv ![B.wv (ix2 0 l), B.wv (ix2 1 l), B.wv (ix2 2 l)] (B.bv (ix2 0 l)) (B.U b ⟨128 + l.val, by omega⟩) r

/-- The two tiles of weights side by side, as the body has them. -/
def wc : FVec Ideal S1024x256 .bf16 := k0_pay2 (View.ld B.wa r0_0) (View.ld B.wb r0_0)

theorem wc_apply (k : Fin 1024) (a : Fin 256) : B.wc (ix2 k a) = B.wt k a := by
  unfold wc k0_pay2 wt
  rw [View.ld_unit_zero (by funext a; match a with | 0 => rfl | 1 => rfl | 2 => rfl), View.ld_unit_zero (by funext a; match a with | 0 => rfl | 1 => rfl | 2 => rfl)]
  pointwise

section piece

variable (b lo : ℕ) (inb : ∀ a, (![b, lo, 0] : Fin 3 → ℕ) a + S1x1040x1024.size a ≤ S2x2048x1024.size a)

/-- A piece's product: its 1040 rows against the tile's columns. -/
def u : FVec Ideal S1040x256 .f32 :=
  matmul (φ₁ := .bf16) dot_S1040x1024_S1024x256_S1040x256_1_0_0_1_n_n none
    (shapeCast S1040x1024 (View.ld B.x (Rect.unit (s := S2x2048x1024) ![b, lo, 0] S1x1040x1024.size inb)) shapeCasts_S1x1040x1024_S1040x1024)
    B.wc (constant S1040x256 .f32 0x00000000#32)

theorem u_apply (hb : b < 2) (hl : lo + 1040 ≤ 2048) (i : Fin 1040) (a : Fin 256) : B.u b lo inb (ix2 i a) = B.U ⟨b, hb⟩ a (lo + i.val) := by
  unfold u U Spec.ofRows
  rw [dif_pos (by omega), prod_apply]
  refine Finset.sum_congr rfl fun k _ => ?_
  rw [wc_apply, rows_apply]
  congr 1
  show B.x ((Rect.unit (s := S2x2048x1024) ![b, lo, 0] S1x1040x1024.size inb).emb (ix3 0 i k)) = _
  exact congrArg B.x (emb3 _ _ _ _ (⟨b, hb⟩ : Fin 2) (⟨lo + i.val, by omega⟩ : Fin 2048) k rfl rfl (Nat.zero_add _))

/-- A piece's gate: the convolution of its gate columns. -/
def g : FVec Ideal S1040x128 .f32 :=
  Cert.KernelIdeal.Voc.conv (View.ld B.bg r0_3) (View.ld B.wg r0_4) (View.ld B.wg r0_5) (View.ld B.wg r0_6)
    (extractStridedSlice S1040x128 ![0, 0] (B.u b lo inb) slices_S1040x256_o0_0_S1040x128)

/-- A piece's value: the convolution of its value columns. -/
def v : FVec Ideal S1040x128 .f32 :=
  Cert.KernelIdeal.Voc.conv (View.ld B.bv r0_3) (View.ld B.wv r0_4) (View.ld B.wv r0_5) (View.ld B.wv r0_6)
    (extractStridedSlice S1040x128 ![0, 128] (B.u b lo inb) slices_S1040x256_o0_128_S1040x128)

/-- The taps and biases as the body loads them. -/
theorem ld_tap (w : Vec Ideal S3x128 .f32) (l : Fin 128) :
    View.ld w r0_4 (ix2 0 l) = w (ix2 0 l) ∧ View.ld w r0_5 (ix2 0 l) = w (ix2 1 l) ∧ View.ld w r0_6 (ix2 0 l) = w (ix2 2 l) := by
  refine ⟨?_, ?_, ?_⟩ <;> rw [View.ld_unit] <;> pointwise <;> rfl

theorem ld_bias (w : Vec Ideal S1x128 .f32) (l : Fin 128) : View.ld w r0_3 (ix2 0 l) = w (ix2 0 l) := by
  rw [View.ld_unit]
  pointwise

theorem g_apply (hb : b < 2) (hl : lo + 1040 ≤ 2048) (i : Fin 1040) (hi : lo = 0 ∨ 2 ≤ i.val) (l : Fin 128) :
    B.g b lo inb (ix2 i l) = B.G ⟨b, hb⟩ l (lo + i.val) := by
  unfold g G
  rw [Cert.KernelIdeal.Half.conv_half lo _ _ _ _ _ (B.U ⟨b, hb⟩ ⟨l.val, by omega⟩) l ?_ i hi]
  · rw [ld_bias, (ld_tap B.wg l).1, (ld_tap B.wg l).2.1, (ld_tap B.wg l).2.2]
  · intro j
    rw [← B.u_apply b lo inb hb hl]
    generalize B.u b lo inb = y
    pointwise

theorem v_apply (hb : b < 2) (hl : lo + 1040 ≤ 2048) (i : Fin 1040) (hi : lo = 0 ∨ 2 ≤ i.val) (l : Fin 128) :
    B.v b lo inb (ix2 i l) = B.V ⟨b, hb⟩ l (lo + i.val) := by
  unfold v V
  rw [Cert.KernelIdeal.Half.conv_half lo _ _ _ _ _ (B.U ⟨b, hb⟩ ⟨128 + l.val, by omega⟩) l ?_ i hi]
  · rw [ld_bias, (ld_tap B.wv l).1, (ld_tap B.wv l).2.1, (ld_tap B.wv l).2.2]
  · intro j
    rw [← B.u_apply b lo inb hb hl]
    generalize B.u b lo inb = y
    pointwise

/-- A piece's gated activation. -/
def c : FVec Ideal S1040x128 .bf16 := Cert.KernelIdeal.Voc.act (B.g b lo inb) (B.v b lo inb)

theorem c_apply (hb : b < 2) (hl : lo + 1040 ≤ 2048) (i : Fin 1040) (hi : lo = 0 ∨ 2 ≤ i.val) (l : Fin 128) :
    B.c b lo inb (ix2 i l) = Spec.act (B.G ⟨b, hb⟩ l (lo + i.val)) (B.V ⟨b, hb⟩ l (lo + i.val)) := by
  unfold c
  rw [Cert.KernelIdeal.Voc.act_apply, Cert.KernelIdeal.Voc.sg_apply, g_apply B b lo inb hb hl i hi, v_apply B b lo inb hb hl i hi]
  rfl

end piece

/-- The four stores of the gated activation. -/
def L7 : List (View.Piece (Elt Ideal) S2x2048x128 .bf16) :=
  [⟨r0_16, shapeCast S1x1024x128 (extractStridedSlice S1024x128 ![16, 0] (B.c 1 1008 inb_S2x2048x1024_S1x1040x1024_1_1008_0) slices_S1040x128_o16_0_S1024x128) shapeCasts_S1024x128_S1x1024x128⟩,
   ⟨r0_13, shapeCast S1x1024x128 (extractStridedSlice S1024x128 ![0, 0] (B.c 1 0 inb_S2x2048x1024_S1x1040x1024_1_0_0) slices_S1040x128_o0_0_S1024x128) shapeCasts_S1024x128_S1x1024x128⟩,
   ⟨r0_10, shapeCast S1x1024x128 (extractStridedSlice S1024x128 ![16, 0] (B.c 0 1008 inb_S2x2048x1024_S1x1040x1024_0_1008_0) slices_S1040x128_o16_0_S1024x128) shapeCasts_S1024x128_S1x1024x128⟩,
   ⟨r0_7, shapeCast S1x1024x128 (extractStridedSlice S1024x128 ![0, 0] (B.c 0 0 inb_S2x2048x1024_S1x1040x1024_0_0_0) slices_S1040x128_o0_0_S1024x128) shapeCasts_S1024x128_S1x1024x128⟩]

/-- The four stores of the up projection. -/
def L8 : List (View.Piece (Elt Ideal) S2x2048x256 .f32) :=
  [⟨r0_15, shapeCast S1x1024x256 (extractStridedSlice S1024x256 ![16, 0] (B.u 1 1008 inb_S2x2048x1024_S1x1040x1024_1_1008_0) slices_S1040x256_o16_0_S1024x256) shapeCasts_S1024x256_S1x1024x256⟩,
   ⟨r0_12, shapeCast S1x1024x256 (extractStridedSlice S1024x256 ![0, 0] (B.u 1 0 inb_S2x2048x1024_S1x1040x1024_1_0_0) slices_S1040x256_o0_0_S1024x256) shapeCasts_S1024x256_S1x1024x256⟩,
   ⟨r0_9, shapeCast S1x1024x256 (extractStridedSlice S1024x256 ![16, 0] (B.u 0 1008 inb_S2x2048x1024_S1x1040x1024_0_1008_0) slices_S1040x256_o16_0_S1024x256) shapeCasts_S1024x256_S1x1024x256⟩,
   ⟨r0_2, shapeCast S1x1024x256 (extractStridedSlice S1024x256 ![0, 0] (B.u 0 0 inb_S2x2048x1024_S1x1040x1024_0_0_0) slices_S1040x256_o0_0_S1024x256) shapeCasts_S1024x256_S1x1024x256⟩]

/-- An index of a rank-3 block is its three coordinates. -/
theorem ix3_eta {n0 n1 n2 : ℕ} (y : (⟨3, ![n0, n1, n2]⟩ : Shape).Idx) : y = ix3 (y 0) (y 1) (y 2) := by
  funext a; match a with | 0 => rfl | 1 => rfl | 2 => rfl

/-- A later piece of the activation, at an index. -/
theorem c_late (b : ℕ) (hb : b < 2) (inb) (j : Fin 1024) (l : Fin 128) :
    shapeCast S1x1024x128 (extractStridedSlice S1024x128 ![16, 0] (B.c b 1008 inb) slices_S1040x128_o16_0_S1024x128) shapeCasts_S1024x128_S1x1024x128 (ix3 0 j l)
      = Spec.act (B.G ⟨b, hb⟩ l (1024 + j.val)) (B.V ⟨b, hb⟩ l (1024 + j.val)) := by
  have h := B.c_apply b 1008 inb hb (by omega) ⟨16 + j.val, by omega⟩ (.inr (by dsimp only; omega)) l
  dsimp only at h
  rw [show 1008 + (16 + j.val) = 1024 + j.val by omega] at h
  rw [← h]
  generalize B.c b 1008 inb = y
  pointwise

/-- An earlier piece of the activation, at an index. -/
theorem c_early (b : ℕ) (hb : b < 2) (inb) (j : Fin 1024) (l : Fin 128) :
    shapeCast S1x1024x128 (extractStridedSlice S1024x128 ![0, 0] (B.c b 0 inb) slices_S1040x128_o0_0_S1024x128) shapeCasts_S1024x128_S1x1024x128 (ix3 0 j l)
      = Spec.act (B.G ⟨b, hb⟩ l j.val) (B.V ⟨b, hb⟩ l j.val) := by
  have h := B.c_apply b 0 inb hb (by omega) ⟨j.val, by omega⟩ (.inl rfl) l
  dsimp only at h
  rw [Nat.zero_add] at h
  rw [← h]
  generalize B.c b 0 inb = y
  pointwise

/-- A later piece of the up projection, at an index. -/
theorem u_late (b : ℕ) (hb : b < 2) (inb) (j : Fin 1024) (a : Fin 256) :
    shapeCast S1x1024x256 (extractStridedSlice S1024x256 ![16, 0] (B.u b 1008 inb) slices_S1040x256_o16_0_S1024x256) shapeCasts_S1024x256_S1x1024x256 (ix3 0 j a)
      = B.U ⟨b, hb⟩ a (1024 + j.val) := by
  have h := B.u_apply b 1008 inb hb (by omega) ⟨16 + j.val, by omega⟩ a
  dsimp only at h
  rw [show 1008 + (16 + j.val) = 1024 + j.val by omega] at h
  rw [← h]
  generalize B.u b 1008 inb = y
  pointwise

/-- An earlier piece of the up projection, at an index. -/
theorem u_early (b : ℕ) (hb : b < 2) (inb) (j : Fin 1024) (a : Fin 256) :
    shapeCast S1x1024x256 (extractStridedSlice S1024x256 ![0, 0] (B.u b 0 inb) slices_S1040x256_o0_0_S1024x256) shapeCasts_S1024x256_S1x1024x256 (ix3 0 j a)
      = B.U ⟨b, hb⟩ a j.val := by
  have h := B.u_apply b 0 inb hb (by omega) ⟨j.val, by omega⟩ a
  dsimp only at h
  rw [Nat.zero_add] at h
  rw [← h]
  generalize B.u b 0 inb = y
  pointwise

/-- The stores of the activation leave the whole sequences'. -/
theorem L7_apply (b : Fin 2) (r : Fin 2048) (l : Fin 128) :
    View.canon (B.L7) (ix3 b r l) = Spec.act (B.G b l r.val) (B.V b l r.val) := by
  refine View.canon_apply_of_pieces (Val := Elt Ideal) (fun y => Spec.act (B.G (y 0) (y 2) (y 1).val) (B.V (y 0) (y 2) (y 1).val)) _ ?_ _ (cover0_7 _ _ _ _ _)
  intro p hp x
  unfold L7 at hp
  simp only [List.mem_cons, List.not_mem_nil, or_false] at hp
  rcases hp with rfl | rfl | rfl | rfl
  · obtain ⟨a, j, l, rfl⟩ : ∃ (a : Fin 1) (j : Fin 1024) (l : Fin 128), x = ix3 a j l := ⟨_, _, _, ix3_eta x⟩
    obtain rfl : a = 0 := by omega
    dsimp only
    rw [emb3 _ _ _ _ (1 : Fin 2) (⟨1024 + j.val, by omega⟩ : Fin 2048) l rfl rfl (Nat.zero_add _)]
    exact B.c_late 1 (by omega) _ j l
  · obtain ⟨a, j, l, rfl⟩ : ∃ (a : Fin 1) (j : Fin 1024) (l : Fin 128), x = ix3 a j l := ⟨_, _, _, ix3_eta x⟩
    obtain rfl : a = 0 := by omega
    dsimp only
    rw [emb3 _ _ _ _ (1 : Fin 2) (⟨j.val, by omega⟩ : Fin 2048) l rfl (Nat.zero_add _) (Nat.zero_add _)]
    exact B.c_early 1 (by omega) _ j l
  · obtain ⟨a, j, l, rfl⟩ : ∃ (a : Fin 1) (j : Fin 1024) (l : Fin 128), x = ix3 a j l := ⟨_, _, _, ix3_eta x⟩
    obtain rfl : a = 0 := by omega
    dsimp only
    rw [emb3 _ _ _ _ (0 : Fin 2) (⟨1024 + j.val, by omega⟩ : Fin 2048) l rfl rfl (Nat.zero_add _)]
    exact B.c_late 0 (by omega) _ j l
  · obtain ⟨a, j, l, rfl⟩ : ∃ (a : Fin 1) (j : Fin 1024) (l : Fin 128), x = ix3 a j l := ⟨_, _, _, ix3_eta x⟩
    obtain rfl : a = 0 := by omega
    dsimp only
    rw [emb3 _ _ _ _ (0 : Fin 2) (⟨j.val, by omega⟩ : Fin 2048) l rfl (Nat.zero_add _) (Nat.zero_add _)]
    exact B.c_early 0 (by omega) _ j l

/-- The stores of the up projection leave the whole sequences'. -/
theorem L8_apply (b : Fin 2) (r : Fin 2048) (l : Fin 256) : View.canon (B.L8) (ix3 b r l) = B.U b l r.val := by
  refine View.canon_apply_of_pieces (Val := Elt Ideal) (fun y => B.U (y 0) (y 2) (y 1).val) _ ?_ _ (cover0_8 _ _ _ _ _)
  intro p hp x
  unfold L8 at hp
  simp only [List.mem_cons, List.not_mem_nil, or_false] at hp
  rcases hp with rfl | rfl | rfl | rfl
  · obtain ⟨a, j, l, rfl⟩ : ∃ (a : Fin 1) (j : Fin 1024) (l : Fin 256), x = ix3 a j l := ⟨_, _, _, ix3_eta x⟩
    obtain rfl : a = 0 := by omega
    dsimp only
    rw [emb3 _ _ _ _ (1 : Fin 2) (⟨1024 + j.val, by omega⟩ : Fin 2048) l rfl rfl (Nat.zero_add _)]
    exact B.u_late 1 (by omega) _ j l
  · obtain ⟨a, j, l, rfl⟩ : ∃ (a : Fin 1) (j : Fin 1024) (l : Fin 256), x = ix3 a j l := ⟨_, _, _, ix3_eta x⟩
    obtain rfl : a = 0 := by omega
    dsimp only
    rw [emb3 _ _ _ _ (1 : Fin 2) (⟨j.val, by omega⟩ : Fin 2048) l rfl (Nat.zero_add _) (Nat.zero_add _)]
    exact B.u_early 1 (by omega) _ j l
  · obtain ⟨a, j, l, rfl⟩ : ∃ (a : Fin 1) (j : Fin 1024) (l : Fin 256), x = ix3 a j l := ⟨_, _, _, ix3_eta x⟩
    obtain rfl : a = 0 := by omega
    dsimp only
    rw [emb3 _ _ _ _ (0 : Fin 2) (⟨1024 + j.val, by omega⟩ : Fin 2048) l rfl rfl (Nat.zero_add _)]
    exact B.u_late 0 (by omega) _ j l
  · obtain ⟨a, j, l, rfl⟩ : ∃ (a : Fin 1) (j : Fin 1024) (l : Fin 256), x = ix3 a j l := ⟨_, _, _, ix3_eta x⟩
    obtain rfl : a = 0 := by omega
    dsimp only
    rw [emb3 _ _ _ _ (0 : Fin 2) (⟨j.val, by omega⟩ : Fin 2048) l rfl (Nat.zero_add _) (Nat.zero_add _)]
    exact B.u_early 0 (by omega) _ j l

/-- What a step leaves in the activation's block. -/
theorem out7 : out0_7 B.x B.wa B.wb B.wg B.wv B.bg B.bv = View.canon B.L7 := by
  unfold_out out0_7
  rfl

/-- What a step leaves in the up projection's block. -/
theorem out8 : out0_8 B.x B.wa B.wb B.wg B.wv B.bg B.bv = View.canon B.L8 := by
  unfold_out out0_8
  rfl

end Blk

end Cert.Kernel2Ideal

end
-- ==== Proof.FfnArr.lean ====
module

public import proofs.«01_k».proof.Proof.Ffn
public import proofs.«01_k».proof.Proof.Gen.Kernel2Ideal.Value
public import Idealize.ShloMosaic.Lib.StableHlo.ReadAt

@[expose] public section

set_option maxRecDepth 16384

noncomputable section

/-! The forward pass of the gated block: the grid's two results in the words of the model. -/

namespace Cert.Kernel2Ideal.Pf

open Cert.Kernel2Ideal Cert.Kernel2Ideal.Gen Cert.Kernel2Ideal.Value Idealize.ShloMosaic Idealize.ShloMosaic.TcCoe Idealize.SL.Sem
open Idealize.ShloMosaic.Pipeline (Dat)

variable (m : (ℓ : Loc nD τ sig) → Buf (Elt Ideal) ℓ) (c : Dev nD)

/-- The arguments a core was launched with, as the model has them. -/
abbrev A : Spec.Args := ⟨m ((c : Thread nD τ).loc main_arg0), m ((c : Thread nD τ).loc main_arg1), m ((c : Thread nD τ).loc main_arg2),
  m ((c : Thread nD τ).loc main_arg3), fun _ => 0, fun _ => 0⟩

theorem lt_N (t : Fin cfg0.N) : t.val < 22 := lt_of_lt_of_eq t.isLt N_0

/-- The up projection as the kernel finds it: four groups of columns. -/
theorem V_v2 (d : Fin 4) (k : Fin 1024) (j : Fin 1408) :
    V m c main_v2 (ix3 d k j) = (A m c).wu (ix2 k ⟨d.val * 1408 + j.val, by omega⟩) := by
  unfold V A
  after_reads_at

/-- The input rows as the kernel finds them. -/
theorem V_v4 (b : Fin 2) (s : Fin 2048) (k : Fin 1024) : V m c main_v4 (ix3 b s k) = (A m c).x1 (ix2 (Spec.row b s) k) := by
  unfold V A Spec.row
  after_reads_at

/-- Window 0's block numbers. -/
theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

/-- Window 1's block numbers. -/
theorem idx1 : ∀ t : Fin cfg0.N, win0_1.index t 0 = t.val / 11 ∧ win0_1.index t 1 = 0 ∧ win0_1.index t 2 = t.val % 11 :=
  (by decide +kernel : ∀ t : Fin grid0.N, win0_1.index t 0 = t.val / 11 ∧ win0_1.index t 1 = 0 ∧ win0_1.index t 2 = t.val % 11)

/-- Window 2's block numbers. -/
theorem idx2 : ∀ t : Fin cfg0.N, win0_2.index t 0 = 2 + t.val / 11 ∧ win0_2.index t 1 = 0 ∧ win0_2.index t 2 = t.val % 11 :=
  (by decide +kernel : ∀ t : Fin grid0.N, win0_2.index t 0 = 2 + t.val / 11 ∧ win0_2.index t 1 = 0 ∧ win0_2.index t 2 = t.val % 11)

/-- Window 3's block numbers. -/
theorem idx3 : ∀ t : Fin cfg0.N, win0_3.index t 0 = 0 ∧ win0_3.index t 1 = t.val :=
  (by decide +kernel : ∀ t : Fin grid0.N, win0_3.index t 0 = 0 ∧ win0_3.index t 1 = t.val)

/-- Window 4's block numbers. -/
theorem idx4 : ∀ t : Fin cfg0.N, win0_4.index t 0 = 0 ∧ win0_4.index t 1 = 22 + t.val :=
  (by decide +kernel : ∀ t : Fin grid0.N, win0_4.index t 0 = 0 ∧ win0_4.index t 1 = 22 + t.val)

/-- Window 5's block numbers. -/
theorem idx5 : ∀ t : Fin cfg0.N, win0_5.index t 0 = 0 ∧ win0_5.index t 1 = t.val :=
  (by decide +kernel : ∀ t : Fin grid0.N, win0_5.index t 0 = 0 ∧ win0_5.index t 1 = t.val)

/-- Window 6's block numbers. -/
theorem idx6 : ∀ t : Fin cfg0.N, win0_6.index t 0 = 0 ∧ win0_6.index t 1 = 22 + t.val :=
  (by decide +kernel : ∀ t : Fin grid0.N, win0_6.index t 0 = 0 ∧ win0_6.index t 1 = 22 + t.val)

/-- Window 7's block numbers. -/
theorem idx7 : ∀ t : Fin cfg0.N, win0_7.index t 0 = 0 ∧ win0_7.index t 1 = 0 ∧ win0_7.index t 2 = t.val :=
  (by decide +kernel : ∀ t : Fin grid0.N, win0_7.index t 0 = 0 ∧ win0_7.index t 1 = 0 ∧ win0_7.index t 2 = t.val)

/-- Window 8's block numbers. -/
theorem idx8 : ∀ t : Fin cfg0.N, win0_8.index t 0 = 0 ∧ win0_8.index t 1 = 0 ∧ win0_8.index t 2 = t.val :=
  (by decide +kernel : ∀ t : Fin grid0.N, win0_8.index t 0 = 0 ∧ win0_8.index t 1 = 0 ∧ win0_8.index t 2 = t.val)

/-- Column `l` of a step's tile among half the columns. -/
def lane (t : Fin cfg0.N) (l : Fin 128) : Fin 2816 := ⟨t.val * 128 + l.val, by have := lt_N t; omega⟩

/-- The input rows, the same at every step. -/
theorem blk0 (t : Fin cfg0.N) (b : Fin 2) (s : Fin 2048) (k : Fin 1024) : iblk m c 0 t (ix3 b s k) = (A m c).x1 (ix2 (Spec.row b s) k) := by
  have hi := idx0 t
  rw [← V_v4]
  unfold iblk
  rw [View.read_apply]
  show V m c main_v4 _ = V m c main_v4 _
  congr 1
  funext a
  apply Fin.ext
  match a with
  | ⟨0, _⟩ => show win0_0.index t 0 * 2 + 1 * b.val = b.val; rw [hi.1]; omega
  | ⟨1, _⟩ => show win0_0.index t 1 * 2048 + 1 * s.val = s.val; rw [hi.2.1]; omega
  | ⟨2, _⟩ => show win0_0.index t 2 * 1024 + 1 * k.val = k.val; rw [hi.2.2]; omega

/-- A step's gate columns of the up projection. -/
theorem blk1 (t : Fin cfg0.N) (k : Fin 1024) (l : Fin 128) : iblk m c 1 t (ix3 0 k l) = (A m c).wu (ix2 k (Spec.col 0 (lane t l))) := by
  have hi := idx1 t
  have hN := lt_N t
  have e : (Spec.col 0 (lane t l)) = ⟨(⟨t.val / 11, by omega⟩ : Fin 4).val * 1408 + (⟨t.val % 11 * 128 + l.val, by omega⟩ : Fin 1408).val, by dsimp only; omega⟩ :=
    Fin.ext (show 0 * 2816 + (t.val * 128 + l.val) = t.val / 11 * 1408 + (t.val % 11 * 128 + l.val) by omega)
  rw [e, ← V_v2]
  unfold iblk
  rw [View.read_apply]
  show V m c main_v2 _ = V m c main_v2 _
  congr 1
  funext a
  apply Fin.ext
  match a with
  | ⟨0, _⟩ => show win0_1.index t 0 * 1 + 1 * 0 = t.val / 11; rw [hi.1]; omega
  | ⟨1, _⟩ => show win0_1.index t 1 * 1024 + 1 * k.val = k.val; rw [hi.2.1]; omega
  | ⟨2, _⟩ => show win0_1.index t 2 * 128 + 1 * l.val = t.val % 11 * 128 + l.val; rw [hi.2.2]; omega

/-- A step's value columns of the up projection. -/
theorem blk2 (t : Fin cfg0.N) (k : Fin 1024) (l : Fin 128) : iblk m c 2 t (ix3 0 k l) = (A m c).wu (ix2 k (Spec.col 1 (lane t l))) := by
  have hi := idx2 t
  have hN := lt_N t
  have e : (Spec.col 1 (lane t l)) = ⟨(⟨2 + t.val / 11, by omega⟩ : Fin 4).val * 1408 + (⟨t.val % 11 * 128 + l.val, by omega⟩ : Fin 1408).val, by dsimp only; omega⟩ :=
    Fin.ext (show 1 * 2816 + (t.val * 128 + l.val) = (2 + t.val / 11) * 1408 + (t.val % 11 * 128 + l.val) by omega)
  rw [e, ← V_v2]
  unfold iblk
  rw [View.read_apply]
  show V m c main_v2 _ = V m c main_v2 _
  congr 1
  funext a
  apply Fin.ext
  match a with
  | ⟨0, _⟩ => show win0_2.index t 0 * 1 + 1 * 0 = 2 + t.val / 11; rw [hi.1]; omega
  | ⟨1, _⟩ => show win0_2.index t 1 * 1024 + 1 * k.val = k.val; rw [hi.2.1]; omega
  | ⟨2, _⟩ => show win0_2.index t 2 * 128 + 1 * l.val = t.val % 11 * 128 + l.val; rw [hi.2.2]; omega

/-- A step's gate taps. -/
theorem blk3 (t : Fin cfg0.N) (k : Fin 3) (l : Fin 128) : iblk m c 3 t (ix2 k l) = (A m c).cw (ix2 k (Spec.col 0 (lane t l))) := by
  have hi := idx3 t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_3.index t 0 * 3 + 1 * k.val = k.val; rw [hi.1]; omega
  | ⟨1, _⟩ => show win0_3.index t 1 * 128 + 1 * l.val = 0 * 2816 + (t.val * 128 + l.val); rw [hi.2]; omega

/-- A step's value taps. -/
theorem blk4 (t : Fin cfg0.N) (k : Fin 3) (l : Fin 128) : iblk m c 4 t (ix2 k l) = (A m c).cw (ix2 k (Spec.col 1 (lane t l))) := by
  have hi := idx4 t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_4.index t 0 * 3 + 1 * k.val = k.val; rw [hi.1]; omega
  | ⟨1, _⟩ => show win0_4.index t 1 * 128 + 1 * l.val = 1 * 2816 + (t.val * 128 + l.val); rw [hi.2]; omega

/-- A step's gate bias. -/
theorem blk5 (t : Fin cfg0.N) (l : Fin 128) : iblk m c 5 t (ix2 0 l) = (A m c).cb (ix2 0 (Spec.col 0 (lane t l))) := by
  have hi := idx5 t
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_5.index t 0 * 1 + 1 * 0 = 0; rw [hi.1]
  | ⟨1, _⟩ => show win0_5.index t 1 * 128 + 1 * l.val = 0 * 2816 + (t.val * 128 + l.val); rw [hi.2]; omega

/-- A step's value bias. -/
theorem blk6 (t : Fin cfg0.N) (l : Fin 128) : iblk m c 6 t (ix2 0 l) = (A m c).cb (ix2 0 (Spec.col 1 (lane t l))) := by
  have hi := idx6 t
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_6.index t 0 * 1 + 1 * 0 = 0; rw [hi.1]
  | ⟨1, _⟩ => show win0_6.index t 1 * 128 + 1 * l.val = 1 * 2816 + (t.val * 128 + l.val); rw [hi.2]; omega

/-- The blocks a step reads. -/
abbrev B (t : Fin cfg0.N) : Blk := ⟨iblk m c 0 t, iblk m c 1 t, iblk m c 2 t, iblk m c 3 t, iblk m c 4 t, iblk m c 5 t, iblk m c 6 t⟩

/-- A step's gate columns. -/
theorem U_gate (t : Fin cfg0.N) (b : Fin 2) (l : Fin 128) : (B m c t).U b ⟨l.val, by omega⟩ = (A m c).up b (Spec.col 0 (lane t l)) := by
  unfold Blk.U Spec.Args.up
  congr 1
  funext s
  refine Finset.sum_congr rfl fun k _ => ?_
  show (B m c t).x (ix3 b s k) * (B m c t).wt k ⟨l.val, by omega⟩ = _
  unfold Blk.wt
  rw [show (B m c t).x (ix3 b s k) = _ from blk0 m c t b s k, dif_pos l.isLt]
  exact congrArg (_ * ·) (blk1 m c t k l)

/-- A step's value columns. -/
theorem U_value (t : Fin cfg0.N) (b : Fin 2) (l : Fin 128) : (B m c t).U b ⟨128 + l.val, by omega⟩ = (A m c).up b (Spec.col 1 (lane t l)) := by
  unfold Blk.U Spec.Args.up
  congr 1
  funext s
  refine Finset.sum_congr rfl fun k _ => ?_
  show (B m c t).x (ix3 b s k) * (B m c t).wt k ⟨128 + l.val, by omega⟩ = _
  unfold Blk.wt
  rw [show (B m c t).x (ix3 b s k) = _ from blk0 m c t b s k, dif_neg (show ¬ 128 + l.val < 128 by omega)]
  refine congrArg (_ * ·) (Eq.trans ?_ (blk2 m c t k l))
  exact congrArg (fun a => iblk m c 2 t (ix3 0 k a)) (Fin.ext (show 128 + l.val - 128 = l.val by omega))

/-- A step's gate. -/
theorem G_eq (t : Fin cfg0.N) (b : Fin 2) (l : Fin 128) : (B m c t).G b l = (A m c).mix b (Spec.col 0 (lane t l)) := by
  funext r
  unfold Blk.G Spec.Args.mix
  rw [U_gate]
  dsimp only
  rw [blk3, blk3, blk3, blk5]
  congr 1
  funext k
  match k with | 0 => rfl | 1 => rfl | 2 => rfl

/-- A step's value. -/
theorem V_eq (t : Fin cfg0.N) (b : Fin 2) (l : Fin 128) : (B m c t).V b l = (A m c).mix b (Spec.col 1 (lane t l)) := by
  funext r
  unfold Blk.V Spec.Args.mix
  rw [U_value]
  dsimp only
  rw [blk4, blk4, blk4, blk6]
  congr 1
  funext k
  match k with | 0 => rfl | 1 => rfl | 2 => rfl

/-- Where window 7's block lies in its array. -/
theorem emb7 (t : Fin cfg0.N) (b : Fin 2) (s : Fin 2048) (l : Fin 128) : ((cfg0.win 7).blk t).view.emb (ix3 b s l) = ix3 b s (lane t l) := by
  have hi := idx7 t
  funext x
  apply Fin.ext
  match x with
  | ⟨0, _⟩ => show win0_7.index t 0 * 2 + 1 * b.val = b.val; rw [hi.1]; omega
  | ⟨1, _⟩ => show win0_7.index t 1 * 2048 + 1 * s.val = s.val; rw [hi.2.1]; omega
  | ⟨2, _⟩ => show win0_7.index t 2 * 128 + 1 * l.val = t.val * 128 + l.val; rw [hi.2.2]; omega

/-- Column `a` of a step's tile among all the tiled columns. -/
def tcol (t : Fin cfg0.N) (a : Fin 256) : Fin 5632 := ⟨t.val * 256 + a.val, by have := lt_N t; omega⟩

/-- Where window 8's block lies in its array. -/
theorem emb8 (t : Fin cfg0.N) (b : Fin 2) (s : Fin 2048) (a : Fin 256) : ((cfg0.win 8).blk t).view.emb (ix3 b s a) = ix3 b s (tcol t a) := by
  have hi := idx8 t
  funext x
  apply Fin.ext
  match x with
  | ⟨0, _⟩ => show win0_8.index t 0 * 2 + 1 * b.val = b.val; rw [hi.1]; omega
  | ⟨1, _⟩ => show win0_8.index t 1 * 2048 + 1 * s.val = s.val; rw [hi.2.1]; omega
  | ⟨2, _⟩ => show win0_8.index t 2 * 256 + 1 * a.val = t.val * 256 + a.val; rw [hi.2.2]; omega

/-- Where a tiled column lies among the up projection's. -/
def tiled (j : Fin 5632) : Fin 5632 := ⟨j.val % 256 / 128 * 2816 + j.val / 256 * 128 + j.val % 128, by omega⟩

/-- A step's column of the up projection. -/
theorem U_eq (t : Fin cfg0.N) (b : Fin 2) (a : Fin 256) : (B m c t).U b a = (A m c).up b (tiled (tcol t a)) := by
  by_cases h : a.val < 128
  · refine (U_gate m c t b ⟨a.val, h⟩).trans (congrArg ((A m c).up b) (Fin.ext ?_))
    show 0 * 2816 + (t.val * 128 + a.val) = (t.val * 256 + a.val) % 256 / 128 * 2816 + (t.val * 256 + a.val) / 256 * 128 + (t.val * 256 + a.val) % 128
    omega
  · have e : a = ⟨128 + (⟨a.val - 128, by omega⟩ : Fin 128).val, by dsimp only; omega⟩ := Fin.ext (show a.val = 128 + (a.val - 128) by omega)
    refine (congrArg ((B m c t).U b) e).trans ((U_value m c t b ⟨a.val - 128, by omega⟩).trans (congrArg ((A m c).up b) (Fin.ext ?_)))
    show 1 * 2816 + (t.val * 128 + (a.val - 128)) = (t.val * 256 + a.val) % 256 / 128 * 2816 + (t.val * 256 + a.val) / 256 * 128 + (t.val * 256 + a.val) % 128
    omega

/-- What a step writes back of the activation. -/
theorem fl7 (t : Fin cfg0.N) : (dats m 0 c).flushed 7 t = (cfg0.win 7).cut (grid0.coords t) (View.canon (B m c t).L7) := by
  rw [flushed7 m c t]
  exact congrArg ((cfg0.win 7).cut (grid0.coords t)) (B m c t).out7

/-- What a step writes back of the up projection. -/
theorem fl8 (t : Fin cfg0.N) : (dats m 0 c).flushed 8 t = (cfg0.win 8).cut (grid0.coords t) (View.canon (B m c t).L8) := by
  rw [flushed8 m c t]
  exact congrArg ((cfg0.win 8).cut (grid0.coords t)) (B m c t).out8

/-- The first result array holds the gated activation. -/
theorem arr7 : (dats m 0 c).arrAt 7 cfg0.N = fun i : S2x2048x2816.Idx => (A m c).ac (i 0) (i 2) (i 1).val := by
  refine Dat.arrAt_eq_of_cover (dats m 0 c) 7 _ ?_ ?_
  · intro t _
    rw [fl7 m c t]
    funext y
    rw [View.read_apply]
    obtain ⟨b, s, l, rfl⟩ : ∃ (b : Fin 2) (s : Fin 2048) (l : Fin 128), y = ix3 b s l := ⟨_, _, _, Blk.ix3_eta y⟩
    rw [emb7 t b s l]
    refine ((B m c t).L7_apply b s l).trans ?_
    rw [G_eq, V_eq]
    rfl
  · intro i
    obtain ⟨b, s, q, rfl⟩ : ∃ (b : Fin 2) (s : Fin 2048) (q : Fin 2816), i = ix3 b s q := ⟨_, _, _, Blk.ix3_eta i⟩
    let t : Fin cfg0.N := ⟨q.val / 128, lt_of_lt_of_eq (by omega : q.val / 128 < 22) N_0.symm⟩
    refine ⟨t, flush0_7 _, ?_⟩
    have e := emb7 t b s ⟨q.val % 128, by omega⟩
    have ec : lane t ⟨q.val % 128, by omega⟩ = q := Fin.ext (show q.val / 128 * 128 + q.val % 128 = q.val by omega)
    rw [ec] at e
    rw [← e]
    exact View.emb_mem_set _ _

/-- The second result array holds the up projection, its columns tiled. -/
theorem arr8 : (dats m 0 c).arrAt 8 cfg0.N = fun i : S2x2048x5632.Idx => (A m c).up (i 0) (tiled (i 2)) (i 1).val := by
  refine Dat.arrAt_eq_of_cover (dats m 0 c) 8 _ ?_ ?_
  · intro t _
    rw [fl8 m c t]
    funext y
    rw [View.read_apply]
    obtain ⟨b, s, a, rfl⟩ : ∃ (b : Fin 2) (s : Fin 2048) (a : Fin 256), y = ix3 b s a := ⟨_, _, _, Blk.ix3_eta y⟩
    rw [emb8 t b s a]
    refine ((B m c t).L8_apply b s a).trans ?_
    rw [U_eq]
    rfl
  · intro i
    obtain ⟨b, s, q, rfl⟩ : ∃ (b : Fin 2) (s : Fin 2048) (q : Fin 5632), i = ix3 b s q := ⟨_, _, _, Blk.ix3_eta i⟩
    let t : Fin cfg0.N := ⟨q.val / 256, lt_of_lt_of_eq (by omega : q.val / 256 < 22) N_0.symm⟩
    refine ⟨t, flush0_8 _, ?_⟩
    have e := emb8 t b s ⟨q.val % 256, by omega⟩
    have ec : tcol t ⟨q.val % 256, by omega⟩ = q := Fin.ext (show q.val / 256 * 256 + q.val % 256 = q.val by omega)
    rw [ec] at e
    rw [← e]
    exact View.emb_mem_set _ _

end Cert.Kernel2Ideal.Pf

end
-- ==== Proof.Ref2.lean ====
module

public import proofs.«01_k».proof.Proof.Model
public import proofs.«01_k».proof.Proof.Gen.Reference2Ideal.Read

@[expose] public section

set_option maxRecDepth 16384

noncomputable section

/-! What the forward pass of the gated block computes, in the words of the model. -/

namespace Cert.Spec

open Idealize.ShloMosaic

/-- The logistic function through the hyperbolic tangent is the logistic function, at the infinities too. -/
theorem sg_all (g : EReal) : Ideal.div 1 (1 + Ideal.exp (-g)) = sg g := by
  induction g with
  | bot =>
    rw [show Ideal.div 1 (1 + Ideal.exp (-⊥)) = 0 from Ideal.logistic_bot]
    unfold sg
    rw [half_lit, EReal.coe_mul_bot_of_pos (by norm_num), Ideal.tanh_bot, show (-1 : EReal) = ((-1 : ℝ) : EReal) from rfl, ← EReal.coe_mul, ← EReal.coe_add]
    norm_num
  | top =>
    rw [show Ideal.div 1 (1 + Ideal.exp (-⊤)) = 1 from Ideal.logistic_top]
    unfold sg
    rw [half_lit, EReal.coe_mul_top_of_pos (by norm_num), Ideal.tanh_top]
    norm_cast
    norm_num
  | coe r => exact (sg_coe r).symm

end Cert.Spec

namespace Cert.Ref2

open Cert.Reference2Ideal Cert.Reference2Ideal.Gen Cert.Reference2Ideal.Read Idealize.ShloMosaic

variable (x0 : FVec Ideal S4096x1024 .f32) (x1 : FVec Ideal S1024x5632 .f32) (x2 : FVec Ideal S3x5632 .f32)
  (x3 : FVec Ideal S1x5632 .f32)

/-- The arguments as the model has them; the forward pass reads neither the down projection nor a cotangent. -/
abbrev A : Spec.Args := ⟨x0, x1, x2, x3, fun _ => 0, fun _ => 0⟩

/-- The up projection. -/
theorem v1_at (b : Fin 2) (s : Fin 2048) (c : Fin 5632) :
    val_main_v1 (F := Ideal) x0 x1 (ix3 b s c) = (A x0 x1 x2 x3).up b c s.val := by
  unfold val_main_v1 val_main_v0 Spec.Args.up
  rw [Spec.ofRows_val]
  unfold Spec.row
  pointwise

/-- The up projection's rows moved down by two. -/
theorem v5_at (b : Fin 2) (s : Fin 2048) (c : Fin 5632) :
    val_main_v5 (F := Ideal) x0 x1 (ix3 b s c) = Spec.dn 2 ((A x0 x1 x2 x3).up b c) s.val := by
  unfold val_main_v5 val_main_v4 val_main_v3 val_main_cst Spec.dn
  pointwise
  simp only [v1_at x0 x1 x2 x3]
  by_cases h : s.val < 2
  · rw [dif_pos h, if_neg (by omega)]
  · rw [dif_neg h, if_pos (by omega)]

/-- The up projection's rows moved down by one. -/
theorem v13_at (b : Fin 2) (s : Fin 2048) (c : Fin 5632) :
    val_main_v13 (F := Ideal) x0 x1 (ix3 b s c) = Spec.dn 1 ((A x0 x1 x2 x3).up b c) s.val := by
  unfold val_main_v13 val_main_v4 val_main_v3 val_main_cst Spec.dn
  pointwise
  simp only [v1_at x0 x1 x2 x3]
  by_cases h : 1 + s.val < 2
  · rw [dif_pos h, if_neg (by omega)]
  · rw [dif_neg h, if_pos (by omega), show 1 + s.val - 2 = s.val - 1 by omega]

/-- The up projection's rows where they are. -/
theorem v20_at (b : Fin 2) (s : Fin 2048) (c : Fin 5632) :
    val_main_v20 (F := Ideal) x0 x1 (ix3 b s c) = (A x0 x1 x2 x3).up b c s.val := by
  unfold val_main_v20 val_main_v4 val_main_v3 val_main_cst
  pointwise
  simp only [v1_at x0 x1 x2 x3]

/-- The convolution. -/
theorem v29_at (b : Fin 2) (s : Fin 2048) (c : Fin 5632) :
    val_main_v29 (F := Ideal) x0 x1 x2 x3 (ix3 b s c) = (A x0 x1 x2 x3).mix b c s.val := by
  unfold Spec.Args.mix Spec.conv
  rw [← v5_at, ← v13_at, ← v20_at]
  unfold val_main_v29 val_main_v28 val_main_v27 val_main_v26 val_main_v25 val_main_v24 val_main_v23 val_main_v22 val_main_v21 val_main_v19 val_main_v18 val_main_v17 val_main_v16 val_main_v15 val_main_v14 val_main_v12 val_main_v11 val_main_cst_0 val_main_v10 val_main_v9 val_main_v8 val_main_v7 val_main_v6 val_main_v2
  pointwise
  rw [mul_comm _ (x2 (ix2 0 c)), mul_comm _ (x2 (ix2 1 c)), mul_comm _ (x2 (ix2 2 c))]
  rfl

theorem col_zero (c : Fin 2816) (h : c.val < 5632) : (⟨c.val, h⟩ : Fin 5632) = Spec.col 0 c :=
  Fin.ext (show c.val = 0 * 2816 + c.val by omega)

theorem col_one (c : Fin 2816) (h : 2816 + c.val < 5632) : (⟨2816 + c.val, h⟩ : Fin 5632) = Spec.col 1 c :=
  Fin.ext (show 2816 + c.val = 1 * 2816 + c.val by omega)

/-- The gated activation. -/
theorem v37_at (b : Fin 2) (s : Fin 2048) (c : Fin 2816) :
    val_main_v37 (F := Ideal) x0 x1 x2 x3 (ix3 b s c) = (A x0 x1 x2 x3).ac b c s.val := by
  unfold val_main_v37 val_main_v33 val_main_v32 val_main_call0_v5 val_main_call0_v4 val_main_call0_cst_0 val_main_call0_v3 val_main_call0_v2 val_main_call0_cst val_main_call0_v1 val_main_call0_v0 val_main_v31 val_main_v30
  pointwise
  rw [col_zero, col_one, v29_at x0 x1 x2 x3, v29_at x0 x1 x2 x3, Spec.sg_all]
  rfl

/-- Where a tiled column lies among the up projection's: tiles of 128 gate columns and the 128 value columns that go with them. -/
def tiled (j : Fin 5632) : Fin 5632 := ⟨j.val % 256 / 128 * 2816 + j.val / 256 * 128 + j.val % 128, by omega⟩

/-- The up projection, its columns tiled. -/
theorem v36_at (b : Fin 2) (s : Fin 2048) (j : Fin 5632) :
    val_main_v36 (F := Ideal) x0 x1 (ix3 b s j) = (A x0 x1 x2 x3).up b (tiled j) s.val := by
  rw [← v1_at]
  unfold val_main_v36 val_main_v35 val_main_v34 tiled
  generalize val_main_v1 (F := Ideal) x0 x1 = y
  pointwise
  have e : j.val / 128 % 2 = j.val % 256 / 128 := by omega
  simp only [e]

end Cert.Ref2

end
-- ==== Proof.Ref3.lean ====
module

public import proofs.«01_k».proof.Proof.Model
public import proofs.«01_k».proof.Proof.Gen.Reference3Ideal.Read

@[expose] public section

set_option maxRecDepth 16384

noncomputable section

/-! What the input projection computes: every row against every column, with the bias. -/

namespace Cert.Ref3

open Cert.Reference3Ideal Cert.Reference3Ideal.Gen Cert.Reference3Ideal.Read Idealize.ShloMosaic

/-- Row `r`'s projection on column `q`. -/
def proj (x : (⟨3, ![2, 2048, 1024]⟩ : Shape).Idx → EReal) (w : (⟨2, ![1024, 2816]⟩ : Shape).Idx → EReal)
    (b : (⟨2, ![1, 2816]⟩ : Shape).Idx → EReal) (r : Fin 4096) (q : Fin 2816) : EReal :=
  ∑ k : Fin 1024, x (ix3 ⟨r.val / 2048, by omega⟩ ⟨r.val % 2048, by omega⟩ k) * w (ix2 k q) + b (ix2 0 q)

variable (x0 : FVec Ideal S2x2048x1024 .f32) (x1 : FVec Ideal S1024x2816 .f32) (x2 : FVec Ideal S1x2816 .f32)

/-- The projection at an index. -/
theorem v5_at (r : Fin 4096) (q : Fin 2816) : val_main_v5 (F := Ideal) x0 x1 x2 (ix2 r q) = proj x0 x1 x2 r q := by
  unfold val_main_v5 val_main_v4 val_main_v3 val_main_v2 val_main_v1 val_main_v0 proj
  pointwise

/-- The attention's share of the columns. -/
theorem v7_at (r : Fin 4096) (q : Fin 2304) : val_main_v7 (F := Ideal) x0 x1 x2 (ix2 r q) = proj x0 x1 x2 r ⟨q.val, by omega⟩ := by
  rw [← v5_at]
  unfold val_main_v7 val_main_v6
  generalize val_main_v5 (F := Ideal) x0 x1 x2 = y
  pointwise

/-- The gated convolution's share of the columns. -/
theorem v8_at (r : Fin 4096) (q : Fin 512) : val_main_v8 (F := Ideal) x0 x1 x2 (ix2 r q) = proj x0 x1 x2 r ⟨2304 + q.val, by omega⟩ := by
  rw [← v5_at]
  unfold val_main_v8
  generalize val_main_v5 (F := Ideal) x0 x1 x2 = y
  pointwise

end Cert.Ref3

end
-- ==== Proof.InProj.lean ====
module

public import proofs.«01_k».proof.Proof.Ref3
public import proofs.«01_k».proof.Proof.Gen.Kernel3Ideal.Value
public import Idealize.ShloMosaic.Lib.StableHlo.ReadAt

@[expose] public section

set_option maxRecDepth 16384

noncomputable section

/-! The input projection: the grid's two results are the projection's two groups of columns. -/

namespace Cert.Kernel3Ideal.Pf

open Cert.Kernel3Ideal Cert.Kernel3Ideal.Gen Cert.Kernel3Ideal.Value Cert.Ref3 Idealize.ShloMosaic Idealize.ShloMosaic.TcCoe Idealize.SL.Sem
open Idealize.ShloMosaic.Pipeline (Dat)

section Step

variable (c : Dev nD) (i : grid0.Coords) (arg3 : Memref sig .tc .vmem S512x1024 .f32) (harg3 : arg3.IsWhole)
  (arg4 : Memref sig .tc .vmem S2816x1024 .bf16) (harg4 : arg4.IsWhole) (arg5 : Memref sig .tc .vmem S1x2816 .f32) (harg5 : arg5.IsWhole)
  (arg6 : Memref sig .tc .vmem S512x2304 .bf16) (harg6 : arg6.IsWhole) (arg7 : Memref sig .tc .vmem S512x512 .f32) (harg7 : arg7.IsWhole)
  (arg8 : Memref sig .tc .vmem S512x2816 .f32) (harg8 : arg8.IsWhole)
  (x0 : Vec Ideal S512x1024 .f32) (x1 : Vec Ideal S2816x1024 .bf16) (x2 : Vec Ideal S1x2816 .f32)

theorem off0 : (![0, 0] : Fin 2 → ℕ) = fun _ => 0 := by
  funext a; match a with | 0 => rfl | 1 => rfl

/-- A block's rows against every column, with the bias. -/
theorem pay1_apply (r : Fin 512) (q : Fin 2816) :
    k0_pay1 x0 x1 x2 (ix2 r q) = ∑ k : Fin 1024, x0 (ix2 r k) * x1 (ix2 q k) + x2 (ix2 0 q) := by
  unfold k0_pay1
  pointwise

/-- The first group of columns. -/
theorem pay2_apply (r : Fin 512) (q : Fin 2304) : k0_pay2 x0 x1 x2 (ix2 r q) = k0_pay1 x0 x1 x2 (ix2 r ⟨q.val, by omega⟩) := by
  unfold k0_pay2
  generalize k0_pay1 x0 x1 x2 = y
  pointwise

/-- The second group of columns. -/
theorem pay3_apply (r : Fin 512) (q : Fin 512) : k0_pay3 x0 x1 x2 (ix2 r q) = k0_pay1 x0 x1 x2 (ix2 r ⟨2304 + q.val, by omega⟩) := by
  unfold k0_pay3
  generalize k0_pay1 x0 x1 x2 = y
  pointwise

/-- What a step leaves in its first result's block. -/
theorem out_3 : out0_A_3 c i arg3 harg3 arg4 harg4 arg5 harg5 arg6 harg6 arg7 harg7 arg8 harg8 x0 x1 x2 = k0_pay2 x0 x1 x2 := by
  unfold out0_A_3
  refine (View.read_writes_eq_canon _ _ _ (by intro y; apply cover0_A_3)).trans ?_
  unfold kernelRun0_A
  dsimp only
  sl_unfold_words
  simp only [View.readAt_eq_ld, harg3.read_unread, harg4.read_unread, harg5.read_unread]
  refine (View.canon_unit_zero off0 _ _).trans ?_
  rw [View.ld_unit_zero off0, View.ld_unit_zero off0, View.ld_unit_zero off0]

/-- What a step leaves in its second result's block. -/
theorem out_4 : out0_A_4 c i arg3 harg3 arg4 harg4 arg5 harg5 arg6 harg6 arg7 harg7 arg8 harg8 x0 x1 x2 = k0_pay3 x0 x1 x2 := by
  unfold out0_A_4
  refine (View.read_writes_eq_canon _ _ _ (by intro y; apply cover0_A_4)).trans ?_
  unfold kernelRun0_A
  dsimp only
  sl_unfold_words
  simp only [View.readAt_eq_ld, harg3.read_unread, harg4.read_unread, harg5.read_unread]
  refine (View.canon_unit_zero off0 _ _).trans ?_
  rw [View.ld_unit_zero off0, View.ld_unit_zero off0, View.ld_unit_zero off0]

end Step

variable (m : (ℓ : Loc nD τ sig) → Buf (Elt Ideal) ℓ) (c : Dev nD)

/-- The input a core was launched with. -/
abbrev xin : (⟨3, ![2, 2048, 1024]⟩ : Shape).Idx → EReal := m ((c : Thread nD τ).loc main_arg0)

/-- The weights a core was launched with. -/
abbrev win : (⟨2, ![1024, 2816]⟩ : Shape).Idx → EReal := m ((c : Thread nD τ).loc main_arg1)

/-- The bias a core was launched with. -/
abbrev bin : (⟨2, ![1, 2816]⟩ : Shape).Idx → EReal := m ((c : Thread nD τ).loc main_arg2)

theorem lt_N (t : Fin cfg0.N) : t.val < 8 := lt_of_lt_of_eq t.isLt N_0

/-- The input's rows as the kernel finds them. -/
theorem V_v0 (r : Fin 4096) (k : Fin 1024) :
    V m c main_v0 (ix2 r k) = xin m c (ix3 ⟨r.val / 2048, by omega⟩ ⟨r.val % 2048, by omega⟩ k) := by
  unfold V xin
  after_reads_at

/-- The weights as the kernel finds them. -/
theorem V_v2 (q : Fin 2816) (k : Fin 1024) : V m c main_v2 (ix2 q k) = win m c (ix2 k q) := by
  unfold V win
  after_reads_at

/-- Window 0's block numbers. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 1's block numbers. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Window 2's block numbers. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Window 3's block numbers. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Window 4's block numbers. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Row `r` of a step's block of rows. -/
def row (t : Fin cfg0.N) (r : Fin 512) : Fin 4096 := ⟨t.val * 512 + r.val, by have := lt_N t; omega⟩

/-- A step's block of the input. -/
theorem blk0 (t : Fin cfg0.N) (r : Fin 512) (k : Fin 1024) : iblk m c 0 t (ix2 r k) = V m c main_v0 (ix2 (row t r) k) := by
  have hi := idx0 t
  unfold iblk
  rw [View.read_apply]
  show V m c main_v0 _ = V m c main_v0 _
  congr 1
  funext a
  apply Fin.ext
  match a with
  | ⟨0, _⟩ => show win0_0.index t 0 * 512 + 1 * r.val = t.val * 512 + r.val; rw [hi.1]; omega
  | ⟨1, _⟩ => show win0_0.index t 1 * 1024 + 1 * k.val = k.val; rw [hi.2]; omega

/-- The weights, the same at every step. -/
theorem blk1 (t : Fin cfg0.N) (q : Fin 2816) (k : Fin 1024) : iblk m c 1 t (ix2 q k) = V m c main_v2 (ix2 q k) := by
  have hi := idx1 t
  unfold iblk
  rw [View.read_apply]
  show V m c main_v2 _ = V m c main_v2 _
  congr 1
  funext a
  apply Fin.ext
  match a with
  | ⟨0, _⟩ => show win0_1.index t 0 * 2816 + 1 * q.val = q.val; rw [hi.1]; omega
  | ⟨1, _⟩ => show win0_1.index t 1 * 1024 + 1 * k.val = k.val; rw [hi.2]; omega

/-- The bias, the same at every step. -/
theorem blk2 (t : Fin cfg0.N) (q : Fin 2816) : iblk m c 2 t (ix2 0 q) = bin m c (ix2 0 q) := by
  have hi := idx2 t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 1 + 1 * 0 = 0; rw [hi.1]
  | ⟨1, _⟩ => show win0_2.index t 1 * 2816 + 1 * q.val = q.val; rw [hi.2]; omega

/-- A step's rows of the projection. -/
theorem pay_eq (t : Fin cfg0.N) (r : Fin 512) (q : Fin 2816) :
    k0_pay1 (iblk m c 0 t) (iblk m c 1 t) (iblk m c 2 t) (ix2 r q) = proj (xin m c) (win m c) (bin m c) (row t r) q := by
  rw [pay1_apply, blk2]
  unfold proj
  congr 1
  refine Finset.sum_congr rfl fun k _ => ?_
  rw [blk0, blk1, V_v0, V_v2]

attribute [local irreducible] outsAt0

/-- What a step writes back of the first result. -/
theorem fl3 (t : Fin cfg0.N) :
    (dats m 0 c).flushed 3 t = (cfg0.win 3).cut (grid0.coords t) (k0_pay2 (iblk m c 0 t) (iblk m c 1 t) (iblk m c 2 t)) := by
  rw [flushed3_A m c t, out_3]

/-- What a step writes back of the second result. -/
theorem fl4 (t : Fin cfg0.N) :
    (dats m 0 c).flushed 4 t = (cfg0.win 4).cut (grid0.coords t) (k0_pay3 (iblk m c 0 t) (iblk m c 1 t) (iblk m c 2 t)) := by
  rw [flushed4_A m c t, out_4]

/-- Where window 3's block lies in its array. -/
theorem emb3 (t : Fin cfg0.N) (r : Fin 512) (q : Fin 2304) : ((cfg0.win 3).blk t).view.emb (ix2 r q) = ix2 (row t r) q := by
  have hi := idx3 t
  funext x
  apply Fin.ext
  match x with
  | ⟨0, _⟩ => show win0_3.index t 0 * 512 + 1 * r.val = t.val * 512 + r.val; rw [hi.1]; omega
  | ⟨1, _⟩ => show win0_3.index t 1 * 2304 + 1 * q.val = q.val; rw [hi.2]; omega

/-- Where window 4's block lies in its array. -/
theorem emb4 (t : Fin cfg0.N) (r : Fin 512) (q : Fin 512) : ((cfg0.win 4).blk t).view.emb (ix2 r q) = ix2 (row t r) q := by
  have hi := idx4 t
  funext x
  apply Fin.ext
  match x with
  | ⟨0, _⟩ => show win0_4.index t 0 * 512 + 1 * r.val = t.val * 512 + r.val; rw [hi.1]; omega
  | ⟨1, _⟩ => show win0_4.index t 1 * 512 + 1 * q.val = q.val; rw [hi.2]; omega

/-- An index of a rank-2 block is its two coordinates. -/
theorem ix2_eta {n0 n1 : ℕ} (y : (⟨2, ![n0, n1]⟩ : Shape).Idx) : y = ix2 (y 0) (y 1) := by
  funext a; match a with | 0 => rfl | 1 => rfl

/-- The step a row belongs to. -/
def step (r : Fin 4096) : Fin cfg0.N := ⟨r.val / 512, lt_of_lt_of_eq (by omega : r.val / 512 < 8) N_0.symm⟩

/-- A row is its step's row. -/
theorem row_step (r : Fin 4096) : row (step r) ⟨r.val % 512, by omega⟩ = r := Fin.ext (show r.val / 512 * 512 + r.val % 512 = r.val by omega)

/-- The first result array holds the projection's first columns. -/
theorem arr3 : (dats m 0 c).arrAt 3 cfg0.N = fun i : S4096x2304.Idx =>
    proj (xin m c) (win m c) (bin m c) (i 0) ⟨(i 1).val, lt_trans (i 1).isLt (by decide : 2304 < 2816)⟩ := by
  refine Dat.arrAt_eq_of_cover (dats m 0 c) 3 _ ?_ ?_
  · intro t _
    rw [fl3 m c t]
    funext y
    rw [View.read_apply]
    obtain ⟨r, q, rfl⟩ : ∃ (r : Fin 512) (q : Fin 2304), y = ix2 r q := ⟨_, _, ix2_eta y⟩
    rw [emb3 t r q]
    exact (pay2_apply _ _ _ r q).trans (pay_eq m c t r _)
  · intro i
    obtain ⟨r, q, rfl⟩ : ∃ (r : Fin 4096) (q : Fin 2304), i = ix2 r q := ⟨_, _, ix2_eta i⟩
    refine ⟨step r, flush0_3 _, ?_⟩
    have e := emb3 (step r) ⟨r.val % 512, by omega⟩ q
    rw [row_step] at e
    rw [← e]
    exact View.emb_mem_set _ _

/-- The second result array holds the projection's last columns. -/
theorem arr4 : (dats m 0 c).arrAt 4 cfg0.N = fun i : S4096x512.Idx =>
    proj (xin m c) (win m c) (bin m c) (i 0) ⟨2304 + (i 1).val, by have h : (i 1).val < 512 := (i 1).isLt; omega⟩ := by
  refine Dat.arrAt_eq_of_cover (dats m 0 c) 4 _ ?_ ?_
  · intro t _
    rw [fl4 m c t]
    funext y
    rw [View.read_apply]
    obtain ⟨r, q, rfl⟩ : ∃ (r : Fin 512) (q : Fin 512), y = ix2 r q := ⟨_, _, ix2_eta y⟩
    rw [emb4 t r q]
    exact (pay3_apply _ _ _ r q).trans (pay_eq m c t r _)
  · intro i
    obtain ⟨r, q, rfl⟩ : ∃ (r : Fin 4096) (q : Fin 512), i = ix2 r q := ⟨_, _, ix2_eta i⟩
    refine ⟨step r, flush0_4 _, ?_⟩
    have e := emb4 (step r) ⟨r.val % 512, by omega⟩ q
    rw [row_step] at e
    rw [← e]
    exact View.emb_mem_set _ _

end Cert.Kernel3Ideal.Pf

end
-- ==== Proof.Rows.lean ====
module

public import proofs.«01_k».proof.Proof.Model

@[expose] public section

noncomputable section

/-! Sums over the 4096 rows of a device's share of the batch, block by block and sequence by sequence. -/

namespace Cert.Spec

open Idealize.ShloMosaic

/-- A sum over `a` blocks of `b` rows is the sum over all the rows. -/
theorem sum_blocks (a b : ℕ) (f : ℕ → EReal) : ∑ j : Fin a, ∑ i : Fin b, f (j.val * b + i.val) = ∑ r : Fin (a * b), f r.val := by
  rw [← Fintype.sum_prod_type' (f := fun (j : Fin a) (i : Fin b) => f (j.val * b + i.val)), ← Equiv.sum_comp finProdFinEquiv]
  refine Finset.sum_congr rfl fun p _ => ?_
  congr 1
  show p.1.val * b + p.2.val = p.2.val + b * p.1.val
  rw [Nat.mul_comm, Nat.add_comm]

/-- Four blocks of 1024 rows are two sequences of 2048 rows. -/
theorem sum_four (f : ℕ → EReal) :
    ∑ i : Fin 1024, f (0 * 1024 + i.val) + ∑ i : Fin 1024, f (1 * 1024 + i.val) + ∑ i : Fin 1024, f (2 * 1024 + i.val)
      + ∑ i : Fin 1024, f (3 * 1024 + i.val) = ∑ b : Fin 2, ∑ s : Fin 2048, f (b.val * 2048 + s.val) := by
  rw [sum_blocks 2 2048, ← sum_blocks 4 1024, Fin.sum_univ_four]
  rfl

end Cert.Spec

end
-- ==== Proof.InGrad.lean ====
module

public import proofs.«01_k».proof.Proof.Rows
public import proofs.«01_k».proof.Proof.Gen.Kernel4Ideal.Value
public import Idealize.ShloMosaic.Lib.StableHlo.ReadAt

@[expose] public section

set_option maxRecDepth 16384

noncomputable section

/-! The gradient of the input projection: the grid's result is the product of the transposed cotangent with the input. -/

namespace Cert.Kernel4Ideal.Pf

open Cert.Kernel4Ideal Cert.Kernel4Ideal.Gen Cert.Kernel4Ideal.Value Idealize.ShloMosaic Idealize.ShloMosaic.TcCoe Idealize.SL.Sem
open Idealize.ShloMosaic.Pipeline (Dat)

/-- The transposed product: over both sequences and all their rows, a cotangent column against an input column. -/
def gw (dh : (⟨2, ![4096, 2816]⟩ : Shape).Idx → EReal) (x : (⟨3, ![2, 2048, 1024]⟩ : Shape).Idx → EReal) (q : Fin 2816) (k : Fin 1024) : EReal :=
  ∑ b : Fin 2, ∑ s : Fin 2048, dh (ix2 (Spec.row b s) q) * x (ix3 b s k)

section Step

variable (c : Dev nD) (i : grid0.Coords) (arg3 : Memref sig .tc .vmem S1024x1408 .bf16) (harg3 : arg3.IsWhole)
  (arg4 : Memref sig .tc .vmem S1024x1024 .f32) (harg4 : arg4.IsWhole) (arg5 : Memref sig .tc .vmem S1408x1024 .f32) (harg5 : arg5.IsWhole)
  (arg6 : Memref sig .tc .vmem S1408x1024 .f32) (harg6 : arg6.IsWhole)
  (x0 : Vec Ideal S1024x1408 .bf16) (x1 : Vec Ideal S1024x1024 .f32) (xs : Vec Ideal S1408x1024 .f32)

theorem off0 : (![0, 0] : Fin 2 → ℕ) = fun _ => 0 := by
  funext a; match a with | 0 => rfl | 1 => rfl

/-- A block's own product at an index. -/
theorem pay1_apply (q : Fin 1408) (k : Fin 1024) : k0_pay1 x0 x1 (ix2 q k) = ∑ r : Fin 1024, x0 (ix2 r q) * x1 (ix2 r k) := by
  unfold k0_pay1
  pointwise

/-- The first step of a column block leaves its own product in the accumulator. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  refine (View.read_writes_eq_canon _ _ _ (by intro y; apply scover0_A_0)).trans ?_
  unfold kernelRun0_A
  dsimp only
  sl_unfold_words
  simp only [View.readAt_eq_ld, harg3.read_unread, harg4.read_unread]
  refine (View.canon_unit_zero off0 _ _).trans ?_
  rw [View.ld_unit_zero off0, View.ld_unit_zero off0]
  funext y
  unfold k0_pay2
  pointwise

/-- A middle step adds its own product to the accumulator. -/
theorem sout_B (hc0 : ¬cond0_0 i) (hc1 : cond0_1 i) (hc2 : ¬cond0_2 i) :
    sout0_B_0 c i arg3 harg3 arg4 harg4 arg5 harg5 arg6 harg6 hc0 hc1 hc2 x0 x1 xs = addf xs (k0_pay1 x0 x1) := by
  unfold sout0_B_0
  refine (View.read_writes_eq_canon _ _ _ (by intro y; apply scover0_B_0)).trans ?_
  unfold kernelRun0_B
  dsimp only
  sl_unfold_words
  simp only [View.readAt_eq_ld, harg3.read_unread, harg4.read_unread, harg6.read_unread]
  refine (View.canon_unit_zero off0 _ _).trans ?_
  rw [View.ld_unit_zero off0, View.ld_unit_zero off0, View.ld_unit_zero off0]
  funext y
  unfold k0_pay3
  pointwise

/-- The last step writes out the accumulator with its own product added. -/
theorem out_C (hc0 : ¬cond0_0 i) (hc1 : cond0_1 i) (hc2 : cond0_2 i) :
    out0_C_2 c i arg3 harg3 arg4 harg4 arg5 harg5 arg6 harg6 hc0 hc1 hc2 x0 x1 xs = addf xs (k0_pay1 x0 x1) := by
  unfold out0_C_2
  refine (View.read_writes_eq_canon _ _ _ (by intro y; apply cover0_C_2)).trans ?_
  unfold kernelRun0_C
  dsimp only
  sl_unfold_words
  simp only [View.readAt_eq_ld, harg3.read_unread, harg4.read_unread, harg6.read_unread]
  refine (View.canon_unit_zero off0 _ _).trans ?_
  refine (View.readCov_unit_zero _ off0 _ _).trans ?_
  rw [View.ld_unit_zero off0, View.ld_unit_zero off0, View.ld_unit_zero off0]
  funext y
  unfold k0_pay3
  pointwise

end Step

variable (m : (ℓ : Loc nD τ sig) → Buf (Elt Ideal) ℓ) (c : Dev nD)

/-- The cotangent a core was launched with. -/
abbrev dh : (⟨2, ![4096, 2816]⟩ : Shape).Idx → EReal := m ((c : Thread nD τ).loc main_arg0)

/-- The input a core was launched with. -/
abbrev xin : (⟨3, ![2, 2048, 1024]⟩ : Shape).Idx → EReal := m ((c : Thread nD τ).loc main_arg1)

theorem lt_N (t : Fin cfg0.N) : t.val < 8 := lt_of_lt_of_eq t.isLt N_0

/-- The input's rows as the kernel finds them. -/
theorem V_v0 (r : Fin 4096) (k : Fin 1024) :
    V m c main_v0 (ix2 r k) = xin m c (ix3 ⟨r.val / 2048, by omega⟩ ⟨r.val % 2048, by omega⟩ k) := by
  unfold V xin
  after_reads_at

/-- Window 0's block numbers. -/
theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

/-- Window 1's block numbers. -/
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

/-- Window 2's block numbers. -/
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- Column `q` of a step's column block. -/
def col (t : Fin cfg0.N) (q : Fin 1408) : Fin 2816 := ⟨t.val / 4 * 1408 + q.val, by have := lt_N t; omega⟩

/-- A step's cotangent block. -/
theorem blk0 (t : Fin cfg0.N) (r : Fin 1024) (q : Fin 1408) :
    iblk m c 0 t (ix2 r q) = dh m c (ix2 ⟨t.val % 4 * 1024 + r.val, by omega⟩ (col t q)) := by
  have hi := idx0 t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 1024 + 1 * r.val = t.val % 4 * 1024 + r.val; rw [hi.1]; omega
  | ⟨1, _⟩ => show win0_0.index t 1 * 1408 + 1 * q.val = t.val / 4 * 1408 + q.val; rw [hi.2]; omega

/-- A step's input block. -/
theorem blk1 (t : Fin cfg0.N) (r : Fin 1024) (k : Fin 1024) :
    iblk m c 1 t (ix2 r k) = V m c main_v0 (ix2 ⟨t.val % 4 * 1024 + r.val, by omega⟩ k) := by
  have hi := idx1 t
  unfold iblk
  rw [View.read_apply]
  show V m c main_v0 _ = V m c main_v0 _
  congr 1
  funext a
  apply Fin.ext
  match a with
  | ⟨0, _⟩ => show win0_1.index t 0 * 1024 + 1 * r.val = t.val % 4 * 1024 + r.val; rw [hi.1]; omega
  | ⟨1, _⟩ => show win0_1.index t 1 * 1024 + 1 * k.val = k.val; rw [hi.2]; omega

/-- Row `r`'s term of the product, zero past the rows. -/
def term (q : Fin 2816) (k : Fin 1024) (r : ℕ) : EReal :=
  if h : r < 4096 then dh m c (ix2 ⟨r, h⟩ q) * xin m c (ix3 ⟨r / 2048, by omega⟩ ⟨r % 2048, by omega⟩ k) else 0

/-- A step's own product is its 1024 rows' terms. -/
theorem pay_eq (t : Fin cfg0.N) (q : Fin 1408) (k : Fin 1024) :
    k0_pay1 (iblk m c 0 t) (iblk m c 1 t) (ix2 q k) = ∑ r : Fin 1024, term m c (col t q) k (t.val % 4 * 1024 + r.val) := by
  rw [pay1_apply]
  refine Finset.sum_congr rfl fun r _ => ?_
  rw [blk0, blk1, V_v0]
  unfold term
  rw [dif_pos (by omega)]

/-- All the terms are the product. -/
theorem sum_term (q : Fin 2816) (k : Fin 1024) :
    ∑ b : Fin 2, ∑ s : Fin 2048, term m c q k (b.val * 2048 + s.val) = gw (dh m c) (xin m c) q k := by
  unfold gw
  refine Finset.sum_congr rfl fun b _ => Finset.sum_congr rfl fun s _ => ?_
  unfold term
  rw [dif_pos (by omega)]
  have h0 : (b.val * 2048 + s.val) / 2048 = b.val := by omega
  have h1 : (b.val * 2048 + s.val) % 2048 = s.val := by omega
  simp only [h0, h1]
  rfl

/-- The step before. -/
abbrev pred (t : Fin cfg0.N) : Fin cfg0.N := ⟨t.val - 1, by have := t.isLt; omega⟩

attribute [local irreducible] outsAt0

/-- After the first step of a column block the accumulator holds the step's product. -/
theorem acc_A (t : Fin cfg0.N) (h : t.val % 4 = 0) : (outsAt0 m c t.val t.isLt).2 = k0_pay1 (iblk m c 0 t) (iblk m c 1 t) := by
  rw [outsAt0_A m c t h (by omega) (by omega)]
  dsimp only
  rw [sout_A]

/-- After a middle step it holds that step's product more. -/
theorem acc_B (t : Fin cfg0.N) (h : t.val % 4 = 1 ∨ t.val % 4 = 2) :
    (outsAt0 m c t.val t.isLt).2 = addf (outsAt0 m c (pred t).val (pred t).isLt).2 (k0_pay1 (iblk m c 0 t) (iblk m c 1 t)) := by
  rw [outsAt0_B m c t (by omega) (by omega) (by omega)]
  dsimp only
  rw [sout_B]

/-- What the last step of a column block writes back. -/
theorem fl2 (t : Fin cfg0.N) (h : t.val % 4 = 3) : (dats m 0 c).flushed 2 t
    = (cfg0.win 2).cut (grid0.coords t) (addf (outsAt0 m c (pred t).val (pred t).isLt).2 (k0_pay1 (iblk m c 0 t) (iblk m c 1 t))) := by
  rw [flushed2_C m c t (by omega) (by omega) h, out_C]

/-- The four steps' sum at an index. -/
theorem four (t : Fin cfg0.N) (h : t.val % 4 = 3) (q : Fin 1408) (k : Fin 1024) :
    addf (F := Ideal) (φ := .f32) (outsAt0 m c (pred t).val (pred t).isLt).2 (k0_pay1 (iblk m c 0 t) (iblk m c 1 t)) (ix2 q k)
      = gw (dh m c) (xin m c) (col t q) k := by
  have h2 : (pred t).val % 4 = 2 := by show (t.val - 1) % 4 = 2; omega
  have h1 : (pred (pred t)).val % 4 = 1 := by show (t.val - 1 - 1) % 4 = 1; omega
  have h0 : (pred (pred (pred t))).val % 4 = 0 := by show (t.val - 1 - 1 - 1) % 4 = 0; omega
  rw [acc_B m c (pred t) (.inr h2), acc_B m c (pred (pred t)) (.inl h1), acc_A m c (pred (pred (pred t))) h0]
  show (k0_pay1 _ _ (ix2 q k) + k0_pay1 _ _ (ix2 q k) + k0_pay1 _ _ (ix2 q k)) + k0_pay1 _ _ (ix2 q k) = _
  rw [pay_eq, pay_eq, pay_eq, pay_eq, h, h2, h1, h0]
  have c2 : col (pred t) q = col t q := Fin.ext (show (t.val - 1) / 4 * 1408 + q.val = t.val / 4 * 1408 + q.val by omega)
  have c1 : col (pred (pred t)) q = col t q := Fin.ext (show (t.val - 1 - 1) / 4 * 1408 + q.val = t.val / 4 * 1408 + q.val by omega)
  have c0 : col (pred (pred (pred t))) q = col t q := Fin.ext (show (t.val - 1 - 1 - 1) / 4 * 1408 + q.val = t.val / 4 * 1408 + q.val by omega)
  rw [c0, c1, c2, Spec.sum_four (term m c (col t q) k), sum_term]

/-- Where window 2's block lies in its array. -/
theorem emb2 (t : Fin cfg0.N) (q : Fin 1408) (k : Fin 1024) : ((cfg0.win 2).blk t).view.emb (ix2 q k) = ix2 (col t q) k := by
  have hi := idx2 t
  funext x
  apply Fin.ext
  match x with
  | ⟨0, _⟩ => show win0_2.index t 0 * 1408 + 1 * q.val = t.val / 4 * 1408 + q.val; rw [hi.1]; omega
  | ⟨1, _⟩ => show win0_2.index t 1 * 1024 + 1 * k.val = k.val; rw [hi.2]; omega

/-- An index of a rank-2 block is its two coordinates. -/
theorem ix2_eta {n0 n1 : ℕ} (y : (⟨2, ![n0, n1]⟩ : Shape).Idx) : y = ix2 (y 0) (y 1) := by
  funext a; match a with | 0 => rfl | 1 => rfl

/-- The result array holds the product. -/
theorem arr : (dats m 0 c).arrAt 2 cfg0.N = fun i : S2816x1024.Idx => gw (dh m c) (xin m c) (i 0) (i 1) := by
  refine Dat.arrAt_eq_of_cover (dats m 0 c) 2 _ ?_ ?_
  · intro t hf
    have h := (flush0_2 t).mp hf
    rw [fl2 m c t h]
    funext y
    rw [View.read_apply]
    obtain ⟨q, k, rfl⟩ : ∃ (q : Fin 1408) (k : Fin 1024), y = ix2 q k := ⟨_, _, ix2_eta y⟩
    rw [emb2 t q k]
    exact four m c t h q k
  · intro i
    obtain ⟨q, k, rfl⟩ : ∃ (q : Fin 2816) (k : Fin 1024), i = ix2 q k := ⟨_, _, ix2_eta i⟩
    let t : Fin cfg0.N := ⟨q.val / 1408 * 4 + 3, lt_of_lt_of_eq (by omega : q.val / 1408 * 4 + 3 < 8) N_0.symm⟩
    refine ⟨t, (flush0_2 t).mpr (show (q.val / 1408 * 4 + 3) % 4 = 3 by omega), ?_⟩
    have e := emb2 t ⟨q.val % 1408, by omega⟩ k
    have ec : col t ⟨q.val % 1408, by omega⟩ = q := Fin.ext (show (q.val / 1408 * 4 + 3) / 4 * 1408 + q.val % 1408 = q.val by omega)
    rw [ec] at e
    rw [← e]
    exact View.emb_mem_set _ _

end Cert.Kernel4Ideal.Pf

end
-- ==== Proof.Ref4.lean ====
module

public import proofs.«01_k».proof.Proof.Model
public import proofs.«01_k».proof.Proof.Gen.Reference4Ideal.Read

@[expose] public section

set_option maxRecDepth 16384

noncomputable section

/-! What the input projection's differentiation computes for its weights. -/

namespace Cert.Ref4

open Cert.Reference4Ideal Cert.Reference4Ideal.Gen Cert.Reference4Ideal.Read Idealize.ShloMosaic

variable (x0 : FVec Ideal S4096x2816 .bf16) (x1 : FVec Ideal S2x2048x1024 .f32)

/-- The cotangent's rows, sequence by sequence. -/
theorem v3_at (b : Fin 2) (s : Fin 2048) (q : Fin 2816) : val_main_v3 (F := Ideal) x0 (ix3 b s q) = x0 (ix2 (Spec.row b s) q) := by
  unfold val_main_v3 val_main_v2 Spec.row
  pointwise

/-- The gradient: a cotangent column against an input column over both sequences. -/
theorem v6_at (q : Fin 2816) (k : Fin 1024) :
    val_main_v6 (F := Ideal) x0 x1 (ix2 q k) = ∑ b : Fin 2, ∑ s : Fin 2048, x0 (ix2 (Spec.row b s) q) * x1 (ix3 b s k) := by
  unfold val_main_v6 val_main_v5 val_main_v4
  pointwise
  simp only [v3_at]

end Cert.Ref4

end
-- ==== Proof.Ref5.lean ====
module

public import proofs.«01_k».proof.Proof.Model
public import proofs.«01_k».proof.Proof.Gen.Reference5Ideal.Read

@[expose] public section

set_option maxRecDepth 16384

noncomputable section

/-! What the output projection's differentiation computes for its weights. -/

namespace Cert.Ref5

open Cert.Reference5Ideal Cert.Reference5Ideal.Gen Cert.Reference5Ideal.Read Idealize.ShloMosaic

/-- A row's reciprocal root mean square. -/
def rms (n : ℕ) (a : (⟨2, ![n, 768]⟩ : Shape).Idx → EReal) (r : Fin n) : EReal :=
  Ideal.rsqrt (Ideal.div (∑ k : Fin 768, a (ix2 r k) * a (ix2 r k)) (Ideal.ofBits .f32 0x44400000#32) + Ideal.ofBits .f32 0x3727C5AC#32)

/-- The projection's input: the normed attention columns, then the convolution's. -/
def mix (n : ℕ) (a : (⟨2, ![n, 768]⟩ : Shape).Idx → EReal) (cv : (⟨2, ![n, 256]⟩ : Shape).Idx → EReal)
    (g : (⟨2, ![1, 768]⟩ : Shape).Idx → EReal) (r : Fin n) (k : Fin 1024) : EReal :=
  if h : k.val < 768 then a (ix2 r ⟨k.val, h⟩) * rms n a r * g (ix2 0 ⟨k.val, h⟩) else cv (ix2 r ⟨k.val - 768, by omega⟩)

variable (x0 : FVec Ideal S4096x768 .f32) (x1 : FVec Ideal S4096x256 .bf16) (x2 : FVec Ideal S1x768 .f32) (x3 : FVec Ideal S4096x1024 .f32)

/-- A row's reciprocal root mean square, as computed. -/
theorem v8_at (r : Fin 4096) : val_main_v8 (F := Ideal) x0 (ix2 r 0) = rms 4096 x0 r := by
  unfold val_main_v8 val_main_v7 val_main_v6 val_main_v5 val_main_v4 val_main_v3 val_main_v2 val_main_v1 val_main_cst val_main_cst_0 val_main_cst_1 rms
  pointwise

/-- The projection's input, as computed. -/
theorem v15_at (r : Fin 4096) (k : Fin 1024) : val_main_v15 (F := Ideal) x0 x1 x2 (ix2 r k) = mix 4096 x0 x1 x2 r k := by
  unfold val_main_v15 val_main_v14 val_main_v13 val_main_v12 val_main_v11 val_main_v10 val_main_v9 val_main_v0 mix
  pointwise
  split <;> simp only [v8_at]

/-- The gradient: an input column against a cotangent column. -/
theorem v19_at (p q : Fin 1024) :
    val_main_v19 (F := Ideal) x0 x1 x2 x3 (ix2 p q) = ∑ r : Fin 4096, mix 4096 x0 x1 x2 r p * x3 (ix2 r q) := by
  unfold val_main_v19 val_main_v18
  pointwise
  simp only [v15_at]
  exact Finset.sum_congr rfl fun _ _ => mul_comm _ _

end Cert.Ref5

end
-- ==== Proof.OutGrad.lean ====
module

public import proofs.«01_k».proof.Proof.Rows
public import proofs.«01_k».proof.Proof.Ref5
public import proofs.«01_k».proof.Proof.Gen.Kernel5Ideal.Value
public import Idealize.ShloMosaic.Lib.StableHlo.ReadAt

@[expose] public section

set_option maxRecDepth 16384

noncomputable section

/-! The gradient of the output projection: the grid's result is the product of the transposed normed input with the cotangent. -/

namespace Cert.Kernel5Ideal.Pf

open Cert.Kernel5Ideal Cert.Kernel5Ideal.Gen Cert.Kernel5Ideal.Value Cert.Ref5 Idealize.ShloMosaic Idealize.ShloMosaic.TcCoe Idealize.SL.Sem
open Idealize.ShloMosaic.Pipeline (Dat)

section Step

variable (c : Dev nD) (i : grid0.Coords) (arg3 : Memref sig .tc .vmem S1024x768 .f32) (harg3 : arg3.IsWhole)
  (arg4 : Memref sig .tc .vmem S1024x256 .bf16) (harg4 : arg4.IsWhole) (arg5 : Memref sig .tc .vmem S1x768 .f32) (harg5 : arg5.IsWhole)
  (arg6 : Memref sig .tc .vmem S1024x1024 .bf16) (harg6 : arg6.IsWhole) (arg7 : Memref sig .tc .vmem S1024x1024 .f32) (harg7 : arg7.IsWhole)
  (arg8 : Memref sig .tc .vmem S1024x1024 .f32) (harg8 : arg8.IsWhole)
  (x0 : Vec Ideal S1024x768 .f32) (x1 : Vec Ideal S1024x256 .bf16) (x2 : Vec Ideal S1x768 .f32) (x3 : Vec Ideal S1024x1024 .bf16)
  (xs : Vec Ideal S1024x1024 .f32)

theorem off0 : (![0, 0] : Fin 2 → ℕ) = fun _ => 0 := by
  funext a; match a with | 0 => rfl | 1 => rfl

/-- A block's own product at an index. -/
theorem pay1_apply (p q : Fin 1024) :
    k0_pay1 x0 x2 x1 x3 (ix2 p q) = ∑ r : Fin 1024, mix 1024 x0 x1 x2 r p * x3 (ix2 r q) := by
  unfold k0_pay1 mix rms
  pointwise

/-- The first step leaves its own product in the accumulator. -/
theorem sout_A (hc0 : cond0_0 i) (hc1 : ¬cond0_1 i) (hc2 : ¬cond0_2 i) :
    sout0_A_0 c i arg3 harg3 arg4 harg4 arg5 harg5 arg6 harg6 arg7 harg7 arg8 harg8 hc0 hc1 hc2 x0 x1 x2 x3 = k0_pay1 x0 x2 x1 x3 := by
  unfold sout0_A_0
  refine (View.read_writes_eq_canon _ _ _ (by intro y; apply scover0_A_0)).trans ?_
  unfold kernelRun0_A
  dsimp only
  sl_unfold_words
  simp only [View.readAt_eq_ld, harg3.read_unread, harg4.read_unread, harg5.read_unread, harg6.read_unread]
  refine (View.canon_unit_zero off0 _ _).trans ?_
  rw [View.ld_unit_zero off0, View.ld_unit_zero off0, View.ld_unit_zero off0, View.ld_unit_zero off0]
  unfold k0_pay2
  generalize k0_pay1 x0 x2 x1 x3 = y
  funext z
  pointwise

/-- A middle step adds its own product to the accumulator. -/
theorem sout_B (hc0 : ¬cond0_0 i) (hc1 : cond0_1 i) (hc2 : ¬cond0_2 i) :
    sout0_B_0 c i arg3 harg3 arg4 harg4 arg5 harg5 arg6 harg6 arg7 harg7 arg8 harg8 hc0 hc1 hc2 x0 x1 x2 x3 xs
      = addf xs (k0_pay1 x0 x2 x1 x3) := by
  unfold sout0_B_0
  refine (View.read_writes_eq_canon _ _ _ (by intro y; apply scover0_B_0)).trans ?_
  unfold kernelRun0_B
  dsimp only
  sl_unfold_words
  simp only [View.readAt_eq_ld, harg3.read_unread, harg4.read_unread, harg5.read_unread, harg6.read_unread, harg8.read_unread]
  refine (View.canon_unit_zero off0 _ _).trans ?_
  rw [View.ld_unit_zero off0, View.ld_unit_zero off0, View.ld_unit_zero off0, View.ld_unit_zero off0, View.ld_unit_zero off0]
  unfold k0_pay3
  generalize k0_pay1 x0 x2 x1 x3 = y
  funext z
  pointwise

/-- The last step writes out the accumulator with its own product added. -/
theorem out_C (hc0 : ¬cond0_0 i) (hc1 : cond0_1 i) (hc2 : cond0_2 i) :
    out0_C_4 c i arg3 harg3 arg4 harg4 arg5 harg5 arg6 harg6 arg7 harg7 arg8 harg8 hc0 hc1 hc2 x0 x1 x2 x3 xs
      = addf xs (k0_pay1 x0 x2 x1 x3) := by
  unfold out0_C_4
  refine (View.read_writes_eq_canon _ _ _ (by intro y; apply cover0_C_4)).trans ?_
  unfold kernelRun0_C
  dsimp only
  sl_unfold_words
  simp only [View.readAt_eq_ld, harg3.read_unread, harg4.read_unread, harg5.read_unread, harg6.read_unread, harg8.read_unread]
  refine (View.canon_unit_zero off0 _ _).trans ?_
  refine (View.readCov_unit_zero _ off0 _ _).trans ?_
  rw [View.ld_unit_zero off0, View.ld_unit_zero off0, View.ld_unit_zero off0, View.ld_unit_zero off0, View.ld_unit_zero off0]
  unfold k0_pay3
  generalize k0_pay1 x0 x2 x1 x3 = y
  funext z
  pointwise

end Step

variable (m : (ℓ : Loc nD τ sig) → Buf (Elt Ideal) ℓ) (c : Dev nD)

/-- The attention's output a core was launched with. -/
abbrev at0 : (⟨2, ![4096, 768]⟩ : Shape).Idx → EReal := m ((c : Thread nD τ).loc main_arg0)

/-- The convolution's output a core was launched with. -/
abbrev cv : (⟨2, ![4096, 256]⟩ : Shape).Idx → EReal := m ((c : Thread nD τ).loc main_arg1)

/-- The norm's scale a core was launched with. -/
abbrev ng : (⟨2, ![1, 768]⟩ : Shape).Idx → EReal := m ((c : Thread nD τ).loc main_arg2)

/-- The cotangent a core was launched with. -/
abbrev dz : (⟨2, ![4096, 1024]⟩ : Shape).Idx → EReal := m ((c : Thread nD τ).loc main_arg3)

theorem lt_N (t : Fin cfg0.N) : t.val < 4 := lt_of_lt_of_eq t.isLt N_0

/-- The cotangent as the kernel finds it. -/
theorem V_v0 (r : Fin 4096) (k : Fin 1024) : V m c main_v0 (ix2 r k) = dz m c (ix2 r k) := by
  unfold V dz
  after_reads_at

/-- Window 0's block numbers. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 1's block numbers. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Window 2's block numbers. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Window 3's block numbers. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Window 4's block numbers. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Row `r` of a step's block of rows. -/
def row (t : Fin cfg0.N) (r : Fin 1024) : Fin 4096 := ⟨t.val * 1024 + r.val, by have := lt_N t; omega⟩

/-- A step's block of the attention's output. -/
theorem blk0 (t : Fin cfg0.N) (r : Fin 1024) (k : Fin 768) : iblk m c 0 t (ix2 r k) = at0 m c (ix2 (row t r) k) := by
  have hi := idx0 t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 1024 + 1 * r.val = t.val * 1024 + r.val; rw [hi.1]; omega
  | ⟨1, _⟩ => show win0_0.index t 1 * 768 + 1 * k.val = k.val; rw [hi.2]; omega

/-- A step's block of the convolution's output. -/
theorem blk1 (t : Fin cfg0.N) (r : Fin 1024) (k : Fin 256) : iblk m c 1 t (ix2 r k) = cv m c (ix2 (row t r) k) := by
  have hi := idx1 t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 1024 + 1 * r.val = t.val * 1024 + r.val; rw [hi.1]; omega
  | ⟨1, _⟩ => show win0_1.index t 1 * 256 + 1 * k.val = k.val; rw [hi.2]; omega

/-- The scale, the same at every step. -/
theorem blk2 (t : Fin cfg0.N) (k : Fin 768) : iblk m c 2 t (ix2 0 k) = ng m c (ix2 0 k) := by
  have hi := idx2 t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 1 + 1 * 0 = 0; rw [hi.1]
  | ⟨1, _⟩ => show win0_2.index t 1 * 768 + 1 * k.val = k.val; rw [hi.2]; omega

/-- A step's block of the cotangent. -/
theorem blk3 (t : Fin cfg0.N) (r : Fin 1024) (k : Fin 1024) : iblk m c 3 t (ix2 r k) = V m c main_v0 (ix2 (row t r) k) := by
  have hi := idx3 t
  unfold iblk
  rw [View.read_apply]
  show V m c main_v0 _ = V m c main_v0 _
  congr 1
  funext a
  apply Fin.ext
  match a with
  | ⟨0, _⟩ => show win0_3.index t 0 * 1024 + 1 * r.val = t.val * 1024 + r.val; rw [hi.1]; omega
  | ⟨1, _⟩ => show win0_3.index t 1 * 1024 + 1 * k.val = k.val; rw [hi.2]; omega

/-- The normed input of a block is the normed input of its rows. -/
theorem mix_blk (t : Fin cfg0.N) (r k : Fin 1024) :
    mix 1024 (iblk m c 0 t) (iblk m c 1 t) (iblk m c 2 t) r k = mix 4096 (at0 m c) (cv m c) (ng m c) (row t r) k := by
  unfold mix rms
  split
  · simp only [blk0, blk2]
  · simp only [blk1]

/-- Row `r`'s term of the product, zero past the rows. -/
def term (p q : Fin 1024) (r : ℕ) : EReal :=
  if h : r < 4096 then mix 4096 (at0 m c) (cv m c) (ng m c) ⟨r, h⟩ p * dz m c (ix2 ⟨r, h⟩ q) else 0

/-- A step's own product is its 1024 rows' terms. -/
theorem pay_eq (t : Fin cfg0.N) (p q : Fin 1024) :
    k0_pay1 (iblk m c 0 t) (iblk m c 2 t) (iblk m c 1 t) (iblk m c 3 t) (ix2 p q) = ∑ r : Fin 1024, term m c p q (t.val * 1024 + r.val) := by
  have h := lt_N t
  rw [pay1_apply]
  refine Finset.sum_congr rfl fun r _ => ?_
  rw [mix_blk, blk3, V_v0]
  unfold term
  rw [dif_pos (by omega)]
  rfl

/-- The gradient's entry: an input column against a cotangent column. -/
def gw (p q : Fin 1024) : EReal := ∑ r : Fin 4096, mix 4096 (at0 m c) (cv m c) (ng m c) r p * dz m c (ix2 r q)

/-- All the terms are the product. -/
theorem sum_term (p q : Fin 1024) : ∑ b : Fin 2, ∑ s : Fin 2048, term m c p q (b.val * 2048 + s.val) = gw m c p q := by
  unfold gw
  refine (Spec.sum_blocks 2 2048 (term m c p q)).trans (Finset.sum_congr rfl fun r _ => ?_)
  unfold term
  rw [dif_pos r.isLt]

/-- The step before. -/
abbrev pred (t : Fin cfg0.N) : Fin cfg0.N := ⟨t.val - 1, by have := t.isLt; omega⟩

attribute [local irreducible] outsAt0

/-- After the first step the accumulator holds the step's product. -/
theorem acc_A (t : Fin cfg0.N) (h : t.val = 0) :
    (outsAt0 m c t.val t.isLt).2 = k0_pay1 (iblk m c 0 t) (iblk m c 2 t) (iblk m c 1 t) (iblk m c 3 t) := by
  rw [outsAt0_A m c t (by omega) (by omega) (by omega)]
  dsimp only
  rw [sout_A]

/-- After a middle step it holds that step's product more. -/
theorem acc_B (t : Fin cfg0.N) (h : t.val = 1 ∨ t.val = 2) :
    (outsAt0 m c t.val t.isLt).2
      = addf (outsAt0 m c (pred t).val (pred t).isLt).2 (k0_pay1 (iblk m c 0 t) (iblk m c 2 t) (iblk m c 1 t) (iblk m c 3 t)) := by
  rw [outsAt0_B m c t (by omega) (by omega) (by omega)]
  dsimp only
  rw [sout_B]

/-- What the last step writes back. -/
theorem fl4 (t : Fin cfg0.N) (h : t.val = 3) : (dats m 0 c).flushed 4 t
    = (cfg0.win 4).cut (grid0.coords t) (addf (outsAt0 m c (pred t).val (pred t).isLt).2
        (k0_pay1 (iblk m c 0 t) (iblk m c 2 t) (iblk m c 1 t) (iblk m c 3 t))) := by
  rw [flushed4_C m c t (by omega) (by omega) (by omega), out_C]

/-- The four steps' sum at an index. -/
theorem four (t : Fin cfg0.N) (h : t.val = 3) (p q : Fin 1024) :
    addf (F := Ideal) (φ := .f32) (outsAt0 m c (pred t).val (pred t).isLt).2
      (k0_pay1 (iblk m c 0 t) (iblk m c 2 t) (iblk m c 1 t) (iblk m c 3 t)) (ix2 p q) = gw m c p q := by
  have h2 : (pred t).val = 2 := by show t.val - 1 = 2; omega
  have h1 : (pred (pred t)).val = 1 := by show t.val - 1 - 1 = 1; omega
  have h0 : (pred (pred (pred t))).val = 0 := by show t.val - 1 - 1 - 1 = 0; omega
  rw [acc_B m c (pred t) (.inr h2), acc_B m c (pred (pred t)) (.inl h1), acc_A m c (pred (pred (pred t))) h0]
  show (k0_pay1 _ _ _ _ (ix2 p q) + k0_pay1 _ _ _ _ (ix2 p q) + k0_pay1 _ _ _ _ (ix2 p q)) + k0_pay1 _ _ _ _ (ix2 p q) = _
  rw [pay_eq, pay_eq, pay_eq, pay_eq, h, h2, h1, h0, Spec.sum_four (term m c p q), sum_term]

/-- Where window 4's block lies in its array. -/
theorem emb4 (t : Fin cfg0.N) (p q : Fin 1024) : ((cfg0.win 4).blk t).view.emb (ix2 p q) = ix2 p q := by
  have hi := idx4 t
  funext x
  apply Fin.ext
  match x with
  | ⟨0, _⟩ => show win0_4.index t 0 * 1024 + 1 * p.val = p.val; rw [hi.1]; omega
  | ⟨1, _⟩ => show win0_4.index t 1 * 1024 + 1 * q.val = q.val; rw [hi.2]; omega

/-- An index of a rank-2 block is its two coordinates. -/
theorem ix2_eta {n0 n1 : ℕ} (y : (⟨2, ![n0, n1]⟩ : Shape).Idx) : y = ix2 (y 0) (y 1) := by
  funext a; match a with | 0 => rfl | 1 => rfl

/-- The result array holds the product. -/
theorem arr : (dats m 0 c).arrAt 4 cfg0.N = fun i : S1024x1024.Idx => gw m c (i 0) (i 1) := by
  refine Dat.arrAt_eq_of_cover (dats m 0 c) 4 _ ?_ ?_
  · intro t hf
    have h : t.val = 3 := by have h' := (flush0_4 t).mp hf; have := lt_N t; omega
    rw [fl4 m c t h]
    funext y
    rw [View.read_apply]
    obtain ⟨p, q, rfl⟩ : ∃ (p q : Fin 1024), y = ix2 p q := ⟨_, _, ix2_eta y⟩
    rw [emb4 t p q]
    exact four m c t h p q
  · intro i
    obtain ⟨p, q, rfl⟩ : ∃ (p q : Fin 1024), i = ix2 p q := ⟨_, _, ix2_eta i⟩
    let t : Fin cfg0.N := ⟨3, lt_of_lt_of_eq (by omega : 3 < 4) N_0.symm⟩
    refine ⟨t, (flush0_4 t).mpr rfl, ?_⟩
    have e := emb4 t p q
    rw [← e]
    exact View.emb_mem_set _ _

end Cert.Kernel5Ideal.Pf

end
-- ==== Proof.Step.lean ====
module

public import proofs.«01_k».proof.Defs
public import proofs.«01_k».proof.Proof.FfnArr
public import proofs.«01_k».proof.Proof.Ref2
public import proofs.«01_k».proof.Proof.Gen.Kernel2Ideal.Value
public import proofs.«01_k».proof.Proof.Gen.Reference2Ideal.Run
public import proofs.«01_k».proof.Proof.Gen.Reference2Ideal.Read
public import proofs.«01_k».proof.Proof.InProj
public import proofs.«01_k».proof.Proof.Ref3
public import proofs.«01_k».proof.Proof.Gen.Kernel3Ideal.Value
public import proofs.«01_k».proof.Proof.Gen.Reference3Ideal.Run
public import proofs.«01_k».proof.Proof.Gen.Reference3Ideal.Read
public import proofs.«01_k».proof.Proof.InGrad
public import proofs.«01_k».proof.Proof.Ref4
public import proofs.«01_k».proof.Proof.Gen.Kernel4Ideal.Value
public import proofs.«01_k».proof.Proof.Gen.Reference4Ideal.Run
public import proofs.«01_k».proof.Proof.Gen.Reference4Ideal.Read
public import proofs.«01_k».proof.Proof.OutGrad
public import proofs.«01_k».proof.Proof.Ref5
public import proofs.«01_k».proof.Proof.Gen.Kernel5Ideal.Value
public import proofs.«01_k».proof.Proof.Gen.Reference5Ideal.Run
public import proofs.«01_k».proof.Proof.Gen.Reference5Ideal.Read
public import Idealize.ShloMosaic.Adequacy
public import Idealize.ShloMosaic.Init
public import Idealize.ShloMosaic.Lib.Quiescent

@[expose] public section

set_option maxRecDepth 16384

noncomputable section

/-! The products' calls: each kernel's result arrays are its reference's, and each reference runs. -/

namespace Cert.Step

open Idealize.ShloMosaic Idealize.ShloMosaic.TcCoe Idealize.SL.Sem

theorem ix2_eta {n0 n1 : ℕ} (y : (⟨2, ![n0, n1]⟩ : Shape).Idx) : y = ix2 (y 0) (y 1) := by
  funext a; match a with | 0 => rfl | 1 => rfl

theorem ix3_eta {n0 n1 n2 : ℕ} (y : (⟨3, ![n0, n1, n2]⟩ : Shape).Idx) : y = ix3 (y 0) (y 1) (y 2) := by
  funext a; match a with | 0 => rfl | 1 => rfl | 2 => rfl

/-- The gated activation as an array. -/
def act (A : Spec.Args) : (⟨3, ![2, 2048, 2816]⟩ : Shape).Idx → EReal := fun i => A.ac (i 0) (i 2) (i 1).val

/-- The up projection, its columns tiled, as an array. -/
def upre (A : Spec.Args) : (⟨3, ![2, 2048, 5632]⟩ : Shape).Idx → EReal := fun i => A.up (i 0) (Ref2.tiled (i 2)) (i 1).val

/-- The input projection's attention columns as an array. -/
def attnCols (x : (⟨3, ![2, 2048, 1024]⟩ : Shape).Idx → EReal) (w : (⟨2, ![1024, 2816]⟩ : Shape).Idx → EReal)
    (b : (⟨2, ![1, 2816]⟩ : Shape).Idx → EReal) : (⟨2, ![4096, 2304]⟩ : Shape).Idx → EReal :=
  fun i => Ref3.proj x w b (i 0) ⟨(i 1).val, lt_trans (i 1).isLt (by decide)⟩

/-- The input projection's convolution columns as an array. -/
def convCols (x : (⟨3, ![2, 2048, 1024]⟩ : Shape).Idx → EReal) (w : (⟨2, ![1024, 2816]⟩ : Shape).Idx → EReal)
    (b : (⟨2, ![1, 2816]⟩ : Shape).Idx → EReal) : (⟨2, ![4096, 512]⟩ : Shape).Idx → EReal :=
  fun i => Ref3.proj x w b (i 0) ⟨2304 + (i 1).val, Nat.add_lt_add_left (i 1).isLt 2304⟩

/-- The input projection's gradient as an array. -/
def gwIn (dh : (⟨2, ![4096, 2816]⟩ : Shape).Idx → EReal) (x : (⟨3, ![2, 2048, 1024]⟩ : Shape).Idx → EReal) :
    (⟨2, ![2816, 1024]⟩ : Shape).Idx → EReal :=
  fun i => Kernel4Ideal.Pf.gw dh x (i 0) (i 1)

/-- The output projection's gradient as an array. -/
def gwOut (at0 : (⟨2, ![4096, 768]⟩ : Shape).Idx → EReal) (cv : (⟨2, ![4096, 256]⟩ : Shape).Idx → EReal)
    (ng : (⟨2, ![1, 768]⟩ : Shape).Idx → EReal) (dz : (⟨2, ![4096, 1024]⟩ : Shape).Idx → EReal) :
    (⟨2, ![1024, 1024]⟩ : Shape).Idx → EReal :=
  fun i => ∑ r : Fin 4096, Ref5.mix 4096 at0 cv ng r (i 0) * dz (ix2 r (i 1))

/-- The forward pass of the gated block: both results are the reference's. -/
theorem value2 : Cert.algebraic_Kernel2Ideal_Reference2Ideal := by
  intro m g m' g' _ hargs
  refine ⟨fun c => act (Cert.Kernel2Ideal.Pf.A m c), fun c => upre (Cert.Kernel2Ideal.Pf.A m c), ?_, ?_⟩
  · refine (θ_run Cert.Kernel2Ideal.defs _ _).mono (fun r h c => ?_) (Cert.Kernel2Ideal.Value.run_blocks m g)
    obtain ⟨h0, h1, hk⟩ := h c
    exact ⟨h0.trans (Cert.Kernel2Ideal.Pf.arr7 m c), h1.trans (Cert.Kernel2Ideal.Pf.arr8 m c), hk⟩
  · refine (θ_run Cert.Reference2Ideal.defs _ _).mono (fun r h c => ?_) (Cert.Reference2Ideal.Value.run m' g')
    obtain ⟨h0, h1, hk⟩ := h c
    obtain ⟨a0, a1, a2, a3⟩ := hargs c
    refine ⟨h0.trans ?_, h1.trans ?_, hk⟩
    · rw [Cert.Reference2Ideal.Read.val_main_v37_eq, a0, a1, a2, a3]
      show _ = act (Cert.Kernel2Ideal.Pf.A m c)
      funext i
      obtain ⟨x, y, z, rfl⟩ : ∃ (x : Fin 2) (y : Fin 2048) (z : Fin 2816), i = ix3 x y z := ⟨_, _, _, ix3_eta i⟩
      exact Cert.Ref2.v37_at _ _ _ _ x y z
    · rw [Cert.Reference2Ideal.Read.val_main_v36_eq, a0, a1]
      show _ = upre (Cert.Kernel2Ideal.Pf.A m c)
      funext i
      obtain ⟨x, y, z, rfl⟩ : ∃ (x : Fin 2) (y : Fin 2048) (z : Fin 5632), i = ix3 x y z := ⟨_, _, _, ix3_eta i⟩
      exact Cert.Ref2.v36_at _ _ _ _ x y z

/-- Reference 2 runs, its arguments end unchanged and every counter reads zero. -/
theorem frame2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run m ρ)

/-- The input projection: both results are the reference's. -/
theorem value3 : Cert.algebraic_Kernel3Ideal_Reference3Ideal := by
  intro m g m' g' _ hargs
  refine ⟨fun c => attnCols (Cert.Kernel3Ideal.Pf.xin m c) (Cert.Kernel3Ideal.Pf.win m c) (Cert.Kernel3Ideal.Pf.bin m c), fun c => convCols (Cert.Kernel3Ideal.Pf.xin m c) (Cert.Kernel3Ideal.Pf.win m c) (Cert.Kernel3Ideal.Pf.bin m c), ?_, ?_⟩
  · refine (θ_run Cert.Kernel3Ideal.defs _ _).mono (fun r h c => ?_) (Cert.Kernel3Ideal.Value.run_blocks m g)
    obtain ⟨h0, h1, hk⟩ := h c
    exact ⟨h0.trans (Cert.Kernel3Ideal.Pf.arr3 m c), h1.trans (Cert.Kernel3Ideal.Pf.arr4 m c), hk⟩
  · refine (θ_run Cert.Reference3Ideal.defs _ _).mono (fun r h c => ?_) (Cert.Reference3Ideal.Value.run m' g')
    obtain ⟨h0, h1, hk⟩ := h c
    obtain ⟨a0, a1, a2⟩ := hargs c
    refine ⟨h0.trans ?_, h1.trans ?_, hk⟩
    · rw [Cert.Reference3Ideal.Read.val_main_v7_eq, a0, a1, a2]
      show _ = attnCols (Cert.Kernel3Ideal.Pf.xin m c) (Cert.Kernel3Ideal.Pf.win m c) (Cert.Kernel3Ideal.Pf.bin m c)
      funext i
      obtain ⟨x, y, rfl⟩ : ∃ (x : Fin 4096) (y : Fin 2304), i = ix2 x y := ⟨_, _, ix2_eta i⟩
      exact Cert.Ref3.v7_at _ _ _ x y
    · rw [Cert.Reference3Ideal.Read.val_main_v8_eq, a0, a1, a2]
      show _ = convCols (Cert.Kernel3Ideal.Pf.xin m c) (Cert.Kernel3Ideal.Pf.win m c) (Cert.Kernel3Ideal.Pf.bin m c)
      funext i
      obtain ⟨x, y, rfl⟩ : ∃ (x : Fin 4096) (y : Fin 512), i = ix2 x y := ⟨_, _, ix2_eta i⟩
      exact Cert.Ref3.v8_at _ _ _ x y

/-- Reference 3 runs, its arguments end unchanged and every counter reads zero. -/
theorem frame3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run m ρ)

/-- The input projection's gradient is the reference's. -/
theorem value4 : Cert.algebraic_Kernel4Ideal_Reference4Ideal := by
  intro m g m' g' _ hargs
  refine ⟨fun c => gwIn (Cert.Kernel4Ideal.Pf.dh m c) (Cert.Kernel4Ideal.Pf.xin m c), ?_, ?_⟩
  · refine (θ_run Cert.Kernel4Ideal.defs _ _).mono (fun r h c => ?_) (Cert.Kernel4Ideal.Value.run_blocks m g)
    obtain ⟨h0, hk⟩ := h c
    exact ⟨h0.trans (Cert.Kernel4Ideal.Pf.arr m c), hk⟩
  · refine (θ_run Cert.Reference4Ideal.defs _ _).mono (fun r h c => ?_) (Cert.Reference4Ideal.Value.run m' g')
    obtain ⟨h0, hk⟩ := h c
    obtain ⟨a0, a1⟩ := hargs c
    refine ⟨h0.trans ?_, hk⟩
    · rw [Cert.Reference4Ideal.Read.val_main_v6_eq, a0, a1]
      show _ = gwIn (Cert.Kernel4Ideal.Pf.dh m c) (Cert.Kernel4Ideal.Pf.xin m c)
      funext i
      obtain ⟨x, y, rfl⟩ : ∃ (x : Fin 2816) (y : Fin 1024), i = ix2 x y := ⟨_, _, ix2_eta i⟩
      exact Cert.Ref4.v6_at _ _ x y

/-- Reference 4 runs, its arguments end unchanged and every counter reads zero. -/
theorem frame4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run m ρ)

/-- The output projection's gradient is the reference's. -/
theorem value5 : Cert.algebraic_Kernel5Ideal_Reference5Ideal := by
  intro m g m' g' _ hargs
  refine ⟨fun c => gwOut (Cert.Kernel5Ideal.Pf.at0 m c) (Cert.Kernel5Ideal.Pf.cv m c) (Cert.Kernel5Ideal.Pf.ng m c) (Cert.Kernel5Ideal.Pf.dz m c), ?_, ?_⟩
  · refine (θ_run Cert.Kernel5Ideal.defs _ _).mono (fun r h c => ?_) (Cert.Kernel5Ideal.Value.run_blocks m g)
    obtain ⟨h0, hk⟩ := h c
    exact ⟨h0.trans (Cert.Kernel5Ideal.Pf.arr m c), hk⟩
  · refine (θ_run Cert.Reference5Ideal.defs _ _).mono (fun r h c => ?_) (Cert.Reference5Ideal.Value.run m' g')
    obtain ⟨h0, hk⟩ := h c
    obtain ⟨a0, a1, a2, a3⟩ := hargs c
    refine ⟨h0.trans ?_, hk⟩
    · rw [Cert.Reference5Ideal.Read.val_main_v19_eq, a0, a1, a2, a3]
      show _ = gwOut (Cert.Kernel5Ideal.Pf.at0 m c) (Cert.Kernel5Ideal.Pf.cv m c) (Cert.Kernel5Ideal.Pf.ng m c) (Cert.Kernel5Ideal.Pf.dz m c)
      funext i
      obtain ⟨x, y, rfl⟩ : ∃ (x : Fin 1024) (y : Fin 1024), i = ix2 x y := ⟨_, _, ix2_eta i⟩
      exact Cert.Ref5.v19_at _ _ _ _ x y

/-- Reference 5 runs, its arguments end unchanged and every counter reads zero. -/
theorem frame5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

end Cert.Step

end
-- ==== Proof.Ln.lean ====
module

public import proofs.«01_k».proof.Proof.Rows

@[expose] public section

noncomputable section

/-! One row of the second layer norm and its loss: the normed row, the difference to the target, and the gradient with
respect to the row, in the form a differentiation gives and in the closed form. -/

namespace Cert.Ln

open Idealize.ShloMosaic

theorem lit1024 : Ideal.ofBits .f32 0x44800000#32 = ((1024 : ℝ) : EReal) := by
  simp [Ideal.ofBits, Ideal.ieee, -EReal.coe_mul]; norm_num

theorem lit2 : Ideal.ofBits .f32 0x40000000#32 = ((2 : ℝ) : EReal) := by
  simp [Ideal.ofBits, Ideal.ieee, -EReal.coe_mul]; norm_num

theorem lit1 : Ideal.ofBits .f32 0x3F800000#32 = ((1 : ℝ) : EReal) := by
  simp [Ideal.ofBits, Ideal.ieee, -EReal.coe_mul]; norm_num

theorem litNegHalf : Ideal.ofBits .f32 0xBF000000#32 = ((-(1 / 2) : ℝ) : EReal) := by
  simp [Ideal.ofBits, Ideal.ieee, -EReal.coe_mul]; norm_num

theorem litInv1024 : Ideal.ofBits .f32 0x3A800000#32 = ((1 / 1024 : ℝ) : EReal) := by
  simp [Ideal.ofBits, Ideal.ieee, -EReal.coe_mul]; norm_num

theorem litInv2048 : Ideal.ofBits .f32 0x3A000000#32 = ((1 / 2048 : ℝ) : EReal) := by
  simp [Ideal.ofBits, Ideal.ieee, -EReal.coe_mul]; norm_num

theorem litEps : Ideal.ofBits .f32 0x3727C5AC#32 = ((10995116 / 2 ^ 40 : ℝ) : EReal) := by
  simp [Ideal.ofBits, Ideal.ieee, -EReal.coe_mul]; norm_num

theorem litAlpha : Ideal.ofBits .f32 0x3F9837F0#32 = ((9975792 / 2 ^ 23 : ℝ) : EReal) := by
  simp [Ideal.ofBits, Ideal.ieee, -EReal.coe_mul]; norm_num

/-- Row `r` of the second norm's input: the down projection and the scaled residual. -/
def zrow (n : ℕ) (a : (⟨2, ![n, 2816]⟩ : Shape).Idx → EReal) (w : (⟨2, ![2816, 1024]⟩ : Shape).Idx → EReal)
    (x : (⟨2, ![n, 1024]⟩ : Shape).Idx → EReal) (r : Fin n) (k : Fin 1024) : EReal :=
  (∑ j : Fin 2816, a (ix2 r j) * w (ix2 j k)) + Ideal.ofBits .f32 0x3F9837F0#32 * x (ix2 r k)

/-- A row of one as a function of the column. -/
abbrev one (x : (⟨2, ![1, 1024]⟩ : Shape).Idx → EReal) : Fin 1024 → EReal := fun k => x (ix2 0 k)

/-- A row of `n` as a function of the column. -/
abbrev rw2 (n : ℕ) (x : (⟨2, ![n, 1024]⟩ : Shape).Idx → EReal) (r : Fin n) : Fin 1024 → EReal := fun k => x (ix2 r k)

/-- A row's mean. -/
def mean (z : Fin 1024 → EReal) : EReal := Ideal.div (∑ k, z k) (Ideal.ofBits .f32 0x44800000#32)

/-- The row less its mean. -/
def ctr (z : Fin 1024 → EReal) (k : Fin 1024) : EReal := z k - mean z

/-- The row's variance and the norm's small constant. -/
def var (z : Fin 1024 → EReal) : EReal :=
  Ideal.div (∑ k, ctr z k * ctr z k) (Ideal.ofBits .f32 0x44800000#32) + Ideal.ofBits .f32 0x3727C5AC#32

/-- The reciprocal standard deviation. -/
def rs (z : Fin 1024 → EReal) : EReal := Ideal.rsqrt (var z)

/-- The normed row. -/
def nrm (z : Fin 1024 → EReal) (k : Fin 1024) : EReal := ctr z k * rs z

/-- The block's output less the target. -/
def dif (z g b t : Fin 1024 → EReal) (k : Fin 1024) : EReal := nrm z k * g k + b k - t k

/-- The loss's gradient with respect to the block's output, one reciprocal taken out. -/
def dy (z g b t : Fin 1024 → EReal) (k : Fin 1024) : EReal := dif z g b t k * Ideal.ofBits .f32 0x3A800000#32

/-- The loss's gradient with respect to the block's output, as a differentiation gives it. -/
def dyR (z g b t : Fin 1024 → EReal) (k : Fin 1024) : EReal :=
  Ideal.div (Ideal.ofBits .f32 0x3F000000#32 * Ideal.ofBits .f32 0x3F800000#32) (Ideal.ofBits .f32 0x44800000#32)
    * (Ideal.ofBits .f32 0x40000000#32 * dif z g b t k)

/-- The gradient with respect to a row of which `p` is the gradient with respect to its normed row, in closed form. -/
def dz (z p : Fin 1024 → EReal) (k : Fin 1024) : EReal :=
  rs z * (p k - Ideal.div (∑ j, p j) (Ideal.ofBits .f32 0x44800000#32)
    - nrm z k * Ideal.div (∑ j, p j * nrm z j) (Ideal.ofBits .f32 0x44800000#32))

/-- The path through the variance of the same gradient. -/
def viaVar (z p : Fin 1024 → EReal) (k : Fin 1024) : EReal :=
  Ideal.div ((∑ j, ctr z j * p j) * (Ideal.ofBits .f32 0xBF000000#32 * Ideal.div (rs z) (var z))) (Ideal.ofBits .f32 0x44800000#32)
    * (Ideal.ofBits .f32 0x40000000#32 * ctr z k)

/-- The same gradient as a differentiation gives it: straight, through the variance and through the mean. -/
def dzR (z p : Fin 1024 → EReal) (k : Fin 1024) : EReal :=
  p k * rs z + viaVar z p k
    + Ideal.div ((∑ j, -(p j * rs z)) + ∑ j, -(viaVar z p j)) (Ideal.ofBits .f32 0x44800000#32)

/-- A sum of real numbers is a real number. -/
theorem sum_coe {n : ℕ} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

/-- The mean of a row of real numbers. -/
def meanr (z : Fin 1024 → ℝ) : ℝ := (∑ k, z k) * (1 / 1024)

/-- The centred row of real numbers. -/
def ctrr (z : Fin 1024 → ℝ) (k : Fin 1024) : ℝ := z k - meanr z

/-- The variance and the small constant of a row of real numbers. -/
def varr (z : Fin 1024 → ℝ) : ℝ := (∑ k, ctrr z k * ctrr z k) * (1 / 1024) + 10995116 / 2 ^ 40

theorem div1024 (x : ℝ) : Ideal.div (x : EReal) (Ideal.ofBits .f32 0x44800000#32) = ((x * (1 / 1024) : ℝ) : EReal) := by
  rw [lit1024, Ideal.div_coe (by norm_num), ← EReal.coe_mul]

theorem mean_coe (z : Fin 1024 → ℝ) : mean (fun k => (z k : EReal)) = (meanr z : ℝ) := by
  unfold mean meanr
  rw [sum_coe, div1024]

theorem ctr_coe (z : Fin 1024 → ℝ) (k : Fin 1024) : ctr (fun k => (z k : EReal)) k = (ctrr z k : ℝ) := by
  unfold ctr ctrr
  rw [mean_coe, EReal.coe_sub]

theorem var_coe (z : Fin 1024 → ℝ) : var (fun k => (z k : EReal)) = (varr z : ℝ) := by
  unfold var varr
  simp only [ctr_coe, ← EReal.coe_mul]
  rw [sum_coe, div1024, litEps, ← EReal.coe_add]

theorem varr_pos (z : Fin 1024 → ℝ) : 0 < varr z := by
  unfold varr
  have h : 0 ≤ ∑ k, ctrr z k * ctrr z k := Finset.sum_nonneg fun k _ => mul_self_nonneg _
  positivity

theorem rs_coe (z : Fin 1024 → ℝ) : rs (fun k => (z k : EReal)) = ((Real.sqrt (varr z))⁻¹ : ℝ) := by
  unfold rs
  have h := varr_pos z
  rw [var_coe, Ideal.rsqrt_coe, if_neg (not_lt.mpr h.le), if_neg h.ne']

theorem nrm_coe (z : Fin 1024 → ℝ) (k : Fin 1024) : nrm (fun k => (z k : EReal)) k = ((ctrr z k * (Real.sqrt (varr z))⁻¹ : ℝ) : EReal) := by
  unfold nrm
  rw [ctr_coe, rs_coe, ← EReal.coe_mul]

/-- A centred row sums to zero. -/
theorem ctrr_sum (z : Fin 1024 → ℝ) : ∑ k, ctrr z k = 0 := by
  unfold ctrr meanr
  rw [Finset.sum_sub_distrib, Finset.sum_const, Finset.card_univ, Fintype.card_fin, nsmul_eq_mul]
  push_cast
  ring

theorem viaVar_coe (z p : Fin 1024 → ℝ) (k : Fin 1024) :
    viaVar (fun k => (z k : EReal)) (fun k => (p k : EReal)) k
      = (((∑ j, ctrr z j * p j) * (-(1 / 2) * ((Real.sqrt (varr z))⁻¹ * (1 / varr z))) * (1 / 1024) * (2 * ctrr z k) : ℝ) : EReal) := by
  unfold viaVar
  simp only [ctr_coe, rs_coe, var_coe, ← EReal.coe_mul]
  rw [sum_coe, Ideal.div_coe (varr_pos z).ne', ← EReal.coe_mul, litNegHalf, lit2, ← EReal.coe_mul, ← EReal.coe_mul, div1024, ← EReal.coe_mul, ← EReal.coe_mul]

/-- The two forms of the gradient agree on rows of real numbers. -/
theorem dz_coe (z p : Fin 1024 → ℝ) (k : Fin 1024) :
    dzR (fun k => (z k : EReal)) (fun k => (p k : EReal)) k = dz (fun k => (z k : EReal)) (fun k => (p k : EReal)) k := by
  unfold dzR dz
  simp only [viaVar_coe, nrm_coe, rs_coe, ← EReal.coe_mul, ← EReal.coe_neg, sum_coe, ← EReal.coe_add, ← EReal.coe_sub, div1024]
  rw [EReal.coe_eq_coe_iff]
  have hv := varr_pos z
  have e1 : 1 / varr z = (Real.sqrt (varr z))⁻¹ * (Real.sqrt (varr z))⁻¹ := by
    rw [← mul_inv, Real.mul_self_sqrt hv.le, one_div]
  rw [e1]
  generalize (Real.sqrt (varr z))⁻¹ = r
  have hc := ctrr_sum z
  rw [Finset.sum_neg_distrib, Finset.sum_neg_distrib, ← Finset.mul_sum, ← Finset.mul_sum, hc, ← Finset.sum_mul]
  have e2 : ∑ j, p j * (ctrr z j * r) = (∑ j, ctrr z j * p j) * r := by
    rw [Finset.sum_mul]; exact Finset.sum_congr rfl fun j _ => by ring
  rw [e2]
  ring

/-- The two forms of the gradient agree on rows of finite numbers. -/
theorem dz_eq (z p : Fin 1024 → EReal) (hz : ∀ k, ∃ r : ℝ, z k = r) (hp : ∀ k, ∃ r : ℝ, p k = r) (k : Fin 1024) : dzR z p k = dz z p k := by
  choose zr hzr using hz
  choose pr hpr using hp
  rw [show z = fun k => (zr k : EReal) from funext hzr, show p = fun k => (pr k : EReal) from funext hpr]
  exact dz_coe zr pr k

/-- The two forms of the loss's gradient with respect to the block's output agree. -/
theorem dy_eq (z g b t : Fin 1024 → EReal) (k : Fin 1024) : dyR z g b t k = dy z g b t k := by
  unfold dyR dy
  rw [Spec.half_lit, lit1, ← EReal.coe_mul, div1024, lit2, litInv1024, ← mul_assoc, ← EReal.coe_mul, mul_comm]
  norm_num

theorem fin_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem fin_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem fin_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem fin_sum {n : ℕ} {f : Fin n → EReal} (h : ∀ k, ∃ r : ℝ, f k = r) : ∃ r : ℝ, ∑ k, f k = r := by
  choose fr hf using h
  exact ⟨∑ k, fr k, by rw [← sum_coe]; exact Finset.sum_congr rfl fun k _ => hf k⟩

/-- The normed row of finite numbers is finite. -/
theorem fin_nrm {z : Fin 1024 → EReal} (hz : ∀ k, ∃ r : ℝ, z k = r) (k : Fin 1024) : ∃ r : ℝ, nrm z k = r := by
  choose zr hzr using hz
  rw [show z = fun k => (zr k : EReal) from funext hzr]
  exact ⟨_, nrm_coe zr k⟩

/-- The difference to the target is finite. -/
theorem fin_dif {z g b t : Fin 1024 → EReal} (hz : ∀ k, ∃ r : ℝ, z k = r) (hg : ∀ k, ∃ r : ℝ, g k = r) (hb : ∀ k, ∃ r : ℝ, b k = r)
    (ht : ∀ k, ∃ r : ℝ, t k = r) (k : Fin 1024) : ∃ r : ℝ, dif z g b t k = r :=
  fin_sub (fin_add (fin_mul (fin_nrm hz k) (hg k)) (hb k)) (ht k)

/-- The loss's gradient with respect to the block's output is finite. -/
theorem fin_dy {z g b t : Fin 1024 → EReal} (hz : ∀ k, ∃ r : ℝ, z k = r) (hg : ∀ k, ∃ r : ℝ, g k = r) (hb : ∀ k, ∃ r : ℝ, b k = r)
    (ht : ∀ k, ∃ r : ℝ, t k = r) (k : Fin 1024) : ∃ r : ℝ, dy z g b t k = r :=
  fin_mul (fin_dif hz hg hb ht k) ⟨_, litInv1024⟩

end Cert.Ln

end
-- ==== Proof.Pay6.lean ====
module

public import proofs.«01_k».proof.Proof.Ln
public import proofs.«01_k».proof.Proof.Gen.Kernel6Ideal.Skeleton

@[expose] public section

set_option maxRecDepth 16384

noncomputable section

/-! What a step of the second norm's pass computes on each half of its rows, in the words of the row formulas. -/

namespace Cert.Kernel6Ideal.Pf

open Cert.Kernel6Ideal Cert.Kernel6Ideal.Gen Cert.Ln Idealize.ShloMosaic

variable (a : FVec Ideal S256x2816 .bf16) (w : FVec Ideal S2816x1024 .bf16) (x : FVec Ideal S256x1024 .f32)
  (g b : FVec Ideal S1x1024 .f32) (t y : FVec Ideal S256x1024 .f32)

/-- The down projection. -/
theorem pay2_at (r : Fin 256) (k : Fin 1024) : k0_pay2 (F := Ideal) a w (ix2 r k) = ∑ j : Fin 2816, a (ix2 r j) * w (ix2 j k) := by
  unfold k0_pay2
  pointwise

/-- The first half's centred rows. -/
theorem pay3_at (r : Fin 256) (k : Fin 1024) : k0_pay3 (F := Ideal) a w x (ix2 r k) = ctr (zrow 256 a w x r) k := by
  unfold k0_pay3 ctr mean zrow
  pointwise

theorem pay4_at (r : Fin 256) : k0_pay4 (F := Ideal) a w x (ix2 r 0) = rs (zrow 256 a w x r) := by
  unfold k0_pay4 rs var
  pointwise
  simp only [pay3_at]

theorem pay5_at (r : Fin 256) (k : Fin 1024) : k0_pay5 (F := Ideal) a w x (ix2 r k) = nrm (zrow 256 a w x r) k := by
  unfold k0_pay5 nrm
  pointwise
  rw [pay3_at, pay4_at]

theorem pay7_at (r : Fin 256) (k : Fin 1024) :
    k0_pay7 (F := Ideal) (k0_pay6 a w g x b) t (ix2 r k) = dif (zrow 256 a w x r) (one g) (one b) (rw2 256 t r) k := by
  unfold k0_pay7 k0_pay6 dif
  pointwise
  rw [pay5_at]

theorem pay8_at (r : Fin 256) (k : Fin 1024) :
    k0_pay8 (F := Ideal) (k0_pay6 a w g x b) t (ix2 r k) = dy (zrow 256 a w x r) (one g) (one b) (rw2 256 t r) k := by
  unfold k0_pay8 dy
  pointwise
  rw [pay7_at]

/-- The closed form of a row's gradient, of its parts. -/
theorem pay9_gen (s : FVec Ideal S256x1 .f32) (h v : FVec Ideal S256x1024 .f32) (r : Fin 256) (k : Fin 1024) :
    k0_pay9 (F := Ideal) g s h v t (ix2 r k) = s (ix2 r 0) * (k0_pay8 (F := Ideal) v t (ix2 r k) * g (ix2 0 k)
      - Ideal.div (∑ j : Fin 1024, k0_pay8 (F := Ideal) v t (ix2 r j) * g (ix2 0 j)) (Ideal.ofBits .f32 0x44800000#32)
      - h (ix2 r k) * Ideal.div (∑ j : Fin 1024, k0_pay8 (F := Ideal) v t (ix2 r j) * g (ix2 0 j) * h (ix2 r j)) (Ideal.ofBits .f32 0x44800000#32)) := by
  unfold k0_pay9
  generalize k0_pay8 (F := Ideal) v t = p
  pointwise

/-- The gradient with respect to the normed row of row `r`. -/
abbrev pr (n : ℕ) (a : (⟨2, ![n, 2816]⟩ : Shape).Idx → EReal) (w : (⟨2, ![2816, 1024]⟩ : Shape).Idx → EReal)
    (x : (⟨2, ![n, 1024]⟩ : Shape).Idx → EReal) (g b : (⟨2, ![1, 1024]⟩ : Shape).Idx → EReal)
    (t : (⟨2, ![n, 1024]⟩ : Shape).Idx → EReal) (r : Fin n) (k : Fin 1024) : EReal :=
  dy (zrow n a w x r) (one g) (one b) (rw2 n t r) k * one g k

/-- The first half's gradient. -/
theorem pay9_at (r : Fin 256) (k : Fin 1024) :
    k0_pay9 (F := Ideal) g (k0_pay4 a w x) (k0_pay5 a w x) (k0_pay6 a w g x b) t (ix2 r k) = dz (zrow 256 a w x r) (pr 256 a w x g b t r) k := by
  rw [pay9_gen]
  simp only [pay4_at, pay5_at, pay8_at]
  rfl

theorem pay10_at (r : Fin 256) (k : Fin 1024) :
    k0_pay10 (F := Ideal) g (k0_pay4 a w x) (k0_pay5 a w x) (k0_pay6 a w g x b) t (ix2 r k) = dz (zrow 256 a w x r) (pr 256 a w x g b t r) k := by
  rw [← pay9_at]
  rfl

/-- The first half's loss, in every lane. -/
theorem pay11_at (l : Fin 128) :
    k0_pay11 (F := Ideal) (k0_pay6 a w g x b) t (ix2 0 l) = (∑ r : Fin 256, ∑ k : Fin 1024,
      dif (zrow 256 a w x r) (one g) (one b) (rw2 256 t r) k * dif (zrow 256 a w x r) (one g) (one b) (rw2 256 t r) k) * Ideal.ofBits .f32 0x3A000000#32 := by
  unfold k0_pay11
  pointwise
  simp only [pay7_at]

theorem pay12_at (k : Fin 1024) :
    k0_pay12 (F := Ideal) (k0_pay5 a w x) (k0_pay6 a w g x b) t (ix2 0 k)
      = ∑ r : Fin 256, dy (zrow 256 a w x r) (one g) (one b) (rw2 256 t r) k * nrm (zrow 256 a w x r) k := by
  unfold k0_pay12
  pointwise
  simp only [pay8_at, pay5_at]

theorem pay13_at (k : Fin 1024) :
    k0_pay13 (F := Ideal) (k0_pay6 a w g x b) t (ix2 0 k) = ∑ r : Fin 256, dy (zrow 256 a w x r) (one g) (one b) (rw2 256 t r) k := by
  unfold k0_pay13
  pointwise
  simp only [pay8_at]

/-- The second half's row, its down projection given. -/
abbrev zgen (r : Fin 256) (j : Fin 1024) : EReal := y (ix2 r j) + Ideal.ofBits .f32 0x3F9837F0#32 * x (ix2 r j)

theorem zgen_pay2 (r : Fin 256) : zgen x (k0_pay2 (F := Ideal) a w) r = zrow 256 a w x r := by
  funext j
  show k0_pay2 (F := Ideal) a w (ix2 r j) + _ = _
  rw [pay2_at]
  rfl

theorem pay14_at (r : Fin 256) (k : Fin 1024) : k0_pay14 (F := Ideal) y x (ix2 r k) = ctr (zgen x y r) k := by
  unfold k0_pay14 ctr mean
  pointwise

theorem pay15_at (r : Fin 256) : k0_pay15 (F := Ideal) y x (ix2 r 0) = rs (zgen x y r) := by
  unfold k0_pay15 rs var
  pointwise
  simp only [pay14_at]

theorem pay16_at (r : Fin 256) (k : Fin 1024) : k0_pay16 (F := Ideal) y x (ix2 r k) = nrm (zgen x y r) k := by
  unfold k0_pay16 nrm
  pointwise
  rw [pay14_at, pay15_at]

theorem pay17_at (r : Fin 256) (k : Fin 1024) :
    k0_pay17 (F := Ideal) y g x b t (ix2 r k) = dif (zgen x y r) (one g) (one b) (rw2 256 t r) k := by
  unfold k0_pay17 dif
  pointwise
  rw [pay16_at]

theorem pay18_at :
    k0_pay18 (F := Ideal) y g x b t (ix2 0 0) = (∑ r : Fin 256, ∑ k : Fin 1024,
      dif (zgen x y r) (one g) (one b) (rw2 256 t r) k * dif (zgen x y r) (one g) (one b) (rw2 256 t r) k) * Ideal.ofBits .f32 0x3A000000#32 := by
  unfold k0_pay18
  pointwise
  simp only [pay17_at]

theorem pay19_at (r : Fin 256) (k : Fin 1024) :
    k0_pay19 (F := Ideal) y g x b t (ix2 r k) = dy (zgen x y r) (one g) (one b) (rw2 256 t r) k := by
  unfold k0_pay19 dy
  pointwise
  rw [pay17_at]

theorem pay20_at (r : Fin 256) (k : Fin 1024) :
    k0_pay20 (F := Ideal) y g x b t (ix2 r k) = dy (zgen x y r) (one g) (one b) (rw2 256 t r) k * one g k := by
  unfold k0_pay20
  pointwise
  rw [pay19_at]

theorem pay21_at (r : Fin 256) :
    k0_pay21 (F := Ideal) y g x b t (ix2 r 0) = Ideal.div (∑ k, dy (zgen x y r) (one g) (one b) (rw2 256 t r) k * one g k) (Ideal.ofBits .f32 0x44800000#32) := by
  unfold k0_pay21
  pointwise
  simp only [pay20_at]

theorem pay22_at (r : Fin 256) (k : Fin 1024) :
    k0_pay22 (F := Ideal) y g x b t (ix2 r k) = dy (zgen x y r) (one g) (one b) (rw2 256 t r) k * one g k * nrm (zgen x y r) k := by
  unfold k0_pay22
  pointwise
  rw [pay20_at, pay16_at]

theorem pay23_gen (s m : FVec Ideal S256x1 .f32) (h p q : FVec Ideal S256x1024 .f32) (r : Fin 256) (k : Fin 1024) :
    k0_pay23 (F := Ideal) s h p m q (ix2 r k) = s (ix2 r 0) * (p (ix2 r k) - m (ix2 r 0)
      - h (ix2 r k) * Ideal.div (∑ j : Fin 1024, q (ix2 r j)) (Ideal.ofBits .f32 0x44800000#32)) := by
  unfold k0_pay23
  pointwise

/-- The second half's gradient, its down projection given. -/
theorem pay23_y (r : Fin 256) (k : Fin 1024) :
    k0_pay23 (F := Ideal) (k0_pay15 y x) (k0_pay16 y x) (k0_pay20 y g x b t) (k0_pay21 y g x b t) (k0_pay22 y g x b t) (ix2 r k)
      = dz (zgen x y r) (fun k => dy (zgen x y r) (one g) (one b) (rw2 256 t r) k * one g k) k := by
  rw [pay23_gen]
  simp only [pay15_at, pay16_at, pay20_at, pay21_at, pay22_at]
  rfl

/-- The second half's gradient. -/
theorem pay23_at (r : Fin 256) (k : Fin 1024) :
    k0_pay23 (F := Ideal) (k0_pay15 (k0_pay2 a w) x) (k0_pay16 (k0_pay2 a w) x) (k0_pay20 (k0_pay2 a w) g x b t)
      (k0_pay21 (k0_pay2 a w) g x b t) (k0_pay22 (k0_pay2 a w) g x b t) (ix2 r k) = dz (zrow 256 a w x r) (pr 256 a w x g b t r) k := by
  rw [pay23_y, zgen_pay2]

theorem pay24_at (r : Fin 256) (k : Fin 1024) :
    k0_pay24 (F := Ideal) (k0_pay15 (k0_pay2 a w) x) (k0_pay16 (k0_pay2 a w) x) (k0_pay20 (k0_pay2 a w) g x b t)
      (k0_pay21 (k0_pay2 a w) g x b t) (k0_pay22 (k0_pay2 a w) g x b t) (ix2 r k) = dz (zrow 256 a w x r) (pr 256 a w x g b t r) k := by
  rw [← pay23_at]
  rfl

theorem pay25_gen (u : FVec Ideal S1x128 .f32) (v : FVec Ideal S1x1 .f32) (l : Fin 128) :
    k0_pay25 (F := Ideal) u v (ix2 0 l) = u (ix2 0 l) + v (ix2 0 0) := by
  unfold k0_pay25
  pointwise

theorem pay26_gen (u : FVec Ideal S1x1024 .f32) (h p : FVec Ideal S256x1024 .f32) (k : Fin 1024) :
    k0_pay26 (F := Ideal) u h p (ix2 0 k) = u (ix2 0 k) + ∑ r : Fin 256, p (ix2 r k) * h (ix2 r k) := by
  unfold k0_pay26
  pointwise

theorem pay27_gen (u : FVec Ideal S1x1024 .f32) (p : FVec Ideal S256x1024 .f32) (k : Fin 1024) :
    k0_pay27 (F := Ideal) u p (ix2 0 k) = u (ix2 0 k) + ∑ r : Fin 256, p (ix2 r k) := by
  unfold k0_pay27
  pointwise

theorem pay28_gen (u : FVec Ideal S1x128 .f32) (v : FVec Ideal S1x1 .f32) (o : FVec Ideal S1x128 .f32) (l : Fin 128) :
    k0_pay28 (F := Ideal) u v o (ix2 0 l) = o (ix2 0 l) + k0_pay25 (F := Ideal) u v (ix2 0 l) := by
  unfold k0_pay28
  generalize k0_pay25 (F := Ideal) u v = q
  pointwise

theorem pay29_gen (u : FVec Ideal S1x1024 .f32) (h p : FVec Ideal S256x1024 .f32) (o : FVec Ideal S1x1024 .f32) (k : Fin 1024) :
    k0_pay29 (F := Ideal) u h p o (ix2 0 k) = o (ix2 0 k) + k0_pay26 (F := Ideal) u h p (ix2 0 k) := by
  unfold k0_pay29
  generalize k0_pay26 (F := Ideal) u h p = q
  pointwise

theorem pay1_gen (u o : FVec Ideal S1x1024 .f32) (k : Fin 1024) : k0_pay1 (F := Ideal) u o (ix2 0 k) = o (ix2 0 k) + u (ix2 0 k) := by
  unfold k0_pay1
  pointwise

/-- A half's loss. -/
abbrev lossH (n : ℕ) (a : (⟨2, ![n, 2816]⟩ : Shape).Idx → EReal) (w : (⟨2, ![2816, 1024]⟩ : Shape).Idx → EReal)
    (x : (⟨2, ![n, 1024]⟩ : Shape).Idx → EReal) (g b : (⟨2, ![1, 1024]⟩ : Shape).Idx → EReal)
    (t : (⟨2, ![n, 1024]⟩ : Shape).Idx → EReal) (r : Fin n) : EReal :=
  ∑ k : Fin 1024, dif (zrow n a w x r) (one g) (one b) (rw2 n t r) k * dif (zrow n a w x r) (one g) (one b) (rw2 n t r) k

variable (a' : FVec Ideal S256x2816 .bf16) (x' t' : FVec Ideal S256x1024 .f32)

/-- Both halves' loss. -/
theorem loss_at (l : Fin 128) :
    k0_pay25 (F := Ideal) (k0_pay11 (k0_pay6 a w g x b) t) (k0_pay18 (k0_pay2 a' w) g x' b t') (ix2 0 l)
      = (∑ r : Fin 256, lossH 256 a w x g b t r) * Ideal.ofBits .f32 0x3A000000#32
        + (∑ r : Fin 256, lossH 256 a' w x' g b t' r) * Ideal.ofBits .f32 0x3A000000#32 := by
  rw [pay25_gen, pay11_at, pay18_at]
  simp only [zgen_pay2]

/-- Both halves' gradient of the scale. -/
theorem dg_at (k : Fin 1024) :
    k0_pay26 (F := Ideal) (k0_pay12 (k0_pay5 a w x) (k0_pay6 a w g x b) t) (k0_pay16 (k0_pay2 a' w) x') (k0_pay19 (k0_pay2 a' w) g x' b t') (ix2 0 k)
      = (∑ r : Fin 256, dy (zrow 256 a w x r) (one g) (one b) (rw2 256 t r) k * nrm (zrow 256 a w x r) k)
        + ∑ r : Fin 256, dy (zrow 256 a' w x' r) (one g) (one b) (rw2 256 t' r) k * nrm (zrow 256 a' w x' r) k := by
  rw [pay26_gen, pay12_at]
  simp only [pay16_at, pay19_at, zgen_pay2]

/-- Both halves' gradient of the shift. -/
theorem db_at (k : Fin 1024) :
    k0_pay27 (F := Ideal) (k0_pay13 (k0_pay6 a w g x b) t) (k0_pay19 (k0_pay2 a' w) g x' b t') (ix2 0 k)
      = (∑ r : Fin 256, dy (zrow 256 a w x r) (one g) (one b) (rw2 256 t r) k)
        + ∑ r : Fin 256, dy (zrow 256 a' w x' r) (one g) (one b) (rw2 256 t' r) k := by
  rw [pay27_gen, pay13_at]
  simp only [pay19_at, zgen_pay2]

end Cert.Kernel6Ideal.Pf

end
-- ==== Proof.Loss.lean ====
module

public import proofs.«01_k».proof.Proof.Pay6
public import proofs.«01_k».proof.Proof.Gen.Kernel6Ideal.Value

@[expose] public section

set_option maxRecDepth 16384

noncomputable section

/-! What a step of the second norm's pass leaves in its blocks. -/

namespace Cert.Kernel6Ideal.Pf

open Cert.Kernel6Ideal Cert.Kernel6Ideal.Gen Cert.Ln Idealize.ShloMosaic Idealize.ShloMosaic.TcCoe Idealize.SL.Sem

/-- A rectangle's point is its offset and the point within it. -/
theorem emb2 {n0 n1 : ℕ} (off size : Fin 2 → ℕ) (inb) (x : (⟨2, size⟩ : Shape).Idx) (a : Fin n0) (b : Fin n1)
    (ha : off 0 + (x 0).val = a.val) (hb : off 1 + (x 1).val = b.val) :
    (Rect.unit (s := ⟨2, ![n0, n1]⟩) off size inb).emb x = ix2 a b := by
  funext d
  match d with
  | 0 => exact Fin.ext ((congrArg (off 0 + ·) (Nat.one_mul _)).trans ha)
  | 1 => exact Fin.ext ((congrArg (off 1 + ·) (Nat.one_mul _)).trans hb)

/-- An index of a rank-2 block is its two coordinates. -/
theorem ix2_eta {n0 n1 : ℕ} (y : (⟨2, ![n0, n1]⟩ : Shape).Idx) : y = ix2 (y 0) (y 1) := by
  funext a; match a with | 0 => rfl | 1 => rfl

theorem off0 : (![0, 0] : Fin 2 → ℕ) = fun _ => 0 := by
  funext a; match a with | 0 => rfl | 1 => rfl

/-- A row of the first half. -/
abbrev lo (r : Fin 256) : Fin 512 := ⟨r.val, by omega⟩

/-- A row of the second half. -/
abbrev hi (r : Fin 256) : Fin 512 := ⟨256 + r.val, by omega⟩

/-- Two stores, of the halves, leave the whole block. -/
theorem two_pieces {e : EltTy} (inb1 inb0) (u v : Vec Ideal S256x1024 e) (F : Fin 512 → Fin 1024 → Elt Ideal e)
    (hu : ∀ r k, u (ix2 r k) = F (hi r) k) (hv : ∀ r k, v (ix2 r k) = F (lo r) k) (r : Fin 512) (k : Fin 1024) :
    View.canon (Val := Elt Ideal) (s := S512x1024) (e := e) [⟨Rect.unit ![256, 0] ![256, 1024] inb1, u⟩, ⟨Rect.unit ![0, 0] ![256, 1024] inb0, v⟩] (ix2 r k) = F r k := by
  refine View.canon_apply_of_pieces (Val := Elt Ideal) (fun y : S512x1024.Idx => F (y 0) (y 1)) _ ?_ _ ?_
  · intro p hp x
    simp only [List.mem_cons, List.not_mem_nil, or_false] at hp
    rcases hp with rfl | rfl
    · obtain ⟨a, b, rfl⟩ : ∃ (a : Fin 256) (b : Fin 1024), x = ix2 a b := ⟨_, _, ix2_eta x⟩
      dsimp only
      rw [emb2 _ _ _ _ (hi a) b rfl (Nat.zero_add _)]
      exact hu a b
    · obtain ⟨a, b, rfl⟩ : ∃ (a : Fin 256) (b : Fin 1024), x = ix2 a b := ⟨_, _, ix2_eta x⟩
      dsimp only
      rw [emb2 _ _ _ _ (lo a) b (Nat.zero_add _) (Nat.zero_add _)]
      exact hv a b
  · refine View.cover_of_tiledL (s := S512x1024) (e := e) _ ![256, 1024] ?_ _
    sl_kernel_rfl

/-- The first half of a block. -/
abbrev ldLo {n : ℕ} {e : EltTy} (x : Vec Ideal ⟨2, ![512, n]⟩ e) (inb : ∀ a, (![0, 0] : Fin 2 → ℕ) a + (![256, n] : Fin 2 → ℕ) a ≤ (⟨2, ![512, n]⟩ : Shape).size a) :
    Vec Ideal ⟨2, ![256, n]⟩ e :=
  View.ld x (Rect.unit ![0, 0] ![256, n] inb)

/-- The second half of a block. -/
abbrev ldHi {n : ℕ} {e : EltTy} (x : Vec Ideal ⟨2, ![512, n]⟩ e) (inb : ∀ a, (![256, 0] : Fin 2 → ℕ) a + (![256, n] : Fin 2 → ℕ) a ≤ (⟨2, ![512, n]⟩ : Shape).size a) :
    Vec Ideal ⟨2, ![256, n]⟩ e :=
  View.ld x (Rect.unit ![256, 0] ![256, n] inb)

theorem ld_lo {n : ℕ} {e : EltTy} (x : Vec Ideal ⟨2, ![512, n]⟩ e) (inb) (r : Fin 256) (k : Fin n) : ldLo x inb (ix2 r k) = x (ix2 (lo r) k) :=
  congrArg x (emb2 _ _ _ _ (lo r) k (Nat.zero_add _) (Nat.zero_add _))

theorem ld_hi {n : ℕ} {e : EltTy} (x : Vec Ideal ⟨2, ![512, n]⟩ e) (inb) (r : Fin 256) (k : Fin n) : ldHi x inb (ix2 r k) = x (ix2 (hi r) k) :=
  congrArg x (emb2 _ _ _ _ (hi r) k rfl (Nat.zero_add _))

theorem zrow_lo (a : Vec Ideal S512x2816 .bf16) (w : Vec Ideal S2816x1024 .bf16) (x : Vec Ideal S512x1024 .f32) (ia ix) (r : Fin 256) :
    zrow 256 (ldLo a ia) w (ldLo x ix) r = zrow 512 a w x (lo r) := by
  funext k
  exact congrArg₂ (· + ·) (Finset.sum_congr rfl fun j _ => congrArg (· * _) (ld_lo a ia r j)) (congrArg (_ * ·) (ld_lo x ix r k))

theorem zrow_hi (a : Vec Ideal S512x2816 .bf16) (w : Vec Ideal S2816x1024 .bf16) (x : Vec Ideal S512x1024 .f32) (ia ix) (r : Fin 256) :
    zrow 256 (ldHi a ia) w (ldHi x ix) r = zrow 512 a w x (hi r) := by
  funext k
  exact congrArg₂ (· + ·) (Finset.sum_congr rfl fun j _ => congrArg (· * _) (ld_hi a ia r j)) (congrArg (_ * ·) (ld_hi x ix r k))

theorem rw2_lo (t : Vec Ideal S512x1024 .f32) (ix) (r : Fin 256) : rw2 256 (ldLo t ix) r = rw2 512 t (lo r) :=
  funext fun k => ld_lo t ix r k

theorem rw2_hi (t : Vec Ideal S512x1024 .f32) (ix) (r : Fin 256) : rw2 256 (ldHi t ix) r = rw2 512 t (hi r) :=
  funext fun k => ld_hi t ix r k

/-- What a step adds to the loss: each half's squares by 1/2048. -/
def stepLoss (x0 : FVec Ideal S512x2816 .bf16) (x1 : FVec Ideal S2816x1024 .bf16) (x2 : FVec Ideal S512x1024 .f32) (x3 x4 : FVec Ideal S1x1024 .f32)
    (x5 : FVec Ideal S512x1024 .f32) : EReal :=
  (∑ r : Fin 256, lossH 512 x0 x1 x2 x3 x4 x5 (lo r)) * Ideal.ofBits .f32 0x3A000000#32
    + (∑ r : Fin 256, lossH 512 x0 x1 x2 x3 x4 x5 (hi r)) * Ideal.ofBits .f32 0x3A000000#32

/-- What a step adds to the scale's gradient. -/
def stepG (x0 : FVec Ideal S512x2816 .bf16) (x1 : FVec Ideal S2816x1024 .bf16) (x2 : FVec Ideal S512x1024 .f32) (x3 x4 : FVec Ideal S1x1024 .f32)
    (x5 : FVec Ideal S512x1024 .f32) (k : Fin 1024) : EReal :=
  (∑ r : Fin 256, dy (zrow 512 x0 x1 x2 (lo r)) (one x3) (one x4) (rw2 512 x5 (lo r)) k * nrm (zrow 512 x0 x1 x2 (lo r)) k)
    + ∑ r : Fin 256, dy (zrow 512 x0 x1 x2 (hi r)) (one x3) (one x4) (rw2 512 x5 (hi r)) k * nrm (zrow 512 x0 x1 x2 (hi r)) k

/-- What a step adds to the shift's gradient. -/
def stepB (x0 : FVec Ideal S512x2816 .bf16) (x1 : FVec Ideal S2816x1024 .bf16) (x2 : FVec Ideal S512x1024 .f32) (x3 x4 : FVec Ideal S1x1024 .f32)
    (x5 : FVec Ideal S512x1024 .f32) (k : Fin 1024) : EReal :=
  (∑ r : Fin 256, dy (zrow 512 x0 x1 x2 (lo r)) (one x3) (one x4) (rw2 512 x5 (lo r)) k)
    + ∑ r : Fin 256, dy (zrow 512 x0 x1 x2 (hi r)) (one x3) (one x4) (rw2 512 x5 (hi r)) k

section Step

variable (c : Dev nD) (i : grid0.Coords) (arg3 : Memref sig .tc .vmem S512x2816 .bf16) (harg3 : arg3.IsWhole)
  (arg4 : Memref sig .tc .vmem S2816x1024 .bf16) (harg4 : arg4.IsWhole) (arg5 : Memref sig .tc .vmem S512x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S512x1024 .bf16) (harg10 : arg10.IsWhole) (arg11 : Memref sig .tc .vmem S1x128 .f32) (harg11 : arg11.IsWhole)
  (arg12 : Memref sig .tc .vmem S1x1024 .f32) (harg12 : arg12.IsWhole) (arg13 : Memref sig .tc .vmem S1x1024 .f32) (harg13 : arg13.IsWhole)
  (arg14 : Memref sig .tc .vmem S512x1024 .f32) (harg14 : arg14.IsWhole)
  (x0 : Vec Ideal S512x2816 .bf16) (x1 : Vec Ideal S2816x1024 .bf16) (x2 : Vec Ideal S512x1024 .f32) (x3 x4 : Vec Ideal S1x1024 .f32)
  (x5 : Vec Ideal S512x1024 .f32) (xo8 : Vec Ideal S1x128 .f32) (xo9 xo10 : Vec Ideal S1x1024 .f32)

/-- The gradient block a first step leaves. -/
theorem out_A_6 (hc0 : cond0_0 i) (hc1 : ¬cond0_1 i) (hc2 : cond0_2 i) (hc3 : ¬cond0_3 i) (hc4 : cond0_4 i) (hc5 : ¬cond0_5 i) (r : Fin 512) (k : Fin 1024) :
    out0_A_6 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 (ix2 r k) = dz (zrow 512 x0 x1 x2 r) (pr 512 x0 x1 x2 x3 x4 x5 r) k := by
  unfold out0_A_6
  refine (congrFun (View.read_writes_eq_canon _ _ _ (by intro y; apply cover0_A_6)) _).trans ?_
  unfold kernelRun0_A
  dsimp only
  sl_unfold_words
  simp only [View.readAt_eq_ld, harg3.read_unread, harg4.read_unread, harg5.read_unread, harg6.read_unread, harg7.read_unread, harg8.read_unread]
  rw [View.ld_unit_zero off0 _ x1, View.ld_unit_zero off0 _ x3, View.ld_unit_zero off0 _ x4]
  refine two_pieces (e := .f32) _ _ _ _ (fun r k => dz (zrow 512 x0 x1 x2 r) (pr 512 x0 x1 x2 x3 x4 x5 r) k) (fun r k => ?_) (fun r k => ?_) r k
  · rw [pay23_at]
    unfold pr
    rw [zrow_hi, rw2_hi]
  · rw [pay9_at]
    unfold pr
    rw [zrow_lo, rw2_lo]

/-- The rounded gradient block a first step leaves. -/
theorem out_A_7 (hc0 : cond0_0 i) (hc1 : ¬cond0_1 i) (hc2 : cond0_2 i) (hc3 : ¬cond0_3 i) (hc4 : cond0_4 i) (hc5 : ¬cond0_5 i) (r : Fin 512) (k : Fin 1024) :
    out0_A_7 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 (ix2 r k) = dz (zrow 512 x0 x1 x2 r) (pr 512 x0 x1 x2 x3 x4 x5 r) k := by
  unfold out0_A_7
  refine (congrFun (View.read_writes_eq_canon _ _ _ (by intro y; apply cover0_A_7)) _).trans ?_
  unfold kernelRun0_A
  dsimp only
  sl_unfold_words
  simp only [View.readAt_eq_ld, harg3.read_unread, harg4.read_unread, harg5.read_unread, harg6.read_unread, harg7.read_unread, harg8.read_unread]
  rw [View.ld_unit_zero off0 _ x1, View.ld_unit_zero off0 _ x3, View.ld_unit_zero off0 _ x4]
  refine two_pieces (e := .bf16) _ _ _ _ (fun r k => dz (zrow 512 x0 x1 x2 r) (pr 512 x0 x1 x2 x3 x4 x5 r) k) (fun r k => ?_) (fun r k => ?_) r k
  · rw [pay24_at]
    unfold pr
    rw [zrow_hi, rw2_hi]
  · rw [pay10_at]
    unfold pr
    rw [zrow_lo, rw2_lo]

/-- The loss a first step leaves. -/
theorem out_A_8 (hc0 : cond0_0 i) (hc1 : ¬cond0_1 i) (hc2 : cond0_2 i) (hc3 : ¬cond0_3 i) (hc4 : cond0_4 i) (hc5 : ¬cond0_5 i) (k : Fin 128) :
    out0_A_8 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 (ix2 0 k) = stepLoss x0 x1 x2 x3 x4 x5 := by
  unfold out0_A_8
  refine (congrFun (View.read_writes_eq_canon _ _ _ (by intro y; apply cover0_A_8)) _).trans ?_
  unfold kernelRun0_A
  dsimp only
  sl_unfold_words
  simp only [View.readAt_eq_ld, harg3.read_unread, harg4.read_unread, harg5.read_unread, harg6.read_unread, harg7.read_unread, harg8.read_unread]
  refine (congrFun (View.canon_unit_zero off0 _ _) _).trans ?_
  rw [View.ld_unit_zero off0 _ x1, View.ld_unit_zero off0 _ x3, View.ld_unit_zero off0 _ x4]
  rw [loss_at]
  unfold stepLoss
  simp only [lossH, zrow_lo, rw2_lo, zrow_hi, rw2_hi]

/-- The scale's gradient a first step leaves. -/
theorem out_A_9 (hc0 : cond0_0 i) (hc1 : ¬cond0_1 i) (hc2 : cond0_2 i) (hc3 : ¬cond0_3 i) (hc4 : cond0_4 i) (hc5 : ¬cond0_5 i) (k : Fin 1024) :
    out0_A_9 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 (ix2 0 k) = stepG x0 x1 x2 x3 x4 x5 k := by
  unfold out0_A_9
  refine (congrFun (View.read_writes_eq_canon _ _ _ (by intro y; apply cover0_A_9)) _).trans ?_
  unfold kernelRun0_A
  dsimp only
  sl_unfold_words
  simp only [View.readAt_eq_ld, harg3.read_unread, harg4.read_unread, harg5.read_unread, harg6.read_unread, harg7.read_unread, harg8.read_unread]
  refine (congrFun (View.canon_unit_zero off0 _ _) _).trans ?_
  rw [View.ld_unit_zero off0 _ x1, View.ld_unit_zero off0 _ x3, View.ld_unit_zero off0 _ x4]
  rw [dg_at]
  unfold stepG
  simp only [lossH, zrow_lo, rw2_lo, zrow_hi, rw2_hi]

/-- The shift's gradient a first step leaves. -/
theorem out_A_10 (hc0 : cond0_0 i) (hc1 : ¬cond0_1 i) (hc2 : cond0_2 i) (hc3 : ¬cond0_3 i) (hc4 : cond0_4 i) (hc5 : ¬cond0_5 i) (k : Fin 1024) :
    out0_A_10 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 (ix2 0 k) = stepB x0 x1 x2 x3 x4 x5 k := by
  unfold out0_A_10
  refine (congrFun (View.read_writes_eq_canon _ _ _ (by intro y; apply cover0_A_10)) _).trans ?_
  unfold kernelRun0_A
  dsimp only
  sl_unfold_words
  simp only [View.readAt_eq_ld, harg3.read_unread, harg4.read_unread, harg5.read_unread, harg6.read_unread, harg7.read_unread, harg8.read_unread]
  refine (congrFun (View.canon_unit_zero off0 _ _) _).trans ?_
  rw [View.ld_unit_zero off0 _ x1, View.ld_unit_zero off0 _ x3, View.ld_unit_zero off0 _ x4]
  rw [db_at]
  unfold stepB
  simp only [lossH, zrow_lo, rw2_lo, zrow_hi, rw2_hi]

/-- The gradient block a later step leaves. -/
theorem out_B_6 (hc0 : ¬cond0_0 i) (hc1 : cond0_1 i) (hc2 : ¬cond0_2 i) (hc3 : cond0_3 i) (hc4 : ¬cond0_4 i) (hc5 : cond0_5 i) (r : Fin 512) (k : Fin 1024) :
    out0_B_6 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 xo8 xo9 xo10 (ix2 r k) = dz (zrow 512 x0 x1 x2 r) (pr 512 x0 x1 x2 x3 x4 x5 r) k := by
  unfold out0_B_6
  refine (congrFun (View.read_writes_eq_canon _ _ _ (by intro y; apply cover0_B_6)) _).trans ?_
  unfold kernelRun0_B
  dsimp only
  sl_unfold_words
  simp only [View.readAt_eq_ld, harg3.read_unread, harg4.read_unread, harg5.read_unread, harg6.read_unread, harg7.read_unread, harg8.read_unread, harg11.read_unread, harg12.read_unread, harg13.read_unread]
  rw [View.ld_unit_zero off0 _ x1, View.ld_unit_zero off0 _ x3, View.ld_unit_zero off0 _ x4]
  refine two_pieces (e := .f32) _ _ _ _ (fun r k => dz (zrow 512 x0 x1 x2 r) (pr 512 x0 x1 x2 x3 x4 x5 r) k) (fun r k => ?_) (fun r k => ?_) r k
  · rw [pay23_at]
    unfold pr
    rw [zrow_hi, rw2_hi]
  · rw [pay9_at]
    unfold pr
    rw [zrow_lo, rw2_lo]

/-- The rounded gradient block a later step leaves. -/
theorem out_B_7 (hc0 : ¬cond0_0 i) (hc1 : cond0_1 i) (hc2 : ¬cond0_2 i) (hc3 : cond0_3 i) (hc4 : ¬cond0_4 i) (hc5 : cond0_5 i) (r : Fin 512) (k : Fin 1024) :
    out0_B_7 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 xo8 xo9 xo10 (ix2 r k) = dz (zrow 512 x0 x1 x2 r) (pr 512 x0 x1 x2 x3 x4 x5 r) k := by
  unfold out0_B_7
  refine (congrFun (View.read_writes_eq_canon _ _ _ (by intro y; apply cover0_B_7)) _).trans ?_
  unfold kernelRun0_B
  dsimp only
  sl_unfold_words
  simp only [View.readAt_eq_ld, harg3.read_unread, harg4.read_unread, harg5.read_unread, harg6.read_unread, harg7.read_unread, harg8.read_unread, harg11.read_unread, harg12.read_unread, harg13.read_unread]
  rw [View.ld_unit_zero off0 _ x1, View.ld_unit_zero off0 _ x3, View.ld_unit_zero off0 _ x4]
  refine two_pieces (e := .bf16) _ _ _ _ (fun r k => dz (zrow 512 x0 x1 x2 r) (pr 512 x0 x1 x2 x3 x4 x5 r) k) (fun r k => ?_) (fun r k => ?_) r k
  · rw [pay24_at]
    unfold pr
    rw [zrow_hi, rw2_hi]
  · rw [pay10_at]
    unfold pr
    rw [zrow_lo, rw2_lo]

/-- The loss a later step leaves: its own added to the one before. -/
theorem out_B_8 (hc0 : ¬cond0_0 i) (hc1 : cond0_1 i) (hc2 : ¬cond0_2 i) (hc3 : cond0_3 i) (hc4 : ¬cond0_4 i) (hc5 : cond0_5 i) (k : Fin 128) :
    out0_B_8 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 xo8 xo9 xo10 (ix2 0 k) = xo8 (ix2 0 k) + stepLoss x0 x1 x2 x3 x4 x5 := by
  unfold out0_B_8
  refine (congrFun (View.read_writes_eq_canon _ _ _ (by intro y; apply cover0_B_8)) _).trans ?_
  unfold kernelRun0_B
  dsimp only
  sl_unfold_words
  simp only [View.readAt_eq_ld, harg3.read_unread, harg4.read_unread, harg5.read_unread, harg6.read_unread, harg7.read_unread, harg8.read_unread, harg11.read_unread, harg12.read_unread, harg13.read_unread]
  refine (congrFun (View.canon_unit_zero off0 _ _) _).trans ?_
  rw [View.ld_unit_zero off0 _ x1, View.ld_unit_zero off0 _ x3, View.ld_unit_zero off0 _ x4, View.ld_unit_zero off0 _ xo8]
  rw [pay28_gen]
  refine congrArg (xo8 (ix2 0 k) + ·) ?_
  rw [loss_at]
  unfold stepLoss
  simp only [lossH, zrow_lo, rw2_lo, zrow_hi, rw2_hi]

/-- The scale's gradient a later step leaves: its own added to the one before. -/
theorem out_B_9 (hc0 : ¬cond0_0 i) (hc1 : cond0_1 i) (hc2 : ¬cond0_2 i) (hc3 : cond0_3 i) (hc4 : ¬cond0_4 i) (hc5 : cond0_5 i) (k : Fin 1024) :
    out0_B_9 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 xo8 xo9 xo10 (ix2 0 k) = xo9 (ix2 0 k) + stepG x0 x1 x2 x3 x4 x5 k := by
  unfold out0_B_9
  refine (congrFun (View.read_writes_eq_canon _ _ _ (by intro y; apply cover0_B_9)) _).trans ?_
  unfold kernelRun0_B
  dsimp only
  sl_unfold_words
  simp only [View.readAt_eq_ld, harg3.read_unread, harg4.read_unread, harg5.read_unread, harg6.read_unread, harg7.read_unread, harg8.read_unread, harg11.read_unread, harg12.read_unread, harg13.read_unread]
  refine (congrFun (View.canon_unit_zero off0 _ _) _).trans ?_
  rw [View.ld_unit_zero off0 _ x1, View.ld_unit_zero off0 _ x3, View.ld_unit_zero off0 _ x4, View.ld_unit_zero off0 _ xo9]
  rw [pay29_gen]
  refine congrArg (xo9 (ix2 0 k) + ·) ?_
  rw [dg_at]
  unfold stepG
  simp only [lossH, zrow_lo, rw2_lo, zrow_hi, rw2_hi]

/-- The shift's gradient a later step leaves: its own added to the one before. -/
theorem out_B_10 (hc0 : ¬cond0_0 i) (hc1 : cond0_1 i) (hc2 : ¬cond0_2 i) (hc3 : cond0_3 i) (hc4 : ¬cond0_4 i) (hc5 : cond0_5 i) (k : Fin 1024) :
    out0_B_10 c i arg3 harg3 arg4 harg4 arg5 harg5 arg6 harg6 arg7 harg7 arg8 harg8 arg9 harg9 arg10 harg10 arg11 harg11 arg12 harg12
      arg13 harg13 arg14 harg14 hc0 hc1 hc2 hc3 hc4 hc5 x0 x1 x2 x3 x4 x5 xo8 xo9 xo10 (ix2 0 k) = xo10 (ix2 0 k) + stepB x0 x1 x2 x3 x4 x5 k := by
  unfold out0_B_10
  refine (congrFun (View.read_writes_eq_canon _ _ _ (by intro y; apply cover0_B_10)) _).trans ?_
  unfold kernelRun0_B
  dsimp only
  sl_unfold_words
  simp only [View.readAt_eq_ld, harg3.read_unread, harg4.read_unread, harg5.read_unread, harg6.read_unread, harg7.read_unread, harg8.read_unread, harg11.read_unread, harg12.read_unread, harg13.read_unread]
  refine (congrFun (View.canon_unit_zero off0 _ _) _).trans ?_
  rw [View.ld_unit_zero off0 _ x1, View.ld_unit_zero off0 _ x3, View.ld_unit_zero off0 _ x4, View.ld_unit_zero off0 _ xo10]
  rw [pay1_gen]
  refine congrArg (xo10 (ix2 0 k) + ·) ?_
  rw [db_at]
  unfold stepB
  simp only [lossH, zrow_lo, rw2_lo, zrow_hi, rw2_hi]

end Step

end Cert.Kernel6Ideal.Pf

end
-- ==== Proof.LossArr.lean ====
module

public import proofs.«01_k».proof.Proof.Rows
public import proofs.«01_k».proof.Proof.Loss
public import Idealize.ShloMosaic.Lib.StableHlo.ReadAt

@[expose] public section

set_option maxRecDepth 16384

noncomputable section

/-! What the second norm's pass leaves in its arrays: each row's gradient, and the sums over all rows. -/

namespace Cert.Kernel6Ideal.Pf

open Cert.Kernel6Ideal Cert.Kernel6Ideal.Gen Cert.Kernel6Ideal.Value Cert.Ln Idealize.ShloMosaic Idealize.ShloMosaic.TcCoe Idealize.SL.Sem
open Idealize.ShloMosaic.Pipeline (Dat)

variable (m : (ℓ : Loc nD τ sig) → Buf (Elt Ideal) ℓ) (c : Dev nD)

/-- The activation a core was launched with. -/
abbrev ac : (⟨2, ![4096, 2816]⟩ : Shape).Idx → EReal := m ((c : Thread nD τ).loc main_arg0)

/-- The down projection's weight a core was launched with. -/
abbrev wd : (⟨2, ![2816, 1024]⟩ : Shape).Idx → EReal := m ((c : Thread nD τ).loc main_arg1)

/-- The residual rows a core was launched with. -/
abbrev xr : (⟨2, ![4096, 1024]⟩ : Shape).Idx → EReal := m ((c : Thread nD τ).loc main_arg2)

/-- The norm's scale a core was launched with. -/
abbrev sc : (⟨2, ![1, 1024]⟩ : Shape).Idx → EReal := m ((c : Thread nD τ).loc main_arg3)

/-- The norm's shift a core was launched with. -/
abbrev sh : (⟨2, ![1, 1024]⟩ : Shape).Idx → EReal := m ((c : Thread nD τ).loc main_arg4)

/-- The target a core was launched with. -/
abbrev tg : (⟨3, ![2, 2048, 1024]⟩ : Shape).Idx → EReal := m ((c : Thread nD τ).loc main_arg5)

theorem lt_N (t : Fin cfg0.N) : t.val < 8 := lt_of_lt_of_eq t.isLt N_0

/-- A row of the batch. -/
abbrev at2 (b : Fin 2) (s : Fin 2048) : Fin 4096 := ⟨b.val * 2048 + s.val, by omega⟩

/-- The weight as the kernel finds it. -/
theorem V_v0 (j : Fin 2816) (k : Fin 1024) : V m c main_v0 (ix2 j k) = wd m c (ix2 j k) := by
  unfold V wd
  after_reads_at

/-- The target's rows as the kernel finds them. -/
theorem V_v1 (b : Fin 2) (s : Fin 2048) (k : Fin 1024) : V m c main_v1 (ix2 (at2 b s) k) = tg m c (ix3 b s k) := by
  unfold V tg at2
  after_reads_at

/-- Window 0's block numbers. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 1's block numbers. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Window 2's block numbers. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Window 3's block numbers. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Window 4's block numbers. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Window 5's block numbers. -/
theorem idx5 : ∀ t : Fin cfg0.N, win0_5.index t 0 = t.val ∧ win0_5.index t 1 = 0 :=
  (by decide +kernel : ∀ t : Fin grid0.N, win0_5.index t 0 = t.val ∧ win0_5.index t 1 = 0)

/-- Window 6's block numbers. -/
theorem idx6 : ∀ t : Fin cfg0.N, win0_6.index t 0 = t.val ∧ win0_6.index t 1 = 0 :=
  (by decide +kernel : ∀ t : Fin grid0.N, win0_6.index t 0 = t.val ∧ win0_6.index t 1 = 0)

/-- Window 7's block numbers. -/
theorem idx7 : ∀ t : Fin cfg0.N, win0_7.index t 0 = t.val ∧ win0_7.index t 1 = 0 :=
  (by decide +kernel : ∀ t : Fin grid0.N, win0_7.index t 0 = t.val ∧ win0_7.index t 1 = 0)

/-- Window 8's block numbers. -/
theorem idx8 : ∀ t : Fin cfg0.N, win0_8.index t 0 = 0 ∧ win0_8.index t 1 = 0 :=
  (by decide +kernel : ∀ t : Fin grid0.N, win0_8.index t 0 = 0 ∧ win0_8.index t 1 = 0)

/-- Window 9's block numbers. -/
theorem idx9 : ∀ t : Fin cfg0.N, win0_9.index t 0 = 0 ∧ win0_9.index t 1 = 0 :=
  (by decide +kernel : ∀ t : Fin grid0.N, win0_9.index t 0 = 0 ∧ win0_9.index t 1 = 0)

/-- Window 10's block numbers. -/
theorem idx10 : ∀ t : Fin cfg0.N, win0_10.index t 0 = 0 ∧ win0_10.index t 1 = 0 :=
  (by decide +kernel : ∀ t : Fin grid0.N, win0_10.index t 0 = 0 ∧ win0_10.index t 1 = 0)

/-- Row `r` of a step's block of rows. -/
def row (t : Fin cfg0.N) (r : Fin 512) : Fin 4096 := ⟨t.val * 512 + r.val, by have := lt_N t; omega⟩

/-- A step's block of the activation. -/
theorem blk0 (t : Fin cfg0.N) (r : Fin 512) (k : Fin 2816) : iblk m c 0 t (ix2 r k) = ac m c (ix2 (row t r) k) := by
  have hi := idx0 t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 512 + 1 * r.val = t.val * 512 + r.val; rw [hi.1]; omega
  | ⟨1, _⟩ => show win0_0.index t 1 * 2816 + 1 * k.val = k.val; rw [hi.2]; omega

/-- A step's block of the weight. -/
theorem blk1 (t : Fin cfg0.N) (r : Fin 2816) (k : Fin 1024) : iblk m c 1 t (ix2 r k) = V m c main_v0 (ix2 r k) := by
  have hi := idx1 t
  unfold iblk
  rw [View.read_apply]
  show V m c main_v0 _ = _
  congr 1
  funext a
  apply Fin.ext
  match a with
  | ⟨0, _⟩ => show win0_1.index t 0 * 2816 + 1 * r.val = r.val; rw [hi.1]; omega
  | ⟨1, _⟩ => show win0_1.index t 1 * 1024 + 1 * k.val = k.val; rw [hi.2]; omega

/-- A step's block of the residual. -/
theorem blk2 (t : Fin cfg0.N) (r : Fin 512) (k : Fin 1024) : iblk m c 2 t (ix2 r k) = xr m c (ix2 (row t r) k) := by
  have hi := idx2 t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 512 + 1 * r.val = t.val * 512 + r.val; rw [hi.1]; omega
  | ⟨1, _⟩ => show win0_2.index t 1 * 1024 + 1 * k.val = k.val; rw [hi.2]; omega

/-- A step's block of the scale. -/
theorem blk3 (t : Fin cfg0.N) (k : Fin 1024) : iblk m c 3 t (ix2 0 k) = sc m c (ix2 0 k) := by
  have hi := idx3 t
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_3.index t 0 * 1 + 1 * 0 = 0; rw [hi.1]
  | ⟨1, _⟩ => show win0_3.index t 1 * 1024 + 1 * k.val = k.val; rw [hi.2]; omega

/-- A step's block of the shift. -/
theorem blk4 (t : Fin cfg0.N) (k : Fin 1024) : iblk m c 4 t (ix2 0 k) = sh m c (ix2 0 k) := by
  have hi := idx4 t
  unfold iblk
  rw [View.read_apply]
  show V m c main_arg4 _ = _
  rw [V_main_arg4]
  show m ((c : Thread nD τ).loc main_arg4) _ = m ((c : Thread nD τ).loc main_arg4) _
  congr 1
  funext a
  apply Fin.ext
  match a with
  | ⟨0, _⟩ => show win0_4.index t 0 * 1 + 1 * 0 = 0; rw [hi.1]
  | ⟨1, _⟩ => show win0_4.index t 1 * 1024 + 1 * k.val = k.val; rw [hi.2]; omega

/-- A step's block of the target. -/
theorem blk5 (t : Fin cfg0.N) (r : Fin 512) (k : Fin 1024) : iblk m c 5 t (ix2 r k) = V m c main_v1 (ix2 (row t r) k) := by
  have hi := idx5 t
  unfold iblk
  rw [View.read_apply]
  show V m c main_v1 _ = _
  congr 1
  funext a
  apply Fin.ext
  match a with
  | ⟨0, _⟩ => show win0_5.index t 0 * 512 + 1 * r.val = t.val * 512 + r.val; rw [hi.1]; omega
  | ⟨1, _⟩ => show win0_5.index t 1 * 1024 + 1 * k.val = k.val; rw [hi.2]; omega

/-- The norm's input row. -/
abbrev Z4 (R : Fin 4096) : Fin 1024 → EReal := zrow 4096 (ac m c) (wd m c) (xr m c) R

/-- The target's row. -/
abbrev T4 (R : Fin 4096) : Fin 1024 → EReal := fun k => V m c main_v1 (ix2 R k)

/-- The gradient with respect to the normed row. -/
abbrev P4 (R : Fin 4096) (k : Fin 1024) : EReal := dy (Z4 m c R) (one (sc m c)) (one (sh m c)) (T4 m c R) k * one (sc m c) k

theorem z_blk (t : Fin cfg0.N) (r : Fin 512) : zrow 512 (iblk m c 0 t) (iblk m c 1 t) (iblk m c 2 t) r = Z4 m c (row t r) := by
  funext k
  exact congrArg₂ (· + ·) (Finset.sum_congr rfl fun j _ => congrArg₂ (· * ·) (blk0 m c t r j) ((blk1 m c t j k).trans (V_v0 m c j k)))
    (congrArg (_ * ·) (blk2 m c t r k))

theorem sc_blk (t : Fin cfg0.N) : one (iblk m c 3 t) = one (sc m c) := funext fun k => blk3 m c t k

theorem sh_blk (t : Fin cfg0.N) : one (iblk m c 4 t) = one (sh m c) := funext fun k => blk4 m c t k

theorem t_blk (t : Fin cfg0.N) (r : Fin 512) : rw2 512 (iblk m c 5 t) r = T4 m c (row t r) := funext fun k => blk5 m c t r k

/-- A step's gradient rows are the batch's. -/
theorem dz_blk (t : Fin cfg0.N) (r : Fin 512) (k : Fin 1024) :
    dz (zrow 512 (iblk m c 0 t) (iblk m c 1 t) (iblk m c 2 t) r) (pr 512 (iblk m c 0 t) (iblk m c 1 t) (iblk m c 2 t) (iblk m c 3 t) (iblk m c 4 t) (iblk m c 5 t) r) k
      = dz (Z4 m c (row t r)) (P4 m c (row t r)) k := by
  unfold pr
  rw [z_blk, sc_blk, sh_blk, t_blk]

/-- A function of a row of the batch, zero past the rows. -/
def ext (f : Fin 4096 → EReal) (R : ℕ) : EReal := if h : R < 4096 then f ⟨R, h⟩ else 0

/-- Half `j`'s sum of a function of the row. -/
def hs (f : Fin 4096 → EReal) (j : ℕ) : EReal := ∑ i : Fin 256, ext f (j * 256 + i.val)

theorem hs_lo (f : Fin 4096 → EReal) (t : Fin cfg0.N) : ∑ r : Fin 256, f (row t (lo r)) = hs f (2 * t.val) := by
  unfold hs ext
  refine Finset.sum_congr rfl fun r _ => ?_
  have h := lt_N t
  rw [dif_pos (by omega)]
  exact congrArg f (Fin.ext (show t.val * 512 + r.val = 2 * t.val * 256 + r.val by omega))

theorem hs_hi (f : Fin 4096 → EReal) (t : Fin cfg0.N) : ∑ r : Fin 256, f (row t (hi r)) = hs f (2 * t.val + 1) := by
  unfold hs ext
  refine Finset.sum_congr rfl fun r _ => ?_
  have h := lt_N t
  rw [dif_pos (by omega)]
  exact congrArg f (Fin.ext (show t.val * 512 + (256 + r.val) = (2 * t.val + 1) * 256 + r.val by omega))

/-- The sixteen halves are all the rows. -/
theorem hs_all (f : Fin 4096 → EReal) : ∑ j ∈ Finset.range 16, hs f j = ∑ b : Fin 2, ∑ s : Fin 2048, f (at2 b s) := by
  rw [Finset.sum_range]
  unfold hs
  rw [Spec.sum_blocks 16 256 (ext f)]
  refine (Spec.sum_blocks 2 2048 (ext f)).symm.trans (Finset.sum_congr rfl fun b _ => Finset.sum_congr rfl fun s _ => ?_)
  unfold ext
  rw [dif_pos (by omega)]

/-- A row's squares. -/
abbrev sqR (R : Fin 4096) : EReal :=
  ∑ k : Fin 1024, dif (Z4 m c R) (one (sc m c)) (one (sh m c)) (T4 m c R) k * dif (Z4 m c R) (one (sc m c)) (one (sh m c)) (T4 m c R) k

/-- A row's term of the scale's gradient. -/
abbrev gR (k : Fin 1024) (R : Fin 4096) : EReal := dy (Z4 m c R) (one (sc m c)) (one (sh m c)) (T4 m c R) k * nrm (Z4 m c R) k

/-- A row's term of the shift's gradient. -/
abbrev bR (k : Fin 1024) (R : Fin 4096) : EReal := dy (Z4 m c R) (one (sc m c)) (one (sh m c)) (T4 m c R) k

theorem loss_blk (t : Fin cfg0.N) : stepLoss (iblk m c 0 t) (iblk m c 1 t) (iblk m c 2 t) (iblk m c 3 t) (iblk m c 4 t) (iblk m c 5 t)
    = hs (sqR m c) (2 * t.val) * Ideal.ofBits .f32 0x3A000000#32 + hs (sqR m c) (2 * t.val + 1) * Ideal.ofBits .f32 0x3A000000#32 := by
  rw [← hs_lo, ← hs_hi]
  unfold stepLoss lossH
  simp only [z_blk, sc_blk, sh_blk, t_blk]

theorem g_blk (t : Fin cfg0.N) (k : Fin 1024) : stepG (iblk m c 0 t) (iblk m c 1 t) (iblk m c 2 t) (iblk m c 3 t) (iblk m c 4 t) (iblk m c 5 t) k
    = hs (gR m c k) (2 * t.val) + hs (gR m c k) (2 * t.val + 1) := by
  rw [← hs_lo, ← hs_hi]
  unfold stepG
  simp only [z_blk, sc_blk, sh_blk, t_blk]

theorem b_blk (t : Fin cfg0.N) (k : Fin 1024) : stepB (iblk m c 0 t) (iblk m c 1 t) (iblk m c 2 t) (iblk m c 3 t) (iblk m c 4 t) (iblk m c 5 t) k
    = hs (bR m c k) (2 * t.val) + hs (bR m c k) (2 * t.val + 1) := by
  rw [← hs_lo, ← hs_hi]
  unfold stepB
  simp only [z_blk, sc_blk, sh_blk, t_blk]

attribute [local irreducible] outsAt0

/-- The gradient rows a step leaves. -/
theorem left6 (t : Fin cfg0.N) (r : Fin 512) (k : Fin 1024) :
    (outsAt0 m c t.val t.isLt).1 (ix2 r k) = dz (Z4 m c (row t r)) (P4 m c (row t r)) k := by
  have hN := lt_N t
  by_cases h : t.val = 0
  · rw [outsAt0_A m c t (by omega) (by omega) (by omega) (by omega) (by omega) (by omega)]
    dsimp only
    rw [out_A_6, dz_blk]
  · rw [outsAt0_B m c t (by omega) (by omega) (by omega) (by omega) (by omega) (by omega)]
    dsimp only
    rw [out_B_6, dz_blk]

/-- The rounded gradient rows a step leaves. -/
theorem left7 (t : Fin cfg0.N) (r : Fin 512) (k : Fin 1024) :
    (outsAt0 m c t.val t.isLt).2.1 (ix2 r k) = dz (Z4 m c (row t r)) (P4 m c (row t r)) k := by
  have hN := lt_N t
  by_cases h : t.val = 0
  · rw [outsAt0_A m c t (by omega) (by omega) (by omega) (by omega) (by omega) (by omega)]
    dsimp only
    rw [out_A_7, dz_blk]
  · rw [outsAt0_B m c t (by omega) (by omega) (by omega) (by omega) (by omega) (by omega)]
    dsimp only
    rw [out_B_7, dz_blk]

/-- The loss after a step: all the halves' so far. -/
theorem left8 (k : Fin 128) : ∀ (n : ℕ) (h : n < cfg0.N),
    (outsAt0 m c n h).2.2.1 (ix2 0 k) = ∑ j ∈ Finset.range (2 * n + 2), hs (sqR m c) j * Ideal.ofBits .f32 0x3A000000#32 := by
  intro n
  induction n with
  | zero =>
    intro h
    have e := outsAt0_A m c ⟨0, h⟩ rfl (by simp) rfl (by simp) rfl (by simp)
    dsimp only at e
    rw [e]
    dsimp only
    rw [out_A_8, loss_blk, Finset.sum_range_succ, Finset.sum_range_succ, Finset.sum_range_zero, zero_add]
    rfl
  | succ n ih =>
    intro h
    have hN : n + 1 < 8 := lt_of_lt_of_eq h N_0
    have e := outsAt0_B m c ⟨n + 1, h⟩ (by dsimp only; omega) (by simp) (by dsimp only; omega) (by simp) (by dsimp only; omega) (by simp)
    dsimp only at e
    rw [e]
    dsimp only
    rw [out_B_8, loss_blk, show 2 * (n + 1) + 2 = 2 * n + 2 + 1 + 1 by omega, Finset.sum_range_succ, Finset.sum_range_succ, add_assoc]
    exact congrArg (· + _) (ih (by omega))

/-- The scale's gradient after a step: all the halves' so far. -/
theorem left9 (k : Fin 1024) : ∀ (n : ℕ) (h : n < cfg0.N),
    (outsAt0 m c n h).2.2.2.1 (ix2 0 k) = ∑ j ∈ Finset.range (2 * n + 2), hs (gR m c k) j := by
  intro n
  induction n with
  | zero =>
    intro h
    have e := outsAt0_A m c ⟨0, h⟩ rfl (by simp) rfl (by simp) rfl (by simp)
    dsimp only at e
    rw [e]
    dsimp only
    rw [out_A_9, g_blk, Finset.sum_range_succ, Finset.sum_range_succ, Finset.sum_range_zero, zero_add]
    rfl
  | succ n ih =>
    intro h
    have hN : n + 1 < 8 := lt_of_lt_of_eq h N_0
    have e := outsAt0_B m c ⟨n + 1, h⟩ (by dsimp only; omega) (by simp) (by dsimp only; omega) (by simp) (by dsimp only; omega) (by simp)
    dsimp only at e
    rw [e]
    dsimp only
    rw [out_B_9, g_blk, show 2 * (n + 1) + 2 = 2 * n + 2 + 1 + 1 by omega, Finset.sum_range_succ, Finset.sum_range_succ, add_assoc]
    exact congrArg (· + _) (ih (by omega))

/-- The shift's gradient after a step: all the halves' so far. -/
theorem left10 (k : Fin 1024) : ∀ (n : ℕ) (h : n < cfg0.N),
    (outsAt0 m c n h).2.2.2.2 (ix2 0 k) = ∑ j ∈ Finset.range (2 * n + 2), hs (bR m c k) j := by
  intro n
  induction n with
  | zero =>
    intro h
    have e := outsAt0_A m c ⟨0, h⟩ rfl (by simp) rfl (by simp) rfl (by simp)
    dsimp only at e
    rw [e]
    dsimp only
    rw [out_A_10, b_blk, Finset.sum_range_succ, Finset.sum_range_succ, Finset.sum_range_zero, zero_add]
    rfl
  | succ n ih =>
    intro h
    have hN : n + 1 < 8 := lt_of_lt_of_eq h N_0
    have e := outsAt0_B m c ⟨n + 1, h⟩ (by dsimp only; omega) (by simp) (by dsimp only; omega) (by simp) (by dsimp only; omega) (by simp)
    dsimp only at e
    rw [e]
    dsimp only
    rw [out_B_10, b_blk, show 2 * (n + 1) + 2 = 2 * n + 2 + 1 + 1 by omega, Finset.sum_range_succ, Finset.sum_range_succ, add_assoc]
    exact congrArg (· + _) (ih (by omega))

/-- Where window 6's block lies in its array. -/
theorem emb6 (t : Fin cfg0.N) (r : Fin 512) (k : Fin 1024) : ((cfg0.win 6).blk t).view.emb (ix2 r k) = ix2 (row t r) k := by
  have hi := idx6 t
  funext x
  apply Fin.ext
  match x with
  | ⟨0, _⟩ => show win0_6.index t 0 * 512 + 1 * r.val = t.val * 512 + r.val; rw [hi.1]; omega
  | ⟨1, _⟩ => show win0_6.index t 1 * 1024 + 1 * k.val = k.val; rw [hi.2]; omega

/-- The array window 6 leaves: every row's gradient. -/
theorem arr6 : (dats m 0 c).arrAt 6 cfg0.N = fun i : S4096x1024.Idx => dz (Z4 m c (i 0)) (P4 m c (i 0)) (i 1) := by
  refine Dat.arrAt_eq_of_cover (dats m 0 c) 6 _ ?_ ?_
  · intro t _
    rw [flushed6]
    funext y
    rw [View.read_apply]
    obtain ⟨r, k, rfl⟩ : ∃ (r : Fin 512) (k : Fin 1024), y = ix2 r k := ⟨_, _, ix2_eta y⟩
    rw [emb6 t r k]
    exact left6 m c t r k
  · intro i
    obtain ⟨R, k, rfl⟩ : ∃ (R : Fin 4096) (k : Fin 1024), i = ix2 R k := ⟨_, _, ix2_eta i⟩
    let t : Fin cfg0.N := ⟨R.val / 512, lt_of_lt_of_eq (by omega : R.val / 512 < 8) N_0.symm⟩
    refine ⟨t, flush0_6 t, ?_⟩
    have e := emb6 t ⟨R.val % 512, by omega⟩ k
    have hR : row t ⟨R.val % 512, by omega⟩ = R := Fin.ext (by show R.val / 512 * 512 + R.val % 512 = R.val; omega)
    rw [hR] at e
    rw [← e]
    exact View.emb_mem_set _ _

/-- Where window 7's block lies in its array. -/
theorem emb7 (t : Fin cfg0.N) (r : Fin 512) (k : Fin 1024) : ((cfg0.win 7).blk t).view.emb (ix2 r k) = ix2 (row t r) k := by
  have hi := idx7 t
  funext x
  apply Fin.ext
  match x with
  | ⟨0, _⟩ => show win0_7.index t 0 * 512 + 1 * r.val = t.val * 512 + r.val; rw [hi.1]; omega
  | ⟨1, _⟩ => show win0_7.index t 1 * 1024 + 1 * k.val = k.val; rw [hi.2]; omega

/-- The array window 7 leaves: every row's gradient. -/
theorem arr7 : (dats m 0 c).arrAt 7 cfg0.N = fun i : S4096x1024.Idx => dz (Z4 m c (i 0)) (P4 m c (i 0)) (i 1) := by
  refine Dat.arrAt_eq_of_cover (dats m 0 c) 7 _ ?_ ?_
  · intro t _
    rw [flushed7]
    funext y
    rw [View.read_apply]
    obtain ⟨r, k, rfl⟩ : ∃ (r : Fin 512) (k : Fin 1024), y = ix2 r k := ⟨_, _, ix2_eta y⟩
    rw [emb7 t r k]
    exact left7 m c t r k
  · intro i
    obtain ⟨R, k, rfl⟩ : ∃ (R : Fin 4096) (k : Fin 1024), i = ix2 R k := ⟨_, _, ix2_eta i⟩
    let t : Fin cfg0.N := ⟨R.val / 512, lt_of_lt_of_eq (by omega : R.val / 512 < 8) N_0.symm⟩
    refine ⟨t, flush0_7 t, ?_⟩
    have e := emb7 t ⟨R.val % 512, by omega⟩ k
    have hR : row t ⟨R.val % 512, by omega⟩ = R := Fin.ext (by show R.val / 512 * 512 + R.val % 512 = R.val; omega)
    rw [hR] at e
    rw [← e]
    exact View.emb_mem_set _ _

/-- Where window 8's block lies in its array. -/
theorem emb8 (t : Fin cfg0.N) (k : Fin 128) : ((cfg0.win 8).blk t).view.emb (ix2 0 k) = ix2 0 k := by
  have hi := idx8 t
  funext x
  apply Fin.ext
  match x with
  | ⟨0, _⟩ => show win0_8.index t 0 * 1 + 1 * 0 = 0; rw [hi.1]
  | ⟨1, _⟩ => show win0_8.index t 1 * 128 + 1 * k.val = k.val; rw [hi.2]; omega

/-- The array window 8 leaves: the loss. -/
theorem arr8 : (dats m 0 c).arrAt 8 cfg0.N = fun i : S1x128.Idx => ∑ j ∈ Finset.range 16, hs (sqR m c) j * Ideal.ofBits .f32 0x3A000000#32 := by
  refine Dat.arrAt_eq_of_cover (dats m 0 c) 8 _ ?_ ?_
  · intro t hf
    obtain rfl : t = ⟨7, lt_of_lt_of_eq (by omega : 7 < 8) N_0.symm⟩ :=
      Fin.ext (by have h' := (flush0_8 t).mp hf; have := lt_N t; show t.val = 7; omega)
    rw [flushed8]
    funext y
    rw [View.read_apply]
    obtain ⟨z, k, rfl⟩ : ∃ (z : Fin 1) (k : Fin 128), y = ix2 z k := ⟨_, _, ix2_eta y⟩
    obtain rfl : z = 0 := by omega
    exact left8 m c k 7 _
  · intro i
    obtain ⟨z, k, rfl⟩ : ∃ (z : Fin 1) (k : Fin 128), i = ix2 z k := ⟨_, _, ix2_eta i⟩
    obtain rfl : z = 0 := by omega
    let t : Fin cfg0.N := ⟨7, lt_of_lt_of_eq (by omega : 7 < 8) N_0.symm⟩
    refine ⟨t, (flush0_8 t).mpr rfl, ?_⟩
    have e := emb8 t k
    rw [← e]
    exact View.emb_mem_set _ _

/-- Where window 9's block lies in its array. -/
theorem emb9 (t : Fin cfg0.N) (k : Fin 1024) : ((cfg0.win 9).blk t).view.emb (ix2 0 k) = ix2 0 k := by
  have hi := idx9 t
  funext x
  apply Fin.ext
  match x with
  | ⟨0, _⟩ => show win0_9.index t 0 * 1 + 1 * 0 = 0; rw [hi.1]
  | ⟨1, _⟩ => show win0_9.index t 1 * 1024 + 1 * k.val = k.val; rw [hi.2]; omega

/-- The array window 9 leaves: the scale's gradient. -/
theorem arr9 : (dats m 0 c).arrAt 9 cfg0.N = fun i : S1x1024.Idx => ∑ b : Fin 2, ∑ s : Fin 2048, gR m c (i 1) (at2 b s) := by
  refine Dat.arrAt_eq_of_cover (dats m 0 c) 9 _ ?_ ?_
  · intro t hf
    obtain rfl : t = ⟨7, lt_of_lt_of_eq (by omega : 7 < 8) N_0.symm⟩ :=
      Fin.ext (by have h' := (flush0_9 t).mp hf; have := lt_N t; show t.val = 7; omega)
    rw [flushed9]
    funext y
    rw [View.read_apply]
    obtain ⟨z, k, rfl⟩ : ∃ (z : Fin 1) (k : Fin 1024), y = ix2 z k := ⟨_, _, ix2_eta y⟩
    obtain rfl : z = 0 := by omega
    rw [emb9 _ k]
    exact (left9 m c k 7 _).trans (hs_all _)
  · intro i
    obtain ⟨z, k, rfl⟩ : ∃ (z : Fin 1) (k : Fin 1024), i = ix2 z k := ⟨_, _, ix2_eta i⟩
    obtain rfl : z = 0 := by omega
    let t : Fin cfg0.N := ⟨7, lt_of_lt_of_eq (by omega : 7 < 8) N_0.symm⟩
    refine ⟨t, (flush0_9 t).mpr rfl, ?_⟩
    have e := emb9 t k
    rw [← e]
    exact View.emb_mem_set _ _

/-- Where window 10's block lies in its array. -/
theorem emb10 (t : Fin cfg0.N) (k : Fin 1024) : ((cfg0.win 10).blk t).view.emb (ix2 0 k) = ix2 0 k := by
  have hi := idx10 t
  funext x
  apply Fin.ext
  match x with
  | ⟨0, _⟩ => show win0_10.index t 0 * 1 + 1 * 0 = 0; rw [hi.1]
  | ⟨1, _⟩ => show win0_10.index t 1 * 1024 + 1 * k.val = k.val; rw [hi.2]; omega

/-- The array window 10 leaves: the shift's gradient. -/
theorem arr10 : (dats m 0 c).arrAt 10 cfg0.N = fun i : S1x1024.Idx => ∑ b : Fin 2, ∑ s : Fin 2048, bR m c (i 1) (at2 b s) := by
  refine Dat.arrAt_eq_of_cover (dats m 0 c) 10 _ ?_ ?_
  · intro t hf
    obtain rfl : t = ⟨7, lt_of_lt_of_eq (by omega : 7 < 8) N_0.symm⟩ :=
      Fin.ext (by have h' := (flush0_10 t).mp hf; have := lt_N t; show t.val = 7; omega)
    rw [flushed10]
    funext y
    rw [View.read_apply]
    obtain ⟨z, k, rfl⟩ : ∃ (z : Fin 1) (k : Fin 1024), y = ix2 z k := ⟨_, _, ix2_eta y⟩
    obtain rfl : z = 0 := by omega
    rw [emb10 _ k]
    exact (left10 m c k 7 _).trans (hs_all _)
  · intro i
    obtain ⟨z, k, rfl⟩ : ∃ (z : Fin 1) (k : Fin 1024), i = ix2 z k := ⟨_, _, ix2_eta i⟩
    obtain rfl : z = 0 := by omega
    let t : Fin cfg0.N := ⟨7, lt_of_lt_of_eq (by omega : 7 < 8) N_0.symm⟩
    refine ⟨t, (flush0_10 t).mpr rfl, ?_⟩
    have e := emb10 t k
    rw [← e]
    exact View.emb_mem_set _ _

end Cert.Kernel6Ideal.Pf

end
-- ==== Proof.Ref6.lean ====
module

public import proofs.«01_k».proof.Proof.Ln
public import proofs.«01_k».proof.Proof.Ref
public import proofs.«01_k».proof.Proof.Gen.Reference6Ideal.Read

@[expose] public section

set_option maxRecDepth 16384

noncomputable section

/-! What the reference computes for the down projection, the second layer norm and the loss, row by row. -/

namespace Cert.Ref6

open Cert.Reference6Ideal Cert.Reference6Ideal.Gen Cert.Reference6Ideal.Read Idealize.ShloMosaic Cert.Ln

/-- The row of the batch that position `s` of entry `b` is. -/
abbrev brow (b : Fin 2) (s : Fin 2048) : Fin 4096 := ⟨b.val * 2048 + s.val, by omega⟩

variable (x0 : FVec Ideal S4096x2816 .bf16) (x1 : FVec Ideal S2816x1024 .f32) (x2 : FVec Ideal S4096x1024 .f32)
  (x3 x4 : FVec Ideal S1x1024 .f32) (x5 : FVec Ideal S2x2048x1024 .f32)

/-- The norm's input, as computed. -/
theorem v6_at (b : Fin 2) (s : Fin 2048) (k : Fin 1024) :
    val_main_v6 (F := Ideal) x0 x1 x2 (ix3 b s k) = zrow 4096 x0 x1 x2 (brow b s) k := by
  unfold val_main_v6 val_main_v5 val_main_v4 val_main_v3 val_main_v2 val_main_v1 val_main_v0 val_main_cst zrow brow
  pointwise
  rw [add_comm]

/-- The norm's input at position `s` of entry `b`. -/
abbrev Z (b : Fin 2) (s : Fin 2048) : Fin 1024 → EReal := zrow 4096 x0 x1 x2 (brow b s)

/-- The target at position `s` of entry `b`. -/
abbrev T (b : Fin 2) (s : Fin 2048) : Fin 1024 → EReal := fun k => x5 (ix3 b s k)

theorem v12_at (b : Fin 2) (s : Fin 2048) : val_main_v12 (F := Ideal) x0 x1 x2 (ix3 b s 0) = Ln.mean (Z x0 x1 x2 b s) := by
  unfold val_main_v12 val_main_v11 val_main_v10 val_main_v9 val_main_cst_0 val_main_cst_1 Ln.mean
  pointwise
  simp only [v6_at]

theorem v14_at (b : Fin 2) (s : Fin 2048) (k : Fin 1024) : val_main_v14 (F := Ideal) x0 x1 x2 (ix3 b s k) = Ln.ctr (Z x0 x1 x2 b s) k := by
  unfold val_main_v14 val_main_v13 Ln.ctr
  pointwise
  rw [v6_at, v12_at]

theorem v23_at (b : Fin 2) (s : Fin 2048) (k : Fin 1024) : val_main_v23 (F := Ideal) x0 x1 x2 (ix3 b s k) = Ln.ctr (Z x0 x1 x2 b s) k := by
  unfold val_main_v23 val_main_v22 Ln.ctr
  pointwise
  rw [v6_at, v12_at]

theorem v25_at (b : Fin 2) (s : Fin 2048) : val_main_v25 (F := Ideal) x0 x1 x2 (ix3 b s 0) = Ln.var (Z x0 x1 x2 b s) := by
  unfold val_main_v25 val_main_v24 val_main_v21 val_main_v20 val_main_v19 val_main_v18 val_main_v15 val_main_cst_3 val_main_cst_4 val_main_cst_5 Ln.var
  pointwise
  simp only [v14_at]

theorem v26_at (b : Fin 2) (s : Fin 2048) : val_main_v26 (F := Ideal) x0 x1 x2 (ix3 b s 0) = Ln.rs (Z x0 x1 x2 b s) := by
  unfold val_main_v26 Ln.rs
  pointwise
  rw [v25_at]

theorem v29_at (b : Fin 2) (s : Fin 2048) : val_main_v29 (F := Ideal) x0 x1 x2 (ix3 b s 0)
    = Ideal.ofBits .f32 0xBF000000#32 * Ideal.div (Ln.rs (Z x0 x1 x2 b s)) (Ln.var (Z x0 x1 x2 b s)) := by
  unfold val_main_v29 val_main_v28 val_main_v27 val_main_cst_6
  pointwise
  rw [v25_at, v26_at]

/-- The normed row, as computed. -/
theorem v31_at (b : Fin 2) (s : Fin 2048) (k : Fin 1024) : val_main_v31 (F := Ideal) x0 x1 x2 (ix3 b s k) = Ln.nrm (Z x0 x1 x2 b s) k := by
  unfold val_main_v31 val_main_v30 Ln.nrm
  pointwise
  rw [v23_at, v26_at]

/-- The difference to the target, as computed. -/
theorem v38_at (b : Fin 2) (s : Fin 2048) (k : Fin 1024) :
    val_main_v38 (F := Ideal) x0 x1 x2 x3 x4 x5 (ix3 b s k) = Ln.dif (Z x0 x1 x2 b s) (one x3) (one x4) (T x5 b s) k := by
  unfold val_main_v38 val_main_v37 val_main_v36 val_main_v35 val_main_v34 val_main_v33 val_main_v32 val_main_v8 val_main_v7 Ln.dif
  pointwise
  rw [v31_at]

/-- The gradient with respect to the block's output, as computed. -/
theorem v52_at (b : Fin 2) (s : Fin 2048) (k : Fin 1024) :
    val_main_v52 (F := Ideal) x0 x1 x2 x3 x4 x5 (ix3 b s k) = Ln.dy (Z x0 x1 x2 b s) (one x3) (one x4) (T x5 b s) k := by
  rw [← Ln.dy_eq]
  unfold val_main_v52 val_main_v51 val_main_v50 val_main_v49 val_main_v48 val_main_v47 val_main_v41 val_main_v40 val_main_cst_7 val_main_cst_12 val_main_cst_13 val_main_cst_14 Ln.dyR
  pointwise
  rw [v38_at]

/-- The gradient with respect to the normed row. -/
abbrev P (b : Fin 2) (s : Fin 2048) (k : Fin 1024) : EReal := Ln.dy (Z x0 x1 x2 b s) (one x3) (one x4) (T x5 b s) k * one x3 k

theorem v60_at (b : Fin 2) (s : Fin 2048) (k : Fin 1024) :
    val_main_v60 (F := Ideal) x0 x1 x2 x3 x4 x5 (ix3 b s k) = P x0 x1 x2 x3 x4 x5 b s k := by
  unfold val_main_v60 val_main_v59 val_main_v32 val_main_v7
  pointwise
  rw [v52_at]

theorem v66_at (b : Fin 2) (s : Fin 2048) (k : Fin 1024) :
    val_main_v66 (F := Ideal) x0 x1 x2 x3 x4 x5 (ix3 b s k) = P x0 x1 x2 x3 x4 x5 b s k * Ln.rs (Z x0 x1 x2 b s) := by
  unfold val_main_v66 val_main_v65
  pointwise
  rw [v60_at, v26_at]

theorem v67_at (b : Fin 2) (s : Fin 2048) :
    val_main_v67 (F := Ideal) x0 x1 x2 x3 x4 x5 (ix3 b s 0) = (∑ j, Ln.ctr (Z x0 x1 x2 b s) j * P x0 x1 x2 x3 x4 x5 b s j)
      * (Ideal.ofBits .f32 0xBF000000#32 * Ideal.div (Ln.rs (Z x0 x1 x2 b s)) (Ln.var (Z x0 x1 x2 b s))) := by
  unfold val_main_v67 val_main_v64 val_main_v63 val_main_v62 val_main_cst_19
  pointwise
  simp only [v23_at, v60_at, v29_at]

theorem v75_at (b : Fin 2) (s : Fin 2048) (k : Fin 1024) :
    val_main_v75 (F := Ideal) x0 x1 x2 x3 x4 x5 (ix3 b s k) = Ln.viaVar (Z x0 x1 x2 b s) (P x0 x1 x2 x3 x4 x5 b s) k := by
  unfold val_main_v75 val_main_v74 val_main_v73 val_main_v72 val_main_v71 val_main_v17 val_main_v16 val_main_cst_2 val_main_cst_21 val_main_cst_22 Ln.viaVar
  pointwise
  rw [Fin.sum_univ_one, v67_at, v14_at]

theorem v70_at (b : Fin 2) (s : Fin 2048) :
    val_main_v70 (F := Ideal) x0 x1 x2 x3 x4 x5 (ix3 b s 0) = ∑ j, -(P x0 x1 x2 x3 x4 x5 b s j * Ln.rs (Z x0 x1 x2 b s)) := by
  unfold val_main_v70 val_main_v69 val_main_v68 val_main_cst_20
  pointwise
  simp only [v66_at]

theorem v78_at (b : Fin 2) (s : Fin 2048) :
    val_main_v78 (F := Ideal) x0 x1 x2 x3 x4 x5 (ix3 b s 0) = ∑ j, -(Ln.viaVar (Z x0 x1 x2 b s) (P x0 x1 x2 x3 x4 x5 b s) j) := by
  unfold val_main_v78 val_main_v77 val_main_v76 val_main_cst_23
  pointwise
  simp only [v75_at]

theorem v84_at (b : Fin 2) (s : Fin 2048) (k : Fin 1024) :
    val_main_v84 (F := Ideal) x0 x1 x2 x3 x4 x5 (ix3 b s k)
      = Ideal.div ((∑ j, -(P x0 x1 x2 x3 x4 x5 b s j * Ln.rs (Z x0 x1 x2 b s))) + ∑ j, -(Ln.viaVar (Z x0 x1 x2 b s) (P x0 x1 x2 x3 x4 x5 b s) j))
          (Ideal.ofBits .f32 0x44800000#32) := by
  unfold val_main_v84 val_main_v83 val_main_v82 val_main_v81 val_main_v80 val_main_cst_24 val_main_cst_25
  pointwise
  rw [Fin.sum_univ_one, v70_at, v78_at]

/-- The gradient with respect to the norm's input, as computed. -/
theorem v85_at (b : Fin 2) (s : Fin 2048) (k : Fin 1024) :
    val_main_v85 (F := Ideal) x0 x1 x2 x3 x4 x5 (ix3 b s k) = Ln.dzR (Z x0 x1 x2 b s) (P x0 x1 x2 x3 x4 x5 b s) k := by
  unfold val_main_v85 val_main_v79 Ln.dzR
  pointwise
  rw [v66_at, v75_at, v84_at]

/-- The loss. -/
theorem v46_at (i : S_.Idx) :
    val_main_v46 (F := Ideal) x0 x1 x2 x3 x4 x5 i = Ideal.ofBits .f32 0x3F000000#32 * ∑ b : Fin 2, ∑ s : Fin 2048,
      Ideal.div (∑ k, Ln.dif (Z x0 x1 x2 b s) (one x3) (one x4) (T x5 b s) k * Ln.dif (Z x0 x1 x2 b s) (one x3) (one x4) (T x5 b s) k)
        (Ideal.ofBits .f32 0x44800000#32) := by
  unfold val_main_v46 val_main_v45 val_main_v44 val_main_v43 val_main_v42 val_main_v39 val_main_cst_8 val_main_cst_9 val_main_cst_10 val_main_cst_11
  pointwise
  simp only [v38_at]

/-- The two leading axes summed, then the single row summed again. -/
theorem sum_twice (y : FVec Ideal S2x2048x1024 .f32) (q : Fin 1024) :
    Ideal.hostReduceAdd reducesTo_S1x1x1024_S1024_d0_1
      (shapeCast S1x1x1024 (Host.reduceAdd y (constant S_ FTy.f32 0#32) reducesTo_S2x2048x1024_S1024_d0_1 h_S_) shapeCasts_S1024_S1x1x1024)
      0 (ix1 q) = ∑ b : Fin 2, ∑ s : Fin 2048, y (ix3 b s q) := by
  rw [Ref.sum_lead, Fin.sum_univ_one, Fin.sum_univ_one, zero_add]
  have e : shapeCast S1x1x1024 (Host.reduceAdd y (constant S_ FTy.f32 0#32) reducesTo_S2x2048x1024_S1024_d0_1 h_S_) shapeCasts_S1024_S1x1x1024 (ix3 0 0 q)
      = Host.reduceAdd y (constant S_ FTy.f32 0#32) reducesTo_S2x2048x1024_S1024_d0_1 h_S_ (ix1 q) := by pointwise
  rw [e]
  show Ideal.hostReduceAdd _ y (Ideal.ofBits .f32 0#32) (ix1 q) = _
  rw [Ref.sum_lead, Ideal.ofBits_zero, zero_add]

/-- The gradient of the norm's scale. -/
theorem v89_at (k : Fin 1024) :
    val_main_v89 (F := Ideal) x0 x1 x2 x3 x4 x5 (ix2 0 k) = ∑ b : Fin 2, ∑ s : Fin 2048,
      Ln.nrm (Z x0 x1 x2 b s) k * Ln.dy (Z x0 x1 x2 b s) (one x3) (one x4) (T x5 b s) k := by
  unfold val_main_v89 val_main_v61 val_main_v58 val_main_v57 val_main_v56 val_main_cst_17 val_main_cst_18
  pointwise
  rw [sum_twice]
  simp only [mulf_apply, Ideal.mulf_def, v31_at, v52_at]

/-- The gradient of the norm's shift. -/
theorem v90_at (k : Fin 1024) :
    val_main_v90 (F := Ideal) x0 x1 x2 x3 x4 x5 (ix2 0 k) = ∑ b : Fin 2, ∑ s : Fin 2048,
      Ln.dy (Z x0 x1 x2 b s) (one x3) (one x4) (T x5 b s) k := by
  unfold val_main_v90 val_main_v55 val_main_v54 val_main_v53 val_main_cst_15 val_main_cst_16
  pointwise
  rw [sum_twice]
  simp only [v52_at]

/-- The gradient's rows, as the batch's. -/
theorem v86_at (b : Fin 2) (s : Fin 2048) (k : Fin 1024) :
    val_main_v86 (F := Ideal) x0 x1 x2 x3 x4 x5 (ix2 (brow b s) k) = Ln.dzR (Z x0 x1 x2 b s) (P x0 x1 x2 x3 x4 x5 b s) k := by
  rw [← v85_at]
  unfold val_main_v86 brow
  generalize val_main_v85 (F := Ideal) x0 x1 x2 x3 x4 x5 = y
  pointwise

/-- The rounded gradient's rows. -/
theorem v87_at (b : Fin 2) (s : Fin 2048) (k : Fin 1024) :
    val_main_v87 (F := Ideal) x0 x1 x2 x3 x4 x5 (ix2 (brow b s) k) = Ln.dzR (Z x0 x1 x2 b s) (P x0 x1 x2 x3 x4 x5 b s) k := by
  rw [← v86_at]
  rfl

/-- The loss, in every lane. -/
theorem v88_at (l : Fin 128) :
    val_main_v88 (F := Ideal) x0 x1 x2 x3 x4 x5 (ix2 0 l) = Ideal.ofBits .f32 0x3F000000#32 * ∑ b : Fin 2, ∑ s : Fin 2048,
      Ideal.div (∑ k, Ln.dif (Z x0 x1 x2 b s) (one x3) (one x4) (T x5 b s) k * Ln.dif (Z x0 x1 x2 b s) (one x3) (one x4) (T x5 b s) k)
        (Ideal.ofBits .f32 0x44800000#32) := by
  rw [val_main_v88_apply, v46_at]

end Cert.Ref6

end
-- ==== Proof.Step6.lean ====
module

public import proofs.«01_k».proof.Proof.Fin
public import proofs.«01_k».proof.Proof.LossArr
public import proofs.«01_k».proof.Proof.Ref6
public import proofs.«01_k».proof.Proof.Step
public import proofs.«01_k».proof.Proof.Gen.Reference6Ideal.Run
public import proofs.«01_k».proof.Proof.Gen.Pre_finite6

@[expose] public section

set_option maxRecDepth 16384

noncomputable section

/-! The down projection, second layer norm and loss: on finite arguments the kernel's results are the reference's. -/

namespace Cert.Step

open Cert.Kernel6Ideal.Pf Cert.Ln Idealize.ShloMosaic Idealize.ShloMosaic.TcCoe Idealize.SL.Sem

attribute [local instance] Cert.Pre_finite6.Gen.facts

/-- What the precondition says of a core's arguments: every element is finite. -/
structure Fin6 (m : (ℓ : Loc Cert.Kernel6Ideal.nD Cert.Kernel6Ideal.τ Cert.Kernel6Ideal.sig) → Buf (Elt Ideal) ℓ) (c : Dev Cert.Kernel6Ideal.nD) : Prop where
  ac : ∀ i, ∃ r : ℝ, ac m c i = r
  wd : ∀ i, ∃ r : ℝ, wd m c i = r
  xr : ∀ i, ∃ r : ℝ, xr m c i = r
  sc : ∀ i, ∃ r : ℝ, sc m c i = r
  sh : ∀ i, ∃ r : ℝ, sh m c i = r
  tg : ∀ i, ∃ r : ℝ, tg m c i = r

/-- Under the precondition every core's arguments are finite. -/
theorem args_finite6 (m : (ℓ : Loc Cert.Kernel6Ideal.nD Cert.Kernel6Ideal.τ Cert.Kernel6Ideal.sig) → Buf (Elt Ideal) ℓ)
    (h : Cert.Pre_Kernel6Ideal_finite6 (hPre_finite6 := Cert.Pre_finite6.Gen.facts) m) (c : Dev Cert.Kernel6Ideal.nD) : Fin6 m c := by
  obtain ⟨h0, h1, h2, h3, h4, h5⟩ := h c
  exact ⟨Cert.Proof.finite_of_olt _ _ h0, Cert.Proof.finite_of_olt _ _ h1, Cert.Proof.finite_of_olt _ _ h2, Cert.Proof.finite_of_olt _ _ h3,
    Cert.Proof.finite_of_olt _ _ h4, Cert.Proof.finite_of_olt _ _ h5⟩

section

variable (m : (ℓ : Loc Cert.Kernel6Ideal.nD Cert.Kernel6Ideal.τ Cert.Kernel6Ideal.sig) → Buf (Elt Ideal) ℓ) (c : Dev Cert.Kernel6Ideal.nD)

/-- The target's row as the batch's. -/
theorem T4_eq (b : Fin 2) (s : Fin 2048) : T4 m c (at2 b s) = Cert.Ref6.T (tg m c) b s := funext fun k => V_v1 m c b s k

variable {m c} (hF : Fin6 m c)
include hF

/-- The norm's input is finite. -/
theorem fin_z (R : Fin 4096) (k : Fin 1024) : ∃ r : ℝ, Z4 m c R k = r :=
  fin_add (fin_sum fun j => fin_mul (hF.ac _) (hF.wd _)) (fin_mul ⟨_, litAlpha⟩ (hF.xr _))

/-- The gradient with respect to the normed row is finite. -/
theorem fin_p (b : Fin 2) (s : Fin 2048) (k : Fin 1024) : ∃ r : ℝ, P4 m c (at2 b s) k = r := by
  unfold P4
  rw [T4_eq]
  exact fin_mul (fin_dy (fin_z hF _) (fun k => hF.sc _) (fun k => hF.sh _) (fun k => hF.tg _) k) (hF.sc _)

/-- A row's squares are finite. -/
theorem fin_sq (b : Fin 2) (s : Fin 2048) : ∃ r : ℝ, sqR m c (at2 b s) = r := by
  unfold sqR
  rw [T4_eq]
  have h := fin_dif (fin_z hF (at2 b s)) (fun k => hF.sc (ix2 0 k)) (fun k => hF.sh (ix2 0 k)) (fun k => hF.tg (ix3 b s k))
  exact fin_sum fun k => fin_mul (h k) (h k)

/-- The reference's gradient of a row is the kernel's. -/
theorem dz_row (b : Fin 2) (s : Fin 2048) (k : Fin 1024) :
    dzR (Cert.Ref6.Z (ac m c) (wd m c) (xr m c) b s) (Cert.Ref6.P (ac m c) (wd m c) (xr m c) (sc m c) (sh m c) (tg m c) b s) k
      = dz (Z4 m c (at2 b s)) (P4 m c (at2 b s)) k := by
  have e : Cert.Ref6.P (ac m c) (wd m c) (xr m c) (sc m c) (sh m c) (tg m c) b s = P4 m c (at2 b s) := by
    funext k
    unfold P4
    rw [T4_eq]
  rw [e]
  exact dz_eq _ _ (fin_z hF (at2 b s)) (fin_p hF b s) k

end

/-- A half's sum of finite numbers by 1/2048 is the sum of each by 1/2048. -/
theorem hs_scale (f : Fin 4096 → ℝ) (j : ℕ) :
    hs (fun R => (f R : EReal)) j * Ideal.ofBits .f32 0x3A000000#32 = hs (fun R => ((f R * (1 / 2048) : ℝ) : EReal)) j := by
  have e : ∀ (g : Fin 4096 → ℝ) (R : ℕ), ext (fun R => (g R : EReal)) R = ((if h : R < 4096 then g ⟨R, h⟩ else 0 : ℝ) : EReal) := by
    intro g R
    unfold ext
    split <;> simp
  unfold hs
  simp only [e]
  rw [sum_coe, sum_coe, litInv2048, ← EReal.coe_mul, EReal.coe_eq_coe_iff, Finset.sum_mul]
  refine Finset.sum_congr rfl fun i _ => ?_
  split
  · rfl
  · rw [zero_mul]

/-- The kernel's loss, half by half, is half the mean squares' sum. -/
theorem loss_sum (q : Fin 4096 → EReal) (hq : ∀ R, ∃ r : ℝ, q R = r) :
    ∑ j ∈ Finset.range 16, hs q j * Ideal.ofBits .f32 0x3A000000#32
      = Ideal.ofBits .f32 0x3F000000#32 * ∑ b : Fin 2, ∑ s : Fin 2048, Ideal.div (q (at2 b s)) (Ideal.ofBits .f32 0x44800000#32) := by
  choose f hf using hq
  obtain rfl : q = fun R => (f R : EReal) := funext hf
  rw [Finset.sum_congr rfl fun j _ => hs_scale f j, hs_all]
  simp only [div1024, sum_coe]
  rw [Spec.half_lit, ← EReal.coe_mul, EReal.coe_eq_coe_iff, Finset.mul_sum]
  refine Finset.sum_congr rfl fun b _ => ?_
  rw [Finset.mul_sum]
  refine Finset.sum_congr rfl fun s _ => ?_
  ring

/-- Every row of the batch is a position of an entry. -/
theorem exists_at2 (R : Fin 4096) : ∃ (b : Fin 2) (s : Fin 2048), R = at2 b s :=
  ⟨⟨R.val / 2048, by omega⟩, ⟨R.val % 2048, by omega⟩, Fin.ext (by show R.val = R.val / 2048 * 2048 + R.val % 2048; omega)⟩

section

variable (m : (ℓ : Loc Cert.Kernel6Ideal.nD Cert.Kernel6Ideal.τ Cert.Kernel6Ideal.sig) → Buf (Elt Ideal) ℓ) (c : Dev Cert.Kernel6Ideal.nD)

/-- The gradient with respect to the norm's input, as an array. -/
def dzOut : (⟨2, ![4096, 1024]⟩ : Shape).Idx → EReal := fun i => dz (Z4 m c (i 0)) (P4 m c (i 0)) (i 1)

/-- The loss, as an array. -/
def lossOut : (⟨2, ![1, 128]⟩ : Shape).Idx → EReal := fun _ => ∑ j ∈ Finset.range 16, hs (sqR m c) j * Ideal.ofBits .f32 0x3A000000#32

/-- The scale's gradient, as an array. -/
def scOut : (⟨2, ![1, 1024]⟩ : Shape).Idx → EReal := fun i => ∑ b : Fin 2, ∑ s : Fin 2048, gR m c (i 1) (at2 b s)

/-- The shift's gradient, as an array. -/
def shOut : (⟨2, ![1, 1024]⟩ : Shape).Idx → EReal := fun i => ∑ b : Fin 2, ∑ s : Fin 2048, bR m c (i 1) (at2 b s)

end

/-- On finite arguments the five results are the reference's. -/
theorem value6 : Cert.algebraic_Kernel6Ideal_Reference6Ideal_pre_finite6 (hPre_finite6 := Cert.Pre_finite6.Gen.facts) := by
  intro m g m' g' hpre hargs
  refine ⟨fun c => dzOut m c, fun c => dzOut m c, fun c => lossOut m c, fun c => scOut m c, fun c => shOut m c, ?_, ?_⟩
  · refine (θ_run Cert.Kernel6Ideal.defs _ _).mono (fun r h c => ?_) (Cert.Kernel6Ideal.Value.run_blocks m g)
    obtain ⟨h0, h1, h2, h3, h4, hk⟩ := h c
    exact ⟨h0.trans (arr6 m c), h1.trans (arr7 m c), h2.trans (arr8 m c), h3.trans (arr9 m c), h4.trans (arr10 m c), hk⟩
  · refine (θ_run Cert.Reference6Ideal.defs _ _).mono (fun r h c => ?_) (Cert.Reference6Ideal.Value.run m' g')
    obtain ⟨h0, h1, h2, h3, h4, hk⟩ := h c
    obtain ⟨a0, a1, a2, a3, a4, a5⟩ := hargs c
    have hF := args_finite6 m hpre c
    refine ⟨h0.trans ?_, h1.trans ?_, h2.trans ?_, h3.trans ?_, h4.trans ?_, hk⟩
    · rw [Cert.Reference6Ideal.Read.val_main_v86_eq, a0, a1, a2, a3, a4, a5]
      show _ = dzOut m c
      funext i
      obtain ⟨R, k, rfl⟩ : ∃ (R : Fin 4096) (k : Fin 1024), i = ix2 R k := ⟨_, _, Cert.Step.ix2_eta i⟩
      obtain ⟨b, s, rfl⟩ := exists_at2 R
      exact (Cert.Ref6.v86_at _ _ _ _ _ _ b s k).trans (dz_row hF b s k)
    · rw [Cert.Reference6Ideal.Read.val_main_v87_eq, a0, a1, a2, a3, a4, a5]
      show _ = dzOut m c
      funext i
      obtain ⟨R, k, rfl⟩ : ∃ (R : Fin 4096) (k : Fin 1024), i = ix2 R k := ⟨_, _, Cert.Step.ix2_eta i⟩
      obtain ⟨b, s, rfl⟩ := exists_at2 R
      exact (Cert.Ref6.v87_at _ _ _ _ _ _ b s k).trans (dz_row hF b s k)
    · rw [Cert.Reference6Ideal.Read.val_main_v88_eq, a0, a1, a2, a3, a4, a5]
      show _ = lossOut m c
      funext i
      obtain ⟨z, l, rfl⟩ : ∃ (z : Fin 1) (l : Fin 128), i = ix2 z l := ⟨_, _, Cert.Step.ix2_eta i⟩
      obtain rfl : z = 0 := Subsingleton.elim _ _
      refine (Cert.Ref6.v88_at _ _ _ _ _ _ l).trans ?_
      unfold lossOut
      rw [loss_sum (sqR m c) (fun R => by obtain ⟨b, s, rfl⟩ := exists_at2 R; exact fin_sq hF b s)]
      refine congrArg (_ * ·) (Finset.sum_congr rfl fun b _ => Finset.sum_congr rfl fun s _ => ?_)
      unfold sqR
      rw [T4_eq]
    · rw [Cert.Reference6Ideal.Read.val_main_v89_eq, a0, a1, a2, a3, a4, a5]
      show _ = scOut m c
      funext i
      obtain ⟨z, k, rfl⟩ : ∃ (z : Fin 1) (k : Fin 1024), i = ix2 z k := ⟨_, _, Cert.Step.ix2_eta i⟩
      obtain rfl : z = 0 := Subsingleton.elim _ _
      refine (Cert.Ref6.v89_at _ _ _ _ _ _ k).trans (Finset.sum_congr rfl fun b _ => Finset.sum_congr rfl fun s _ => ?_)
      unfold gR
      rw [T4_eq, mul_comm]
      rfl
    · rw [Cert.Reference6Ideal.Read.val_main_v90_eq, a0, a1, a2, a3, a4, a5]
      show _ = shOut m c
      funext i
      obtain ⟨z, k, rfl⟩ : ∃ (z : Fin 1) (k : Fin 1024), i = ix2 z k := ⟨_, _, Cert.Step.ix2_eta i⟩
      obtain rfl : z = 0 := Subsingleton.elim _ _
      refine (Cert.Ref6.v90_at _ _ _ _ _ _ k).trans (Finset.sum_congr rfl fun b _ => Finset.sum_congr rfl fun s _ => ?_)
      unfold bR
      rw [T4_eq]
      rfl

/-- Reference 6 runs, its arguments end unchanged and every counter reads zero. -/
theorem frame6 : Cert.quiescent_Reference6Ideal := fun m ρ _ =>
  (θ_run Cert.Reference6Ideal.defs _ _).mono
    (fun r h => ⟨fun c => (h c).2.2.2.2.2, sem_eq_zero_of_no_sems (by decide) r.2⟩)
    (Cert.Reference6Ideal.Value.run m ρ)

end Cert.Step

end
-- ==== Proof.Ref7.lean ====
module

public import proofs.«01_k».proof.Proof.Ln
public import proofs.«01_k».proof.Proof.Ref5
public import proofs.«01_k».proof.Proof.Gen.Reference7Ideal.Read

@[expose] public section

set_option maxRecDepth 16384

noncomputable section

/-! What the reference computes for the output projection and the first layer norm, row by row. -/

namespace Cert.Ref7

open Cert.Reference7Ideal Cert.Reference7Ideal.Gen Cert.Reference7Ideal.Read Idealize.ShloMosaic Cert.Ref5

/-- A row of the first norm's input: the output projection of the mixed row, and the scaled residual. -/
def zof (p : Fin 1024 → EReal) (w : (⟨2, ![1024, 1024]⟩ : Shape).Idx → EReal) (x : Fin 1024 → EReal) (k : Fin 1024) : EReal :=
  (∑ j : Fin 1024, p j * w (ix2 j k)) + Ideal.ofBits .f32 0x3F9837F0#32 * x k

/-- The row of the batch that position `s` of entry `b` is. -/
abbrev brow (b : Fin 2) (s : Fin 2048) : Fin 4096 := ⟨b.val * 2048 + s.val, by omega⟩

variable (x0 : FVec Ideal S2x2048x1024 .f32) (x1 : FVec Ideal S4096x768 .f32) (x2 : FVec Ideal S4096x256 .bf16) (x3 : FVec Ideal S1x768 .f32)
  (x4 : FVec Ideal S1024x1024 .f32) (x5 x6 : FVec Ideal S1x1024 .f32)

/-- The returned reciprocal root mean square, as computed. -/
theorem v7_at (r : Fin 4096) : val_main_v7 (F := Ideal) x1 (ix2 r 0) = rms 4096 x1 r := by
  unfold val_main_v7 val_main_v6 val_main_v5 val_main_v4 val_main_v3 val_main_v2 val_main_v1 val_main_v0 val_main_cst val_main_cst_0 val_main_cst_1 rms
  pointwise

/-- The norm's reciprocal root mean square, as computed. -/
theorem v16_at (r : Fin 4096) : val_main_v16 (F := Ideal) x1 (ix2 r 0) = rms 4096 x1 r := by
  unfold val_main_v16 val_main_v15 val_main_v14 val_main_v13 val_main_v12 val_main_v11 val_main_v10 val_main_v9 val_main_cst_2 val_main_cst_3 val_main_cst_4 rms
  pointwise

/-- The projection's input, as computed. -/
theorem v23_at (r : Fin 4096) (k : Fin 1024) : val_main_v23 (F := Ideal) x1 x2 x3 (ix2 r k) = mix 4096 x1 x2 x3 r k := by
  unfold val_main_v23 val_main_v22 val_main_v21 val_main_v20 val_main_v19 val_main_v18 val_main_v17 val_main_v8 mix
  pointwise
  split <;> simp only [v16_at]

/-- The projection, as computed. -/
theorem v26_at (r : Fin 4096) (k : Fin 1024) :
    val_main_v26 (F := Ideal) x1 x2 x3 x4 (ix2 r k) = ∑ j : Fin 1024, mix 4096 x1 x2 x3 r j * x4 (ix2 j k) := by
  unfold val_main_v26
  pointwise
  simp only [v23_at]

/-- The norm's input at position `s` of entry `b`. -/
abbrev Z (b : Fin 2) (s : Fin 2048) : Fin 1024 → EReal := zof (mix 4096 x1 x2 x3 (brow b s)) x4 (fun k => x0 (ix3 b s k))

/-- The norm's input, as computed. -/
theorem v28_at (b : Fin 2) (s : Fin 2048) (k : Fin 1024) : val_main_v28 (F := Ideal) x0 x1 x2 x3 x4 (ix3 b s k) = Z x0 x1 x2 x3 x4 b s k := by
  unfold val_main_v28 val_main_v27 val_main_v25 val_main_v24 val_main_cst_5 Z zof
  simp only [← v26_at]
  generalize val_main_v26 (F := Ideal) x1 x2 x3 x4 = y
  pointwise
  rw [add_comm]

theorem v32_at (b : Fin 2) (s : Fin 2048) : val_main_v32 (F := Ideal) x0 x1 x2 x3 x4 (ix3 b s 0) = Ln.mean (Z x0 x1 x2 x3 x4 b s) := by
  unfold val_main_v32 val_main_v31 val_main_v30 val_main_v29 val_main_cst_6 val_main_cst_7 Ln.mean
  pointwise
  simp only [v28_at]

theorem v34_at (b : Fin 2) (s : Fin 2048) (k : Fin 1024) : val_main_v34 (F := Ideal) x0 x1 x2 x3 x4 (ix3 b s k) = Ln.ctr (Z x0 x1 x2 x3 x4 b s) k := by
  unfold val_main_v34 val_main_v33 Ln.ctr
  pointwise
  rw [v28_at, v32_at]

theorem v72_at (b : Fin 2) (s : Fin 2048) (k : Fin 1024) : val_main_v72 (F := Ideal) x0 x1 x2 x3 x4 (ix3 b s k) = Ln.ctr (Z x0 x1 x2 x3 x4 b s) k := by
  unfold val_main_v72 val_main_v71 Ln.ctr
  pointwise
  rw [v28_at, v32_at]

theorem v42_at (b : Fin 2) (s : Fin 2048) : val_main_v42 (F := Ideal) x0 x1 x2 x3 x4 (ix3 b s 0) = Ln.rs (Z x0 x1 x2 x3 x4 b s) := by
  unfold val_main_v42 val_main_v41 val_main_v40 val_main_v39 val_main_v38 val_main_v37 val_main_v36 val_main_v35 val_main_cst_8 val_main_cst_9 val_main_cst_10 Ln.rs Ln.var
  pointwise
  simp only [v34_at]

theorem v48_at (b : Fin 2) (s : Fin 2048) : val_main_v48 (F := Ideal) x0 x1 x2 x3 x4 (ix3 b s 0) = Ln.mean (Z x0 x1 x2 x3 x4 b s) := by
  unfold val_main_v48 val_main_v47 val_main_v46 val_main_v45 val_main_cst_11 val_main_cst_12 Ln.mean
  pointwise
  simp only [v28_at]

theorem v50_at (b : Fin 2) (s : Fin 2048) (k : Fin 1024) : val_main_v50 (F := Ideal) x0 x1 x2 x3 x4 (ix3 b s k) = Ln.ctr (Z x0 x1 x2 x3 x4 b s) k := by
  unfold val_main_v50 val_main_v49 Ln.ctr
  pointwise
  rw [v28_at, v48_at]

theorem v57_at (b : Fin 2) (s : Fin 2048) (k : Fin 1024) : val_main_v57 (F := Ideal) x0 x1 x2 x3 x4 (ix3 b s k) = Ln.ctr (Z x0 x1 x2 x3 x4 b s) k := by
  unfold val_main_v57 val_main_v56 Ln.ctr
  pointwise
  rw [v28_at, v48_at]

theorem v60_at (b : Fin 2) (s : Fin 2048) : val_main_v60 (F := Ideal) x0 x1 x2 x3 x4 (ix3 b s 0) = Ln.rs (Z x0 x1 x2 x3 x4 b s) := by
  unfold val_main_v60 val_main_v59 val_main_v58 val_main_v55 val_main_v54 val_main_v53 val_main_v52 val_main_v51 val_main_cst_13 val_main_cst_14 val_main_cst_15 Ln.rs Ln.var
  pointwise
  simp only [v50_at]

/-- The normed, scaled and shifted row, as computed. -/
theorem v68_at (b : Fin 2) (s : Fin 2048) (k : Fin 1024) :
    val_main_v68 (F := Ideal) x0 x1 x2 x3 x4 x5 x6 (ix3 b s k) = Ln.nrm (Z x0 x1 x2 x3 x4 b s) k * x5 (ix2 0 k) + x6 (ix2 0 k) := by
  unfold val_main_v68 val_main_v67 val_main_v66 val_main_v65 val_main_v64 val_main_v63 val_main_v62 val_main_v61 val_main_v44 val_main_v43 Ln.nrm
  pointwise
  rw [v57_at, v60_at]

/-- The first norm's output. -/
theorem v69_at (b : Fin 2) (s : Fin 2048) (k : Fin 1024) :
    val_main_v69 (F := Ideal) x0 x1 x2 x3 x4 x5 x6 (ix2 (brow b s) k) = Ln.nrm (Z x0 x1 x2 x3 x4 b s) k * x5 (ix2 0 k) + x6 (ix2 0 k) := by
  rw [← v68_at]
  unfold val_main_v69 brow
  generalize val_main_v68 (F := Ideal) x0 x1 x2 x3 x4 x5 x6 = y
  pointwise

/-- The first norm's output, rounded. -/
theorem v70_at (b : Fin 2) (s : Fin 2048) (k : Fin 1024) :
    val_main_v70 (F := Ideal) x0 x1 x2 x3 x4 x5 x6 (ix2 (brow b s) k) = Ln.nrm (Z x0 x1 x2 x3 x4 b s) k * x5 (ix2 0 k) + x6 (ix2 0 k) :=
  v69_at x0 x1 x2 x3 x4 x5 x6 b s k

/-- The normed row. -/
theorem v75_at (b : Fin 2) (s : Fin 2048) (k : Fin 1024) :
    val_main_v75 (F := Ideal) x0 x1 x2 x3 x4 (ix2 (brow b s) k) = Ln.nrm (Z x0 x1 x2 x3 x4 b s) k := by
  have e : val_main_v74 (F := Ideal) x0 x1 x2 x3 x4 (ix3 b s k) = Ln.nrm (Z x0 x1 x2 x3 x4 b s) k := by
    unfold val_main_v74 val_main_v73 Ln.nrm
    pointwise
    rw [v72_at, v42_at]
  rw [← e]
  unfold val_main_v75 brow
  generalize val_main_v74 (F := Ideal) x0 x1 x2 x3 x4 = y
  pointwise

/-- The reciprocal standard deviation, in every lane. -/
theorem v77_at (b : Fin 2) (s : Fin 2048) (l : Fin 128) :
    val_main_v77 (F := Ideal) x0 x1 x2 x3 x4 (ix2 (brow b s) l) = Ln.rs (Z x0 x1 x2 x3 x4 b s) := by
  rw [← v42_at]
  unfold val_main_v77 val_main_v76 brow
  generalize val_main_v42 (F := Ideal) x0 x1 x2 x3 x4 = y
  pointwise

/-- The attention columns' reciprocal root mean square, in every lane. -/
theorem v78_at (r : Fin 4096) (l : Fin 128) : val_main_v78 (F := Ideal) x1 (ix2 r l) = rms 4096 x1 r := by
  rw [← v7_at]
  unfold val_main_v78
  generalize val_main_v7 (F := Ideal) x1 = y
  pointwise

end Cert.Ref7

end
-- ==== Proof.Out1.lean ====
module

public import proofs.«01_k».proof.Proof.Loss
public import proofs.«01_k».proof.Proof.Ref7
public import proofs.«01_k».proof.Proof.Gen.Kernel7Ideal.Value

@[expose] public section

set_option maxRecDepth 16384

noncomputable section

/-! What a step of the output projection and the first norm leaves in its blocks. -/

namespace Cert.Kernel7Ideal.Pf

open Cert.Kernel7Ideal Cert.Kernel7Ideal.Gen Cert.Ln Cert.Ref5 Cert.Ref7 Idealize.ShloMosaic Idealize.ShloMosaic.TcCoe Idealize.SL.Sem
open Cert.Kernel6Ideal.Pf (emb2 ix2_eta off0 lo hi two_pieces ldLo ldHi ld_lo ld_hi)

section Pay

variable (a : FVec Ideal S256x768 .f32) (cv : FVec Ideal S256x256 .bf16) (n : FVec Ideal S1x768 .f32) (w : FVec Ideal S1024x1024 .bf16)
  (x y : FVec Ideal S256x1024 .f32) (g b : FVec Ideal S1x1024 .f32)

/-- The projection of a half's mixed rows. -/
theorem pay5_at (r : Fin 256) (k : Fin 1024) : k0_pay5 (F := Ideal) a n cv w (ix2 r k) = ∑ j : Fin 1024, mix 256 a cv n r j * w (ix2 j k) := by
  unfold k0_pay5 mix rms
  pointwise

/-- A row with its projection given. -/
abbrev zgen (r : Fin 256) (j : Fin 1024) : EReal := y (ix2 r j) + Ideal.ofBits .f32 0x3F9837F0#32 * x (ix2 r j)

/-- A row of the norm's input. -/
abbrev zr (n0 : ℕ) (a : (⟨2, ![n0, 768]⟩ : Shape).Idx → EReal) (cv : (⟨2, ![n0, 256]⟩ : Shape).Idx → EReal) (n : (⟨2, ![1, 768]⟩ : Shape).Idx → EReal)
    (w : (⟨2, ![1024, 1024]⟩ : Shape).Idx → EReal) (x : (⟨2, ![n0, 1024]⟩ : Shape).Idx → EReal) (r : Fin n0) : Fin 1024 → EReal :=
  zof (mix n0 a cv n r) w (fun k => x (ix2 r k))

theorem zgen_pay5 (r : Fin 256) : zgen x (k0_pay5 (F := Ideal) a n cv w) r = zr 256 a cv n w x r := by
  funext j
  show k0_pay5 (F := Ideal) a n cv w (ix2 r j) + _ = _
  rw [pay5_at]
  rfl

theorem pay8_at (r : Fin 256) (k : Fin 1024) : k0_pay8 (F := Ideal) y x (ix2 r k) = ctr (zgen x y r) k := by
  unfold k0_pay8 ctr mean
  pointwise

theorem pay9_at (r : Fin 256) : k0_pay9 (F := Ideal) y x (ix2 r 0) = rs (zgen x y r) := by
  unfold k0_pay9 rs var
  pointwise
  simp only [pay8_at]

theorem pay10_at (r : Fin 256) (k : Fin 1024) : k0_pay10 (F := Ideal) y x (ix2 r k) = nrm (zgen x y r) k := by
  unfold k0_pay10 nrm
  pointwise
  rw [pay8_at, pay9_at]

theorem pay11_at (r : Fin 256) (k : Fin 1024) : k0_pay11 (F := Ideal) y x g b (ix2 r k) = nrm (zgen x y r) k * g (ix2 0 k) + b (ix2 0 k) := by
  unfold k0_pay11
  pointwise
  rw [pay10_at]

theorem pay14_at (r : Fin 256) (l : Fin 128) : k0_pay14 (F := Ideal) (k0_pay13 y x) (ix2 r l) = rs (zgen x y r) := by
  rw [← pay9_at]
  unfold k0_pay14 k0_pay13
  generalize k0_pay9 (F := Ideal) y x = q
  pointwise

theorem pay15_at (r : Fin 256) (l : Fin 128) : k0_pay15 (F := Ideal) a (ix2 r l) = rms 256 a r := by
  unfold k0_pay15 rms
  pointwise

/-- The first half's output. -/
theorem y_at (r : Fin 256) (k : Fin 1024) :
    k0_pay11 (F := Ideal) (k0_pay5 a n cv w) x g b (ix2 r k) = nrm (zr 256 a cv n w x r) k * g (ix2 0 k) + b (ix2 0 k) := by
  rw [pay11_at, zgen_pay5]

/-- The first half's normed rows. -/
theorem h_at (r : Fin 256) (k : Fin 1024) : k0_pay10 (F := Ideal) (k0_pay5 a n cv w) x (ix2 r k) = nrm (zr 256 a cv n w x r) k := by
  rw [pay10_at, zgen_pay5]

/-- The first half's reciprocal standard deviations. -/
theorem s_at (r : Fin 256) (l : Fin 128) : k0_pay14 (F := Ideal) (k0_pay13 (k0_pay5 a n cv w) x) (ix2 r l) = rs (zr 256 a cv n w x r) := by
  rw [pay14_at, zgen_pay5]

/-- The second half's output. -/
theorem y_at2 (r : Fin 256) (k : Fin 1024) :
    k0_pay1 (F := Ideal) g b (k0_pay18 (k0_pay7 (k0_pay6 a n) cv w) x) (ix2 r k) = nrm (zr 256 a cv n w x r) k * g (ix2 0 k) + b (ix2 0 k) :=
  y_at a cv n w x g b r k

/-- The second half's normed rows. -/
theorem h_at2 (r : Fin 256) (k : Fin 1024) : k0_pay18 (F := Ideal) (k0_pay7 (k0_pay6 a n) cv w) x (ix2 r k) = nrm (zr 256 a cv n w x r) k :=
  h_at a cv n w x r k

/-- The second half's reciprocal standard deviations. -/
theorem s_at2 (r : Fin 256) (l : Fin 128) : k0_pay3 (F := Ideal) (k0_pay17 (k0_pay7 (k0_pay6 a n) cv w) x) (ix2 r l) = rs (zr 256 a cv n w x r) :=
  s_at a cv n w x r l

end Pay

/-- Two stores, of the halves, leave the whole block of lanes. -/
theorem two_lanes (inb1 inb0) (u v : Vec Ideal S256x128 .f32) (F : Fin 512 → EReal)
    (hu : ∀ r k, u (ix2 r k) = F (hi r)) (hv : ∀ r k, v (ix2 r k) = F (lo r)) (r : Fin 512) (k : Fin 128) :
    View.canon (Val := Elt Ideal) (s := S512x128) (e := .f32) [⟨Rect.unit ![256, 0] ![256, 128] inb1, u⟩, ⟨Rect.unit ![0, 0] ![256, 128] inb0, v⟩] (ix2 r k) = F r := by
  refine View.canon_apply_of_pieces (Val := Elt Ideal) (e := .f32) (fun y : S512x128.Idx => F (y 0)) _ ?_ _ ?_
  · intro p hp x
    simp only [List.mem_cons, List.not_mem_nil, or_false] at hp
    rcases hp with rfl | rfl
    · obtain ⟨a, b, rfl⟩ : ∃ (a : Fin 256) (b : Fin 128), x = ix2 a b := ⟨_, _, ix2_eta x⟩
      dsimp only
      rw [emb2 _ _ _ _ (hi a) b rfl (Nat.zero_add _)]
      exact hu a b
    · obtain ⟨a, b, rfl⟩ : ∃ (a : Fin 256) (b : Fin 128), x = ix2 a b := ⟨_, _, ix2_eta x⟩
      dsimp only
      rw [emb2 _ _ _ _ (lo a) b (Nat.zero_add _) (Nat.zero_add _)]
      exact hv a b
  · refine View.cover_of_tiledL (s := S512x128) (e := .f32) _ ![256, 128] ?_ _
    sl_kernel_rfl

/-- The reciprocal root mean square depends on its row only. -/
theorem rms_congr {n n' : ℕ} {a : (⟨2, ![n, 768]⟩ : Shape).Idx → EReal} {a' : (⟨2, ![n', 768]⟩ : Shape).Idx → EReal} {r : Fin n} {r' : Fin n'}
    (h : ∀ k, a (ix2 r k) = a' (ix2 r' k)) : rms n a r = rms n' a' r' := by
  unfold rms
  simp only [h]

/-- The mixed row depends on its rows and the scale only. -/
theorem mix_congr {n n' : ℕ} {a : (⟨2, ![n, 768]⟩ : Shape).Idx → EReal} {a' : (⟨2, ![n', 768]⟩ : Shape).Idx → EReal}
    {q : (⟨2, ![n, 256]⟩ : Shape).Idx → EReal} {q' : (⟨2, ![n', 256]⟩ : Shape).Idx → EReal} {g g' : (⟨2, ![1, 768]⟩ : Shape).Idx → EReal}
    {r : Fin n} {r' : Fin n'} (h : ∀ k, a (ix2 r k) = a' (ix2 r' k)) (hq : ∀ k, q (ix2 r k) = q' (ix2 r' k)) (hg : ∀ k, g (ix2 0 k) = g' (ix2 0 k)) :
    mix n a q g r = mix n' a' q' g' r' := by
  funext k
  unfold mix
  simp only [h, hq, hg, rms_congr h]

theorem rms_lo (a : Vec Ideal S512x768 .f32) (ia) (r : Fin 256) : rms 256 (ldLo a ia) r = rms 512 a (lo r) := rms_congr fun k => ld_lo a ia r k

theorem rms_hi (a : Vec Ideal S512x768 .f32) (ia) (r : Fin 256) : rms 256 (ldHi a ia) r = rms 512 a (hi r) := rms_congr fun k => ld_hi a ia r k

theorem mix_lo (a : Vec Ideal S512x768 .f32) (cv : Vec Ideal S512x256 .bf16) (n : Vec Ideal S1x768 .f32) (ia ic) (r : Fin 256) :
    mix 256 (ldLo a ia) (ldLo cv ic) n r = mix 512 a cv n (lo r) :=
  mix_congr (fun k => ld_lo a ia r k) (fun k => ld_lo cv ic r k) fun _ => rfl

theorem mix_hi (a : Vec Ideal S512x768 .f32) (cv : Vec Ideal S512x256 .bf16) (n : Vec Ideal S1x768 .f32) (ia ic) (r : Fin 256) :
    mix 256 (ldHi a ia) (ldHi cv ic) n r = mix 512 a cv n (hi r) :=
  mix_congr (fun k => ld_hi a ia r k) (fun k => ld_hi cv ic r k) fun _ => rfl

theorem zr_lo (a : Vec Ideal S512x768 .f32) (cv : Vec Ideal S512x256 .bf16) (n : Vec Ideal S1x768 .f32) (w : Vec Ideal S1024x1024 .bf16)
    (x : Vec Ideal S512x1024 .f32) (ia ic ix) (r : Fin 256) : zr 256 (ldLo a ia) (ldLo cv ic) n w (ldLo x ix) r = zr 512 a cv n w x (lo r) := by
  unfold zr
  rw [mix_lo]
  exact congrArg (zof _ w) (funext fun k => ld_lo x ix r k)

theorem zr_hi (a : Vec Ideal S512x768 .f32) (cv : Vec Ideal S512x256 .bf16) (n : Vec Ideal S1x768 .f32) (w : Vec Ideal S1024x1024 .bf16)
    (x : Vec Ideal S512x1024 .f32) (ia ic ix) (r : Fin 256) : zr 256 (ldHi a ia) (ldHi cv ic) n w (ldHi x ix) r = zr 512 a cv n w x (hi r) := by
  unfold zr
  rw [mix_hi]
  exact congrArg (zof _ w) (funext fun k => ld_hi x ix r k)

section Step

variable (c : Dev nD) (i : grid0.Coords) (arg3 : Memref sig .tc .vmem S512x768 .f32) (harg3 : arg3.IsWhole)
  (arg4 : Memref sig .tc .vmem S512x256 .bf16) (harg4 : arg4.IsWhole) (arg5 : Memref sig .tc .vmem S1x768 .f32) (harg5 : arg5.IsWhole)
  (arg6 : Memref sig .tc .vmem S1024x1024 .bf16) (harg6 : arg6.IsWhole) (arg7 : Memref sig .tc .vmem S512x1024 .f32) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S512x768 .f32) (harg10 : arg10.IsWhole) (arg11 : Memref sig .tc .vmem S512x1024 .f32) (harg11 : arg11.IsWhole)
  (arg12 : Memref sig .tc .vmem S512x1024 .bf16) (harg12 : arg12.IsWhole) (arg13 : Memref sig .tc .vmem S512x1024 .f32) (harg13 : arg13.IsWhole)
  (arg14 : Memref sig .tc .vmem S512x128 .f32) (harg14 : arg14.IsWhole) (arg15 : Memref sig .tc .vmem S512x128 .f32) (harg15 : arg15.IsWhole)
  (arg16 : Memref sig .tc .vmem S512x1024 .f32) (harg16 : arg16.IsWhole)
  (x0 : Vec Ideal S512x768 .f32) (x1 : Vec Ideal S512x256 .bf16) (x2 : Vec Ideal S1x768 .f32) (x3 : Vec Ideal S1024x1024 .bf16)
  (x4 : Vec Ideal S512x1024 .f32) (x5 x6 : Vec Ideal S1x1024 .f32) (x7 : Vec Ideal S512x768 .f32)

/-- The output block a step leaves. -/
theorem out_8 (r : Fin 512) (k : Fin 1024) :
    out0_A_8 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (ix2 r k) = nrm (zr 512 x0 x1 x2 x3 x4 r) k * x5 (ix2 0 k) + x6 (ix2 0 k) := by
  unfold out0_A_8
  refine (congrFun (View.read_writes_eq_canon _ _ _ (by intro y; apply cover0_A_8)) _).trans ?_
  unfold kernelRun0_A
  dsimp only
  sl_unfold_words
  simp only [View.readAt_eq_ld, harg3.read_unread, harg4.read_unread, harg5.read_unread, harg6.read_unread, harg7.read_unread, harg8.read_unread, harg9.read_unread, harg10.read_unread]
  rw [View.ld_unit_zero off0 _ x2, View.ld_unit_zero off0 _ x3, View.ld_unit_zero off0 _ x5, View.ld_unit_zero off0 _ x6]
  refine two_pieces (e := .f32) _ _ _ _ (fun r k => nrm (zr 512 x0 x1 x2 x3 x4 r) k * x5 (ix2 0 k) + x6 (ix2 0 k)) (fun r k => ?_) (fun r k => ?_) r k
  · rw [y_at2, zr_hi]
  · rw [y_at, zr_lo]

/-- The rounded output block a step leaves. -/
theorem out_9 (r : Fin 512) (k : Fin 1024) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (ix2 r k) = nrm (zr 512 x0 x1 x2 x3 x4 r) k * x5 (ix2 0 k) + x6 (ix2 0 k) := by
  unfold out0_A_9
  refine (congrFun (View.read_writes_eq_canon _ _ _ (by intro y; apply cover0_A_9)) _).trans ?_
  unfold kernelRun0_A
  dsimp only
  sl_unfold_words
  simp only [View.readAt_eq_ld, harg3.read_unread, harg4.read_unread, harg5.read_unread, harg6.read_unread, harg7.read_unread, harg8.read_unread, harg9.read_unread, harg10.read_unread]
  rw [View.ld_unit_zero off0 _ x2, View.ld_unit_zero off0 _ x3, View.ld_unit_zero off0 _ x5, View.ld_unit_zero off0 _ x6]
  refine two_pieces (e := .bf16) _ _ _ _ (fun r k => nrm (zr 512 x0 x1 x2 x3 x4 r) k * x5 (ix2 0 k) + x6 (ix2 0 k)) (fun r k => ?_) (fun r k => ?_) r k
  · exact (y_at2 _ _ _ _ _ _ _ r k).trans (by rw [zr_hi])
  · exact (y_at _ _ _ _ _ _ _ r k).trans (by rw [zr_lo])

/-- The normed rows a step leaves. -/
theorem out_10 (r : Fin 512) (k : Fin 1024) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (ix2 r k) = nrm (zr 512 x0 x1 x2 x3 x4 r) k := by
  unfold out0_A_10
  refine (congrFun (View.read_writes_eq_canon _ _ _ (by intro y; apply cover0_A_10)) _).trans ?_
  unfold kernelRun0_A
  dsimp only
  sl_unfold_words
  simp only [View.readAt_eq_ld, harg3.read_unread, harg4.read_unread, harg5.read_unread, harg6.read_unread, harg7.read_unread, harg8.read_unread, harg9.read_unread, harg10.read_unread]
  rw [View.ld_unit_zero off0 _ x2, View.ld_unit_zero off0 _ x3]
  refine two_pieces (e := .f32) _ _ _ _ (fun r k => nrm (zr 512 x0 x1 x2 x3 x4 r) k) (fun r k => ?_) (fun r k => ?_) r k
  · rw [h_at2, zr_hi]
  · rw [h_at, zr_lo]

/-- The reciprocal standard deviations a step leaves. -/
theorem out_11 (r : Fin 512) (l : Fin 128) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (ix2 r l) = rs (zr 512 x0 x1 x2 x3 x4 r) := by
  unfold out0_A_11
  refine (congrFun (View.read_writes_eq_canon _ _ _ (by intro y; apply cover0_A_11)) _).trans ?_
  unfold kernelRun0_A
  dsimp only
  sl_unfold_words
  simp only [View.readAt_eq_ld, harg3.read_unread, harg4.read_unread, harg5.read_unread, harg6.read_unread, harg7.read_unread, harg8.read_unread, harg9.read_unread, harg10.read_unread]
  rw [View.ld_unit_zero off0 _ x2, View.ld_unit_zero off0 _ x3]
  refine two_lanes _ _ _ _ (fun r => rs (zr 512 x0 x1 x2 x3 x4 r)) (fun r k => ?_) (fun r k => ?_) r l
  · rw [s_at2, zr_hi]
  · rw [s_at, zr_lo]

/-- The attention columns' reciprocal root mean squares a step leaves. -/
theorem out_12 (r : Fin 512) (l : Fin 128) :
    out0_A_12 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (ix2 r l) = rms 512 x7 r := by
  unfold out0_A_12
  refine (congrFun (View.read_writes_eq_canon _ _ _ (by intro y; apply cover0_A_12)) _).trans ?_
  unfold kernelRun0_A
  dsimp only
  sl_unfold_words
  simp only [View.readAt_eq_ld, harg3.read_unread, harg4.read_unread, harg5.read_unread, harg6.read_unread, harg7.read_unread, harg8.read_unread, harg9.read_unread, harg10.read_unread]
  refine two_lanes _ _ _ _ (fun r => rms 512 x7 r) (fun r k => ?_) (fun r k => ?_) r l
  · exact (pay15_at _ r k).trans (rms_hi x7 _ r)
  · exact (pay15_at _ r k).trans (rms_lo x7 _ r)

end Step

end Cert.Kernel7Ideal.Pf

end
-- ==== Proof.OutArr.lean ====
module

public import proofs.«01_k».proof.Proof.Out1
public import Idealize.ShloMosaic.Lib.StableHlo.ReadAt

@[expose] public section

set_option maxRecDepth 16384

noncomputable section

/-! What the output projection and the first norm leave in their arrays, row by row. -/

namespace Cert.Kernel7Ideal.Pf

open Cert.Kernel7Ideal Cert.Kernel7Ideal.Gen Cert.Kernel7Ideal.Value Cert.Ln Cert.Ref5 Cert.Ref7 Idealize.ShloMosaic Idealize.ShloMosaic.TcCoe Idealize.SL.Sem
open Cert.Kernel6Ideal.Pf (ix2_eta)
open Idealize.ShloMosaic.Pipeline (Dat)

variable (m : (ℓ : Loc nD τ sig) → Buf (Elt Ideal) ℓ) (c : Dev nD)

/-- The layer's input a core was launched with. -/
abbrev xin : (⟨3, ![2, 2048, 1024]⟩ : Shape).Idx → EReal := m ((c : Thread nD τ).loc main_arg0)

/-- The attention rows a core was launched with. -/
abbrev av : (⟨2, ![4096, 768]⟩ : Shape).Idx → EReal := m ((c : Thread nD τ).loc main_arg1)

/-- The convolution's columns a core was launched with. -/
abbrev cvv : (⟨2, ![4096, 256]⟩ : Shape).Idx → EReal := m ((c : Thread nD τ).loc main_arg2)

/-- The attention norm's scale a core was launched with. -/
abbrev gv : (⟨2, ![1, 768]⟩ : Shape).Idx → EReal := m ((c : Thread nD τ).loc main_arg3)

/-- The output projection's weight a core was launched with. -/
abbrev wo : (⟨2, ![1024, 1024]⟩ : Shape).Idx → EReal := m ((c : Thread nD τ).loc main_arg4)

/-- The layer norm's scale a core was launched with. -/
abbrev sc : (⟨2, ![1, 1024]⟩ : Shape).Idx → EReal := m ((c : Thread nD τ).loc main_arg5)

/-- The layer norm's shift a core was launched with. -/
abbrev sh : (⟨2, ![1, 1024]⟩ : Shape).Idx → EReal := m ((c : Thread nD τ).loc main_arg6)

theorem lt_N (t : Fin cfg0.N) : t.val < 8 := lt_of_lt_of_eq t.isLt N_0

/-- The weight as the kernel finds it. -/
theorem V_v0 (j k : Fin 1024) : V m c main_v0 (ix2 j k) = wo m c (ix2 j k) := by
  unfold V wo
  after_reads_at

/-- The residual's rows as the kernel finds them. -/
theorem V_v1 (b : Fin 2) (s : Fin 2048) (k : Fin 1024) : V m c main_v1 (ix2 (brow b s) k) = xin m c (ix3 b s k) := by
  unfold V xin brow
  after_reads_at

/-- The residual's rows. -/
def xrow : (⟨2, ![4096, 1024]⟩ : Shape).Idx → EReal := V m c main_v1

/-- A row of the norm's input. -/
abbrev Z (R : Fin 4096) : Fin 1024 → EReal := zr 4096 (av m c) (cvv m c) (gv m c) (wo m c) (xrow m c) R

/-- Row `r` of a step's block of rows. -/
def row (t : Fin cfg0.N) (r : Fin 512) : Fin 4096 := ⟨t.val * 512 + r.val, by have := lt_N t; omega⟩

/-- The step a row belongs to. -/
def step (r : Fin 4096) : Fin cfg0.N := ⟨r.val / 512, lt_of_lt_of_eq (by omega : r.val / 512 < 8) N_0.symm⟩

/-- A row is its step's row. -/
theorem row_step (r : Fin 4096) : row (step r) ⟨r.val % 512, by omega⟩ = r := Fin.ext (show r.val / 512 * 512 + r.val % 512 = r.val by omega)

/-- Window 0's block numbers. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 1's block numbers. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Window 2's block numbers. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Window 3's block numbers. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Window 4's block numbers. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Window 5's block numbers. -/
theorem idx5 : ∀ t : Fin cfg0.N, win0_5.index t 0 = 0 ∧ win0_5.index t 1 = 0 :=
  (by decide +kernel : ∀ t : Fin grid0.N, win0_5.index t 0 = 0 ∧ win0_5.index t 1 = 0)

/-- Window 6's block numbers. -/
theorem idx6 : ∀ t : Fin cfg0.N, win0_6.index t 0 = 0 ∧ win0_6.index t 1 = 0 :=
  (by decide +kernel : ∀ t : Fin grid0.N, win0_6.index t 0 = 0 ∧ win0_6.index t 1 = 0)

/-- Window 7's block numbers. -/
theorem idx7 : ∀ t : Fin cfg0.N, win0_7.index t 0 = t.val ∧ win0_7.index t 1 = 0 :=
  (by decide +kernel : ∀ t : Fin grid0.N, win0_7.index t 0 = t.val ∧ win0_7.index t 1 = 0)

/-- Window 8's block numbers. -/
theorem idx8 : ∀ t : Fin cfg0.N, win0_8.index t 0 = t.val ∧ win0_8.index t 1 = 0 :=
  (by decide +kernel : ∀ t : Fin grid0.N, win0_8.index t 0 = t.val ∧ win0_8.index t 1 = 0)

/-- Window 9's block numbers. -/
theorem idx9 : ∀ t : Fin cfg0.N, win0_9.index t 0 = t.val ∧ win0_9.index t 1 = 0 :=
  (by decide +kernel : ∀ t : Fin grid0.N, win0_9.index t 0 = t.val ∧ win0_9.index t 1 = 0)

/-- Window 10's block numbers. -/
theorem idx10 : ∀ t : Fin cfg0.N, win0_10.index t 0 = t.val ∧ win0_10.index t 1 = 0 :=
  (by decide +kernel : ∀ t : Fin grid0.N, win0_10.index t 0 = t.val ∧ win0_10.index t 1 = 0)

/-- Window 11's block numbers. -/
theorem idx11 : ∀ t : Fin cfg0.N, win0_11.index t 0 = t.val ∧ win0_11.index t 1 = 0 :=
  (by decide +kernel : ∀ t : Fin grid0.N, win0_11.index t 0 = t.val ∧ win0_11.index t 1 = 0)

/-- Window 12's block numbers. -/
theorem idx12 : ∀ t : Fin cfg0.N, win0_12.index t 0 = t.val ∧ win0_12.index t 1 = 0 :=
  (by decide +kernel : ∀ t : Fin grid0.N, win0_12.index t 0 = t.val ∧ win0_12.index t 1 = 0)

/-- A step's block of the attention rows. -/
theorem blk0 (t : Fin cfg0.N) (r : Fin 512) (k : Fin 768) : iblk m c 0 t (ix2 r k) = av m c (ix2 (row t r) k) := by
  have hi := idx0 t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_0.index t 0 * 512 + 1 * r.val = t.val * 512 + r.val; rw [hi.1]; omega
  | ⟨1, _⟩ => show win0_0.index t 1 * 768 + 1 * k.val = k.val; rw [hi.2]; omega

/-- A step's block of the convolution's columns. -/
theorem blk1 (t : Fin cfg0.N) (r : Fin 512) (k : Fin 256) : iblk m c 1 t (ix2 r k) = cvv m c (ix2 (row t r) k) := by
  have hi := idx1 t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_1.index t 0 * 512 + 1 * r.val = t.val * 512 + r.val; rw [hi.1]; omega
  | ⟨1, _⟩ => show win0_1.index t 1 * 256 + 1 * k.val = k.val; rw [hi.2]; omega

/-- A step's block of the attention norm's scale. -/
theorem blk2 (t : Fin cfg0.N) (k : Fin 768) : iblk m c 2 t (ix2 0 k) = gv m c (ix2 0 k) := by
  have hi := idx2 t
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_2.index t 0 * 1 + 1 * 0 = 0; rw [hi.1]
  | ⟨1, _⟩ => show win0_2.index t 1 * 768 + 1 * k.val = k.val; rw [hi.2]; omega

/-- A step's block of the weight. -/
theorem blk3 (t : Fin cfg0.N) (r : Fin 1024) (k : Fin 1024) : iblk m c 3 t (ix2 r k) = V m c main_v0 (ix2 r k) := by
  have hi := idx3 t
  unfold iblk
  rw [View.read_apply]
  show V m c main_v0 _ = _
  congr 1
  funext a
  apply Fin.ext
  match a with
  | ⟨0, _⟩ => show win0_3.index t 0 * 1024 + 1 * r.val = r.val; rw [hi.1]; omega
  | ⟨1, _⟩ => show win0_3.index t 1 * 1024 + 1 * k.val = k.val; rw [hi.2]; omega

/-- A step's block of the residual. -/
theorem blk4 (t : Fin cfg0.N) (r : Fin 512) (k : Fin 1024) : iblk m c 4 t (ix2 r k) = xrow m c (ix2 (row t r) k) := by
  have hi := idx4 t
  unfold iblk
  rw [View.read_apply]
  show V m c main_v1 _ = _
  show V m c main_v1 _ = V m c main_v1 _
  congr 1
  funext a
  apply Fin.ext
  match a with
  | ⟨0, _⟩ => show win0_4.index t 0 * 512 + 1 * r.val = t.val * 512 + r.val; rw [hi.1]; omega
  | ⟨1, _⟩ => show win0_4.index t 1 * 1024 + 1 * k.val = k.val; rw [hi.2]; omega

/-- A step's block of the layer norm's scale. -/
theorem blk5 (t : Fin cfg0.N) (k : Fin 1024) : iblk m c 5 t (ix2 0 k) = sc m c (ix2 0 k) := by
  have hi := idx5 t
  unfold iblk
  rw [View.read_apply]
  show V m c main_arg5 _ = _
  rw [V_main_arg5]
  show m ((c : Thread nD τ).loc main_arg5) _ = m ((c : Thread nD τ).loc main_arg5) _
  congr 1
  funext a
  apply Fin.ext
  match a with
  | ⟨0, _⟩ => show win0_5.index t 0 * 1 + 1 * 0 = 0; rw [hi.1]
  | ⟨1, _⟩ => show win0_5.index t 1 * 1024 + 1 * k.val = k.val; rw [hi.2]; omega

/-- A step's block of the layer norm's shift. -/
theorem blk6 (t : Fin cfg0.N) (k : Fin 1024) : iblk m c 6 t (ix2 0 k) = sh m c (ix2 0 k) := by
  have hi := idx6 t
  unfold iblk
  rw [View.read_apply]
  show V m c main_arg6 _ = _
  rw [V_main_arg6]
  show m ((c : Thread nD τ).loc main_arg6) _ = m ((c : Thread nD τ).loc main_arg6) _
  congr 1
  funext a
  apply Fin.ext
  match a with
  | ⟨0, _⟩ => show win0_6.index t 0 * 1 + 1 * 0 = 0; rw [hi.1]
  | ⟨1, _⟩ => show win0_6.index t 1 * 1024 + 1 * k.val = k.val; rw [hi.2]; omega

/-- A step's block of the attention rows again. -/
theorem blk7 (t : Fin cfg0.N) (r : Fin 512) (k : Fin 768) : iblk m c 7 t (ix2 r k) = av m c (ix2 (row t r) k) := by
  have hi := idx7 t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_7.index t 0 * 512 + 1 * r.val = t.val * 512 + r.val; rw [hi.1]; omega
  | ⟨1, _⟩ => show win0_7.index t 1 * 768 + 1 * k.val = k.val; rw [hi.2]; omega

/-- A step's row of the norm's input is the batch's. -/
theorem z_blk (t : Fin cfg0.N) (r : Fin 512) :
    zr 512 (iblk m c 0 t) (iblk m c 1 t) (iblk m c 2 t) (iblk m c 3 t) (iblk m c 4 t) r = Z m c (row t r) := by
  funext k
  unfold Z zr zof
  rw [mix_congr (blk0 m c t r) (blk1 m c t r) (blk2 m c t)]
  exact congrArg₂ (· + ·) (Finset.sum_congr rfl fun j _ => congrArg (_ * ·) ((blk3 m c t j k).trans (V_v0 m c j k)))
    (congrArg (_ * ·) (blk4 m c t r k))

/-- A step's reciprocal root mean square is the batch's. -/
theorem r_blk (t : Fin cfg0.N) (r : Fin 512) : rms 512 (iblk m c 7 t) r = rms 4096 (av m c) (row t r) := rms_congr (blk7 m c t r)

/-- The output a step leaves. -/
theorem left8 (t : Fin cfg0.N) (r : Fin 512) (k : Fin 1024) : (outsAt0 m c t).1 (ix2 r k)
    = nrm (Z m c (row t r)) k * sc m c (ix2 0 k) + sh m c (ix2 0 k) := by
  unfold outsAt0
  dsimp only
  rw [out_8, z_blk, blk5, blk6]

/-- The rounded output a step leaves. -/
theorem left9 (t : Fin cfg0.N) (r : Fin 512) (k : Fin 1024) : (outsAt0 m c t).2.1 (ix2 r k)
    = nrm (Z m c (row t r)) k * sc m c (ix2 0 k) + sh m c (ix2 0 k) := by
  unfold outsAt0
  dsimp only
  rw [out_9, z_blk, blk5, blk6]

/-- The normed rows a step leaves. -/
theorem left10 (t : Fin cfg0.N) (r : Fin 512) (k : Fin 1024) : (outsAt0 m c t).2.2.1 (ix2 r k)
    = nrm (Z m c (row t r)) k := by
  unfold outsAt0
  dsimp only
  rw [out_10, z_blk]

/-- The reciprocal standard deviations a step leaves. -/
theorem left11 (t : Fin cfg0.N) (r : Fin 512) (k : Fin 128) : (outsAt0 m c t).2.2.2.1 (ix2 r k)
    = rs (Z m c (row t r)) := by
  unfold outsAt0
  dsimp only
  rw [out_11, z_blk]

/-- The attention columns' reciprocal root mean squares a step leaves. -/
theorem left12 (t : Fin cfg0.N) (r : Fin 512) (k : Fin 128) : (outsAt0 m c t).2.2.2.2 (ix2 r k)
    = rms 4096 (av m c) (row t r) := by
  unfold outsAt0
  dsimp only
  rw [out_12, r_blk]

attribute [local irreducible] outsAt0

/-- Where window 8's block lies in its array. -/
theorem emb8 (t : Fin cfg0.N) (r : Fin 512) (k : Fin 1024) : ((cfg0.win 8).blk t).view.emb (ix2 r k) = ix2 (row t r) k := by
  have hi := idx8 t
  funext x
  apply Fin.ext
  match x with
  | ⟨0, _⟩ => show win0_8.index t 0 * 512 + 1 * r.val = t.val * 512 + r.val; rw [hi.1]; omega
  | ⟨1, _⟩ => show win0_8.index t 1 * 1024 + 1 * k.val = k.val; rw [hi.2]; omega

/-- The array window 8 leaves: the output. -/
theorem arr8 : (dats m 0 c).arrAt 8 cfg0.N = fun i : S4096x1024.Idx => nrm (Z m c (i 0)) (i 1) * sc m c (ix2 0 (i 1)) + sh m c (ix2 0 (i 1)) := by
  refine Dat.arrAt_eq_of_cover (dats m 0 c) 8 _ ?_ ?_
  · intro t _
    rw [flushed8]
    funext y
    rw [View.read_apply]
    obtain ⟨r, k, rfl⟩ : ∃ (r : Fin 512) (k : Fin 1024), y = ix2 r k := ⟨_, _, ix2_eta y⟩
    rw [emb8 t r k]
    exact left8 m c t r k
  · intro i
    obtain ⟨R, k, rfl⟩ : ∃ (R : Fin 4096) (k : Fin 1024), i = ix2 R k := ⟨_, _, ix2_eta i⟩
    refine ⟨step R, flush0_8 _, ?_⟩
    have e := emb8 (step R) ⟨R.val % 512, by omega⟩ k
    rw [row_step] at e
    rw [← e]
    exact View.emb_mem_set _ _

/-- Where window 9's block lies in its array. -/
theorem emb9 (t : Fin cfg0.N) (r : Fin 512) (k : Fin 1024) : ((cfg0.win 9).blk t).view.emb (ix2 r k) = ix2 (row t r) k := by
  have hi := idx9 t
  funext x
  apply Fin.ext
  match x with
  | ⟨0, _⟩ => show win0_9.index t 0 * 512 + 1 * r.val = t.val * 512 + r.val; rw [hi.1]; omega
  | ⟨1, _⟩ => show win0_9.index t 1 * 1024 + 1 * k.val = k.val; rw [hi.2]; omega

/-- The array window 9 leaves: the rounded output. -/
theorem arr9 : (dats m 0 c).arrAt 9 cfg0.N = fun i : S4096x1024.Idx => nrm (Z m c (i 0)) (i 1) * sc m c (ix2 0 (i 1)) + sh m c (ix2 0 (i 1)) := by
  refine Dat.arrAt_eq_of_cover (dats m 0 c) 9 _ ?_ ?_
  · intro t _
    rw [flushed9]
    funext y
    rw [View.read_apply]
    obtain ⟨r, k, rfl⟩ : ∃ (r : Fin 512) (k : Fin 1024), y = ix2 r k := ⟨_, _, ix2_eta y⟩
    rw [emb9 t r k]
    exact left9 m c t r k
  · intro i
    obtain ⟨R, k, rfl⟩ : ∃ (R : Fin 4096) (k : Fin 1024), i = ix2 R k := ⟨_, _, ix2_eta i⟩
    refine ⟨step R, flush0_9 _, ?_⟩
    have e := emb9 (step R) ⟨R.val % 512, by omega⟩ k
    rw [row_step] at e
    rw [← e]
    exact View.emb_mem_set _ _

/-- Where window 10's block lies in its array. -/
theorem emb10 (t : Fin cfg0.N) (r : Fin 512) (k : Fin 1024) : ((cfg0.win 10).blk t).view.emb (ix2 r k) = ix2 (row t r) k := by
  have hi := idx10 t
  funext x
  apply Fin.ext
  match x with
  | ⟨0, _⟩ => show win0_10.index t 0 * 512 + 1 * r.val = t.val * 512 + r.val; rw [hi.1]; omega
  | ⟨1, _⟩ => show win0_10.index t 1 * 1024 + 1 * k.val = k.val; rw [hi.2]; omega

/-- The array window 10 leaves: the normed rows. -/
theorem arr10 : (dats m 0 c).arrAt 10 cfg0.N = fun i : S4096x1024.Idx => nrm (Z m c (i 0)) (i 1) := by
  refine Dat.arrAt_eq_of_cover (dats m 0 c) 10 _ ?_ ?_
  · intro t _
    rw [flushed10]
    funext y
    rw [View.read_apply]
    obtain ⟨r, k, rfl⟩ : ∃ (r : Fin 512) (k : Fin 1024), y = ix2 r k := ⟨_, _, ix2_eta y⟩
    rw [emb10 t r k]
    exact left10 m c t r k
  · intro i
    obtain ⟨R, k, rfl⟩ : ∃ (R : Fin 4096) (k : Fin 1024), i = ix2 R k := ⟨_, _, ix2_eta i⟩
    refine ⟨step R, flush0_10 _, ?_⟩
    have e := emb10 (step R) ⟨R.val % 512, by omega⟩ k
    rw [row_step] at e
    rw [← e]
    exact View.emb_mem_set _ _

/-- Where window 11's block lies in its array. -/
theorem emb11 (t : Fin cfg0.N) (r : Fin 512) (k : Fin 128) : ((cfg0.win 11).blk t).view.emb (ix2 r k) = ix2 (row t r) k := by
  have hi := idx11 t
  funext x
  apply Fin.ext
  match x with
  | ⟨0, _⟩ => show win0_11.index t 0 * 512 + 1 * r.val = t.val * 512 + r.val; rw [hi.1]; omega
  | ⟨1, _⟩ => show win0_11.index t 1 * 128 + 1 * k.val = k.val; rw [hi.2]; omega

/-- The array window 11 leaves: the reciprocal standard deviations. -/
theorem arr11 : (dats m 0 c).arrAt 11 cfg0.N = fun i : S4096x128.Idx => rs (Z m c (i 0)) := by
  refine Dat.arrAt_eq_of_cover (dats m 0 c) 11 _ ?_ ?_
  · intro t _
    rw [flushed11]
    funext y
    rw [View.read_apply]
    obtain ⟨r, k, rfl⟩ : ∃ (r : Fin 512) (k : Fin 128), y = ix2 r k := ⟨_, _, ix2_eta y⟩
    rw [emb11 t r k]
    exact left11 m c t r k
  · intro i
    obtain ⟨R, k, rfl⟩ : ∃ (R : Fin 4096) (k : Fin 128), i = ix2 R k := ⟨_, _, ix2_eta i⟩
    refine ⟨step R, flush0_11 _, ?_⟩
    have e := emb11 (step R) ⟨R.val % 512, by omega⟩ k
    rw [row_step] at e
    rw [← e]
    exact View.emb_mem_set _ _

/-- Where window 12's block lies in its array. -/
theorem emb12 (t : Fin cfg0.N) (r : Fin 512) (k : Fin 128) : ((cfg0.win 12).blk t).view.emb (ix2 r k) = ix2 (row t r) k := by
  have hi := idx12 t
  funext x
  apply Fin.ext
  match x with
  | ⟨0, _⟩ => show win0_12.index t 0 * 512 + 1 * r.val = t.val * 512 + r.val; rw [hi.1]; omega
  | ⟨1, _⟩ => show win0_12.index t 1 * 128 + 1 * k.val = k.val; rw [hi.2]; omega

/-- The array window 12 leaves: the attention columns' reciprocal root mean squares. -/
theorem arr12 : (dats m 0 c).arrAt 12 cfg0.N = fun i : S4096x128.Idx => rms 4096 (av m c) (i 0) := by
  refine Dat.arrAt_eq_of_cover (dats m 0 c) 12 _ ?_ ?_
  · intro t _
    rw [flushed12]
    funext y
    rw [View.read_apply]
    obtain ⟨r, k, rfl⟩ : ∃ (r : Fin 512) (k : Fin 128), y = ix2 r k := ⟨_, _, ix2_eta y⟩
    rw [emb12 t r k]
    exact left12 m c t r k
  · intro i
    obtain ⟨R, k, rfl⟩ : ∃ (R : Fin 4096) (k : Fin 128), i = ix2 R k := ⟨_, _, ix2_eta i⟩
    refine ⟨step R, flush0_12 _, ?_⟩
    have e := emb12 (step R) ⟨R.val % 512, by omega⟩ k
    rw [row_step] at e
    rw [← e]
    exact View.emb_mem_set _ _

end Cert.Kernel7Ideal.Pf

end
-- ==== Proof.Step7.lean ====
module

public import proofs.«01_k».proof.Proof.OutArr
public import proofs.«01_k».proof.Proof.Step
public import proofs.«01_k».proof.Proof.Gen.Reference7Ideal.Run

@[expose] public section

set_option maxRecDepth 16384

noncomputable section

/-! The output projection and first layer norm: the kernel's results are the reference's, at every argument. -/

namespace Cert.Step

open Cert.Kernel7Ideal.Pf Cert.Ln Idealize.ShloMosaic Idealize.ShloMosaic.TcCoe Idealize.SL.Sem

section

variable (m : (ℓ : Loc Cert.Kernel7Ideal.nD Cert.Kernel7Ideal.τ Cert.Kernel7Ideal.sig) → Buf (Elt Ideal) ℓ) (c : Dev Cert.Kernel7Ideal.nD)

/-- The kernel's row of the norm's input is the reference's. -/
theorem z7_eq (b : Fin 2) (s : Fin 2048) :
    Cert.Ref7.Z (xin m c) (av m c) (cvv m c) (gv m c) (wo m c) b s = Z m c (Cert.Ref7.brow b s) :=
  congrArg (Cert.Ref7.zof _ (wo m c)) (funext fun k => (V_v1 m c b s k).symm)

/-- The first norm's output, as an array. -/
def x1Out : (⟨2, ![4096, 1024]⟩ : Shape).Idx → EReal := fun i => nrm (Z m c (i 0)) (i 1) * sc m c (ix2 0 (i 1)) + sh m c (ix2 0 (i 1))

/-- The normed rows, as an array. -/
def xhOut : (⟨2, ![4096, 1024]⟩ : Shape).Idx → EReal := fun i => nrm (Z m c (i 0)) (i 1)

/-- The reciprocal standard deviations, as an array. -/
def rsOut : (⟨2, ![4096, 128]⟩ : Shape).Idx → EReal := fun i => rs (Z m c (i 0))

/-- The attention columns' reciprocal root mean squares, as an array. -/
def rmsOut : (⟨2, ![4096, 128]⟩ : Shape).Idx → EReal := fun i => Cert.Ref5.rms 4096 (av m c) (i 0)

end

/-- Every row of the batch is a position of an entry. -/
theorem exists_brow (R : Fin 4096) : ∃ (b : Fin 2) (s : Fin 2048), R = Cert.Ref7.brow b s :=
  ⟨⟨R.val / 2048, by omega⟩, ⟨R.val % 2048, by omega⟩, Fin.ext (by show R.val = R.val / 2048 * 2048 + R.val % 2048; omega)⟩

/-- The five results are the reference's. -/
theorem value7 : Cert.algebraic_Kernel7Ideal_Reference7Ideal := by
  intro m g m' g' _ hargs
  refine ⟨fun c => x1Out m c, fun c => x1Out m c, fun c => xhOut m c, fun c => rsOut m c, fun c => rmsOut m c, ?_, ?_⟩
  · refine (θ_run Cert.Kernel7Ideal.defs _ _).mono (fun r h c => ?_) (Cert.Kernel7Ideal.Value.run_blocks m g)
    obtain ⟨h0, h1, h2, h3, h4, hk⟩ := h c
    exact ⟨h0.trans (arr8 m c), h1.trans (arr9 m c), h2.trans (arr10 m c), h3.trans (arr11 m c), h4.trans (arr12 m c), hk⟩
  · refine (θ_run Cert.Reference7Ideal.defs _ _).mono (fun r h c => ?_) (Cert.Reference7Ideal.Value.run m' g')
    obtain ⟨h0, h1, h2, h3, h4, hk⟩ := h c
    obtain ⟨a0, a1, a2, a3, a4, a5, a6⟩ := hargs c
    refine ⟨h0.trans ?_, h1.trans ?_, h2.trans ?_, h3.trans ?_, h4.trans ?_, hk⟩
    · rw [Cert.Reference7Ideal.Read.val_main_v69_eq, a0, a1, a2, a3, a4, a5, a6]
      show _ = x1Out m c
      funext i
      obtain ⟨R, k, rfl⟩ : ∃ (R : Fin 4096) (k : Fin 1024), i = ix2 R k := ⟨_, _, Cert.Step.ix2_eta i⟩
      obtain ⟨b, s, rfl⟩ := exists_brow R
      exact (Cert.Ref7.v69_at _ _ _ _ _ _ _ b s k).trans (by rw [z7_eq]; rfl)
    · rw [Cert.Reference7Ideal.Read.val_main_v70_eq, a0, a1, a2, a3, a4, a5, a6]
      show _ = x1Out m c
      funext i
      obtain ⟨R, k, rfl⟩ : ∃ (R : Fin 4096) (k : Fin 1024), i = ix2 R k := ⟨_, _, Cert.Step.ix2_eta i⟩
      obtain ⟨b, s, rfl⟩ := exists_brow R
      exact (Cert.Ref7.v70_at _ _ _ _ _ _ _ b s k).trans (by rw [z7_eq]; rfl)
    · rw [Cert.Reference7Ideal.Read.val_main_v75_eq, a0, a1, a2, a3, a4]
      show _ = xhOut m c
      funext i
      obtain ⟨R, k, rfl⟩ : ∃ (R : Fin 4096) (k : Fin 1024), i = ix2 R k := ⟨_, _, Cert.Step.ix2_eta i⟩
      obtain ⟨b, s, rfl⟩ := exists_brow R
      exact (Cert.Ref7.v75_at _ _ _ _ _ b s k).trans (by rw [z7_eq]; rfl)
    · rw [Cert.Reference7Ideal.Read.val_main_v77_eq, a0, a1, a2, a3, a4]
      show _ = rsOut m c
      funext i
      obtain ⟨R, k, rfl⟩ : ∃ (R : Fin 4096) (k : Fin 128), i = ix2 R k := ⟨_, _, Cert.Step.ix2_eta i⟩
      obtain ⟨b, s, rfl⟩ := exists_brow R
      exact (Cert.Ref7.v77_at _ _ _ _ _ b s k).trans (by rw [z7_eq]; rfl)
    · rw [Cert.Reference7Ideal.Read.val_main_v78_eq, a1]
      show _ = rmsOut m c
      funext i
      obtain ⟨R, k, rfl⟩ : ∃ (R : Fin 4096) (k : Fin 128), i = ix2 R k := ⟨_, _, Cert.Step.ix2_eta i⟩
      exact Cert.Ref7.v78_at _ R k

/-- Reference 7 runs, its arguments end unchanged and every counter reads zero. -/
theorem frame7 : Cert.quiescent_Reference7Ideal := fun m ρ _ =>
  (θ_run Cert.Reference7Ideal.defs _ _).mono
    (fun r h => ⟨fun c => (h c).2.2.2.2.2, sem_eq_zero_of_no_sems (by decide) r.2⟩)
    (Cert.Reference7Ideal.Value.run m ρ)

end Cert.Step

end
-- ==== Proof.Adam.lean ====
module

public import Idealize.ShloMosaic.Lib.StableHlo.ReadAt
public import Idealize.ShloMosaic.Lib.Pipeline.ValueKit

@[expose] public section

set_option maxRecDepth 16384

noncomputable section

/-! The optimiser's three formulas at one entry, and the two ways the programs write them for a whole array. -/

namespace Cert.Adam

open Idealize.ShloMosaic

/-- A rectangle of two axes that starts at the origin has no offset. -/
theorem off2 : (![0, 0] : Fin 2 → ℕ) = fun _ => 0 := by
  funext a; match a with | 0 => rfl | 1 => rfl

/-- A rectangle of three axes that starts at the origin has no offset. -/
theorem off3 : (![0, 0, 0] : Fin 3 → ℕ) = fun _ => 0 := by
  funext a; match a with | 0 => rfl | 1 => rfl | 2 => rfl

/-- An index of two axes is its two coordinates. -/
theorem ix2_eta {n0 n1 : ℕ} (y : (⟨2, ![n0, n1]⟩ : Shape).Idx) : y = ix2 (y 0) (y 1) := by
  funext a; match a with | 0 => rfl | 1 => rfl

/-- The transposed array. -/
def tr {n0 n1 : ℕ} (g : (⟨2, ![n0, n1]⟩ : Shape).Idx → EReal) : (⟨2, ![n1, n0]⟩ : Shape).Idx → EReal := fun i => g (ix2 (i 1) (i 0))

/-- Both programs' transposition is the transposed array. -/
theorem transpose_tr {n0 n1 : ℕ} (g : (⟨2, ![n0, n1]⟩ : Shape).Idx → EReal)
    (h : (⟨2, ![n0, n1]⟩ : Shape).Transposes [1, 0] (⟨2, ![n1, n0]⟩ : Shape)) : transpose (⟨2, ![n1, n0]⟩ : Shape) [1, 0] g h = tr g := by
  funext i
  refine transpose_apply _ g h i (ix2 (i 1) (i 0)) fun b => ?_
  match b with
  | ⟨0, _⟩ => rfl
  | ⟨1, _⟩ => rfl

/-- The new first moment: nine tenths of the old one and a tenth of the gradient. -/
def mo (g m : EReal) : EReal := Ideal.ofBits .f32 0x3F666666#32 * m + Ideal.ofBits .f32 0x3DCCCCCD#32 * g

/-- The new second moment: 0.999 of the old one and 0.001 of the gradient's square. -/
def vo (g v : EReal) : EReal := Ideal.ofBits .f32 0x3F7FBE77#32 * v + Ideal.ofBits .f32 0x3A83126F#32 * (g * g)

/-- The step from the new moments: the first over the root of the second, each with its bias taken off, and the weight's
    decay added, times minus the rate. -/
def stp (w p q : EReal) : EReal :=
  Ideal.ofBits .f32 0xBA83126F#32
    * (Ideal.div (Ideal.div p (Ideal.ofBits .f32 0x3F26BD02#32))
          (Ideal.sqrt (Ideal.div q (Ideal.ofBits .f32 0x3C231ACC#32)) + Ideal.ofBits .f32 0x322BCC77#32)
        + Ideal.ofBits .f32 0x3C23D70A#32 * w)

variable {s : Shape}

/-- The new first moments of an array. -/
def moA (g m : s.Idx → EReal) : s.Idx → EReal := fun i => mo (g i) (m i)

/-- The new second moments of an array. -/
def voA (g v : s.Idx → EReal) : s.Idx → EReal := fun i => vo (g i) (v i)

/-- The steps of an array of weights from its old moments. -/
def stA (w g m v : s.Idx → EReal) : s.Idx → EReal := fun i => stp (w i) (mo (g i) (m i)) (vo (g i) (v i))

/-- The first moments with the two constants spread by a kernel. -/
theorem kernel_mo (g m : FVec Ideal s .f32) :
    addf (mulf (broadcast s (Scalar.ofBits (F := Ideal) .f32 0x3F666666#32)) m)
      (mulf (broadcast s (Scalar.ofBits (F := Ideal) .f32 0x3DCCCCCD#32)) g) = moA g m := rfl

/-- The second moments with the two constants spread by a kernel. -/
theorem kernel_vo (g v : FVec Ideal s .f32) :
    addf (mulf (broadcast s (Scalar.ofBits (F := Ideal) .f32 0x3F7FBE77#32)) v)
      (mulf (broadcast s (Scalar.ofBits (F := Ideal) .f32 0x3A83126F#32)) (mulf g g)) = voA g v := rfl

/-- The steps with the constants spread by a kernel. -/
theorem kernel_st (w g m v : FVec Ideal s .f32) :
    mulf (broadcast s (Scalar.ofBits (F := Ideal) .f32 0xBA83126F#32))
      (addf (divf (divf (moA g m : FVec Ideal s .f32) (broadcast s (Scalar.ofBits (F := Ideal) .f32 0x3F26BD02#32)))
          (addf (sqrt (divf (voA g v : FVec Ideal s .f32) (broadcast s (Scalar.ofBits (F := Ideal) .f32 0x3C231ACC#32))))
            (broadcast s (Scalar.ofBits (F := Ideal) .f32 0x322BCC77#32))))
        (mulf (broadcast s (Scalar.ofBits (F := Ideal) .f32 0x3C23D70A#32)) w)) = stA w g m v := rfl

/-- A constant spread over an array by the host, as one literal at every entry. -/
abbrev spread (hb : (⟨0, ![]⟩ : Shape).BroadcastsInDim s (![] : Fin 0 → Fin s.rank)) (b : BitVec 32) : FVec Ideal s .f32 :=
  broadcastInDim s ![] hb (constant (F := Ideal) ⟨0, ![]⟩ .f32 b)

variable (hb : (⟨0, ![]⟩ : Shape).BroadcastsInDim s (![] : Fin 0 → Fin s.rank))

/-- The first moments with the two constants spread by the host. -/
theorem host_mo (g m : FVec Ideal s .f32) :
    addf (mulf (spread hb 0x3F666666#32) m) (mulf (spread hb 0x3DCCCCCD#32) g) = moA g m := rfl

/-- The second moments with the two constants spread by the host. -/
theorem host_vo (g v : FVec Ideal s .f32) :
    addf (mulf (spread hb 0x3F7FBE77#32) v) (mulf (spread hb 0x3A83126F#32) (mulf g g)) = voA g v := rfl

/-- The steps with the constants spread by the host. -/
theorem host_st (w g m v : FVec Ideal s .f32) :
    mulf (spread hb 0xBA83126F#32)
      (addf (Host.divf (Host.divf (addf (mulf (spread hb 0x3F666666#32) m) (mulf (spread hb 0x3DCCCCCD#32) g)) (spread hb 0x3F26BD02#32))
          (addf (Host.sqrt (Host.divf (addf (mulf (spread hb 0x3F7FBE77#32) v) (mulf (spread hb 0x3A83126F#32) (mulf g g)))
            (spread hb 0x3C231ACC#32))) (spread hb 0x322BCC77#32)))
        (mulf (spread hb 0x3C23D70A#32) w)) = stA w g m v := rfl

end Cert.Adam

end
-- ==== Proof.Step8.lean ====
module

public import proofs.«01_k».proof.Proof.Adam
public import proofs.«01_k».proof.Proof.Step
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run

@[expose] public section

set_option maxRecDepth 16384

noncomputable section

/-! The optimiser's step of a device's quarter of `w_in`, 176 rows at a time: the kernel's results are the reference's, at every argument. -/

namespace Cert.Kernel8Ideal.Pf

open Cert.Kernel8Ideal Cert.Kernel8Ideal.Gen Cert.Kernel8Ideal.Value Cert.Adam Idealize.ShloMosaic Idealize.ShloMosaic.TcCoe Idealize.SL.Sem
open Idealize.ShloMosaic.Pipeline (Dat)

section

variable (w g m v : Vec Ideal S176x1024 .f32)

/-- A step hands the gradient's rows on. -/
theorem left4 : out0_4 w g m v = g := by
  unfold out0_4
  refine (View.canon_unit_zero off2 _ _).trans ?_
  exact View.ld_unit_zero off2 _ g

/-- What a step leaves of the weight's change. -/
theorem left5 : out0_5 w g m v = stA w g m v := by
  unfold out0_5
  refine (View.canon_unit_zero off2 _ _).trans ?_
  rw [View.ld_unit_zero off2 _ w, View.ld_unit_zero off2 _ g, View.ld_unit_zero off2 _ m, View.ld_unit_zero off2 _ v]
  exact kernel_st w g m v

/-- What a step leaves of the first moments. -/
theorem left6 : out0_6 w g m v = moA g m := by
  unfold out0_6
  refine (View.canon_unit_zero off2 _ _).trans ?_
  rw [View.ld_unit_zero off2 _ g, View.ld_unit_zero off2 _ m]
  exact kernel_mo g m

/-- What a step leaves of the second moments. -/
theorem left7 : out0_7 w g m v = voA g v := by
  unfold out0_7
  refine (View.canon_unit_zero off2 _ _).trans ?_
  rw [View.ld_unit_zero off2 _ g, View.ld_unit_zero off2 _ v]
  exact kernel_vo g v

end

variable (m : (ℓ : Loc nD τ sig) → Buf (Elt Ideal) ℓ) (c : Dev nD)

/-- The weight a core was launched with. -/
abbrev wA : S704x1024.Idx → EReal := m ((c : Thread nD τ).loc main_arg0)

/-- The gradient a core was launched with. -/
abbrev gA : S704x1024.Idx → EReal := m ((c : Thread nD τ).loc main_arg1)

/-- The first moments a core was launched with. -/
abbrev mA : S704x1024.Idx → EReal := m ((c : Thread nD τ).loc main_arg2)

/-- The second moments a core was launched with. -/
abbrev vA : S704x1024.Idx → EReal := m ((c : Thread nD τ).loc main_arg3)

/-- Where an entry of a step's block lies in the arrays. -/
abbrev pos (t : Fin cfg0.N) : S176x1024.Idx → S704x1024.Idx := ((cfg0.win 4).blk t).view.emb

/-- The blocks follow one another down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Every entry of an array lies in the block of its row's step. -/
theorem cover (i : S704x1024.Idx) : ∃ (t : Fin cfg0.N) (y : S176x1024.Idx), pos t y = i := by
  obtain ⟨r, k, rfl⟩ : ∃ (r : Fin 704) (k : Fin 1024), i = ix2 r k := ⟨_, _, Cert.Adam.ix2_eta i⟩
  refine ⟨⟨r.val / 176, lt_of_lt_of_eq (by omega : r.val / 176 < 4) N_0.symm⟩, ix2 ⟨r.val % 176, by omega⟩ k, ?_⟩
  have hi := idx4 ⟨r.val / 176, lt_of_lt_of_eq (by omega : r.val / 176 < 4) N_0.symm⟩
  funext a
  apply Fin.ext
  match a with
  | ⟨0, _⟩ => show win0_4.index _ 0 * 176 + 1 * (r.val % 176) = r.val; rw [hi.1]; show r.val / 176 * 176 + 1 * (r.val % 176) = r.val; omega
  | ⟨1, _⟩ => show win0_4.index _ 1 * 1024 + 1 * k.val = k.val; rw [hi.2]; omega

/-- A step's weights are the array's at the block's place. -/
theorem blk0 (t : Fin cfg0.N) : iblk m c 0 t = fun y => wA m c (pos t y) := rfl

/-- A step's gradients are the array's at the block's place. -/
theorem blk1 (t : Fin cfg0.N) : iblk m c 1 t = fun y => gA m c (pos t y) := rfl

/-- A step's first moments are the array's at the block's place. -/
theorem blk2 (t : Fin cfg0.N) : iblk m c 2 t = fun y => mA m c (pos t y) := rfl

/-- A step's second moments are the array's at the block's place. -/
theorem blk3 (t : Fin cfg0.N) : iblk m c 3 t = fun y => vA m c (pos t y) := rfl

/-- The array window 4 leaves: the gradient. -/
theorem arr4 : (dats m 0 c).arrAt 4 cfg0.N = gA m c := by
  refine Dat.arrAt_eq_of_cover (dats m 0 c) 4 _ ?_ ?_
  · intro t _
    rw [flushed4, left4, blk1]
    rfl
  · intro i
    obtain ⟨t, y, rfl⟩ := cover i
    exact ⟨t, flush0_4 t, View.emb_mem_set _ y⟩

/-- The array window 5 leaves: the weight's changes. -/
theorem arr5 : (dats m 0 c).arrAt 5 cfg0.N = stA (wA m c) (gA m c) (mA m c) (vA m c) := by
  refine Dat.arrAt_eq_of_cover (dats m 0 c) 5 _ ?_ ?_
  · intro t _
    rw [flushed5, left5, blk0, blk1, blk2, blk3]
    rfl
  · intro i
    obtain ⟨t, y, rfl⟩ := cover i
    exact ⟨t, flush0_5 t, View.emb_mem_set _ y⟩

/-- The array window 6 leaves: the first moments. -/
theorem arr6 : (dats m 0 c).arrAt 6 cfg0.N = moA (gA m c) (mA m c) := by
  refine Dat.arrAt_eq_of_cover (dats m 0 c) 6 _ ?_ ?_
  · intro t _
    rw [flushed6, left6, blk1, blk2]
    rfl
  · intro i
    obtain ⟨t, y, rfl⟩ := cover i
    exact ⟨t, flush0_6 t, View.emb_mem_set _ y⟩

/-- The array window 7 leaves: the second moments. -/
theorem arr7 : (dats m 0 c).arrAt 7 cfg0.N = voA (gA m c) (vA m c) := by
  refine Dat.arrAt_eq_of_cover (dats m 0 c) 7 _ ?_ ?_
  · intro t _
    rw [flushed7, left7, blk1, blk3]
    rfl
  · intro i
    obtain ⟨t, y, rfl⟩ := cover i
    exact ⟨t, flush0_7 t, View.emb_mem_set _ y⟩

end Cert.Kernel8Ideal.Pf

namespace Cert.Step

open Cert.Kernel8Ideal.Pf Cert.Adam Idealize.ShloMosaic Idealize.ShloMosaic.TcCoe Idealize.SL.Sem

/-- The four results are the reference's. -/
theorem value8 : Cert.algebraic_Kernel8Ideal_Reference8Ideal := by
  intro m g m' g' _ hargs
  refine ⟨fun c => gA m c, fun c => stA (wA m c) (gA m c) (mA m c) (vA m c), fun c => moA (gA m c) (mA m c),
    fun c => voA (gA m c) (vA m c), ?_, ?_⟩
  · refine (θ_run Cert.Kernel8Ideal.defs _ _).mono (fun r h c => ?_) (Cert.Kernel8Ideal.Value.run_blocks m g)
    obtain ⟨h0, h1, h2, h3, hk⟩ := h c
    exact ⟨h0.trans (arr4 m c), h1.trans (arr5 m c), h2.trans (arr6 m c), h3.trans (arr7 m c), hk⟩
  · refine (θ_run Cert.Reference8Ideal.defs _ _).mono (fun r h c => ?_) (Cert.Reference8Ideal.Value.run m' g')
    obtain ⟨h0, h1, h2, h3, hk⟩ := h c
    obtain ⟨a0, a1, a2, a3⟩ := hargs c
    refine ⟨h0.trans ?_, h1.trans ?_, h2.trans ?_, h3.trans ?_, hk⟩
    · exact a1
    · rw [a0, a1, a2, a3]
      exact host_st _ (wA m c) (gA m c) (mA m c) (vA m c)
    · rw [a1, a2]
      exact host_mo _ (gA m c) (mA m c)
    · rw [a1, a3]
      exact host_vo _ (gA m c) (vA m c)

/-- Reference 8 runs, its arguments end unchanged and every counter reads zero. -/
theorem frame8 : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run m ρ)

end Cert.Step

end
-- ==== Proof.Step9.lean ====
module

public import proofs.«01_k».proof.Proof.Adam
public import proofs.«01_k».proof.Proof.Step
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run

@[expose] public section

set_option maxRecDepth 16384

noncomputable section

/-! The optimiser's step of a device's quarter of `w_out`, 256 rows at a time: the kernel's results are the reference's, at every argument. -/

namespace Cert.Kernel9Ideal.Pf

open Cert.Kernel9Ideal Cert.Kernel9Ideal.Gen Cert.Kernel9Ideal.Value Cert.Adam Idealize.ShloMosaic Idealize.ShloMosaic.TcCoe Idealize.SL.Sem
open Idealize.ShloMosaic.Pipeline (Dat)

section

variable (w g m v : Vec Ideal S256x1024 .f32)

/-- A step hands the gradient's rows on. -/
theorem left4 : out0_4 w g m v = g := by
  unfold out0_4
  refine (View.canon_unit_zero off2 _ _).trans ?_
  exact View.ld_unit_zero off2 _ g

/-- What a step leaves of the weight's change. -/
theorem left5 : out0_5 w g m v = stA w g m v := by
  unfold out0_5
  refine (View.canon_unit_zero off2 _ _).trans ?_
  rw [View.ld_unit_zero off2 _ w, View.ld_unit_zero off2 _ g, View.ld_unit_zero off2 _ m, View.ld_unit_zero off2 _ v]
  exact kernel_st w g m v

/-- What a step leaves of the first moments. -/
theorem left6 : out0_6 w g m v = moA g m := by
  unfold out0_6
  refine (View.canon_unit_zero off2 _ _).trans ?_
  rw [View.ld_unit_zero off2 _ g, View.ld_unit_zero off2 _ m]
  exact kernel_mo g m

/-- What a step leaves of the second moments. -/
theorem left7 : out0_7 w g m v = voA g v := by
  unfold out0_7
  refine (View.canon_unit_zero off2 _ _).trans ?_
  rw [View.ld_unit_zero off2 _ g, View.ld_unit_zero off2 _ v]
  exact kernel_vo g v

end

variable (m : (ℓ : Loc nD τ sig) → Buf (Elt Ideal) ℓ) (c : Dev nD)

/-- The weight a core was launched with. -/
abbrev wA : S256x1024.Idx → EReal := m ((c : Thread nD τ).loc main_arg0)

/-- The gradient a core was launched with. -/
abbrev gA : S256x1024.Idx → EReal := m ((c : Thread nD τ).loc main_arg1)

/-- The first moments a core was launched with. -/
abbrev mA : S256x1024.Idx → EReal := m ((c : Thread nD τ).loc main_arg2)

/-- The second moments a core was launched with. -/
abbrev vA : S256x1024.Idx → EReal := m ((c : Thread nD τ).loc main_arg3)

/-- Where an entry of a step's block lies in the arrays. -/
abbrev pos (t : Fin cfg0.N) : S256x1024.Idx → S256x1024.Idx := ((cfg0.win 4).blk t).view.emb

/-- The blocks follow one another down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Every entry of an array lies in the block of its row's step. -/
theorem cover (i : S256x1024.Idx) : ∃ (t : Fin cfg0.N) (y : S256x1024.Idx), pos t y = i := by
  obtain ⟨r, k, rfl⟩ : ∃ (r : Fin 256) (k : Fin 1024), i = ix2 r k := ⟨_, _, Cert.Adam.ix2_eta i⟩
  refine ⟨⟨r.val / 256, lt_of_lt_of_eq (by omega : r.val / 256 < 1) N_0.symm⟩, ix2 ⟨r.val % 256, by omega⟩ k, ?_⟩
  have hi := idx4 ⟨r.val / 256, lt_of_lt_of_eq (by omega : r.val / 256 < 1) N_0.symm⟩
  funext a
  apply Fin.ext
  match a with
  | ⟨0, _⟩ => show win0_4.index _ 0 * 256 + 1 * (r.val % 256) = r.val; rw [hi.1]; show r.val / 256 * 256 + 1 * (r.val % 256) = r.val; omega
  | ⟨1, _⟩ => show win0_4.index _ 1 * 1024 + 1 * k.val = k.val; rw [hi.2]; omega

/-- A step's weights are the array's at the block's place. -/
theorem blk0 (t : Fin cfg0.N) : iblk m c 0 t = fun y => wA m c (pos t y) := rfl

/-- A step's gradients are the array's at the block's place. -/
theorem blk1 (t : Fin cfg0.N) : iblk m c 1 t = fun y => gA m c (pos t y) := rfl

/-- A step's first moments are the array's at the block's place. -/
theorem blk2 (t : Fin cfg0.N) : iblk m c 2 t = fun y => mA m c (pos t y) := rfl

/-- A step's second moments are the array's at the block's place. -/
theorem blk3 (t : Fin cfg0.N) : iblk m c 3 t = fun y => vA m c (pos t y) := rfl

/-- The array window 4 leaves: the gradient. -/
theorem arr4 : (dats m 0 c).arrAt 4 cfg0.N = gA m c := by
  refine Dat.arrAt_eq_of_cover (dats m 0 c) 4 _ ?_ ?_
  · intro t _
    rw [flushed4, left4, blk1]
    rfl
  · intro i
    obtain ⟨t, y, rfl⟩ := cover i
    exact ⟨t, flush0_4 t, View.emb_mem_set _ y⟩

/-- The array window 5 leaves: the weight's changes. -/
theorem arr5 : (dats m 0 c).arrAt 5 cfg0.N = stA (wA m c) (gA m c) (mA m c) (vA m c) := by
  refine Dat.arrAt_eq_of_cover (dats m 0 c) 5 _ ?_ ?_
  · intro t _
    rw [flushed5, left5, blk0, blk1, blk2, blk3]
    rfl
  · intro i
    obtain ⟨t, y, rfl⟩ := cover i
    exact ⟨t, flush0_5 t, View.emb_mem_set _ y⟩

/-- The array window 6 leaves: the first moments. -/
theorem arr6 : (dats m 0 c).arrAt 6 cfg0.N = moA (gA m c) (mA m c) := by
  refine Dat.arrAt_eq_of_cover (dats m 0 c) 6 _ ?_ ?_
  · intro t _
    rw [flushed6, left6, blk1, blk2]
    rfl
  · intro i
    obtain ⟨t, y, rfl⟩ := cover i
    exact ⟨t, flush0_6 t, View.emb_mem_set _ y⟩

/-- The array window 7 leaves: the second moments. -/
theorem arr7 : (dats m 0 c).arrAt 7 cfg0.N = voA (gA m c) (vA m c) := by
  refine Dat.arrAt_eq_of_cover (dats m 0 c) 7 _ ?_ ?_
  · intro t _
    rw [flushed7, left7, blk1, blk3]
    rfl
  · intro i
    obtain ⟨t, y, rfl⟩ := cover i
    exact ⟨t, flush0_7 t, View.emb_mem_set _ y⟩

end Cert.Kernel9Ideal.Pf

namespace Cert.Step

open Cert.Kernel9Ideal.Pf Cert.Adam Idealize.ShloMosaic Idealize.ShloMosaic.TcCoe Idealize.SL.Sem

/-- The four results are the reference's. -/
theorem value9 : Cert.algebraic_Kernel9Ideal_Reference9Ideal := by
  intro m g m' g' _ hargs
  refine ⟨fun c => gA m c, fun c => stA (wA m c) (gA m c) (mA m c) (vA m c), fun c => moA (gA m c) (mA m c),
    fun c => voA (gA m c) (vA m c), ?_, ?_⟩
  · refine (θ_run Cert.Kernel9Ideal.defs _ _).mono (fun r h c => ?_) (Cert.Kernel9Ideal.Value.run_blocks m g)
    obtain ⟨h0, h1, h2, h3, hk⟩ := h c
    exact ⟨h0.trans (arr4 m c), h1.trans (arr5 m c), h2.trans (arr6 m c), h3.trans (arr7 m c), hk⟩
  · refine (θ_run Cert.Reference9Ideal.defs _ _).mono (fun r h c => ?_) (Cert.Reference9Ideal.Value.run m' g')
    obtain ⟨h0, h1, h2, h3, hk⟩ := h c
    obtain ⟨a0, a1, a2, a3⟩ := hargs c
    refine ⟨h0.trans ?_, h1.trans ?_, h2.trans ?_, h3.trans ?_, hk⟩
    · exact a1
    · rw [a0, a1, a2, a3]
      exact host_st _ (wA m c) (gA m c) (mA m c) (vA m c)
    · rw [a1, a2]
      exact host_mo _ (gA m c) (mA m c)
    · rw [a1, a3]
      exact host_vo _ (gA m c) (vA m c)

/-- Reference 9 runs, its arguments end unchanged and every counter reads zero. -/
theorem frame9 : Cert.quiescent_Reference9Ideal := fun m ρ _ =>
  (θ_run Cert.Reference9Ideal.defs _ _).mono
    (fun r h => ⟨fun c => (h c).2.2.2.2, sem_eq_zero_of_no_sems (by decide) r.2⟩)
    (Cert.Reference9Ideal.Value.run m ρ)

end Cert.Step

end
-- ==== Proof.Step10.lean ====
module

public import proofs.«01_k».proof.Proof.Adam
public import proofs.«01_k».proof.Proof.Step
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run

@[expose] public section

set_option maxRecDepth 16384

noncomputable section

/-! The optimiser's step of a device's quarter of `w_up`, its gradient transposed, 256 rows at a time: the kernel's results are the reference's, at every argument. -/

namespace Cert.Kernel10Ideal.Pf

open Cert.Kernel10Ideal Cert.Kernel10Ideal.Gen Cert.Kernel10Ideal.Value Cert.Adam Idealize.ShloMosaic Idealize.ShloMosaic.TcCoe Idealize.SL.Sem
open Idealize.ShloMosaic.Pipeline (Dat)

section

variable (w : Vec Ideal S256x1408 .f32) (g : Vec Ideal S1408x256 .f32) (m v : Vec Ideal S256x1408 .f32)

/-- A step's transposed gradients. -/
theorem pay1 : k0_pay1 g = tr g := transpose_tr g _

/-- A step hands the gradient's columns on as rows. -/
theorem left4 : out0_4 w g m v = tr g := by
  unfold out0_4
  refine (View.canon_unit_zero off2 _ _).trans ?_
  rw [View.ld_unit_zero off2 _ g]
  exact pay1 g

/-- What a step leaves of the weight's change. -/
theorem left5 : out0_5 w g m v = stA w (tr g) m v := by
  unfold out0_5
  refine (View.canon_unit_zero off2 _ _).trans ?_
  rw [View.ld_unit_zero off2 _ w, View.ld_unit_zero off2 _ g, View.ld_unit_zero off2 _ m, View.ld_unit_zero off2 _ v]
  rw [← pay1]
  exact kernel_st w (k0_pay1 g) m v

/-- What a step leaves of the first moments. -/
theorem left6 : out0_6 w g m v = moA (tr g) m := by
  unfold out0_6
  refine (View.canon_unit_zero off2 _ _).trans ?_
  rw [View.ld_unit_zero off2 _ g, View.ld_unit_zero off2 _ m]
  rw [← pay1]
  exact kernel_mo (k0_pay1 g) m

/-- What a step leaves of the second moments. -/
theorem left7 : out0_7 w g m v = voA (tr g) v := by
  unfold out0_7
  refine (View.canon_unit_zero off2 _ _).trans ?_
  rw [View.ld_unit_zero off2 _ g, View.ld_unit_zero off2 _ v]
  rw [← pay1]
  exact kernel_vo (k0_pay1 g) v

end

variable (m : (ℓ : Loc nD τ sig) → Buf (Elt Ideal) ℓ) (c : Dev nD)

/-- The weight a core was launched with. -/
abbrev wA : S1024x1408.Idx → EReal := m ((c : Thread nD τ).loc main_arg0)

/-- The gradient a core was launched with. -/
abbrev gA : S1408x1024.Idx → EReal := m ((c : Thread nD τ).loc main_arg1)

/-- The first moments a core was launched with. -/
abbrev mA : S1024x1408.Idx → EReal := m ((c : Thread nD τ).loc main_arg2)

/-- The second moments a core was launched with. -/
abbrev vA : S1024x1408.Idx → EReal := m ((c : Thread nD τ).loc main_arg3)

/-- Where an entry of a step's block lies in the arrays. -/
abbrev pos (t : Fin cfg0.N) : S256x1408.Idx → S1024x1408.Idx := ((cfg0.win 4).blk t).view.emb

/-- The blocks follow one another down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

/-- The gradient's blocks follow one another along the columns. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- Every entry of an array lies in the block of its row's step. -/
theorem cover (i : S1024x1408.Idx) : ∃ (t : Fin cfg0.N) (y : S256x1408.Idx), pos t y = i := by
  obtain ⟨r, k, rfl⟩ : ∃ (r : Fin 1024) (k : Fin 1408), i = ix2 r k := ⟨_, _, Cert.Adam.ix2_eta i⟩
  refine ⟨⟨r.val / 256, lt_of_lt_of_eq (by omega : r.val / 256 < 4) N_0.symm⟩, ix2 ⟨r.val % 256, by omega⟩ k, ?_⟩
  have hi := idx4 ⟨r.val / 256, lt_of_lt_of_eq (by omega : r.val / 256 < 4) N_0.symm⟩
  funext a
  apply Fin.ext
  match a with
  | ⟨0, _⟩ => show win0_4.index _ 0 * 256 + 1 * (r.val % 256) = r.val; rw [hi.1]; show r.val / 256 * 256 + 1 * (r.val % 256) = r.val; omega
  | ⟨1, _⟩ => show win0_4.index _ 1 * 1408 + 1 * k.val = k.val; rw [hi.2]; omega

/-- A step's weights are the array's at the block's place. -/
theorem blk0 (t : Fin cfg0.N) : iblk m c 0 t = fun y => wA m c (pos t y) := rfl

/-- A step's gradients, transposed, are the transposed array's at the block's place. -/
theorem blk1 (t : Fin cfg0.N) : tr (iblk m c 1 t : S1408x256.Idx → EReal) = fun y => tr (gA m c) (pos t y) := by
  have hi := idx1 t
  have hj := idx4 t
  funext y
  show gA m c (((cfg0.win 1).blk t).view.emb (ix2 (y 1) (y 0))) = gA m c (ix2 (pos t y 1) (pos t y 0))
  congr 1
  funext a
  apply Fin.ext
  match a with
  | ⟨0, _⟩ => show win0_1.index t 0 * 1408 + 1 * (y 1).val = win0_4.index t 1 * 1408 + 1 * (y 1).val; rw [hi.1, hj.2]
  | ⟨1, _⟩ => show win0_1.index t 1 * 256 + 1 * (y 0).val = win0_4.index t 0 * 256 + 1 * (y 0).val; rw [hi.2, hj.1]

/-- A step's first moments are the array's at the block's place. -/
theorem blk2 (t : Fin cfg0.N) : iblk m c 2 t = fun y => mA m c (pos t y) := rfl

/-- A step's second moments are the array's at the block's place. -/
theorem blk3 (t : Fin cfg0.N) : iblk m c 3 t = fun y => vA m c (pos t y) := rfl

/-- The array window 4 leaves: the gradient, transposed. -/
theorem arr4 : (dats m 0 c).arrAt 4 cfg0.N = tr (gA m c) := by
  refine Dat.arrAt_eq_of_cover (dats m 0 c) 4 _ ?_ ?_
  · intro t _
    rw [flushed4, left4, blk1]
    rfl
  · intro i
    obtain ⟨t, y, rfl⟩ := cover i
    exact ⟨t, flush0_4 t, View.emb_mem_set _ y⟩

/-- The array window 5 leaves: the weight's changes. -/
theorem arr5 : (dats m 0 c).arrAt 5 cfg0.N = stA (wA m c) (tr (gA m c)) (mA m c) (vA m c) := by
  refine Dat.arrAt_eq_of_cover (dats m 0 c) 5 _ ?_ ?_
  · intro t _
    rw [flushed5, left5, blk0, blk1, blk2, blk3]
    rfl
  · intro i
    obtain ⟨t, y, rfl⟩ := cover i
    exact ⟨t, flush0_5 t, View.emb_mem_set _ y⟩

/-- The array window 6 leaves: the first moments. -/
theorem arr6 : (dats m 0 c).arrAt 6 cfg0.N = moA (tr (gA m c)) (mA m c) := by
  refine Dat.arrAt_eq_of_cover (dats m 0 c) 6 _ ?_ ?_
  · intro t _
    rw [flushed6, left6, blk1, blk2]
    rfl
  · intro i
    obtain ⟨t, y, rfl⟩ := cover i
    exact ⟨t, flush0_6 t, View.emb_mem_set _ y⟩

/-- The array window 7 leaves: the second moments. -/
theorem arr7 : (dats m 0 c).arrAt 7 cfg0.N = voA (tr (gA m c)) (vA m c) := by
  refine Dat.arrAt_eq_of_cover (dats m 0 c) 7 _ ?_ ?_
  · intro t _
    rw [flushed7, left7, blk1, blk3]
    rfl
  · intro i
    obtain ⟨t, y, rfl⟩ := cover i
    exact ⟨t, flush0_7 t, View.emb_mem_set _ y⟩

end Cert.Kernel10Ideal.Pf

namespace Cert.Step

open Cert.Kernel10Ideal.Pf Cert.Adam Idealize.ShloMosaic Idealize.ShloMosaic.TcCoe Idealize.SL.Sem

/-- The four results are the reference's. -/
theorem value10 : Cert.algebraic_Kernel10Ideal_Reference10Ideal := by
  intro m g m' g' _ hargs
  refine ⟨fun c => tr (gA m c), fun c => stA (wA m c) (tr (gA m c)) (mA m c) (vA m c), fun c => moA (tr (gA m c)) (mA m c),
    fun c => voA (tr (gA m c)) (vA m c), ?_, ?_⟩
  · refine (θ_run Cert.Kernel10Ideal.defs _ _).mono (fun r h c => ?_) (Cert.Kernel10Ideal.Value.run_blocks m g)
    obtain ⟨h0, h1, h2, h3, hk⟩ := h c
    exact ⟨h0.trans (arr4 m c), h1.trans (arr5 m c), h2.trans (arr6 m c), h3.trans (arr7 m c), hk⟩
  · refine (θ_run Cert.Reference10Ideal.defs _ _).mono (fun r h c => ?_) (Cert.Reference10Ideal.Value.run m' g')
    obtain ⟨h0, h1, h2, h3, hk⟩ := h c
    obtain ⟨a0, a1, a2, a3⟩ := hargs c
    refine ⟨h0.trans ?_, h1.trans ?_, h2.trans ?_, h3.trans ?_, hk⟩
    · rw [a1]
      exact transpose_tr (gA m c) _
    · rw [a0, a1, a2, a3]
      rw [transpose_tr (gA m c) _]
      exact host_st _ (wA m c) (tr (gA m c)) (mA m c) (vA m c)
    · rw [a1, a2]
      rw [transpose_tr (gA m c) _]
      exact host_mo _ (tr (gA m c)) (mA m c)
    · rw [a1, a3]
      rw [transpose_tr (gA m c) _]
      exact host_vo _ (tr (gA m c)) (vA m c)

/-- Reference 10 runs, its arguments end unchanged and every counter reads zero. -/
theorem frame10 : Cert.quiescent_Reference10Ideal := fun m ρ _ =>
  (θ_run Cert.Reference10Ideal.defs _ _).mono
    (fun r h => ⟨fun c => (h c).2.2.2.2, sem_eq_zero_of_no_sems (by decide) r.2⟩)
    (Cert.Reference10Ideal.Value.run m ρ)

end Cert.Step

end
-- ==== Proof.Step11.lean ====
module

public import proofs.«01_k».proof.Proof.Adam
public import proofs.«01_k».proof.Proof.Step
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run

@[expose] public section

set_option maxRecDepth 16384

noncomputable section

/-! The optimiser's step of a device's quarter of `w_down`, 176 rows at a time: the kernel's results are the reference's, at every argument. -/

namespace Cert.Kernel11Ideal.Pf

open Cert.Kernel11Ideal Cert.Kernel11Ideal.Gen Cert.Kernel11Ideal.Value Cert.Adam Idealize.ShloMosaic Idealize.ShloMosaic.TcCoe Idealize.SL.Sem
open Idealize.ShloMosaic.Pipeline (Dat)

section

variable (w g m v : Vec Ideal S176x1024 .f32)

/-- A step hands the gradient's rows on. -/
theorem left4 : out0_4 w g m v = g := by
  unfold out0_4
  refine (View.canon_unit_zero off2 _ _).trans ?_
  exact View.ld_unit_zero off2 _ g

/-- What a step leaves of the weight's change. -/
theorem left5 : out0_5 w g m v = stA w g m v := by
  unfold out0_5
  refine (View.canon_unit_zero off2 _ _).trans ?_
  rw [View.ld_unit_zero off2 _ w, View.ld_unit_zero off2 _ g, View.ld_unit_zero off2 _ m, View.ld_unit_zero off2 _ v]
  exact kernel_st w g m v

/-- What a step leaves of the first moments. -/
theorem left6 : out0_6 w g m v = moA g m := by
  unfold out0_6
  refine (View.canon_unit_zero off2 _ _).trans ?_
  rw [View.ld_unit_zero off2 _ g, View.ld_unit_zero off2 _ m]
  exact kernel_mo g m

/-- What a step leaves of the second moments. -/
theorem left7 : out0_7 w g m v = voA g v := by
  unfold out0_7
  refine (View.canon_unit_zero off2 _ _).trans ?_
  rw [View.ld_unit_zero off2 _ g, View.ld_unit_zero off2 _ v]
  exact kernel_vo g v

end

variable (m : (ℓ : Loc nD τ sig) → Buf (Elt Ideal) ℓ) (c : Dev nD)

/-- The weight a core was launched with. -/
abbrev wA : S704x1024.Idx → EReal := m ((c : Thread nD τ).loc main_arg0)

/-- The gradient a core was launched with. -/
abbrev gA : S704x1024.Idx → EReal := m ((c : Thread nD τ).loc main_arg1)

/-- The first moments a core was launched with. -/
abbrev mA : S704x1024.Idx → EReal := m ((c : Thread nD τ).loc main_arg2)

/-- The second moments a core was launched with. -/
abbrev vA : S704x1024.Idx → EReal := m ((c : Thread nD τ).loc main_arg3)

/-- Where an entry of a step's block lies in the arrays. -/
abbrev pos (t : Fin cfg0.N) : S176x1024.Idx → S704x1024.Idx := ((cfg0.win 4).blk t).view.emb

/-- The blocks follow one another down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Every entry of an array lies in the block of its row's step. -/
theorem cover (i : S704x1024.Idx) : ∃ (t : Fin cfg0.N) (y : S176x1024.Idx), pos t y = i := by
  obtain ⟨r, k, rfl⟩ : ∃ (r : Fin 704) (k : Fin 1024), i = ix2 r k := ⟨_, _, Cert.Adam.ix2_eta i⟩
  refine ⟨⟨r.val / 176, lt_of_lt_of_eq (by omega : r.val / 176 < 4) N_0.symm⟩, ix2 ⟨r.val % 176, by omega⟩ k, ?_⟩
  have hi := idx4 ⟨r.val / 176, lt_of_lt_of_eq (by omega : r.val / 176 < 4) N_0.symm⟩
  funext a
  apply Fin.ext
  match a with
  | ⟨0, _⟩ => show win0_4.index _ 0 * 176 + 1 * (r.val % 176) = r.val; rw [hi.1]; show r.val / 176 * 176 + 1 * (r.val % 176) = r.val; omega
  | ⟨1, _⟩ => show win0_4.index _ 1 * 1024 + 1 * k.val = k.val; rw [hi.2]; omega

/-- A step's weights are the array's at the block's place. -/
theorem blk0 (t : Fin cfg0.N) : iblk m c 0 t = fun y => wA m c (pos t y) := rfl

/-- A step's gradients are the array's at the block's place. -/
theorem blk1 (t : Fin cfg0.N) : iblk m c 1 t = fun y => gA m c (pos t y) := rfl

/-- A step's first moments are the array's at the block's place. -/
theorem blk2 (t : Fin cfg0.N) : iblk m c 2 t = fun y => mA m c (pos t y) := rfl

/-- A step's second moments are the array's at the block's place. -/
theorem blk3 (t : Fin cfg0.N) : iblk m c 3 t = fun y => vA m c (pos t y) := rfl

/-- The array window 4 leaves: the gradient. -/
theorem arr4 : (dats m 0 c).arrAt 4 cfg0.N = gA m c := by
  refine Dat.arrAt_eq_of_cover (dats m 0 c) 4 _ ?_ ?_
  · intro t _
    rw [flushed4, left4, blk1]
    rfl
  · intro i
    obtain ⟨t, y, rfl⟩ := cover i
    exact ⟨t, flush0_4 t, View.emb_mem_set _ y⟩

/-- The array window 5 leaves: the weight's changes. -/
theorem arr5 : (dats m 0 c).arrAt 5 cfg0.N = stA (wA m c) (gA m c) (mA m c) (vA m c) := by
  refine Dat.arrAt_eq_of_cover (dats m 0 c) 5 _ ?_ ?_
  · intro t _
    rw [flushed5, left5, blk0, blk1, blk2, blk3]
    rfl
  · intro i
    obtain ⟨t, y, rfl⟩ := cover i
    exact ⟨t, flush0_5 t, View.emb_mem_set _ y⟩

/-- The array window 6 leaves: the first moments. -/
theorem arr6 : (dats m 0 c).arrAt 6 cfg0.N = moA (gA m c) (mA m c) := by
  refine Dat.arrAt_eq_of_cover (dats m 0 c) 6 _ ?_ ?_
  · intro t _
    rw [flushed6, left6, blk1, blk2]
    rfl
  · intro i
    obtain ⟨t, y, rfl⟩ := cover i
    exact ⟨t, flush0_6 t, View.emb_mem_set _ y⟩

/-- The array window 7 leaves: the second moments. -/
theorem arr7 : (dats m 0 c).arrAt 7 cfg0.N = voA (gA m c) (vA m c) := by
  refine Dat.arrAt_eq_of_cover (dats m 0 c) 7 _ ?_ ?_
  · intro t _
    rw [flushed7, left7, blk1, blk3]
    rfl
  · intro i
    obtain ⟨t, y, rfl⟩ := cover i
    exact ⟨t, flush0_7 t, View.emb_mem_set _ y⟩

end Cert.Kernel11Ideal.Pf

namespace Cert.Step

open Cert.Kernel11Ideal.Pf Cert.Adam Idealize.ShloMosaic Idealize.ShloMosaic.TcCoe Idealize.SL.Sem

/-- The four results are the reference's. -/
theorem value11 : Cert.algebraic_Kernel11Ideal_Reference11Ideal := by
  intro m g m' g' _ hargs
  refine ⟨fun c => gA m c, fun c => stA (wA m c) (gA m c) (mA m c) (vA m c), fun c => moA (gA m c) (mA m c),
    fun c => voA (gA m c) (vA m c), ?_, ?_⟩
  · refine (θ_run Cert.Kernel11Ideal.defs _ _).mono (fun r h c => ?_) (Cert.Kernel11Ideal.Value.run_blocks m g)
    obtain ⟨h0, h1, h2, h3, hk⟩ := h c
    exact ⟨h0.trans (arr4 m c), h1.trans (arr5 m c), h2.trans (arr6 m c), h3.trans (arr7 m c), hk⟩
  · refine (θ_run Cert.Reference11Ideal.defs _ _).mono (fun r h c => ?_) (Cert.Reference11Ideal.Value.run m' g')
    obtain ⟨h0, h1, h2, h3, hk⟩ := h c
    obtain ⟨a0, a1, a2, a3⟩ := hargs c
    refine ⟨h0.trans ?_, h1.trans ?_, h2.trans ?_, h3.trans ?_, hk⟩
    · exact a1
    · rw [a0, a1, a2, a3]
      exact host_st _ (wA m c) (gA m c) (mA m c) (vA m c)
    · rw [a1, a2]
      exact host_mo _ (gA m c) (mA m c)
    · rw [a1, a3]
      exact host_vo _ (gA m c) (vA m c)

/-- Reference 11 runs, its arguments end unchanged and every counter reads zero. -/
theorem frame11 : Cert.quiescent_Reference11Ideal := fun m ρ _ =>
  (θ_run Cert.Reference11Ideal.defs _ _).mono
    (fun r h => ⟨fun c => (h c).2.2.2.2, sem_eq_zero_of_no_sems (by decide) r.2⟩)
    (Cert.Reference11Ideal.Value.run m ρ)

end Cert.Step

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite6
public import proofs.«01_k».proof.Proof.Gen.Pre_finite
public import proofs.«01_k».proof.Proof.Res
public import proofs.«01_k».proof.Proof.Ref
public import proofs.«01_k».proof.Proof.Fin
public import proofs.«01_k».proof.Proof.Step
public import proofs.«01_k».proof.Proof.Step6
public import proofs.«01_k».proof.Proof.Step7
public import proofs.«01_k».proof.Proof.Step8
public import proofs.«01_k».proof.Proof.Step9
public import proofs.«01_k».proof.Proof.Step10
public import proofs.«01_k».proof.Proof.Step11
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference runs, its arguments end unchanged and every counter reads zero: read off its generated run. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run m ρ)

/-- The up projection's cotangent, the gate's half, as an array. -/
def out0 (A : Cert.Spec.Args) : (⟨3, ![2, 2048, 2816]⟩ : Shape).Idx → EReal := fun i => A.dup (i 0) 0 (i 2) (i 1).val

/-- The up projection's cotangent, the value half, as an array. -/
def out1 (A : Cert.Spec.Args) : (⟨3, ![2, 2048, 2816]⟩ : Shape).Idx → EReal := fun i => A.dup (i 0) 1 (i 2) (i 1).val

/-- The up projection's gradient, transposed, as an array. -/
def out2 (A : Cert.Spec.Args) : (⟨3, ![2, 2816, 1024]⟩ : Shape).Idx → EReal := fun i => A.gwu (i 0) (i 1) (i 2)

/-- The down projection's gradient, as an array. -/
def out3 (A : Cert.Spec.Args) : (⟨2, ![2816, 1024]⟩ : Shape).Idx → EReal := fun i => A.gwd (i 0) (i 1)

/-- The taps' gradient, as an array. -/
def out4 (A : Cert.Spec.Args) : (⟨3, ![3, 2, 2816]⟩ : Shape).Idx → EReal := fun i => A.gcw (i 0) (i 1) (i 2)

/-- The bias's gradient, as an array. -/
def out5 (A : Cert.Spec.Args) : (⟨3, ![2, 1, 2816]⟩ : Shape).Idx → EReal := fun i => A.gcb (i 0) (i 2)

/-- On finite arguments the kernel's six result arrays are the reference's. -/
theorem value : Cert.algebraic_KernelIdeal_ReferenceIdeal_pre_finite (hPre_finite := Cert.Pre_finite.Gen.facts) := by
  intro m g m' g' hpre hargs
  refine ⟨fun c => out0 (Cert.KernelIdeal.In.args m c), fun c => out1 (Cert.KernelIdeal.In.args m c), fun c => out2 (Cert.KernelIdeal.In.args m c), fun c => out3 (Cert.KernelIdeal.In.args m c), fun c => out4 (Cert.KernelIdeal.In.args m c), fun c => out5 (Cert.KernelIdeal.In.args m c), ?_, ?_⟩
  · refine (θ_run Cert.KernelIdeal.defs _ _).mono (fun r h c => ?_) (Cert.KernelIdeal.Value.run_blocks m g)
    obtain ⟨h0, h1, h2, h3, h4, h5, hk⟩ := h c
    exact ⟨h0.trans (Cert.KernelIdeal.Res.arr8 m c), h1.trans (Cert.KernelIdeal.Res.arr9 m c),
      h2.trans (Cert.KernelIdeal.Res.arr10 m c), h3.trans (Cert.KernelIdeal.Res.arr11 m c),
      h4.trans (Cert.KernelIdeal.Res.arr12 m c), h5.trans (Cert.KernelIdeal.Res.arr13 m c), hk⟩
  · refine (θ_run Cert.ReferenceIdeal.defs _ _).mono (fun r h c => ?_) (Cert.ReferenceIdeal.Value.run m' g')
    obtain ⟨h0, h1, h2, h3, h4, h5, hk⟩ := h c
    obtain ⟨a0, a1, a2, a3, a4, a5⟩ := hargs c
    have hA : (Cert.Ref.A (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))) = Cert.KernelIdeal.In.args m c := by
      unfold Cert.Ref.A Cert.KernelIdeal.In.args
      rw [a0, a1, a2, a3, a4, a5]
    have hF := args_finite m hpre c
    rw [← hA] at hF
    refine ⟨h0.trans ?_, h1.trans ?_, h2.trans ?_, h3.trans ?_, h4.trans ?_, h5.trans ?_, hk⟩
    · rw [Cert.ReferenceIdeal.Read.val_main_v83_eq]
      show _ = out0 (Cert.KernelIdeal.In.args m c)
      rw [← hA]
      funext i
      obtain ⟨x, y, z, rfl⟩ : ∃ (x : Fin 2) (y : Fin 2048) (z : Fin 2816), i = ix3 x y z := ⟨_, _, _, Cert.KernelIdeal.Out.ix3_eta i⟩
      exact Cert.Ref.v83_at _ _ _ _ _ _ hF x y z
    · rw [Cert.ReferenceIdeal.Read.val_main_v84_eq]
      show _ = out1 (Cert.KernelIdeal.In.args m c)
      rw [← hA]
      funext i
      obtain ⟨x, y, z, rfl⟩ : ∃ (x : Fin 2) (y : Fin 2048) (z : Fin 2816), i = ix3 x y z := ⟨_, _, _, Cert.KernelIdeal.Out.ix3_eta i⟩
      exact Cert.Ref.v84_at _ _ _ _ _ _ hF x y z
    · rw [Cert.ReferenceIdeal.Read.val_main_v86_eq]
      show _ = out2 (Cert.KernelIdeal.In.args m c)
      rw [← hA]
      funext i
      obtain ⟨x, y, z, rfl⟩ : ∃ (x : Fin 2) (y : Fin 2816) (z : Fin 1024), i = ix3 x y z := ⟨_, _, _, Cert.KernelIdeal.Out.ix3_eta i⟩
      exact Cert.Ref.v86_at _ _ _ _ _ _ hF x y z
    · rw [Cert.ReferenceIdeal.Read.val_main_v38_eq]
      show _ = out3 (Cert.KernelIdeal.In.args m c)
      rw [← hA]
      funext i
      obtain ⟨x, y, rfl⟩ : ∃ (x : Fin 2816) (y : Fin 1024), i = ix2 x y := ⟨_, _, Cert.KernelIdeal.Res.ix2_eta i⟩
      exact Cert.Ref.v38_at _ _ _ _ _ _ hF x y
    · rw [Cert.ReferenceIdeal.Read.val_main_v87_eq]
      show _ = out4 (Cert.KernelIdeal.In.args m c)
      rw [← hA]
      funext i
      obtain ⟨x, y, z, rfl⟩ : ∃ (x : Fin 3) (y : Fin 2) (z : Fin 2816), i = ix3 x y z := ⟨_, _, _, Cert.KernelIdeal.Out.ix3_eta i⟩
      exact Cert.Ref.v87_at _ _ _ _ _ _ hF x y z
    · rw [Cert.ReferenceIdeal.Read.val_main_v88_eq]
      show _ = out5 (Cert.KernelIdeal.In.args m c)
      rw [← hA]
      funext i
      obtain ⟨x, y, z, rfl⟩ : ∃ (x : Fin 2) (y : Fin 1) (z : Fin 2816), i = ix3 x y z := ⟨_, _, _, Cert.KernelIdeal.Out.ix3_eta i⟩
      obtain rfl : y = 0 := Subsingleton.elim _ _
      exact Cert.Ref.v88_at _ _ _ _ _ _ hF x z

/-- The whole claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite6.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, Cert.Step.frame2,
  fun m ρ _ => Cert.Kernel3.Gen.frame m ρ, fun m ρ _ => Cert.Kernel3Ideal.Gen.frame m ρ, Cert.Step.frame3,
  fun m ρ _ => Cert.Kernel4.Gen.frame m ρ, fun m ρ _ => Cert.Kernel4Ideal.Gen.frame m ρ, Cert.Step.frame4,
  fun m ρ _ => Cert.Kernel5.Gen.frame m ρ, fun m ρ _ => Cert.Kernel5Ideal.Gen.frame m ρ, Cert.Step.frame5,
  fun m ρ _ => Cert.Kernel6.Gen.frame m ρ, fun m ρ _ => Cert.Kernel6Ideal.Gen.frame m ρ, fun m ρ _ => Cert.Kernel6Ideal.Gen.frame m ρ,
  Cert.Step.frame6, fun m ρ _ => Cert.Step.frame6 m ρ trivial,
  fun m ρ _ => Cert.Kernel7.Gen.frame m ρ, fun m ρ _ => Cert.Kernel7Ideal.Gen.frame m ρ, Cert.Step.frame7,
  fun m ρ _ => Cert.Kernel8.Gen.frame m ρ, fun m ρ _ => Cert.Kernel8Ideal.Gen.frame m ρ, Cert.Step.frame8,
  fun m ρ _ => Cert.Kernel9.Gen.frame m ρ, fun m ρ _ => Cert.Kernel9Ideal.Gen.frame m ρ, Cert.Step.frame9,
  fun m ρ _ => Cert.Kernel10.Gen.frame m ρ, fun m ρ _ => Cert.Kernel10Ideal.Gen.frame m ρ, Cert.Step.frame10,
  fun m ρ _ => Cert.Kernel11.Gen.frame m ρ, fun m ρ _ => Cert.Kernel11Ideal.Gen.frame m ρ, Cert.Step.frame11,
  trivial, value, trivial, Cert.Step.value2, trivial, Cert.Step.value3, trivial, Cert.Step.value4, trivial, Cert.Step.value5,
  trivial, Cert.Step.value6, trivial, Cert.Step.value7,
  trivial, Cert.Step.value8, trivial, Cert.Step.value9, trivial, Cert.Step.value10, trivial, Cert.Step.value11⟩

end Cert.Proof

end
